-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextReferenceIdeal (m : (ℓ : Loc Cert.NextReferenceIdeal.nD Cert.NextReferenceIdeal.τ Cert.NextReferenceIdeal.sig) → Buf (Elt Ideal) ℓ) : Prop :=
  True

def Pre_GmlpUz (m : (ℓ : Loc Cert.GmlpUz.nD Cert.GmlpUz.τ Cert.GmlpUz.sig) → Buf (Elt Bits) ℓ) : Prop :=
  True

def Pre_GmlpUzIdeal (m : (ℓ : Loc Cert.GmlpUzIdeal.nD Cert.GmlpUzIdeal.τ Cert.GmlpUzIdeal.sig) → Buf (Elt Ideal) ℓ) : Prop :=
  True

def Pre_GmlpUzReferenceIdeal (m : (ℓ : Loc Cert.GmlpUzReferenceIdeal.nD Cert.GmlpUzReferenceIdeal.τ Cert.GmlpUzReferenceIdeal.sig) → Buf (Elt Ideal) ℓ) : Prop :=
  True

def Pre_AttnZ (m : (ℓ : Loc Cert.AttnZ.nD Cert.AttnZ.τ Cert.AttnZ.sig) → Buf (Elt Bits) ℓ) : Prop :=
  True

def Pre_AttnZIdeal (m : (ℓ : Loc Cert.AttnZIdeal.nD Cert.AttnZIdeal.τ Cert.AttnZIdeal.sig) → Buf (Elt Ideal) ℓ) : Prop :=
  True

def Pre_AttnZReferenceIdeal (m : (ℓ : Loc Cert.AttnZReferenceIdeal.nD Cert.AttnZReferenceIdeal.τ Cert.AttnZReferenceIdeal.sig) → Buf (Elt Ideal) ℓ) : Prop :=
  True

def Pre_FnetZ (m : (ℓ : Loc Cert.FnetZ.nD Cert.FnetZ.τ Cert.FnetZ.sig) → Buf (Elt Bits) ℓ) : Prop :=
  True

def Pre_FnetZIdeal (m : (ℓ : Loc Cert.FnetZIdeal.nD Cert.FnetZIdeal.τ Cert.FnetZIdeal.sig) → Buf (Elt Ideal) ℓ) : Prop :=
  True

def Pre_FnetZReferenceIdeal (m : (ℓ : Loc Cert.FnetZReferenceIdeal.nD Cert.FnetZReferenceIdeal.τ Cert.FnetZReferenceIdeal.sig) → Buf (Elt Ideal) ℓ) : Prop :=
  True

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_AttnQReferenceIdeal (m : (ℓ : Loc Cert.AttnQReferenceIdeal.nD Cert.AttnQReferenceIdeal.τ Cert.AttnQReferenceIdeal.sig) → Buf (Elt Ideal) ℓ) : Prop :=
  True

def Pre_GmlpV (m : (ℓ : Loc Cert.GmlpV.nD Cert.GmlpV.τ Cert.GmlpV.sig) → Buf (Elt Bits) ℓ) : Prop :=
  True

def Pre_GmlpVIdeal (m : (ℓ : Loc Cert.GmlpVIdeal.nD Cert.GmlpVIdeal.τ Cert.GmlpVIdeal.sig) → Buf (Elt Ideal) ℓ) : Prop :=
  True

def Pre_GmlpVIdeal_finite_v [hPre_finite_v : Cert.Pre_finite_v.Facts] (m : (ℓ : Loc Cert.GmlpVIdeal.nD Cert.GmlpVIdeal.τ Cert.GmlpVIdeal.sig) → Buf (Elt Ideal) ℓ) : Prop :=
  ∀ c : Dev Cert.GmlpVIdeal.nD,
    (Cert.Pre_finite_v.fn (F := Ideal) (m ((c.tc : Thread Cert.GmlpVIdeal.nD Cert.GmlpVIdeal.τ).loc Cert.GmlpVIdeal.main_arg0)) (m ((c.tc : Thread Cert.GmlpVIdeal.nD Cert.GmlpVIdeal.τ).loc Cert.GmlpVIdeal.main_arg1))).1 = (fun _ => 1#1)
    ∧ (Cert.Pre_finite_v.fn (F := Ideal) (m ((c.tc : Thread Cert.GmlpVIdeal.nD Cert.GmlpVIdeal.τ).loc Cert.GmlpVIdeal.main_arg0)) (m ((c.tc : Thread Cert.GmlpVIdeal.nD Cert.GmlpVIdeal.τ).loc Cert.GmlpVIdeal.main_arg1))).2 = (fun _ => 1#1)

def Pre_GmlpVReferenceIdeal (m : (ℓ : Loc Cert.GmlpVReferenceIdeal.nD Cert.GmlpVReferenceIdeal.τ Cert.GmlpVReferenceIdeal.sig) → Buf (Elt Ideal) ℓ) : Prop :=
  True

def Pre_GmlpVReferenceIdeal_finite_v [hPre_finite_v : Cert.Pre_finite_v.Facts] (m : (ℓ : Loc Cert.GmlpVReferenceIdeal.nD Cert.GmlpVReferenceIdeal.τ Cert.GmlpVReferenceIdeal.sig) → Buf (Elt Ideal) ℓ) : Prop :=
  ∀ c : Dev Cert.GmlpVReferenceIdeal.nD,
    (Cert.Pre_finite_v.fn (F := Ideal) (m ((c.tc : Thread Cert.GmlpVReferenceIdeal.nD Cert.GmlpVReferenceIdeal.τ).loc Cert.GmlpVReferenceIdeal.main_arg0)) (m ((c.tc : Thread Cert.GmlpVReferenceIdeal.nD Cert.GmlpVReferenceIdeal.τ).loc Cert.GmlpVReferenceIdeal.main_arg1))).1 = (fun _ => 1#1)
    ∧ (Cert.Pre_finite_v.fn (F := Ideal) (m ((c.tc : Thread Cert.GmlpVReferenceIdeal.nD Cert.GmlpVReferenceIdeal.τ).loc Cert.GmlpVReferenceIdeal.main_arg0)) (m ((c.tc : Thread Cert.GmlpVReferenceIdeal.nD Cert.GmlpVReferenceIdeal.τ).loc Cert.GmlpVReferenceIdeal.main_arg1))).2 = (fun _ => 1#1)

def Pre_FnetU (m : (ℓ : Loc Cert.FnetU.nD Cert.FnetU.τ Cert.FnetU.sig) → Buf (Elt Bits) ℓ) : Prop :=
  True

def Pre_FnetUIdeal (m : (ℓ : Loc Cert.FnetUIdeal.nD Cert.FnetUIdeal.τ Cert.FnetUIdeal.sig) → Buf (Elt Ideal) ℓ) : Prop :=
  True

def Pre_FnetUIdeal_finite_u [hPre_finite_u : Cert.Pre_finite_u.Facts] (m : (ℓ : Loc Cert.FnetUIdeal.nD Cert.FnetUIdeal.τ Cert.FnetUIdeal.sig) → Buf (Elt Ideal) ℓ) : Prop :=
  ∀ c : Dev Cert.FnetUIdeal.nD,
    (Cert.Pre_finite_u.fn (F := Ideal) (m ((c.tc : Thread Cert.FnetUIdeal.nD Cert.FnetUIdeal.τ).loc Cert.FnetUIdeal.main_arg0)) (m ((c.tc : Thread Cert.FnetUIdeal.nD Cert.FnetUIdeal.τ).loc Cert.FnetUIdeal.main_arg1)) (m ((c.tc : Thread Cert.FnetUIdeal.nD Cert.FnetUIdeal.τ).loc Cert.FnetUIdeal.main_arg2))).1 = (fun _ => 1#1)
    ∧ (Cert.Pre_finite_u.fn (F := Ideal) (m ((c.tc : Thread Cert.FnetUIdeal.nD Cert.FnetUIdeal.τ).loc Cert.FnetUIdeal.main_arg0)) (m ((c.tc : Thread Cert.FnetUIdeal.nD Cert.FnetUIdeal.τ).loc Cert.FnetUIdeal.main_arg1)) (m ((c.tc : Thread Cert.FnetUIdeal.nD Cert.FnetUIdeal.τ).loc Cert.FnetUIdeal.main_arg2))).2.1 = (fun _ => 1#1)
    ∧ (Cert.Pre_finite_u.fn (F := Ideal) (m ((c.tc : Thread Cert.FnetUIdeal.nD Cert.FnetUIdeal.τ).loc Cert.FnetUIdeal.main_arg0)) (m ((c.tc : Thread Cert.FnetUIdeal.nD Cert.FnetUIdeal.τ).loc Cert.FnetUIdeal.main_arg1)) (m ((c.tc : Thread Cert.FnetUIdeal.nD Cert.FnetUIdeal.τ).loc Cert.FnetUIdeal.main_arg2))).2.2 = (fun _ => 1#1)

def Pre_FnetUReferenceIdeal (m : (ℓ : Loc Cert.FnetUReferenceIdeal.nD Cert.FnetUReferenceIdeal.τ Cert.FnetUReferenceIdeal.sig) → Buf (Elt Ideal) ℓ) : Prop :=
  True

def Pre_FnetUReferenceIdeal_finite_u [hPre_finite_u : Cert.Pre_finite_u.Facts] (m : (ℓ : Loc Cert.FnetUReferenceIdeal.nD Cert.FnetUReferenceIdeal.τ Cert.FnetUReferenceIdeal.sig) → Buf (Elt Ideal) ℓ) : Prop :=
  ∀ c : Dev Cert.FnetUReferenceIdeal.nD,
    (Cert.Pre_finite_u.fn (F := Ideal) (m ((c.tc : Thread Cert.FnetUReferenceIdeal.nD Cert.FnetUReferenceIdeal.τ).loc Cert.FnetUReferenceIdeal.main_arg0)) (m ((c.tc : Thread Cert.FnetUReferenceIdeal.nD Cert.FnetUReferenceIdeal.τ).loc Cert.FnetUReferenceIdeal.main_arg1)) (m ((c.tc : Thread Cert.FnetUReferenceIdeal.nD Cert.FnetUReferenceIdeal.τ).loc Cert.FnetUReferenceIdeal.main_arg2))).1 = (fun _ => 1#1)
    ∧ (Cert.Pre_finite_u.fn (F := Ideal) (m ((c.tc : Thread Cert.FnetUReferenceIdeal.nD Cert.FnetUReferenceIdeal.τ).loc Cert.FnetUReferenceIdeal.main_arg0)) (m ((c.tc : Thread Cert.FnetUReferenceIdeal.nD Cert.FnetUReferenceIdeal.τ).loc Cert.FnetUReferenceIdeal.main_arg1)) (m ((c.tc : Thread Cert.FnetUReferenceIdeal.nD Cert.FnetUReferenceIdeal.τ).loc Cert.FnetUReferenceIdeal.main_arg2))).2.1 = (fun _ => 1#1)
    ∧ (Cert.Pre_finite_u.fn (F := Ideal) (m ((c.tc : Thread Cert.FnetUReferenceIdeal.nD Cert.FnetUReferenceIdeal.τ).loc Cert.FnetUReferenceIdeal.main_arg0)) (m ((c.tc : Thread Cert.FnetUReferenceIdeal.nD Cert.FnetUReferenceIdeal.τ).loc Cert.FnetUReferenceIdeal.main_arg1)) (m ((c.tc : Thread Cert.FnetUReferenceIdeal.nD Cert.FnetUReferenceIdeal.τ).loc Cert.FnetUReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ r.2.sem = fun _ => 0)

def quiescent_NextReferenceIdeal [hNextReferenceIdeal : Cert.NextReferenceIdeal.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4))
      ∧ r.2.sem = fun _ => 0)

def quiescent_GmlpUz [hGmlpUz : Cert.GmlpUz.Facts] : Prop :=
  ∀ (m : (ℓ : Loc Cert.GmlpUz.nD Cert.GmlpUz.τ Cert.GmlpUz.sig) → Buf (Elt Bits) ℓ) (g : Dev Cert.GmlpUz.nD → PrngReg), Pre_GmlpUz m →
    θ_run (Cert.GmlpUz.defs (F := Bits)) (onTc (τ := Cert.GmlpUz.τ) (Cert.GmlpUz.main (F := Bits))) ⟨m, fun _ => 0, g⟩ (fun r => (∀ c : Dev Cert.GmlpUz.nD,
      r.2.mem ((c.tc : Thread Cert.GmlpUz.nD Cert.GmlpUz.τ).loc Cert.GmlpUz.main_arg0) = m ((c.tc : Thread Cert.GmlpUz.nD Cert.GmlpUz.τ).loc Cert.GmlpUz.main_arg0)
      ∧ r.2.mem ((c.tc : Thread Cert.GmlpUz.nD Cert.GmlpUz.τ).loc Cert.GmlpUz.main_arg1) = m ((c.tc : Thread Cert.GmlpUz.nD Cert.GmlpUz.τ).loc Cert.GmlpUz.main_arg1))
      ∧ r.2.sem = fun _ => 0)

def quiescent_GmlpUzIdeal [hGmlpUzIdeal : Cert.GmlpUzIdeal.Facts] : Prop :=
  ∀ (m : (ℓ : Loc Cert.GmlpUzIdeal.nD Cert.GmlpUzIdeal.τ Cert.GmlpUzIdeal.sig) → Buf (Elt Ideal) ℓ) (g : Dev Cert.GmlpUzIdeal.nD → PrngReg), Pre_GmlpUzIdeal m →
    θ_run (Cert.GmlpUzIdeal.defs (F := Ideal)) (onTc (τ := Cert.GmlpUzIdeal.τ) (Cert.GmlpUzIdeal.main (F := Ideal))) ⟨m, fun _ => 0, g⟩ (fun r => (∀ c : Dev Cert.GmlpUzIdeal.nD,
      r.2.mem ((c.tc : Thread Cert.GmlpUzIdeal.nD Cert.GmlpUzIdeal.τ).loc Cert.GmlpUzIdeal.main_arg0) = m ((c.tc : Thread Cert.GmlpUzIdeal.nD Cert.GmlpUzIdeal.τ).loc Cert.GmlpUzIdeal.main_arg0)
      ∧ r.2.mem ((c.tc : Thread Cert.GmlpUzIdeal.nD Cert.GmlpUzIdeal.τ).loc Cert.GmlpUzIdeal.main_arg1) = m ((c.tc : Thread Cert.GmlpUzIdeal.nD Cert.GmlpUzIdeal.τ).loc Cert.GmlpUzIdeal.main_arg1))
      ∧ r.2.sem = fun _ => 0)

def quiescent_GmlpUzReferenceIdeal [hGmlpUzReferenceIdeal : Cert.GmlpUzReferenceIdeal.Facts] : Prop :=
  ∀ (m : (ℓ : Loc Cert.GmlpUzReferenceIdeal.nD Cert.GmlpUzReferenceIdeal.τ Cert.GmlpUzReferenceIdeal.sig) → Buf (Elt Ideal) ℓ) (g : Dev Cert.GmlpUzReferenceIdeal.nD → PrngReg), Pre_GmlpUzReferenceIdeal m →
    θ_run (Cert.GmlpUzReferenceIdeal.defs (F := Ideal)) (onTc (τ := Cert.GmlpUzReferenceIdeal.τ) (Cert.GmlpUzReferenceIdeal.main (F := Ideal))) ⟨m, fun _ => 0, g⟩ (fun r => (∀ c : Dev Cert.GmlpUzReferenceIdeal.nD,
      r.2.mem ((c.tc : Thread Cert.GmlpUzReferenceIdeal.nD Cert.GmlpUzReferenceIdeal.τ).loc Cert.GmlpUzReferenceIdeal.main_arg0) = m ((c.tc : Thread Cert.GmlpUzReferenceIdeal.nD Cert.GmlpUzReferenceIdeal.τ).loc Cert.GmlpUzReferenceIdeal.main_arg0)
      ∧ r.2.mem ((c.tc : Thread Cert.GmlpUzReferenceIdeal.nD Cert.GmlpUzReferenceIdeal.τ).loc Cert.GmlpUzReferenceIdeal.main_arg1) = m ((c.tc : Thread Cert.GmlpUzReferenceIdeal.nD Cert.GmlpUzReferenceIdeal.τ).loc Cert.GmlpUzReferenceIdeal.main_arg1))
      ∧ r.2.sem = fun _ => 0)

def quiescent_AttnZ [hAttnZ : Cert.AttnZ.Facts] : Prop :=
  ∀ (m : (ℓ : Loc Cert.AttnZ.nD Cert.AttnZ.τ Cert.AttnZ.sig) → Buf (Elt Bits) ℓ) (g : Dev Cert.AttnZ.nD → PrngReg), Pre_AttnZ m →
    θ_run (Cert.AttnZ.defs (F := Bits)) (onTc (τ := Cert.AttnZ.τ) (Cert.AttnZ.main (F := Bits))) ⟨m, fun _ => 0, g⟩ (fun r => (∀ c : Dev Cert.AttnZ.nD,
      r.2.mem ((c.tc : Thread Cert.AttnZ.nD Cert.AttnZ.τ).loc Cert.AttnZ.main_arg0) = m ((c.tc : Thread Cert.AttnZ.nD Cert.AttnZ.τ).loc Cert.AttnZ.main_arg0)
      ∧ r.2.mem ((c.tc : Thread Cert.AttnZ.nD Cert.AttnZ.τ).loc Cert.AttnZ.main_arg1) = m ((c.tc : Thread Cert.AttnZ.nD Cert.AttnZ.τ).loc Cert.AttnZ.main_arg1))
      ∧ r.2.sem = fun _ => 0)

def quiescent_AttnZIdeal [hAttnZIdeal : Cert.AttnZIdeal.Facts] : Prop :=
  ∀ (m : (ℓ : Loc Cert.AttnZIdeal.nD Cert.AttnZIdeal.τ Cert.AttnZIdeal.sig) → Buf (Elt Ideal) ℓ) (g : Dev Cert.AttnZIdeal.nD → PrngReg), Pre_AttnZIdeal m →
    θ_run (Cert.AttnZIdeal.defs (F := Ideal)) (onTc (τ := Cert.AttnZIdeal.τ) (Cert.AttnZIdeal.main (F := Ideal))) ⟨m, fun _ => 0, g⟩ (fun r => (∀ c : Dev Cert.AttnZIdeal.nD,
      r.2.mem ((c.tc : Thread Cert.AttnZIdeal.nD Cert.AttnZIdeal.τ).loc Cert.AttnZIdeal.main_arg0) = m ((c.tc : Thread Cert.AttnZIdeal.nD Cert.AttnZIdeal.τ).loc Cert.AttnZIdeal.main_arg0)
      ∧ r.2.mem ((c.tc : Thread Cert.AttnZIdeal.nD Cert.AttnZIdeal.τ).loc Cert.AttnZIdeal.main_arg1) = m ((c.tc : Thread Cert.AttnZIdeal.nD Cert.AttnZIdeal.τ).loc Cert.AttnZIdeal.main_arg1))
      ∧ r.2.sem = fun _ => 0)

def quiescent_AttnZReferenceIdeal [hAttnZReferenceIdeal : Cert.AttnZReferenceIdeal.Facts] : Prop :=
  ∀ (m : (ℓ : Loc Cert.AttnZReferenceIdeal.nD Cert.AttnZReferenceIdeal.τ Cert.AttnZReferenceIdeal.sig) → Buf (Elt Ideal) ℓ) (g : Dev Cert.AttnZReferenceIdeal.nD → PrngReg), Pre_AttnZReferenceIdeal m →
    θ_run (Cert.AttnZReferenceIdeal.defs (F := Ideal)) (onTc (τ := Cert.AttnZReferenceIdeal.τ) (Cert.AttnZReferenceIdeal.main (F := Ideal))) ⟨m, fun _ => 0, g⟩ (fun r => (∀ c : Dev Cert.AttnZReferenceIdeal.nD,
      r.2.mem ((c.tc : Thread Cert.AttnZReferenceIdeal.nD Cert.AttnZReferenceIdeal.τ).loc Cert.AttnZReferenceIdeal.main_arg0) = m ((c.tc : Thread Cert.AttnZReferenceIdeal.nD Cert.AttnZReferenceIdeal.τ).loc Cert.AttnZReferenceIdeal.main_arg0)
      ∧ r.2.mem ((c.tc : Thread Cert.AttnZReferenceIdeal.nD Cert.AttnZReferenceIdeal.τ).loc Cert.AttnZReferenceIdeal.main_arg1) = m ((c.tc : Thread Cert.AttnZReferenceIdeal.nD Cert.AttnZReferenceIdeal.τ).loc Cert.AttnZReferenceIdeal.main_arg1))
      ∧ r.2.sem = fun _ => 0)

def quiescent_FnetZ [hFnetZ : Cert.FnetZ.Facts] : Prop :=
  ∀ (m : (ℓ : Loc Cert.FnetZ.nD Cert.FnetZ.τ Cert.FnetZ.sig) → Buf (Elt Bits) ℓ) (g : Dev Cert.FnetZ.nD → PrngReg), Pre_FnetZ m →
    θ_run (Cert.FnetZ.defs (F := Bits)) (onTc (τ := Cert.FnetZ.τ) (Cert.FnetZ.main (F := Bits))) ⟨m, fun _ => 0, g⟩ (fun r => (∀ c : Dev Cert.FnetZ.nD,
      r.2.mem ((c.tc : Thread Cert.FnetZ.nD Cert.FnetZ.τ).loc Cert.FnetZ.main_arg0) = m ((c.tc : Thread Cert.FnetZ.nD Cert.FnetZ.τ).loc Cert.FnetZ.main_arg0)
      ∧ r.2.mem ((c.tc : Thread Cert.FnetZ.nD Cert.FnetZ.τ).loc Cert.FnetZ.main_arg1) = m ((c.tc : Thread Cert.FnetZ.nD Cert.FnetZ.τ).loc Cert.FnetZ.main_arg1))
      ∧ r.2.sem = fun _ => 0)

def quiescent_FnetZIdeal [hFnetZIdeal : Cert.FnetZIdeal.Facts] : Prop :=
  ∀ (m : (ℓ : Loc Cert.FnetZIdeal.nD Cert.FnetZIdeal.τ Cert.FnetZIdeal.sig) → Buf (Elt Ideal) ℓ) (g : Dev Cert.FnetZIdeal.nD → PrngReg), Pre_FnetZIdeal m →
    θ_run (Cert.FnetZIdeal.defs (F := Ideal)) (onTc (τ := Cert.FnetZIdeal.τ) (Cert.FnetZIdeal.main (F := Ideal))) ⟨m, fun _ => 0, g⟩ (fun r => (∀ c : Dev Cert.FnetZIdeal.nD,
      r.2.mem ((c.tc : Thread Cert.FnetZIdeal.nD Cert.FnetZIdeal.τ).loc Cert.FnetZIdeal.main_arg0) = m ((c.tc : Thread Cert.FnetZIdeal.nD Cert.FnetZIdeal.τ).loc Cert.FnetZIdeal.main_arg0)
      ∧ r.2.mem ((c.tc : Thread Cert.FnetZIdeal.nD Cert.FnetZIdeal.τ).loc Cert.FnetZIdeal.main_arg1) = m ((c.tc : Thread Cert.FnetZIdeal.nD Cert.FnetZIdeal.τ).loc Cert.FnetZIdeal.main_arg1))
      ∧ r.2.sem = fun _ => 0)

def quiescent_FnetZReferenceIdeal [hFnetZReferenceIdeal : Cert.FnetZReferenceIdeal.Facts] : Prop :=
  ∀ (m : (ℓ : Loc Cert.FnetZReferenceIdeal.nD Cert.FnetZReferenceIdeal.τ Cert.FnetZReferenceIdeal.sig) → Buf (Elt Ideal) ℓ) (g : Dev Cert.FnetZReferenceIdeal.nD → PrngReg), Pre_FnetZReferenceIdeal m →
    θ_run (Cert.FnetZReferenceIdeal.defs (F := Ideal)) (onTc (τ := Cert.FnetZReferenceIdeal.τ) (Cert.FnetZReferenceIdeal.main (F := Ideal))) ⟨m, fun _ => 0, g⟩ (fun r => (∀ c : Dev Cert.FnetZReferenceIdeal.nD,
      r.2.mem ((c.tc : Thread Cert.FnetZReferenceIdeal.nD Cert.FnetZReferenceIdeal.τ).loc Cert.FnetZReferenceIdeal.main_arg0) = m ((c.tc : Thread Cert.FnetZReferenceIdeal.nD Cert.FnetZReferenceIdeal.τ).loc Cert.FnetZReferenceIdeal.main_arg0)
      ∧ r.2.mem ((c.tc : Thread Cert.FnetZReferenceIdeal.nD Cert.FnetZReferenceIdeal.τ).loc Cert.FnetZReferenceIdeal.main_arg1) = m ((c.tc : Thread Cert.FnetZReferenceIdeal.nD Cert.FnetZReferenceIdeal.τ).loc Cert.FnetZReferenceIdeal.main_arg1))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ r.2.sem = fun _ => 0)

def quiescent_AttnQReferenceIdeal [hAttnQReferenceIdeal : Cert.AttnQReferenceIdeal.Facts] : Prop :=
  ∀ (m : (ℓ : Loc Cert.AttnQReferenceIdeal.nD Cert.AttnQReferenceIdeal.τ Cert.AttnQReferenceIdeal.sig) → Buf (Elt Ideal) ℓ) (g : Dev Cert.AttnQReferenceIdeal.nD → PrngReg), Pre_AttnQReferenceIdeal m →
    θ_run (Cert.AttnQReferenceIdeal.defs (F := Ideal)) (onTc (τ := Cert.AttnQReferenceIdeal.τ) (Cert.AttnQReferenceIdeal.main (F := Ideal))) ⟨m, fun _ => 0, g⟩ (fun r => (∀ c : Dev Cert.AttnQReferenceIdeal.nD,
      r.2.mem ((c.tc : Thread Cert.AttnQReferenceIdeal.nD Cert.AttnQReferenceIdeal.τ).loc Cert.AttnQReferenceIdeal.main_arg0) = m ((c.tc : Thread Cert.AttnQReferenceIdeal.nD Cert.AttnQReferenceIdeal.τ).loc Cert.AttnQReferenceIdeal.main_arg0)
      ∧ r.2.mem ((c.tc : Thread Cert.AttnQReferenceIdeal.nD Cert.AttnQReferenceIdeal.τ).loc Cert.AttnQReferenceIdeal.main_arg1) = m ((c.tc : Thread Cert.AttnQReferenceIdeal.nD Cert.AttnQReferenceIdeal.τ).loc Cert.AttnQReferenceIdeal.main_arg1))
      ∧ r.2.sem = fun _ => 0)

def quiescent_GmlpV [hGmlpV : Cert.GmlpV.Facts] : Prop :=
  ∀ (m : (ℓ : Loc Cert.GmlpV.nD Cert.GmlpV.τ Cert.GmlpV.sig) → Buf (Elt Bits) ℓ) (g : Dev Cert.GmlpV.nD → PrngReg), Pre_GmlpV m →
    θ_run (Cert.GmlpV.defs (F := Bits)) (onTc (τ := Cert.GmlpV.τ) (Cert.GmlpV.main (F := Bits))) ⟨m, fun _ => 0, g⟩ (fun r => (∀ c : Dev Cert.GmlpV.nD,
      r.2.mem ((c.tc : Thread Cert.GmlpV.nD Cert.GmlpV.τ).loc Cert.GmlpV.main_arg0) = m ((c.tc : Thread Cert.GmlpV.nD Cert.GmlpV.τ).loc Cert.GmlpV.main_arg0)
      ∧ r.2.mem ((c.tc : Thread Cert.GmlpV.nD Cert.GmlpV.τ).loc Cert.GmlpV.main_arg1) = m ((c.tc : Thread Cert.GmlpV.nD Cert.GmlpV.τ).loc Cert.GmlpV.main_arg1))
      ∧ r.2.sem = fun _ => 0)

def quiescent_GmlpVIdeal [hGmlpVIdeal : Cert.GmlpVIdeal.Facts] : Prop :=
  ∀ (m : (ℓ : Loc Cert.GmlpVIdeal.nD Cert.GmlpVIdeal.τ Cert.GmlpVIdeal.sig) → Buf (Elt Ideal) ℓ) (g : Dev Cert.GmlpVIdeal.nD → PrngReg), Pre_GmlpVIdeal m →
    θ_run (Cert.GmlpVIdeal.defs (F := Ideal)) (onTc (τ := Cert.GmlpVIdeal.τ) (Cert.GmlpVIdeal.main (F := Ideal))) ⟨m, fun _ => 0, g⟩ (fun r => (∀ c : Dev Cert.GmlpVIdeal.nD,
      r.2.mem ((c.tc : Thread Cert.GmlpVIdeal.nD Cert.GmlpVIdeal.τ).loc Cert.GmlpVIdeal.main_arg0) = m ((c.tc : Thread Cert.GmlpVIdeal.nD Cert.GmlpVIdeal.τ).loc Cert.GmlpVIdeal.main_arg0)
      ∧ r.2.mem ((c.tc : Thread Cert.GmlpVIdeal.nD Cert.GmlpVIdeal.τ).loc Cert.GmlpVIdeal.main_arg1) = m ((c.tc : Thread Cert.GmlpVIdeal.nD Cert.GmlpVIdeal.τ).loc Cert.GmlpVIdeal.main_arg1))
      ∧ r.2.sem = fun _ => 0)

def quiescent_GmlpVIdeal_pre_finite_v [hGmlpVIdeal : Cert.GmlpVIdeal.Facts] [hPre_finite_v : Cert.Pre_finite_v.Facts] : Prop :=
  ∀ (m : (ℓ : Loc Cert.GmlpVIdeal.nD Cert.GmlpVIdeal.τ Cert.GmlpVIdeal.sig) → Buf (Elt Ideal) ℓ) (g : Dev Cert.GmlpVIdeal.nD → PrngReg), Pre_GmlpVIdeal_finite_v m →
    θ_run (Cert.GmlpVIdeal.defs (F := Ideal)) (onTc (τ := Cert.GmlpVIdeal.τ) (Cert.GmlpVIdeal.main (F := Ideal))) ⟨m, fun _ => 0, g⟩ (fun r => (∀ c : Dev Cert.GmlpVIdeal.nD,
      r.2.mem ((c.tc : Thread Cert.GmlpVIdeal.nD Cert.GmlpVIdeal.τ).loc Cert.GmlpVIdeal.main_arg0) = m ((c.tc : Thread Cert.GmlpVIdeal.nD Cert.GmlpVIdeal.τ).loc Cert.GmlpVIdeal.main_arg0)
      ∧ r.2.mem ((c.tc : Thread Cert.GmlpVIdeal.nD Cert.GmlpVIdeal.τ).loc Cert.GmlpVIdeal.main_arg1) = m ((c.tc : Thread Cert.GmlpVIdeal.nD Cert.GmlpVIdeal.τ).loc Cert.GmlpVIdeal.main_arg1))
      ∧ r.2.sem = fun _ => 0)

def quiescent_GmlpVReferenceIdeal [hGmlpVReferenceIdeal : Cert.GmlpVReferenceIdeal.Facts] : Prop :=
  ∀ (m : (ℓ : Loc Cert.GmlpVReferenceIdeal.nD Cert.GmlpVReferenceIdeal.τ Cert.GmlpVReferenceIdeal.sig) → Buf (Elt Ideal) ℓ) (g : Dev Cert.GmlpVReferenceIdeal.nD → PrngReg), Pre_GmlpVReferenceIdeal m →
    θ_run (Cert.GmlpVReferenceIdeal.defs (F := Ideal)) (onTc (τ := Cert.GmlpVReferenceIdeal.τ) (Cert.GmlpVReferenceIdeal.main (F := Ideal))) ⟨m, fun _ => 0, g⟩ (fun r => (∀ c : Dev Cert.GmlpVReferenceIdeal.nD,
      r.2.mem ((c.tc : Thread Cert.GmlpVReferenceIdeal.nD Cert.GmlpVReferenceIdeal.τ).loc Cert.GmlpVReferenceIdeal.main_arg0) = m ((c.tc : Thread Cert.GmlpVReferenceIdeal.nD Cert.GmlpVReferenceIdeal.τ).loc Cert.GmlpVReferenceIdeal.main_arg0)
      ∧ r.2.mem ((c.tc : Thread Cert.GmlpVReferenceIdeal.nD Cert.GmlpVReferenceIdeal.τ).loc Cert.GmlpVReferenceIdeal.main_arg1) = m ((c.tc : Thread Cert.GmlpVReferenceIdeal.nD Cert.GmlpVReferenceIdeal.τ).loc Cert.GmlpVReferenceIdeal.main_arg1))
      ∧ r.2.sem = fun _ => 0)

def quiescent_GmlpVReferenceIdeal_pre_finite_v [hGmlpVReferenceIdeal : Cert.GmlpVReferenceIdeal.Facts] [hPre_finite_v : Cert.Pre_finite_v.Facts] : Prop :=
  ∀ (m : (ℓ : Loc Cert.GmlpVReferenceIdeal.nD Cert.GmlpVReferenceIdeal.τ Cert.GmlpVReferenceIdeal.sig) → Buf (Elt Ideal) ℓ) (g : Dev Cert.GmlpVReferenceIdeal.nD → PrngReg), Pre_GmlpVReferenceIdeal_finite_v m →
    θ_run (Cert.GmlpVReferenceIdeal.defs (F := Ideal)) (onTc (τ := Cert.GmlpVReferenceIdeal.τ) (Cert.GmlpVReferenceIdeal.main (F := Ideal))) ⟨m, fun _ => 0, g⟩ (fun r => (∀ c : Dev Cert.GmlpVReferenceIdeal.nD,
      r.2.mem ((c.tc : Thread Cert.GmlpVReferenceIdeal.nD Cert.GmlpVReferenceIdeal.τ).loc Cert.GmlpVReferenceIdeal.main_arg0) = m ((c.tc : Thread Cert.GmlpVReferenceIdeal.nD Cert.GmlpVReferenceIdeal.τ).loc Cert.GmlpVReferenceIdeal.main_arg0)
      ∧ r.2.mem ((c.tc : Thread Cert.GmlpVReferenceIdeal.nD Cert.GmlpVReferenceIdeal.τ).loc Cert.GmlpVReferenceIdeal.main_arg1) = m ((c.tc : Thread Cert.GmlpVReferenceIdeal.nD Cert.GmlpVReferenceIdeal.τ).loc Cert.GmlpVReferenceIdeal.main_arg1))
      ∧ r.2.sem = fun _ => 0)

def quiescent_FnetU [hFnetU : Cert.FnetU.Facts] : Prop :=
  ∀ (m : (ℓ : Loc Cert.FnetU.nD Cert.FnetU.τ Cert.FnetU.sig) → Buf (Elt Bits) ℓ) (g : Dev Cert.FnetU.nD → PrngReg), Pre_FnetU m →
    θ_run (Cert.FnetU.defs (F := Bits)) (onTc (τ := Cert.FnetU.τ) (Cert.FnetU.main (F := Bits))) ⟨m, fun _ => 0, g⟩ (fun r => (∀ c : Dev Cert.FnetU.nD,
      r.2.mem ((c.tc : Thread Cert.FnetU.nD Cert.FnetU.τ).loc Cert.FnetU.main_arg0) = m ((c.tc : Thread Cert.FnetU.nD Cert.FnetU.τ).loc Cert.FnetU.main_arg0)
      ∧ r.2.mem ((c.tc : Thread Cert.FnetU.nD Cert.FnetU.τ).loc Cert.FnetU.main_arg1) = m ((c.tc : Thread Cert.FnetU.nD Cert.FnetU.τ).loc Cert.FnetU.main_arg1)
      ∧ r.2.mem ((c.tc : Thread Cert.FnetU.nD Cert.FnetU.τ).loc Cert.FnetU.main_arg2) = m ((c.tc : Thread Cert.FnetU.nD Cert.FnetU.τ).loc Cert.FnetU.main_arg2))
      ∧ r.2.sem = fun _ => 0)

def quiescent_FnetUIdeal [hFnetUIdeal : Cert.FnetUIdeal.Facts] : Prop :=
  ∀ (m : (ℓ : Loc Cert.FnetUIdeal.nD Cert.FnetUIdeal.τ Cert.FnetUIdeal.sig) → Buf (Elt Ideal) ℓ) (g : Dev Cert.FnetUIdeal.nD → PrngReg), Pre_FnetUIdeal m →
    θ_run (Cert.FnetUIdeal.defs (F := Ideal)) (onTc (τ := Cert.FnetUIdeal.τ) (Cert.FnetUIdeal.main (F := Ideal))) ⟨m, fun _ => 0, g⟩ (fun r => (∀ c : Dev Cert.FnetUIdeal.nD,
      r.2.mem ((c.tc : Thread Cert.FnetUIdeal.nD Cert.FnetUIdeal.τ).loc Cert.FnetUIdeal.main_arg0) = m ((c.tc : Thread Cert.FnetUIdeal.nD Cert.FnetUIdeal.τ).loc Cert.FnetUIdeal.main_arg0)
      ∧ r.2.mem ((c.tc : Thread Cert.FnetUIdeal.nD Cert.FnetUIdeal.τ).loc Cert.FnetUIdeal.main_arg1) = m ((c.tc : Thread Cert.FnetUIdeal.nD Cert.FnetUIdeal.τ).loc Cert.FnetUIdeal.main_arg1)
      ∧ r.2.mem ((c.tc : Thread Cert.FnetUIdeal.nD Cert.FnetUIdeal.τ).loc Cert.FnetUIdeal.main_arg2) = m ((c.tc : Thread Cert.FnetUIdeal.nD Cert.FnetUIdeal.τ).loc Cert.FnetUIdeal.main_arg2))
      ∧ r.2.sem = fun _ => 0)

def quiescent_FnetUIdeal_pre_finite_u [hFnetUIdeal : Cert.FnetUIdeal.Facts] [hPre_finite_u : Cert.Pre_finite_u.Facts] : Prop :=
  ∀ (m : (ℓ : Loc Cert.FnetUIdeal.nD Cert.FnetUIdeal.τ Cert.FnetUIdeal.sig) → Buf (Elt Ideal) ℓ) (g : Dev Cert.FnetUIdeal.nD → PrngReg), Pre_FnetUIdeal_finite_u m →
    θ_run (Cert.FnetUIdeal.defs (F := Ideal)) (onTc (τ := Cert.FnetUIdeal.τ) (Cert.FnetUIdeal.main (F := Ideal))) ⟨m, fun _ => 0, g⟩ (fun r => (∀ c : Dev Cert.FnetUIdeal.nD,
      r.2.mem ((c.tc : Thread Cert.FnetUIdeal.nD Cert.FnetUIdeal.τ).loc Cert.FnetUIdeal.main_arg0) = m ((c.tc : Thread Cert.FnetUIdeal.nD Cert.FnetUIdeal.τ).loc Cert.FnetUIdeal.main_arg0)
      ∧ r.2.mem ((c.tc : Thread Cert.FnetUIdeal.nD Cert.FnetUIdeal.τ).loc Cert.FnetUIdeal.main_arg1) = m ((c.tc : Thread Cert.FnetUIdeal.nD Cert.FnetUIdeal.τ).loc Cert.FnetUIdeal.main_arg1)
      ∧ r.2.mem ((c.tc : Thread Cert.FnetUIdeal.nD Cert.FnetUIdeal.τ).loc Cert.FnetUIdeal.main_arg2) = m ((c.tc : Thread Cert.FnetUIdeal.nD Cert.FnetUIdeal.τ).loc Cert.FnetUIdeal.main_arg2))
      ∧ r.2.sem = fun _ => 0)

def quiescent_FnetUReferenceIdeal [hFnetUReferenceIdeal : Cert.FnetUReferenceIdeal.Facts] : Prop :=
  ∀ (m : (ℓ : Loc Cert.FnetUReferenceIdeal.nD Cert.FnetUReferenceIdeal.τ Cert.FnetUReferenceIdeal.sig) → Buf (Elt Ideal) ℓ) (g : Dev Cert.FnetUReferenceIdeal.nD → PrngReg), Pre_FnetUReferenceIdeal m →
    θ_run (Cert.FnetUReferenceIdeal.defs (F := Ideal)) (onTc (τ := Cert.FnetUReferenceIdeal.τ) (Cert.FnetUReferenceIdeal.main (F := Ideal))) ⟨m, fun _ => 0, g⟩ (fun r => (∀ c : Dev Cert.FnetUReferenceIdeal.nD,
      r.2.mem ((c.tc : Thread Cert.FnetUReferenceIdeal.nD Cert.FnetUReferenceIdeal.τ).loc Cert.FnetUReferenceIdeal.main_arg0) = m ((c.tc : Thread Cert.FnetUReferenceIdeal.nD Cert.FnetUReferenceIdeal.τ).loc Cert.FnetUReferenceIdeal.main_arg0)
      ∧ r.2.mem ((c.tc : Thread Cert.FnetUReferenceIdeal.nD Cert.FnetUReferenceIdeal.τ).loc Cert.FnetUReferenceIdeal.main_arg1) = m ((c.tc : Thread Cert.FnetUReferenceIdeal.nD Cert.FnetUReferenceIdeal.τ).loc Cert.FnetUReferenceIdeal.main_arg1)
      ∧ r.2.mem ((c.tc : Thread Cert.FnetUReferenceIdeal.nD Cert.FnetUReferenceIdeal.τ).loc Cert.FnetUReferenceIdeal.main_arg2) = m ((c.tc : Thread Cert.FnetUReferenceIdeal.nD Cert.FnetUReferenceIdeal.τ).loc Cert.FnetUReferenceIdeal.main_arg2))
      ∧ r.2.sem = fun _ => 0)

def quiescent_FnetUReferenceIdeal_pre_finite_u [hFnetUReferenceIdeal : Cert.FnetUReferenceIdeal.Facts] [hPre_finite_u : Cert.Pre_finite_u.Facts] : Prop :=
  ∀ (m : (ℓ : Loc Cert.FnetUReferenceIdeal.nD Cert.FnetUReferenceIdeal.τ Cert.FnetUReferenceIdeal.sig) → Buf (Elt Ideal) ℓ) (g : Dev Cert.FnetUReferenceIdeal.nD → PrngReg), Pre_FnetUReferenceIdeal_finite_u m →
    θ_run (Cert.FnetUReferenceIdeal.defs (F := Ideal)) (onTc (τ := Cert.FnetUReferenceIdeal.τ) (Cert.FnetUReferenceIdeal.main (F := Ideal))) ⟨m, fun _ => 0, g⟩ (fun r => (∀ c : Dev Cert.FnetUReferenceIdeal.nD,
      r.2.mem ((c.tc : Thread Cert.FnetUReferenceIdeal.nD Cert.FnetUReferenceIdeal.τ).loc Cert.FnetUReferenceIdeal.main_arg0) = m ((c.tc : Thread Cert.FnetUReferenceIdeal.nD Cert.FnetUReferenceIdeal.τ).loc Cert.FnetUReferenceIdeal.main_arg0)
      ∧ r.2.mem ((c.tc : Thread Cert.FnetUReferenceIdeal.nD Cert.FnetUReferenceIdeal.τ).loc Cert.FnetUReferenceIdeal.main_arg1) = m ((c.tc : Thread Cert.FnetUReferenceIdeal.nD Cert.FnetUReferenceIdeal.τ).loc Cert.FnetUReferenceIdeal.main_arg1)
      ∧ r.2.mem ((c.tc : Thread Cert.FnetUReferenceIdeal.nD Cert.FnetUReferenceIdeal.τ).loc Cert.FnetUReferenceIdeal.main_arg2) = m ((c.tc : Thread Cert.FnetUReferenceIdeal.nD Cert.FnetUReferenceIdeal.τ).loc Cert.FnetUReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v9)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v9) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v25) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4))

def preserves_Next_NextIdeal : Prop :=
  True

def algebraic_NextIdeal_NextReferenceIdeal [hNextIdeal : Cert.NextIdeal.Facts] [hNextReferenceIdeal : Cert.NextReferenceIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextReferenceIdeal.nD Cert.NextReferenceIdeal.τ Cert.NextReferenceIdeal.sig) → Buf (Elt Ideal) ℓ) (g' : Dev Cert.NextReferenceIdeal.nD → PrngReg), Pre_NextIdeal m →
    (∀ c : Dev Cert.NextIdeal.nD,
      m' ((c.tc : Thread Cert.NextReferenceIdeal.nD Cert.NextReferenceIdeal.τ).loc Cert.NextReferenceIdeal.main_arg0) = m ((c.tc : Thread Cert.NextIdeal.nD Cert.NextIdeal.τ).loc Cert.NextIdeal.main_arg0)
      ∧ m' ((c.tc : Thread Cert.NextReferenceIdeal.nD Cert.NextReferenceIdeal.τ).loc Cert.NextReferenceIdeal.main_arg1) = m ((c.tc : Thread Cert.NextIdeal.nD Cert.NextIdeal.τ).loc Cert.NextIdeal.main_arg1)
      ∧ m' ((c.tc : Thread Cert.NextReferenceIdeal.nD Cert.NextReferenceIdeal.τ).loc Cert.NextReferenceIdeal.main_arg2) = m ((c.tc : Thread Cert.NextIdeal.nD Cert.NextIdeal.τ).loc Cert.NextIdeal.main_arg2)
      ∧ m' ((c.tc : Thread Cert.NextReferenceIdeal.nD Cert.NextReferenceIdeal.τ).loc Cert.NextReferenceIdeal.main_arg3) = m ((c.tc : Thread Cert.NextIdeal.nD Cert.NextIdeal.τ).loc Cert.NextIdeal.main_arg3)
      ∧ m' ((c.tc : Thread Cert.NextReferenceIdeal.nD Cert.NextReferenceIdeal.τ).loc Cert.NextReferenceIdeal.main_arg4) = m ((c.tc : Thread Cert.NextIdeal.nD Cert.NextIdeal.τ).loc Cert.NextIdeal.main_arg4)) →
    ∃ (v0 : (c : Dev Cert.NextIdeal.nD) → Buf (Elt Ideal) ((c.tc : Thread Cert.NextIdeal.nD Cert.NextIdeal.τ).loc Cert.NextIdeal.main_v8_0)) (v1 : (c : Dev Cert.NextIdeal.nD) → Buf (Elt Ideal) ((c.tc : Thread Cert.NextIdeal.nD Cert.NextIdeal.τ).loc Cert.NextIdeal.main_v8_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v8_0) = v0 c
          ∧ r.2.mem ((c.tc : Thread Cert.NextIdeal.nD Cert.NextIdeal.τ).loc Cert.NextIdeal.main_v8_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ θ_run (Cert.NextReferenceIdeal.defs (F := Ideal)) (onTc (τ := Cert.NextReferenceIdeal.τ) (Cert.NextReferenceIdeal.main (F := Ideal))) ⟨m', fun _ => 0, g'⟩ (fun r => ∀ c : Dev Cert.NextReferenceIdeal.nD,
          r.2.mem ((c.tc : Thread Cert.NextReferenceIdeal.nD Cert.NextReferenceIdeal.τ).loc Cert.NextReferenceIdeal.main_v39) = v0 c
          ∧ r.2.mem ((c.tc : Thread Cert.NextReferenceIdeal.nD Cert.NextReferenceIdeal.τ).loc Cert.NextReferenceIdeal.main_v41) = v1 c
          ∧ r.2.mem ((c.tc : Thread Cert.NextReferenceIdeal.nD Cert.NextReferenceIdeal.τ).loc Cert.NextReferenceIdeal.main_arg0) = m' ((c.tc : Thread Cert.NextReferenceIdeal.nD Cert.NextReferenceIdeal.τ).loc Cert.NextReferenceIdeal.main_arg0)
          ∧ r.2.mem ((c.tc : Thread Cert.NextReferenceIdeal.nD Cert.NextReferenceIdeal.τ).loc Cert.NextReferenceIdeal.main_arg1) = m' ((c.tc : Thread Cert.NextReferenceIdeal.nD Cert.NextReferenceIdeal.τ).loc Cert.NextReferenceIdeal.main_arg1)
          ∧ r.2.mem ((c.tc : Thread Cert.NextReferenceIdeal.nD Cert.NextReferenceIdeal.τ).loc Cert.NextReferenceIdeal.main_arg2) = m' ((c.tc : Thread Cert.NextReferenceIdeal.nD Cert.NextReferenceIdeal.τ).loc Cert.NextReferenceIdeal.main_arg2)
          ∧ r.2.mem ((c.tc : Thread Cert.NextReferenceIdeal.nD Cert.NextReferenceIdeal.τ).loc Cert.NextReferenceIdeal.main_arg3) = m' ((c.tc : Thread Cert.NextReferenceIdeal.nD Cert.NextReferenceIdeal.τ).loc Cert.NextReferenceIdeal.main_arg3)
          ∧ r.2.mem ((c.tc : Thread Cert.NextReferenceIdeal.nD Cert.NextReferenceIdeal.τ).loc Cert.NextReferenceIdeal.main_arg4) = m' ((c.tc : Thread Cert.NextReferenceIdeal.nD Cert.NextReferenceIdeal.τ).loc Cert.NextReferenceIdeal.main_arg4))

def preserves_GmlpUz_GmlpUzIdeal : Prop :=
  True

def algebraic_GmlpUzIdeal_GmlpUzReferenceIdeal [hGmlpUzIdeal : Cert.GmlpUzIdeal.Facts] [hGmlpUzReferenceIdeal : Cert.GmlpUzReferenceIdeal.Facts] : Prop :=
  ∀ (m : (ℓ : Loc Cert.GmlpUzIdeal.nD Cert.GmlpUzIdeal.τ Cert.GmlpUzIdeal.sig) → Buf (Elt Ideal) ℓ) (g : Dev Cert.GmlpUzIdeal.nD → PrngReg)
    (m' : (ℓ : Loc Cert.GmlpUzReferenceIdeal.nD Cert.GmlpUzReferenceIdeal.τ Cert.GmlpUzReferenceIdeal.sig) → Buf (Elt Ideal) ℓ) (g' : Dev Cert.GmlpUzReferenceIdeal.nD → PrngReg), Pre_GmlpUzIdeal m →
    (∀ c : Dev Cert.GmlpUzIdeal.nD,
      m' ((c.tc : Thread Cert.GmlpUzReferenceIdeal.nD Cert.GmlpUzReferenceIdeal.τ).loc Cert.GmlpUzReferenceIdeal.main_arg0) = m ((c.tc : Thread Cert.GmlpUzIdeal.nD Cert.GmlpUzIdeal.τ).loc Cert.GmlpUzIdeal.main_arg0)
      ∧ m' ((c.tc : Thread Cert.GmlpUzReferenceIdeal.nD Cert.GmlpUzReferenceIdeal.τ).loc Cert.GmlpUzReferenceIdeal.main_arg1) = m ((c.tc : Thread Cert.GmlpUzIdeal.nD Cert.GmlpUzIdeal.τ).loc Cert.GmlpUzIdeal.main_arg1)) →
    ∃ (v0 : (c : Dev Cert.GmlpUzIdeal.nD) → Buf (Elt Ideal) ((c.tc : Thread Cert.GmlpUzIdeal.nD Cert.GmlpUzIdeal.τ).loc Cert.GmlpUzIdeal.main_v2)),
      θ_run (Cert.GmlpUzIdeal.defs (F := Ideal)) (onTc (τ := Cert.GmlpUzIdeal.τ) (Cert.GmlpUzIdeal.main (F := Ideal))) ⟨m, fun _ => 0, g⟩ (fun r => ∀ c : Dev Cert.GmlpUzIdeal.nD,
          r.2.mem ((c.tc : Thread Cert.GmlpUzIdeal.nD Cert.GmlpUzIdeal.τ).loc Cert.GmlpUzIdeal.main_v2) = v0 c
          ∧ r.2.mem ((c.tc : Thread Cert.GmlpUzIdeal.nD Cert.GmlpUzIdeal.τ).loc Cert.GmlpUzIdeal.main_arg0) = m ((c.tc : Thread Cert.GmlpUzIdeal.nD Cert.GmlpUzIdeal.τ).loc Cert.GmlpUzIdeal.main_arg0)
          ∧ r.2.mem ((c.tc : Thread Cert.GmlpUzIdeal.nD Cert.GmlpUzIdeal.τ).loc Cert.GmlpUzIdeal.main_arg1) = m ((c.tc : Thread Cert.GmlpUzIdeal.nD Cert.GmlpUzIdeal.τ).loc Cert.GmlpUzIdeal.main_arg1))
      ∧ θ_run (Cert.GmlpUzReferenceIdeal.defs (F := Ideal)) (onTc (τ := Cert.GmlpUzReferenceIdeal.τ) (Cert.GmlpUzReferenceIdeal.main (F := Ideal))) ⟨m', fun _ => 0, g'⟩ (fun r => ∀ c : Dev Cert.GmlpUzReferenceIdeal.nD,
          r.2.mem ((c.tc : Thread Cert.GmlpUzReferenceIdeal.nD Cert.GmlpUzReferenceIdeal.τ).loc Cert.GmlpUzReferenceIdeal.main_v22) = v0 c
          ∧ r.2.mem ((c.tc : Thread Cert.GmlpUzReferenceIdeal.nD Cert.GmlpUzReferenceIdeal.τ).loc Cert.GmlpUzReferenceIdeal.main_arg0) = m' ((c.tc : Thread Cert.GmlpUzReferenceIdeal.nD Cert.GmlpUzReferenceIdeal.τ).loc Cert.GmlpUzReferenceIdeal.main_arg0)
          ∧ r.2.mem ((c.tc : Thread Cert.GmlpUzReferenceIdeal.nD Cert.GmlpUzReferenceIdeal.τ).loc Cert.GmlpUzReferenceIdeal.main_arg1) = m' ((c.tc : Thread Cert.GmlpUzReferenceIdeal.nD Cert.GmlpUzReferenceIdeal.τ).loc Cert.GmlpUzReferenceIdeal.main_arg1))

def preserves_AttnZ_AttnZIdeal : Prop :=
  True

def algebraic_AttnZIdeal_AttnZReferenceIdeal [hAttnZIdeal : Cert.AttnZIdeal.Facts] [hAttnZReferenceIdeal : Cert.AttnZReferenceIdeal.Facts] : Prop :=
  ∀ (m : (ℓ : Loc Cert.AttnZIdeal.nD Cert.AttnZIdeal.τ Cert.AttnZIdeal.sig) → Buf (Elt Ideal) ℓ) (g : Dev Cert.AttnZIdeal.nD → PrngReg)
    (m' : (ℓ : Loc Cert.AttnZReferenceIdeal.nD Cert.AttnZReferenceIdeal.τ Cert.AttnZReferenceIdeal.sig) → Buf (Elt Ideal) ℓ) (g' : Dev Cert.AttnZReferenceIdeal.nD → PrngReg), Pre_AttnZIdeal m →
    (∀ c : Dev Cert.AttnZIdeal.nD,
      m' ((c.tc : Thread Cert.AttnZReferenceIdeal.nD Cert.AttnZReferenceIdeal.τ).loc Cert.AttnZReferenceIdeal.main_arg0) = m ((c.tc : Thread Cert.AttnZIdeal.nD Cert.AttnZIdeal.τ).loc Cert.AttnZIdeal.main_arg0)
      ∧ m' ((c.tc : Thread Cert.AttnZReferenceIdeal.nD Cert.AttnZReferenceIdeal.τ).loc Cert.AttnZReferenceIdeal.main_arg1) = m ((c.tc : Thread Cert.AttnZIdeal.nD Cert.AttnZIdeal.τ).loc Cert.AttnZIdeal.main_arg1)) →
    ∃ (v0 : (c : Dev Cert.AttnZIdeal.nD) → Buf (Elt Ideal) ((c.tc : Thread Cert.AttnZIdeal.nD Cert.AttnZIdeal.τ).loc Cert.AttnZIdeal.main_v2)),
      θ_run (Cert.AttnZIdeal.defs (F := Ideal)) (onTc (τ := Cert.AttnZIdeal.τ) (Cert.AttnZIdeal.main (F := Ideal))) ⟨m, fun _ => 0, g⟩ (fun r => ∀ c : Dev Cert.AttnZIdeal.nD,
          r.2.mem ((c.tc : Thread Cert.AttnZIdeal.nD Cert.AttnZIdeal.τ).loc Cert.AttnZIdeal.main_v2) = v0 c
          ∧ r.2.mem ((c.tc : Thread Cert.AttnZIdeal.nD Cert.AttnZIdeal.τ).loc Cert.AttnZIdeal.main_arg0) = m ((c.tc : Thread Cert.AttnZIdeal.nD Cert.AttnZIdeal.τ).loc Cert.AttnZIdeal.main_arg0)
          ∧ r.2.mem ((c.tc : Thread Cert.AttnZIdeal.nD Cert.AttnZIdeal.τ).loc Cert.AttnZIdeal.main_arg1) = m ((c.tc : Thread Cert.AttnZIdeal.nD Cert.AttnZIdeal.τ).loc Cert.AttnZIdeal.main_arg1))
      ∧ θ_run (Cert.AttnZReferenceIdeal.defs (F := Ideal)) (onTc (τ := Cert.AttnZReferenceIdeal.τ) (Cert.AttnZReferenceIdeal.main (F := Ideal))) ⟨m', fun _ => 0, g'⟩ (fun r => ∀ c : Dev Cert.AttnZReferenceIdeal.nD,
          r.2.mem ((c.tc : Thread Cert.AttnZReferenceIdeal.nD Cert.AttnZReferenceIdeal.τ).loc Cert.AttnZReferenceIdeal.main_v8) = v0 c
          ∧ r.2.mem ((c.tc : Thread Cert.AttnZReferenceIdeal.nD Cert.AttnZReferenceIdeal.τ).loc Cert.AttnZReferenceIdeal.main_arg0) = m' ((c.tc : Thread Cert.AttnZReferenceIdeal.nD Cert.AttnZReferenceIdeal.τ).loc Cert.AttnZReferenceIdeal.main_arg0)
          ∧ r.2.mem ((c.tc : Thread Cert.AttnZReferenceIdeal.nD Cert.AttnZReferenceIdeal.τ).loc Cert.AttnZReferenceIdeal.main_arg1) = m' ((c.tc : Thread Cert.AttnZReferenceIdeal.nD Cert.AttnZReferenceIdeal.τ).loc Cert.AttnZReferenceIdeal.main_arg1))

def preserves_FnetZ_FnetZIdeal : Prop :=
  True

def algebraic_FnetZIdeal_FnetZReferenceIdeal [hFnetZIdeal : Cert.FnetZIdeal.Facts] [hFnetZReferenceIdeal : Cert.FnetZReferenceIdeal.Facts] : Prop :=
  ∀ (m : (ℓ : Loc Cert.FnetZIdeal.nD Cert.FnetZIdeal.τ Cert.FnetZIdeal.sig) → Buf (Elt Ideal) ℓ) (g : Dev Cert.FnetZIdeal.nD → PrngReg)
    (m' : (ℓ : Loc Cert.FnetZReferenceIdeal.nD Cert.FnetZReferenceIdeal.τ Cert.FnetZReferenceIdeal.sig) → Buf (Elt Ideal) ℓ) (g' : Dev Cert.FnetZReferenceIdeal.nD → PrngReg), Pre_FnetZIdeal m →
    (∀ c : Dev Cert.FnetZIdeal.nD,
      m' ((c.tc : Thread Cert.FnetZReferenceIdeal.nD Cert.FnetZReferenceIdeal.τ).loc Cert.FnetZReferenceIdeal.main_arg0) = m ((c.tc : Thread Cert.FnetZIdeal.nD Cert.FnetZIdeal.τ).loc Cert.FnetZIdeal.main_arg0)
      ∧ m' ((c.tc : Thread Cert.FnetZReferenceIdeal.nD Cert.FnetZReferenceIdeal.τ).loc Cert.FnetZReferenceIdeal.main_arg1) = m ((c.tc : Thread Cert.FnetZIdeal.nD Cert.FnetZIdeal.τ).loc Cert.FnetZIdeal.main_arg1)) →
    ∃ (v0 : (c : Dev Cert.FnetZIdeal.nD) → Buf (Elt Ideal) ((c.tc : Thread Cert.FnetZIdeal.nD Cert.FnetZIdeal.τ).loc Cert.FnetZIdeal.main_v2)),
      θ_run (Cert.FnetZIdeal.defs (F := Ideal)) (onTc (τ := Cert.FnetZIdeal.τ) (Cert.FnetZIdeal.main (F := Ideal))) ⟨m, fun _ => 0, g⟩ (fun r => ∀ c : Dev Cert.FnetZIdeal.nD,
          r.2.mem ((c.tc : Thread Cert.FnetZIdeal.nD Cert.FnetZIdeal.τ).loc Cert.FnetZIdeal.main_v2) = v0 c
          ∧ r.2.mem ((c.tc : Thread Cert.FnetZIdeal.nD Cert.FnetZIdeal.τ).loc Cert.FnetZIdeal.main_arg0) = m ((c.tc : Thread Cert.FnetZIdeal.nD Cert.FnetZIdeal.τ).loc Cert.FnetZIdeal.main_arg0)
          ∧ r.2.mem ((c.tc : Thread Cert.FnetZIdeal.nD Cert.FnetZIdeal.τ).loc Cert.FnetZIdeal.main_arg1) = m ((c.tc : Thread Cert.FnetZIdeal.nD Cert.FnetZIdeal.τ).loc Cert.FnetZIdeal.main_arg1))
      ∧ θ_run (Cert.FnetZReferenceIdeal.defs (F := Ideal)) (onTc (τ := Cert.FnetZReferenceIdeal.τ) (Cert.FnetZReferenceIdeal.main (F := Ideal))) ⟨m', fun _ => 0, g'⟩ (fun r => ∀ c : Dev Cert.FnetZReferenceIdeal.nD,
          r.2.mem ((c.tc : Thread Cert.FnetZReferenceIdeal.nD Cert.FnetZReferenceIdeal.τ).loc Cert.FnetZReferenceIdeal.main_v8) = v0 c
          ∧ r.2.mem ((c.tc : Thread Cert.FnetZReferenceIdeal.nD Cert.FnetZReferenceIdeal.τ).loc Cert.FnetZReferenceIdeal.main_arg0) = m' ((c.tc : Thread Cert.FnetZReferenceIdeal.nD Cert.FnetZReferenceIdeal.τ).loc Cert.FnetZReferenceIdeal.main_arg0)
          ∧ r.2.mem ((c.tc : Thread Cert.FnetZReferenceIdeal.nD Cert.FnetZReferenceIdeal.τ).loc Cert.FnetZReferenceIdeal.main_arg1) = m' ((c.tc : Thread Cert.FnetZReferenceIdeal.nD Cert.FnetZReferenceIdeal.τ).loc Cert.FnetZReferenceIdeal.main_arg1))

def preserves_AttnQ_AttnQIdeal : Prop :=
  True

def algebraic_AttnQIdeal_AttnQReferenceIdeal [hAttnQIdeal : Cert.AttnQIdeal.Facts] [hAttnQReferenceIdeal : Cert.AttnQReferenceIdeal.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.AttnQReferenceIdeal.nD Cert.AttnQReferenceIdeal.τ Cert.AttnQReferenceIdeal.sig) → Buf (Elt Ideal) ℓ) (g' : Dev Cert.AttnQReferenceIdeal.nD → PrngReg), Pre_AttnQIdeal m →
    (∀ c : Dev Cert.AttnQIdeal.nD,
      m' ((c.tc : Thread Cert.AttnQReferenceIdeal.nD Cert.AttnQReferenceIdeal.τ).loc Cert.AttnQReferenceIdeal.main_arg0) = m ((c.tc : Thread Cert.AttnQIdeal.nD Cert.AttnQIdeal.τ).loc Cert.AttnQIdeal.main_arg0)
      ∧ m' ((c.tc : Thread Cert.AttnQReferenceIdeal.nD Cert.AttnQReferenceIdeal.τ).loc Cert.AttnQReferenceIdeal.main_arg1) = m ((c.tc : Thread Cert.AttnQIdeal.nD Cert.AttnQIdeal.τ).loc Cert.AttnQIdeal.main_arg1)) →
    ∃ (v0 : (c : Dev Cert.AttnQIdeal.nD) → Buf (Elt Ideal) ((c.tc : Thread Cert.AttnQIdeal.nD Cert.AttnQIdeal.τ).loc Cert.AttnQIdeal.main_v47)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v47) = v0 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ θ_run (Cert.AttnQReferenceIdeal.defs (F := Ideal)) (onTc (τ := Cert.AttnQReferenceIdeal.τ) (Cert.AttnQReferenceIdeal.main (F := Ideal))) ⟨m', fun _ => 0, g'⟩ (fun r => ∀ c : Dev Cert.AttnQReferenceIdeal.nD,
          r.2.mem ((c.tc : Thread Cert.AttnQReferenceIdeal.nD Cert.AttnQReferenceIdeal.τ).loc Cert.AttnQReferenceIdeal.main_v76) = v0 c
          ∧ r.2.mem ((c.tc : Thread Cert.AttnQReferenceIdeal.nD Cert.AttnQReferenceIdeal.τ).loc Cert.AttnQReferenceIdeal.main_arg0) = m' ((c.tc : Thread Cert.AttnQReferenceIdeal.nD Cert.AttnQReferenceIdeal.τ).loc Cert.AttnQReferenceIdeal.main_arg0)
          ∧ r.2.mem ((c.tc : Thread Cert.AttnQReferenceIdeal.nD Cert.AttnQReferenceIdeal.τ).loc Cert.AttnQReferenceIdeal.main_arg1) = m' ((c.tc : Thread Cert.AttnQReferenceIdeal.nD Cert.AttnQReferenceIdeal.τ).loc Cert.AttnQReferenceIdeal.main_arg1))

def preserves_GmlpV_GmlpVIdeal : Prop :=
  IdealRules.named_const.Statement Cert.GmlpVIdeal.κ "third" .f32 0x3EAAAAAB#32 ((1 / 3 : ℝ) : EReal)
  ∧ IdealRules.named_const.Statement Cert.GmlpVIdeal.κ "part3" .f32 0x43AAAAAB#32 ((1024 / 3 : ℝ) : EReal)
  ∧ IdealRules.named_const.Statement Cert.GmlpVIdeal.κ "fifth" .f32 0x3E4CCCCD#32 ((1 / 5 : ℝ) : EReal)
  ∧ IdealRules.named_const.Statement Cert.GmlpVIdeal.κ "part5" .f32 0x43CCCCCD#32 ((2048 / 5 : ℝ) : EReal)
  ∧ IdealRules.named_const.Statement Cert.GmlpVIdeal.κ "sixth" .f32 0x3E2AAAAB#32 ((1 / 6 : ℝ) : EReal)
  ∧ IdealRules.named_const.Statement Cert.GmlpVIdeal.κ "part6" .f32 0x43D55555#32 ((1280 / 3 : ℝ) : EReal)
  ∧ IdealRules.named_const.Statement Cert.GmlpVIdeal.κ "seventh" .f32 0x3E124925#32 ((1 / 7 : ℝ) : EReal)
  ∧ IdealRules.named_const.Statement Cert.GmlpVIdeal.κ "part7" .f32 0x43DB6DB7#32 ((3072 / 7 : ℝ) : EReal)

def algebraic_GmlpVIdeal_GmlpVReferenceIdeal_pre_finite_v [hGmlpVIdeal : Cert.GmlpVIdeal.Facts] [hGmlpVReferenceIdeal : Cert.GmlpVReferenceIdeal.Facts] [hPre_finite_v : Cert.Pre_finite_v.Facts] : Prop :=
  ∀ (m : (ℓ : Loc Cert.GmlpVIdeal.nD Cert.GmlpVIdeal.τ Cert.GmlpVIdeal.sig) → Buf (Elt Ideal) ℓ) (g : Dev Cert.GmlpVIdeal.nD → PrngReg)
    (m' : (ℓ : Loc Cert.GmlpVReferenceIdeal.nD Cert.GmlpVReferenceIdeal.τ Cert.GmlpVReferenceIdeal.sig) → Buf (Elt Ideal) ℓ) (g' : Dev Cert.GmlpVReferenceIdeal.nD → PrngReg), Pre_GmlpVIdeal_finite_v m →
    (∀ c : Dev Cert.GmlpVIdeal.nD,
      m' ((c.tc : Thread Cert.GmlpVReferenceIdeal.nD Cert.GmlpVReferenceIdeal.τ).loc Cert.GmlpVReferenceIdeal.main_arg0) = m ((c.tc : Thread Cert.GmlpVIdeal.nD Cert.GmlpVIdeal.τ).loc Cert.GmlpVIdeal.main_arg0)
      ∧ m' ((c.tc : Thread Cert.GmlpVReferenceIdeal.nD Cert.GmlpVReferenceIdeal.τ).loc Cert.GmlpVReferenceIdeal.main_arg1) = m ((c.tc : Thread Cert.GmlpVIdeal.nD Cert.GmlpVIdeal.τ).loc Cert.GmlpVIdeal.main_arg1)) →
    ∃ (v0 : (c : Dev Cert.GmlpVIdeal.nD) → Buf (Elt Ideal) ((c.tc : Thread Cert.GmlpVIdeal.nD Cert.GmlpVIdeal.τ).loc Cert.GmlpVIdeal.main_v5_0)) (v1 : (c : Dev Cert.GmlpVIdeal.nD) → Buf (Elt Ideal) ((c.tc : Thread Cert.GmlpVIdeal.nD Cert.GmlpVIdeal.τ).loc Cert.GmlpVIdeal.main_v5_1)) (v2 : (c : Dev Cert.GmlpVIdeal.nD) → Buf (Elt Ideal) ((c.tc : Thread Cert.GmlpVIdeal.nD Cert.GmlpVIdeal.τ).loc Cert.GmlpVIdeal.main_v5_2)),
      θ_run (Cert.GmlpVIdeal.defs (F := Ideal)) (onTc (τ := Cert.GmlpVIdeal.τ) (Cert.GmlpVIdeal.main (F := Ideal))) ⟨m, fun _ => 0, g⟩ (fun r => ∀ c : Dev Cert.GmlpVIdeal.nD,
          r.2.mem ((c.tc : Thread Cert.GmlpVIdeal.nD Cert.GmlpVIdeal.τ).loc Cert.GmlpVIdeal.main_v5_0) = v0 c
          ∧ r.2.mem ((c.tc : Thread Cert.GmlpVIdeal.nD Cert.GmlpVIdeal.τ).loc Cert.GmlpVIdeal.main_v5_1) = v1 c
          ∧ r.2.mem ((c.tc : Thread Cert.GmlpVIdeal.nD Cert.GmlpVIdeal.τ).loc Cert.GmlpVIdeal.main_v5_2) = v2 c
          ∧ r.2.mem ((c.tc : Thread Cert.GmlpVIdeal.nD Cert.GmlpVIdeal.τ).loc Cert.GmlpVIdeal.main_arg0) = m ((c.tc : Thread Cert.GmlpVIdeal.nD Cert.GmlpVIdeal.τ).loc Cert.GmlpVIdeal.main_arg0)
          ∧ r.2.mem ((c.tc : Thread Cert.GmlpVIdeal.nD Cert.GmlpVIdeal.τ).loc Cert.GmlpVIdeal.main_arg1) = m ((c.tc : Thread Cert.GmlpVIdeal.nD Cert.GmlpVIdeal.τ).loc Cert.GmlpVIdeal.main_arg1))
      ∧ θ_run (Cert.GmlpVReferenceIdeal.defs (F := Ideal)) (onTc (τ := Cert.GmlpVReferenceIdeal.τ) (Cert.GmlpVReferenceIdeal.main (F := Ideal))) ⟨m', fun _ => 0, g'⟩ (fun r => ∀ c : Dev Cert.GmlpVReferenceIdeal.nD,
          r.2.mem ((c.tc : Thread Cert.GmlpVReferenceIdeal.nD Cert.GmlpVReferenceIdeal.τ).loc Cert.GmlpVReferenceIdeal.main_v31) = v0 c
          ∧ r.2.mem ((c.tc : Thread Cert.GmlpVReferenceIdeal.nD Cert.GmlpVReferenceIdeal.τ).loc Cert.GmlpVReferenceIdeal.main_v33) = v1 c
          ∧ r.2.mem ((c.tc : Thread Cert.GmlpVReferenceIdeal.nD Cert.GmlpVReferenceIdeal.τ).loc Cert.GmlpVReferenceIdeal.main_v38) = v2 c
          ∧ r.2.mem ((c.tc : Thread Cert.GmlpVReferenceIdeal.nD Cert.GmlpVReferenceIdeal.τ).loc Cert.GmlpVReferenceIdeal.main_arg0) = m' ((c.tc : Thread Cert.GmlpVReferenceIdeal.nD Cert.GmlpVReferenceIdeal.τ).loc Cert.GmlpVReferenceIdeal.main_arg0)
          ∧ r.2.mem ((c.tc : Thread Cert.GmlpVReferenceIdeal.nD Cert.GmlpVReferenceIdeal.τ).loc Cert.GmlpVReferenceIdeal.main_arg1) = m' ((c.tc : Thread Cert.GmlpVReferenceIdeal.nD Cert.GmlpVReferenceIdeal.τ).loc Cert.GmlpVReferenceIdeal.main_arg1))

def preserves_FnetU_FnetUIdeal : Prop :=
  True

def algebraic_FnetUIdeal_FnetUReferenceIdeal_pre_finite_u [hFnetUIdeal : Cert.FnetUIdeal.Facts] [hFnetUReferenceIdeal : Cert.FnetUReferenceIdeal.Facts] [hPre_finite_u : Cert.Pre_finite_u.Facts] : Prop :=
  ∀ (m : (ℓ : Loc Cert.FnetUIdeal.nD Cert.FnetUIdeal.τ Cert.FnetUIdeal.sig) → Buf (Elt Ideal) ℓ) (g : Dev Cert.FnetUIdeal.nD → PrngReg)
    (m' : (ℓ : Loc Cert.FnetUReferenceIdeal.nD Cert.FnetUReferenceIdeal.τ Cert.FnetUReferenceIdeal.sig) → Buf (Elt Ideal) ℓ) (g' : Dev Cert.FnetUReferenceIdeal.nD → PrngReg), Pre_FnetUIdeal_finite_u m →
    (∀ c : Dev Cert.FnetUIdeal.nD,
      m' ((c.tc : Thread Cert.FnetUReferenceIdeal.nD Cert.FnetUReferenceIdeal.τ).loc Cert.FnetUReferenceIdeal.main_arg0) = m ((c.tc : Thread Cert.FnetUIdeal.nD Cert.FnetUIdeal.τ).loc Cert.FnetUIdeal.main_arg0)
      ∧ m' ((c.tc : Thread Cert.FnetUReferenceIdeal.nD Cert.FnetUReferenceIdeal.τ).loc Cert.FnetUReferenceIdeal.main_arg1) = m ((c.tc : Thread Cert.FnetUIdeal.nD Cert.FnetUIdeal.τ).loc Cert.FnetUIdeal.main_arg1)
      ∧ m' ((c.tc : Thread Cert.FnetUReferenceIdeal.nD Cert.FnetUReferenceIdeal.τ).loc Cert.FnetUReferenceIdeal.main_arg2) = m ((c.tc : Thread Cert.FnetUIdeal.nD Cert.FnetUIdeal.τ).loc Cert.FnetUIdeal.main_arg2)) →
    ∃ (v0 : (c : Dev Cert.FnetUIdeal.nD) → Buf (Elt Ideal) ((c.tc : Thread Cert.FnetUIdeal.nD Cert.FnetUIdeal.τ).loc Cert.FnetUIdeal.main_v29_0)) (v1 : (c : Dev Cert.FnetUIdeal.nD) → Buf (Elt Ideal) ((c.tc : Thread Cert.FnetUIdeal.nD Cert.FnetUIdeal.τ).loc Cert.FnetUIdeal.main_v29_1)),
      θ_run (Cert.FnetUIdeal.defs (F := Ideal)) (onTc (τ := Cert.FnetUIdeal.τ) (Cert.FnetUIdeal.main (F := Ideal))) ⟨m, fun _ => 0, g⟩ (fun r => ∀ c : Dev Cert.FnetUIdeal.nD,
          r.2.mem ((c.tc : Thread Cert.FnetUIdeal.nD Cert.FnetUIdeal.τ).loc Cert.FnetUIdeal.main_v29_0) = v0 c
          ∧ r.2.mem ((c.tc : Thread Cert.FnetUIdeal.nD Cert.FnetUIdeal.τ).loc Cert.FnetUIdeal.main_v29_1) = v1 c
          ∧ r.2.mem ((c.tc : Thread Cert.FnetUIdeal.nD Cert.FnetUIdeal.τ).loc Cert.FnetUIdeal.main_arg0) = m ((c.tc : Thread Cert.FnetUIdeal.nD Cert.FnetUIdeal.τ).loc Cert.FnetUIdeal.main_arg0)
          ∧ r.2.mem ((c.tc : Thread Cert.FnetUIdeal.nD Cert.FnetUIdeal.τ).loc Cert.FnetUIdeal.main_arg1) = m ((c.tc : Thread Cert.FnetUIdeal.nD Cert.FnetUIdeal.τ).loc Cert.FnetUIdeal.main_arg1)
          ∧ r.2.mem ((c.tc : Thread Cert.FnetUIdeal.nD Cert.FnetUIdeal.τ).loc Cert.FnetUIdeal.main_arg2) = m ((c.tc : Thread Cert.FnetUIdeal.nD Cert.FnetUIdeal.τ).loc Cert.FnetUIdeal.main_arg2))
      ∧ θ_run (Cert.FnetUReferenceIdeal.defs (F := Ideal)) (onTc (τ := Cert.FnetUReferenceIdeal.τ) (Cert.FnetUReferenceIdeal.main (F := Ideal))) ⟨m', fun _ => 0, g'⟩ (fun r => ∀ c : Dev Cert.FnetUReferenceIdeal.nD,
          r.2.mem ((c.tc : Thread Cert.FnetUReferenceIdeal.nD Cert.FnetUReferenceIdeal.τ).loc Cert.FnetUReferenceIdeal.main_v25) = v0 c
          ∧ r.2.mem ((c.tc : Thread Cert.FnetUReferenceIdeal.nD Cert.FnetUReferenceIdeal.τ).loc Cert.FnetUReferenceIdeal.main_v38) = v1 c
          ∧ r.2.mem ((c.tc : Thread Cert.FnetUReferenceIdeal.nD Cert.FnetUReferenceIdeal.τ).loc Cert.FnetUReferenceIdeal.main_arg0) = m' ((c.tc : Thread Cert.FnetUReferenceIdeal.nD Cert.FnetUReferenceIdeal.τ).loc Cert.FnetUReferenceIdeal.main_arg0)
          ∧ r.2.mem ((c.tc : Thread Cert.FnetUReferenceIdeal.nD Cert.FnetUReferenceIdeal.τ).loc Cert.FnetUReferenceIdeal.main_arg1) = m' ((c.tc : Thread Cert.FnetUReferenceIdeal.nD Cert.FnetUReferenceIdeal.τ).loc Cert.FnetUReferenceIdeal.main_arg1)
          ∧ r.2.mem ((c.tc : Thread Cert.FnetUReferenceIdeal.nD Cert.FnetUReferenceIdeal.τ).loc Cert.FnetUReferenceIdeal.main_arg2) = m' ((c.tc : Thread Cert.FnetUReferenceIdeal.nD Cert.FnetUReferenceIdeal.τ).loc Cert.FnetUReferenceIdeal.main_arg2))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalReferenceIdeal : Cert.FinalReferenceIdeal.Facts) (hNext : Cert.Next.Facts) (hNextIdeal : Cert.NextIdeal.Facts) (hNextReferenceIdeal : Cert.NextReferenceIdeal.Facts) (hGmlpUz : Cert.GmlpUz.Facts) (hGmlpUzIdeal : Cert.GmlpUzIdeal.Facts) (hGmlpUzReferenceIdeal : Cert.GmlpUzReferenceIdeal.Facts) (hAttnZ : Cert.AttnZ.Facts) (hAttnZIdeal : Cert.AttnZIdeal.Facts) (hAttnZReferenceIdeal : Cert.AttnZReferenceIdeal.Facts) (hFnetZ : Cert.FnetZ.Facts) (hFnetZIdeal : Cert.FnetZIdeal.Facts) (hFnetZReferenceIdeal : Cert.FnetZReferenceIdeal.Facts) (hAttnQ : Cert.AttnQ.Facts) (hAttnQIdeal : Cert.AttnQIdeal.Facts) (hAttnQReferenceIdeal : Cert.AttnQReferenceIdeal.Facts) (hGmlpV : Cert.GmlpV.Facts) (hGmlpVIdeal : Cert.GmlpVIdeal.Facts) (hGmlpVReferenceIdeal : Cert.GmlpVReferenceIdeal.Facts) (hFnetU : Cert.FnetU.Facts) (hFnetUIdeal : Cert.FnetUIdeal.Facts) (hFnetUReferenceIdeal : Cert.FnetUReferenceIdeal.Facts) (hPre_finite : Cert.Pre_finite.Facts) (hPre_finite_v : Cert.Pre_finite_v.Facts) (hPre_finite_u : Cert.Pre_finite_u.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Final (hFinal := hFinal)
    ∧ quiescent_FinalIdeal (hFinalIdeal := hFinalIdeal)
    ∧ quiescent_FinalReferenceIdeal (hFinalReferenceIdeal := hFinalReferenceIdeal)
    ∧ quiescent_Next (hNext := hNext)
    ∧ quiescent_NextIdeal (hNextIdeal := hNextIdeal)
    ∧ quiescent_NextReferenceIdeal (hNextReferenceIdeal := hNextReferenceIdeal)
    ∧ quiescent_GmlpUz (hGmlpUz := hGmlpUz)
    ∧ quiescent_GmlpUzIdeal (hGmlpUzIdeal := hGmlpUzIdeal)
    ∧ quiescent_GmlpUzReferenceIdeal (hGmlpUzReferenceIdeal := hGmlpUzReferenceIdeal)
    ∧ quiescent_AttnZ (hAttnZ := hAttnZ)
    ∧ quiescent_AttnZIdeal (hAttnZIdeal := hAttnZIdeal)
    ∧ quiescent_AttnZReferenceIdeal (hAttnZReferenceIdeal := hAttnZReferenceIdeal)
    ∧ quiescent_FnetZ (hFnetZ := hFnetZ)
    ∧ quiescent_FnetZIdeal (hFnetZIdeal := hFnetZIdeal)
    ∧ quiescent_FnetZReferenceIdeal (hFnetZReferenceIdeal := hFnetZReferenceIdeal)
    ∧ quiescent_AttnQ (hAttnQ := hAttnQ)
    ∧ quiescent_AttnQIdeal (hAttnQIdeal := hAttnQIdeal)
    ∧ quiescent_AttnQReferenceIdeal (hAttnQReferenceIdeal := hAttnQReferenceIdeal)
    ∧ quiescent_GmlpV (hGmlpV := hGmlpV)
    ∧ quiescent_GmlpVIdeal (hGmlpVIdeal := hGmlpVIdeal)
    ∧ quiescent_GmlpVIdeal_pre_finite_v (hGmlpVIdeal := hGmlpVIdeal) (hPre_finite_v := hPre_finite_v)
    ∧ quiescent_GmlpVReferenceIdeal (hGmlpVReferenceIdeal := hGmlpVReferenceIdeal)
    ∧ quiescent_GmlpVReferenceIdeal_pre_finite_v (hGmlpVReferenceIdeal := hGmlpVReferenceIdeal) (hPre_finite_v := hPre_finite_v)
    ∧ quiescent_FnetU (hFnetU := hFnetU)
    ∧ quiescent_FnetUIdeal (hFnetUIdeal := hFnetUIdeal)
    ∧ quiescent_FnetUIdeal_pre_finite_u (hFnetUIdeal := hFnetUIdeal) (hPre_finite_u := hPre_finite_u)
    ∧ quiescent_FnetUReferenceIdeal (hFnetUReferenceIdeal := hFnetUReferenceIdeal)
    ∧ quiescent_FnetUReferenceIdeal_pre_finite_u (hFnetUReferenceIdeal := hFnetUReferenceIdeal) (hPre_finite_u := hPre_finite_u)
    ∧ preserves_Kernel_KernelIdeal
    ∧ algebraic_KernelIdeal_ReferenceIdeal_pre_finite (hKernelIdeal := hKernelIdeal) (hReferenceIdeal := hReferenceIdeal) (hPre_finite := hPre_finite)
    ∧ preserves_Final_FinalIdeal
    ∧ algebraic_FinalIdeal_FinalReferenceIdeal (hFinalIdeal := hFinalIdeal) (hFinalReferenceIdeal := hFinalReferenceIdeal)
    ∧ preserves_Next_NextIdeal
    ∧ algebraic_NextIdeal_NextReferenceIdeal (hNextIdeal := hNextIdeal) (hNextReferenceIdeal := hNextReferenceIdeal)
    ∧ preserves_GmlpUz_GmlpUzIdeal
    ∧ algebraic_GmlpUzIdeal_GmlpUzReferenceIdeal (hGmlpUzIdeal := hGmlpUzIdeal) (hGmlpUzReferenceIdeal := hGmlpUzReferenceIdeal)
    ∧ preserves_AttnZ_AttnZIdeal
    ∧ algebraic_AttnZIdeal_AttnZReferenceIdeal (hAttnZIdeal := hAttnZIdeal) (hAttnZReferenceIdeal := hAttnZReferenceIdeal)
    ∧ preserves_FnetZ_FnetZIdeal
    ∧ algebraic_FnetZIdeal_FnetZReferenceIdeal (hFnetZIdeal := hFnetZIdeal) (hFnetZReferenceIdeal := hFnetZReferenceIdeal)
    ∧ preserves_AttnQ_AttnQIdeal
    ∧ algebraic_AttnQIdeal_AttnQReferenceIdeal (hAttnQIdeal := hAttnQIdeal) (hAttnQReferenceIdeal := hAttnQReferenceIdeal)
    ∧ preserves_GmlpV_GmlpVIdeal
    ∧ algebraic_GmlpVIdeal_GmlpVReferenceIdeal_pre_finite_v (hGmlpVIdeal := hGmlpVIdeal) (hGmlpVReferenceIdeal := hGmlpVReferenceIdeal) (hPre_finite_v := hPre_finite_v)
    ∧ preserves_FnetU_FnetUIdeal
    ∧ algebraic_FnetUIdeal_FnetUReferenceIdeal_pre_finite_u (hFnetUIdeal := hFnetUIdeal) (hFnetUReferenceIdeal := hFnetUReferenceIdeal) (hPre_finite_u := hPre_finite_u)
-- ==== Pre_finite.lean ====
abbrev S2x8192x64x64 : Shape := ⟨4, ![2, 8192, 64, 64]⟩
abbrev S2x8192x8x64 : Shape := ⟨4, ![2, 8192, 8, 64]⟩
abbrev S2x256x8x64 : Shape := ⟨4, ![2, 256, 8, 64]⟩
abbrev S2x8192x4096 : Shape := ⟨3, ![2, 8192, 4096]⟩
abbrev S64 : Shape := ⟨1, ![64]⟩
abbrev S_ : Shape := ⟨0, ![]⟩

class Facts : Prop where
  bcast_S_S2x8192x64x64 : S_.BroadcastsInDim S2x8192x64x64 (![] : Fin 0 → Fin S2x8192x64x64.rank)
  bcast_S_S2x8192x8x64 : S_.BroadcastsInDim S2x8192x8x64 (![] : Fin 0 → Fin S2x8192x8x64.rank)
  bcast_S_S2x256x8x64 : S_.BroadcastsInDim S2x256x8x64 (![] : Fin 0 → Fin S2x256x8x64.rank)
  bcast_S_S64 : S_.BroadcastsInDim S64 (![] : Fin 0 → Fin S64.rank)

variable [Facts]

def fn {F : FTy → Type} [FloatOps F] (main_arg0 : FVec F S2x8192x64x64 .f32) (main_arg1 : FVec F S2x8192x8x64 .f32) (main_arg2 : FVec F S2x8192x8x64 .f32) (main_arg3 : FVec F S2x256x8x64 .f32) (main_arg4 : FVec F S2x256x8x64 .f32) (main_arg5 : FVec F S2x8192x4096 .f32) (main_arg6 : FVec F S64 .f32) : IVec S2x8192x64x64 1 × IVec S2x8192x8x64 1 × IVec S2x256x8x64 1 × IVec S64 1 :=
  let main_v0 : FVec F S2x8192x64x64 .f32 := Host.absf main_arg0
  let main_cst : FVec F S_ .f32 := constant S_ .f32 0x7F800000#32
  let main_v1 : FVec F S2x8192x64x64 .f32 := broadcastInDim S2x8192x64x64 ![] bcast_S_S2x8192x64x64 main_cst
  let main_v2 : IVec S2x8192x64x64 1 := cmpf .olt main_v0 main_v1
  let main_v3 : FVec F S2x8192x8x64 .f32 := Host.absf main_arg1
  let main_cst_0 : FVec F S_ .f32 := constant S_ .f32 0x7F800000#32
  let main_v4 : FVec F S2x8192x8x64 .f32 := broadcastInDim S2x8192x8x64 ![] bcast_S_S2x8192x8x64 main_cst_0
  let main_v5 : IVec S2x8192x8x64 1 := cmpf .olt main_v3 main_v4
  let main_v6 : FVec F S2x256x8x64 .f32 := Host.absf main_arg3
  let main_cst_1 : FVec F S_ .f32 := constant S_ .f32 0x7F800000#32
  let main_v7 : FVec F S2x256x8x64 .f32 := broadcastInDim S2x256x8x64 ![] bcast_S_S2x256x8x64 main_cst_1
  let main_v8 : IVec S2x256x8x64 1 := cmpf .olt main_v6 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  (main_v2, main_v5, main_v8, main_v11)
-- ==== Pre_finite_u.lean ====
abbrev S2x8192x2048 : Shape := ⟨3, ![2, 8192, 2048]⟩
abbrev S2x2048x8192 : Shape := ⟨3, ![2, 2048, 8192]⟩
abbrev S2x16x256x256 : Shape := ⟨4, ![2, 16, 256, 256]⟩
abbrev S_ : Shape := ⟨0, ![]⟩

class Facts : Prop where
  bcast_S_S2x8192x2048 : S_.BroadcastsInDim S2x8192x2048 (![] : Fin 0 → Fin S2x8192x2048.rank)
  bcast_S_S2x2048x8192 : S_.BroadcastsInDim S2x2048x8192 (![] : Fin 0 → Fin S2x2048x8192.rank)
  bcast_S_S2x16x256x256 : S_.BroadcastsInDim S2x16x256x256 (![] : Fin 0 → Fin S2x16x256x256.rank)

variable [Facts]

def fn {F : FTy → Type} [FloatOps F] (main_arg0 : FVec F S2x8192x2048 .f32) (main_arg1 : FVec F S2x2048x8192 .f32) (main_arg2 : FVec F S2x16x256x256 .f32) : IVec S2x8192x2048 1 × IVec S2x2048x8192 1 × IVec S2x16x256x256 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S2x2048x8192 .f32 := Host.absf main_arg1
  let main_cst_0 : FVec F S_ .f32 := constant S_ .f32 0x7F800000#32
  let main_v4 : FVec F S2x2048x8192 .f32 := broadcastInDim S2x2048x8192 ![] bcast_S_S2x2048x8192 main_cst_0
  let main_v5 : IVec S2x2048x8192 1 := cmpf .olt main_v3 main_v4
  let main_v6 : FVec F S2x16x256x256 .f32 := Host.absf main_arg2
  let main_cst_1 : FVec F S_ .f32 := constant S_ .f32 0x7F800000#32
  let main_v7 : FVec F S2x16x256x256 .f32 := broadcastInDim S2x16x256x256 ![] bcast_S_S2x16x256x256 main_cst_1
  let main_v8 : IVec S2x16x256x256 1 := cmpf .olt main_v6 main_v7
  (main_v2, main_v5, main_v8)
-- ==== Pre_finite_v.lean ====
abbrev S2x8192x2048 : Shape := ⟨3, ![2, 8192, 2048]⟩
abbrev S1x2048x12288 : Shape := ⟨3, ![1, 2048, 12288]⟩
abbrev S_ : Shape := ⟨0, ![]⟩

class Facts : Prop where
  bcast_S_S2x8192x2048 : S_.BroadcastsInDim S2x8192x2048 (![] : Fin 0 → Fin S2x8192x2048.rank)
  bcast_S_S1x2048x12288 : S_.BroadcastsInDim S1x2048x12288 (![] : Fin 0 → Fin S1x2048x12288.rank)

variable [Facts]

def fn {F : FTy → Type} [FloatOps F] (main_arg0 : FVec F S2x8192x2048 .f32) (main_arg1 : FVec F S1x2048x12288 .f32) : IVec S2x8192x2048 1 × IVec S1x2048x12288 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S1x2048x12288 .f32 := Host.absf main_arg1
  let main_cst_0 : FVec F S_ .f32 := constant S_ .f32 0x7F800000#32
  let main_v4 : FVec F S1x2048x12288 .f32 := broadcastInDim S1x2048x12288 ![] bcast_S_S1x2048x12288 main_cst_0
  let main_v5 : IVec S1x2048x12288 1 := cmpf .olt main_v3 main_v4
  (main_v2, main_v5)
-- ==== Kernel.lean ====
abbrev S2x8192x64x64 : Shape := ⟨4, ![2, 8192, 64, 64]⟩
abbrev S2x8192x8x64 : Shape := ⟨4, ![2, 8192, 8, 64]⟩
abbrev S2x256x8x64 : Shape := ⟨4, ![2, 256, 8, 64]⟩
abbrev S2x8192x4096 : Shape := ⟨3, ![2, 8192, 4096]⟩
abbrev S64 : Shape := ⟨1, ![64]⟩
abbrev S_ : Shape := ⟨0, ![]⟩
abbrev S16384x4096 : Shape := ⟨2, ![16384, 4096]⟩
abbrev S16384x8x1x64 : Shape := ⟨4, ![16384, 8, 1, 64]⟩
abbrev S16384x8x2x64 : Shape := ⟨4, ![16384, 8, 2, 64]⟩
abbrev S16384x1024 : Shape := ⟨2, ![16384, 1024]⟩
abbrev S512x8x1x64 : Shape := ⟨4, ![512, 8, 1, 64]⟩
abbrev S512x8x2x64 : Shape := ⟨4, ![512, 8, 2, 64]⟩
abbrev S512x1024 : Shape := ⟨2, ![512, 1024]⟩
abbrev S8x8 : Shape := ⟨2, ![8, 8]⟩
abbrev S128x4096 : Shape := ⟨2, ![128, 4096]⟩
abbrev S128x1024 : Shape := ⟨2, ![128, 1024]⟩
abbrev S256x1024 : Shape := ⟨2, ![256, 1024]⟩
abbrev S1x128 : Shape := ⟨2, ![1, 128]⟩
abbrev S128x128 : Shape := ⟨2, ![128, 128]⟩
abbrev S256x128 : Shape := ⟨2, ![256, 128]⟩
abbrev S640x128 : Shape := ⟨2, ![640, 128]⟩
abbrev S512x128 : Shape := ⟨2, ![512, 128]⟩
abbrev S512x640 : Shape := ⟨2, ![512, 640]⟩
abbrev S128x640 : Shape := ⟨2, ![128, 640]⟩
abbrev S1x1 : Shape := ⟨2, ![1, 1]⟩
abbrev S128 : Shape := ⟨1, ![128]⟩
abbrev S128x1 : Shape := ⟨2, ![128, 1]⟩
abbrev S512x1 : Shape := ⟨2, ![512, 1]⟩

abbrev nBuf : Space → Nat
  | .hbm => 35
  | .vmem => 22
  | .smem => 1
  | _ => 0

abbrev bufTy : (tb : Table) → Fin (tcTables nBuf tb) → BufTy
  | .hbm, ⟨0, _⟩ => ⟨S2x8192x64x64, .f32⟩
  | .hbm, ⟨1, _⟩ => ⟨S2x8192x8x64, .f32⟩
  | .hbm, ⟨2, _⟩ => ⟨S2x8192x8x64, .f32⟩
  | .hbm, ⟨3, _⟩ => ⟨S2x256x8x64, .f32⟩
  | .hbm, ⟨4, _⟩ => ⟨S2x256x8x64, .f32⟩
  | .hbm, ⟨5, _⟩ => ⟨S2x8192x4096, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x8x1x64, .f32⟩
  | .hbm, ⟨16, _⟩ => ⟨S16384x8x2x64, .f32⟩
  | .hbm, ⟨17, _⟩ => ⟨S16384x1024, .f32⟩
  | .hbm, ⟨18, _⟩ => ⟨S16384x1024, .bf16⟩
  | .hbm, ⟨19, _⟩ => ⟨S16384x8x1x64, .f32⟩
  | .hbm, ⟨20, _⟩ => ⟨S16384x8x2x64, .f32⟩
  | .hbm, ⟨21, _⟩ => ⟨S16384x1024, .f32⟩
  | .hbm, ⟨22, _⟩ => ⟨S16384x1024, .bf16⟩
  | .hbm, ⟨23, _⟩ => ⟨S512x8x1x64, .f32⟩
  | .hbm, ⟨24, _⟩ => ⟨S512x8x2x64, .f32⟩
  | .hbm, ⟨25, _⟩ => ⟨S512x1024, .f32⟩
  | .hbm, ⟨26, _⟩ => ⟨S512x1024, .bf16⟩
  | .hbm, ⟨27, _⟩ => ⟨S512x8x1x64, .f32⟩
  | .hbm, ⟨28, _⟩ => ⟨S512x8x2x64, .f32⟩
  | .hbm, ⟨29, _⟩ => ⟨S512x1024, .f32⟩
  | .hbm, ⟨30, _⟩ => ⟨S512x1024, .bf16⟩
  | .hbm, ⟨31, _⟩ => ⟨S16384x4096, .f32⟩
  | .hbm, ⟨32, _⟩ => ⟨S16384x4096, .bf16⟩
  | .hbm, ⟨33, _⟩ => ⟨S8x8, .f32⟩
  | .hbm, ⟨34, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S256x1024, .bf16⟩
  | .local _ .vmem, ⟨9, _⟩ => ⟨S256x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S256x1024, .bf16⟩
  | .local _ .vmem, ⟨17, _⟩ => ⟨S256x1024, .bf16⟩
  | .local _ .vmem, ⟨18, _⟩ => ⟨S128x4096, .bf16⟩
  | .local _ .vmem, ⟨19, _⟩ => ⟨S128x4096, .bf16⟩
  | .local _ .vmem, ⟨20, _⟩ => ⟨S128x4096, .bf16⟩
  | .local _ .vmem, ⟨21, _⟩ => ⟨S128x4096, .bf16⟩
  | .local _ .smem, ⟨0, _⟩ => ⟨S8x8, .f32⟩
  | _, _ => ⟨S2x8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 1, 64], ![false, false, false]⟩

def k0_off1 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v97 : Index := Scalar.indexCast v70
  let c0_44 : Index := 0#32
  ![v97.toNat, 0]
def k0_off2 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v142 : Index := Scalar.indexCast v70
  let c2 : Index := 2#32
  ![v142.toNat, 2]
def k0_off3 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v187 : Index := Scalar.indexCast v70
  let c4 : Index := 4#32
  ![v187.toNat, 4]
def k0_off4 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v232 : Index := Scalar.indexCast v70
  let c6 : Index := 6#32
  ![v232.toNat, 6]
def k0_off5 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v280 : Index := Scalar.indexCast v70
  let c1 : Index := 1#32
  ![v280.toNat, 1]
def k0_off6 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v325 : Index := Scalar.indexCast v70
  let c3 : Index := 3#32
  ![v325.toNat, 3]
def k0_off7 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v370 : Index := Scalar.indexCast v70
  let c5 : Index := 5#32
  ![v370.toNat, 5]
def k0_off8 (i : grid0.Coords) (c0_i32_32 : BitVec 32) : Fin 2 → Nat :=
  let arg1 : BitVec 32 := BitVec.ofNat 32 (i 1).val
  let c8_i32 : BitVec 32 := 8#32
  let v69 : BitVec 32 := Scalar.muli arg1 c8_i32
  let v70 : BitVec 32 := Scalar.addi v69 c0_i32_32
  let v415 : Index := Scalar.indexCast v70
  let c7 : Index := 7#32
  ![v415.toNat, 7]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c_m1_i32 : BitVec 32 := 4294967295#32
  let v1 : BitVec 32 := Scalar.addi arg2 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  ![v4.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c0_i32 : BitVec 32 := 0#32
  let v1 : BitVec 32 := Scalar.addi arg2 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  ![v4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  ![v4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c_m1_i32 : BitVec 32 := 4294967295#32
  let v1 : BitVec 32 := Scalar.addi arg2 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  ![v4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c0_i32 : BitVec 32 := 0#32
  let v1 : BitVec 32 := Scalar.addi arg2 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  ![v4.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  ![v4.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 1 → Memref sig .tc .smem S8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2x8192x64x64 : Shape := ⟨4, ![2, 8192, 64, 64]⟩
abbrev S2x8192x8x64 : Shape := ⟨4, ![2, 8192, 8, 64]⟩
abbrev S2x256x8x64 : Shape := ⟨4, ![2, 256, 8, 64]⟩
abbrev S2x8192x4096 : Shape := ⟨3, ![2, 8192, 4096]⟩
abbrev S64 : Shape := ⟨1, ![64]⟩
abbrev S2x8192x8x8x64 : Shape := ⟨5, ![2, 8192, 8, 8, 64]⟩
abbrev S2x8448x8x64 : Shape := ⟨4, ![2, 8448, 8, 64]⟩
abbrev S8192 : Shape := ⟨1, ![8192]⟩
abbrev S8192x1 : Shape := ⟨2, ![8192, 1]⟩
abbrev S8448 : Shape := ⟨1, ![8448]⟩
abbrev S1x8448 : Shape := ⟨2, ![1, 8448]⟩
abbrev S8192x8448 : Shape := ⟨2, ![8192, 8448]⟩
abbrev S_ : Shape := ⟨0, ![]⟩
abbrev S2x8x8448x8192x8 : Shape := ⟨5, ![2, 8, 8448, 8192, 8]⟩
abbrev S2x8x8x8192x8448 : Shape := ⟨5, ![2, 8, 8, 8192, 8448]⟩
abbrev S8x8 : Shape := ⟨2, ![8, 8]⟩
abbrev S1x8x8x1x1 : Shape := ⟨5, ![1, 8, 8, 1, 1]⟩
abbrev S2x8x8x8192x1 : Shape := ⟨5, ![2, 8, 8, 8192, 1]⟩
abbrev S2x8x8x8192x8449 : Shape := ⟨5, ![2, 8, 8, 8192, 8449]⟩
abbrev S2x8x8x8192 : Shape := ⟨4, ![2, 8, 8, 8192]⟩
abbrev S2x8x64x8x8192 : Shape := ⟨5, ![2, 8, 64, 8, 8192]⟩
abbrev S16384x4096 : Shape := ⟨2, ![16384, 4096]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x64x64, .f32⟩
  | .hbm, ⟨1, _⟩ => ⟨S2x8192x8x64, .f32⟩
  | .hbm, ⟨2, _⟩ => ⟨S2x8192x8x64, .f32⟩
  | .hbm, ⟨3, _⟩ => ⟨S2x256x8x64, .f32⟩
  | .hbm, ⟨4, _⟩ => ⟨S2x256x8x64, .f32⟩
  | .hbm, ⟨5, _⟩ => ⟨S2x8192x4096, .f32⟩
  | .hbm, ⟨6, _⟩ => ⟨S64, .f32⟩
  | .hbm, ⟨7, _⟩ => ⟨S2x8192x8x8x64, .f32⟩
  | .hbm, ⟨8, _⟩ => ⟨S2x8448x8x64, .f32⟩
  | .hbm, ⟨9, _⟩ => ⟨S2x8448x8x64, .f32⟩
  | .hbm, ⟨10, _⟩ => ⟨S8192, .i32⟩
  | .hbm, ⟨11, _⟩ => ⟨S8192x1, .i32⟩
  | .hbm, ⟨12, _⟩ => ⟨S8448, .i32⟩
  | .hbm, ⟨13, _⟩ => ⟨S1x8448, .i32⟩
  | .hbm, ⟨14, _⟩ => ⟨S8192x8448, .i32⟩
  | .hbm, ⟨15, _⟩ => ⟨S8192x8448, .i32⟩
  | .hbm, ⟨16, _⟩ => ⟨S8192x8448, .i32⟩
  | .hbm, ⟨17, _⟩ => ⟨S8192x8448, .i32⟩
  | .hbm, ⟨18, _⟩ => ⟨S_, .i32⟩
  | .hbm, ⟨19, _⟩ => ⟨S8192x8448, .i32⟩
  | .hbm, ⟨20, _⟩ => ⟨S8192x8448, .i1⟩
  | .hbm, ⟨21, _⟩ => ⟨S_, .i32⟩
  | .hbm, ⟨22, _⟩ => ⟨S1x8448, .i32⟩
  | .hbm, ⟨23, _⟩ => ⟨S1x8448, .i1⟩
  | .hbm, ⟨24, _⟩ => ⟨S8192x8448, .i1⟩
  | .hbm, ⟨25, _⟩ => ⟨S8192x8448, .i1⟩
  | .hbm, ⟨26, _⟩ => ⟨S2x8x8448x8192x8, .f32⟩
  | .hbm, ⟨27, _⟩ => ⟨S2x8x8x8192x8448, .f32⟩
  | .hbm, ⟨28, _⟩ => ⟨S_, .f32⟩
  | .hbm, ⟨29, _⟩ => ⟨S2x8x8x8192x8448, .f32⟩
  | .hbm, ⟨30, _⟩ => ⟨S2x8x8x8192x8448, .f32⟩
  | .hbm, ⟨31, _⟩ => ⟨S_, .f32⟩
  | .hbm, ⟨32, _⟩ => ⟨S_, .f32⟩
  | .hbm, ⟨33, _⟩ => ⟨S2x8x8x8192x8448, .i1⟩
  | .hbm, ⟨34, _⟩ => ⟨S2x8x8x8192x8448, .f32⟩
  | .hbm, ⟨35, _⟩ => ⟨S2x8x8x8192x8448, .f32⟩
  | .hbm, ⟨36, _⟩ => ⟨S8x8, .f32⟩
  | .hbm, ⟨37, _⟩ => ⟨S1x8x8x1x1, .f32⟩
  | .hbm, ⟨38, _⟩ => ⟨S2x8x8x8192x1, .f32⟩
  | .hbm, ⟨39, _⟩ => ⟨S2x8x8x8192x8449, .f32⟩
  | .hbm, ⟨40, _⟩ => ⟨S_, .f32⟩
  | .hbm, ⟨41, _⟩ => ⟨S2x8x8x8192, .f32⟩
  | .hbm, ⟨42, _⟩ => ⟨S_, .f32⟩
  | .hbm, ⟨43, _⟩ => ⟨S2x8x8x8192, .f32⟩
  | .hbm, ⟨44, _⟩ => ⟨S2x8x8x8192, .f32⟩
  | .hbm, ⟨45, _⟩ => ⟨S2x8x8x8192x1, .f32⟩
  | .hbm, ⟨46, _⟩ => ⟨S2x8x8x8192x8449, .f32⟩
  | .hbm, ⟨47, _⟩ => ⟨S2x8x8x8192x8449, .f32⟩
  | .hbm, ⟨48, _⟩ => ⟨S2x8x8x8192x8449, .f32⟩
  | .hbm, ⟨49, _⟩ => ⟨S_, .f32⟩
  | .hbm, ⟨50, _⟩ => ⟨S2x8x8x8192, .f32⟩
  | .hbm, ⟨51, _⟩ => ⟨S2x8x8x8192x1, .f32⟩
  | .hbm, ⟨52, _⟩ => ⟨S2x8x8x8192x8449, .f32⟩
  | .hbm, ⟨53, _⟩ => ⟨S2x8x8x8192x8449, .f32⟩
  | .hbm, ⟨54, _⟩ => ⟨S2x8x8x8192x8448, .f32⟩
  | .hbm, ⟨55, _⟩ => ⟨S2x8x64x8x8192, .f32⟩
  | .hbm, ⟨56, _⟩ => ⟨S2x8192x8x8x64, .f32⟩
  | .hbm, ⟨57, _⟩ => ⟨S2x8192x4096, .f32⟩
  | .hbm, ⟨58, _⟩ => ⟨S2x8192x4096, .f32⟩
  | .hbm, ⟨59, _⟩ => ⟨S16384x4096, .f32⟩
  | .hbm, ⟨60, _⟩ => ⟨S16384x4096, .bf16⟩
  | _, _ => ⟨S2x8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Final.lean ====
abbrev S2x8192x4096 : Shape := ⟨3, ![2, 8192, 4096]⟩
abbrev S2x8192x2048 : Shape := ⟨3, ![2, 8192, 2048]⟩
abbrev S4x2x6144 : Shape := ⟨3, ![4, 2, 6144]⟩
abbrev S4x4096x2048 : Shape := ⟨3, ![4, 4096, 2048]⟩
abbrev S2048 : Shape := ⟨1, ![2048]⟩
abbrev S16384x32x128 : Shape := ⟨3, ![16384, 32, 128]⟩
abbrev S32x16384x128 : Shape := ⟨3, ![32, 16384, 128]⟩
abbrev S16384x2048 : Shape := ⟨2, ![16384, 2048]⟩
abbrev S_ : Shape := ⟨0, ![]⟩
abbrev S4x6x6144 : Shape := ⟨3, ![4, 6, 6144]⟩
abbrev S4x8x6144 : Shape := ⟨3, ![4, 8, 6144]⟩
abbrev S4x8x3x1x2048 : Shape := ⟨5, ![4, 8, 3, 1, 2048]⟩
abbrev S1x2048 : Shape := ⟨2, ![1, 2048]⟩
abbrev S32x512x128 : Shape := ⟨3, ![32, 512, 128]⟩
abbrev S1x4096x2048 : Shape := ⟨3, ![1, 4096, 2048]⟩
abbrev S512x2048 : Shape := ⟨2, ![512, 2048]⟩
abbrev S1x1x1x1x2048 : Shape := ⟨5, ![1, 1, 1, 1, 2048]⟩
abbrev S1x512x128 : Shape := ⟨3, ![1, 512, 128]⟩
abbrev S512x128 : Shape := ⟨2, ![512, 128]⟩
abbrev S512x4096 : Shape := ⟨2, ![512, 4096]⟩
abbrev S4096x2048 : Shape := ⟨2, ![4096, 2048]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S2x8192x2048, .f32⟩
  | .hbm, ⟨2, _⟩ => ⟨S4x2x6144, .f32⟩
  | .hbm, ⟨3, _⟩ => ⟨S4x4096x2048, .f32⟩
  | .hbm, ⟨4, _⟩ => ⟨S2048, .f32⟩
  | .hbm, ⟨5, _⟩ => ⟨S16384x32x128, .f32⟩
  | .hbm, ⟨6, _⟩ => ⟨S32x16384x128, .f32⟩
  | .hbm, ⟨7, _⟩ => ⟨S32x16384x128, .bf16⟩
  | .hbm, ⟨8, _⟩ => ⟨S4x4096x2048, .bf16⟩
  | .hbm, ⟨9, _⟩ => ⟨S16384x2048, .f32⟩
  | .hbm, ⟨10, _⟩ => ⟨S_, .f32⟩
  | .hbm, ⟨11, _⟩ => ⟨S4x6x6144, .f32⟩
  | .hbm, ⟨12, _⟩ => ⟨S4x8x6144, .f32⟩
  | .hbm, ⟨13, _⟩ => ⟨S4x8x3x1x2048, .f32⟩
  | .hbm, ⟨14, _⟩ => ⟨S1x2048, .f32⟩
  | .hbm, ⟨15, _⟩ => ⟨S16384x2048, .f32⟩
  | .local _ .vmem, ⟨0, _⟩ => ⟨S32x512x128, .bf16⟩
  | .local _ .vmem, ⟨1, _⟩ => ⟨S32x512x128, .bf16⟩
  | .local _ .vmem, ⟨2, _⟩ => ⟨S1x4096x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c2_i32 : BitVec 32 := 2#32
  let c0_i32_4 : BitVec 32 := 0#32
  let c0_i32_5 : BitVec 32 := 0#32
  let c0_i32_6 : BitVec 32 := 0#32
  ![c3_i32.toNat, v17.toNat, c2_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalReferenceIdeal.lean ====
abbrev S2x8192x4096 : Shape := ⟨3, ![2, 8192, 4096]⟩
abbrev S2x8192x2048 : Shape := ⟨3, ![2, 8192, 2048]⟩
abbrev S4x2x6144 : Shape := ⟨3, ![4, 2, 6144]⟩
abbrev S4x4096x2048 : Shape := ⟨3, ![4, 4096, 2048]⟩
abbrev S2048 : Shape := ⟨1, ![2048]⟩
abbrev S1x2x6144 : Shape := ⟨3, ![1, 2, 6144]⟩
abbrev S2x6144 : Shape := ⟨2, ![2, 6144]⟩
abbrev S2x1x6144 : Shape := ⟨3, ![2, 1, 6144]⟩
abbrev S2x1x2048 : Shape := ⟨3, ![2, 1, 2048]⟩
abbrev S1x4096x2048 : Shape := ⟨3, ![1, 4096, 2048]⟩
abbrev S4096x2048 : Shape := ⟨2, ![4096, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x2048, .f32⟩
  | .hbm, ⟨2, _⟩ => ⟨S4x2x6144, .f32⟩
  | .hbm, ⟨3, _⟩ => ⟨S4x4096x2048, .f32⟩
  | .hbm, ⟨4, _⟩ => ⟨S2048, .f32⟩
  | .hbm, ⟨5, _⟩ => ⟨S1x2x6144, .f32⟩
  | .hbm, ⟨6, _⟩ => ⟨S2x6144, .f32⟩
  | .hbm, ⟨7, _⟩ => ⟨S2x1x6144, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S1x4096x2048, .f32⟩
  | .hbm, ⟨12, _⟩ => ⟨S4096x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x2048, .f32⟩
  | .hbm, ⟨29, _⟩ => ⟨S2x8192x2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Next.lean ====
abbrev S2x8192x4096 : Shape := ⟨3, ![2, 8192, 4096]⟩
abbrev S2x8192x2048 : Shape := ⟨3, ![2, 8192, 2048]⟩
abbrev S4x2x6144 : Shape := ⟨3, ![4, 2, 6144]⟩
abbrev S4x4096x2048 : Shape := ⟨3, ![4, 4096, 2048]⟩
abbrev S4x2048 : Shape := ⟨2, ![4, 2048]⟩
abbrev S16384x4096 : Shape := ⟨2, ![16384, 4096]⟩
abbrev S16384x2048 : Shape := ⟨2, ![16384, 2048]⟩
abbrev S_ : Shape := ⟨0, ![]⟩
abbrev S4x6x6144 : Shape := ⟨3, ![4, 6, 6144]⟩
abbrev S4x8x6144 : Shape := ⟨3, ![4, 8, 6144]⟩
abbrev S4x8x3x1x2048 : Shape := ⟨5, ![4, 8, 3, 1, 2048]⟩
abbrev S4x1x2048 : Shape := ⟨3, ![4, 1, 2048]⟩
abbrev S512x4096 : Shape := ⟨2, ![512, 4096]⟩
abbrev S1x4096x2048 : Shape := ⟨3, ![1, 4096, 2048]⟩
abbrev S512x2048 : Shape := ⟨2, ![512, 2048]⟩
abbrev S1x1x1x1x2048 : Shape := ⟨5, ![1, 1, 1, 1, 2048]⟩
abbrev S1x1x2048 : Shape := ⟨3, ![1, 1, 2048]⟩
abbrev S4096x2048 : Shape := ⟨2, ![4096, 2048]⟩
abbrev S1x2048 : Shape := ⟨2, ![1, 2048]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S2x8192x2048, .f32⟩
  | .hbm, ⟨2, _⟩ => ⟨S4x2x6144, .f32⟩
  | .hbm, ⟨3, _⟩ => ⟨S4x4096x2048, .f32⟩
  | .hbm, ⟨4, _⟩ => ⟨S4x2048, .f32⟩
  | .hbm, ⟨5, _⟩ => ⟨S16384x4096, .f32⟩
  | .hbm, ⟨6, _⟩ => ⟨S16384x4096, .bf16⟩
  | .hbm, ⟨7, _⟩ => ⟨S4x4096x2048, .bf16⟩
  | .hbm, ⟨8, _⟩ => ⟨S16384x2048, .f32⟩
  | .hbm, ⟨9, _⟩ => ⟨S_, .f32⟩
  | .hbm, ⟨10, _⟩ => ⟨S4x6x6144, .f32⟩
  | .hbm, ⟨11, _⟩ => ⟨S4x8x6144, .f32⟩
  | .hbm, ⟨12, _⟩ => ⟨S4x8x3x1x2048, .f32⟩
  | .hbm, ⟨13, _⟩ => ⟨S4x1x2048, .f32⟩
  | .hbm, ⟨14, _⟩ => ⟨S16384x2048, .f32⟩
  | .hbm, ⟨15, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S1x4096x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c2_i32 : BitVec 32 := 2#32
  let c0_i32_5 : BitVec 32 := 0#32
  let c0_i32_6 : BitVec 32 := 0#32
  let c0_i32_7 : BitVec 32 := 0#32
  ![c1_i32_4.toNat, v17.toNat, c2_i32.toNat, c0_i32_5.toNat, c0_i32_6.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c1_i32_4 : BitVec 32 := 1#32
  let c0_i32_5 : BitVec 32 := 0#32
  let c0_i32_6 : BitVec 32 := 0#32
  let c0_i32_7 : BitVec 32 := 0#32
  ![c2_i32.toNat, v17.toNat, c1_i32_4.toNat, c0_i32_5.toNat, c0_i32_6.toNat]

def cc0_transform_6 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  let c0_i32_6 : BitVec 32 := 0#32
  let c0_i32_7 : BitVec 32 := 0#32
  ![c2_i32.toNat, v17.toNat, c0_i32_4.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NextReferenceIdeal.lean ====
abbrev S2x8192x4096 : Shape := ⟨3, ![2, 8192, 4096]⟩
abbrev S2x8192x2048 : Shape := ⟨3, ![2, 8192, 2048]⟩
abbrev S4x2x6144 : Shape := ⟨3, ![4, 2, 6144]⟩
abbrev S4x4096x2048 : Shape := ⟨3, ![4, 4096, 2048]⟩
abbrev S4x2048 : Shape := ⟨2, ![4, 2048]⟩
abbrev S1x2x6144 : Shape := ⟨3, ![1, 2, 6144]⟩
abbrev S2x6144 : Shape := ⟨2, ![2, 6144]⟩
abbrev S2x1x6144 : Shape := ⟨3, ![2, 1, 6144]⟩
abbrev S2x1x2048 : Shape := ⟨3, ![2, 1, 2048]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x2048, .f32⟩
  | .hbm, ⟨2, _⟩ => ⟨S4x2x6144, .f32⟩
  | .hbm, ⟨3, _⟩ => ⟨S4x4096x2048, .f32⟩
  | .hbm, ⟨4, _⟩ => ⟨S4x2048, .f32⟩
  | .hbm, ⟨5, _⟩ => ⟨S1x2x6144, .f32⟩
  | .hbm, ⟨6, _⟩ => ⟨S2x6144, .f32⟩
  | .hbm, ⟨7, _⟩ => ⟨S2x1x6144, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S1x4096x2048, .f32⟩
  | .hbm, ⟨12, _⟩ => ⟨S4096x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S1x2x6144, .f32⟩
  | .hbm, ⟨18, _⟩ => ⟨S2x6144, .f32⟩
  | .hbm, ⟨19, _⟩ => ⟨S2x1x6144, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S1x2048, .f32⟩
  | .hbm, ⟨24, _⟩ => ⟨S2048, .f32⟩
  | .hbm, ⟨25, _⟩ => ⟨S2x8192x2048, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x2048, .f32⟩
  | .hbm, ⟨37, _⟩ => ⟨S2x8192x2048, .f32⟩
  | .hbm, ⟨38, _⟩ => ⟨S1x1x2048, .f32⟩
  | .hbm, ⟨39, _⟩ => ⟨S2x8192x2048, .f32⟩
  | .hbm, ⟨40, _⟩ => ⟨S2x8192x2048, .f32⟩
  | .hbm, ⟨41, _⟩ => ⟨S_, .f32⟩
  | .hbm, ⟨42, _⟩ => ⟨S2x1x2048, .f32⟩
  | .hbm, ⟨43, _⟩ => ⟨S2x1x2048, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S16384x2048, .f32⟩
  | .hbm, ⟨49, _⟩ => ⟨S16384x2048, .f32⟩
  | .hbm, ⟨50, _⟩ => ⟨S16384x2048, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== GmlpUz.lean ====
abbrev S2x8192x2048 : Shape := ⟨3, ![2, 8192, 2048]⟩
abbrev S1x2048x12288 : Shape := ⟨3, ![1, 2048, 12288]⟩
abbrev S16384x2048 : Shape := ⟨2, ![16384, 2048]⟩
abbrev S16384x4096 : Shape := ⟨2, ![16384, 4096]⟩
abbrev S2048x2048 : Shape := ⟨2, ![2048, 2048]⟩
abbrev S1x2048x512 : Shape := ⟨3, ![1, 2048, 512]⟩
abbrev S2048x512 : Shape := ⟨2, ![2048, 512]⟩
abbrev S1x2048x256 : Shape := ⟨3, ![1, 2048, 256]⟩
abbrev S2048x256 : Shape := ⟨2, ![2048, 256]⟩

abbrev nBuf : Space → Nat
  | .hbm => 5
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S1x2048x12288, .f32⟩
  | .hbm, ⟨2, _⟩ => ⟨S16384x2048, .f32⟩
  | .hbm, ⟨3, _⟩ => ⟨S16384x2048, .bf16⟩
  | .hbm, ⟨4, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GmlpUzReferenceIdeal.lean ====
abbrev S2x8192x2048 : Shape := ⟨3, ![2, 8192, 2048]⟩
abbrev S1x2048x12288 : Shape := ⟨3, ![1, 2048, 12288]⟩
abbrev S2048x12288 : Shape := ⟨2, ![2048, 12288]⟩
abbrev S2x8192x12288 : Shape := ⟨3, ![2, 8192, 12288]⟩
abbrev S2x8192x8192 : Shape := ⟨3, ![2, 8192, 8192]⟩
abbrev S2x8192x4096 : Shape := ⟨3, ![2, 8192, 4096]⟩
abbrev S_ : Shape := ⟨0, ![]⟩
abbrev S16384x4096 : Shape := ⟨2, ![16384, 4096]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x12288, .f32⟩
  | .hbm, ⟨2, _⟩ => ⟨S2048x12288, .f32⟩
  | .hbm, ⟨3, _⟩ => ⟨S2x8192x12288, .f32⟩
  | .hbm, ⟨4, _⟩ => ⟨S2x8192x8192, .f32⟩
  | .hbm, ⟨5, _⟩ => ⟨S2x8192x4096, .f32⟩
  | .hbm, ⟨6, _⟩ => ⟨S2x8192x8192, .f32⟩
  | .hbm, ⟨7, _⟩ => ⟨S2x8192x8192, .f32⟩
  | .hbm, ⟨8, _⟩ => ⟨S_, .f32⟩
  | .hbm, ⟨9, _⟩ => ⟨S2x8192x8192, .f32⟩
  | .hbm, ⟨10, _⟩ => ⟨S2x8192x8192, .f32⟩
  | .hbm, ⟨11, _⟩ => ⟨S2x8192x8192, .f32⟩
  | .hbm, ⟨12, _⟩ => ⟨S_, .f32⟩
  | .hbm, ⟨13, _⟩ => ⟨S2x8192x8192, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192x8192, .f32⟩
  | .hbm, ⟨18, _⟩ => ⟨S2x8192x8192, .f32⟩
  | .hbm, ⟨19, _⟩ => ⟨S_, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S_, .f32⟩
  | .hbm, ⟨28, _⟩ => ⟨S2x8192x4096, .f32⟩
  | .hbm, ⟨29, _⟩ => ⟨S2x8192x4096, .f32⟩
  | .hbm, ⟨30, _⟩ => ⟨S_, .f32⟩
  | .hbm, ⟨31, _⟩ => ⟨S2x8192x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S16384x4096, .f32⟩
  | .hbm, ⟨36, _⟩ => ⟨S16384x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== AttnZ.lean ====
abbrev S2x8192x2048 : Shape := ⟨3, ![2, 8192, 2048]⟩
abbrev S1x2048x9216 : Shape := ⟨3, ![1, 2048, 9216]⟩
abbrev S16384x2048 : Shape := ⟨2, ![16384, 2048]⟩
abbrev S16384x4096 : Shape := ⟨2, ![16384, 4096]⟩
abbrev S2048x2048 : Shape := ⟨2, ![2048, 2048]⟩
abbrev S1x2048x1024 : Shape := ⟨3, ![1, 2048, 1024]⟩
abbrev S2048x1024 : Shape := ⟨2, ![2048, 1024]⟩
abbrev S1x2048x256 : Shape := ⟨3, ![1, 2048, 256]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x9216, .f32⟩
  | .hbm, ⟨2, _⟩ => ⟨S16384x2048, .f32⟩
  | .hbm, ⟨3, _⟩ => ⟨S16384x2048, .bf16⟩
  | .hbm, ⟨4, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnZReferenceIdeal.lean ====
abbrev S2x8192x2048 : Shape := ⟨3, ![2, 8192, 2048]⟩
abbrev S1x2048x9216 : Shape := ⟨3, ![1, 2048, 9216]⟩
abbrev S2048x9216 : Shape := ⟨2, ![2048, 9216]⟩
abbrev S2x8192x9216 : Shape := ⟨3, ![2, 8192, 9216]⟩
abbrev S2x8192x4096 : Shape := ⟨3, ![2, 8192, 4096]⟩
abbrev S2x8192x512 : Shape := ⟨3, ![2, 8192, 512]⟩
abbrev S_ : Shape := ⟨0, ![]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x9216, .f32⟩
  | .hbm, ⟨2, _⟩ => ⟨S2048x9216, .f32⟩
  | .hbm, ⟨3, _⟩ => ⟨S2x8192x9216, .f32⟩
  | .hbm, ⟨4, _⟩ => ⟨S2x8192x4096, .f32⟩
  | .hbm, ⟨5, _⟩ => ⟨S2x8192x512, .f32⟩
  | .hbm, ⟨6, _⟩ => ⟨S2x8192x512, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S_, .f32⟩
  | .hbm, ⟨11, _⟩ => ⟨S2x8192x4096, .f32⟩
  | .hbm, ⟨12, _⟩ => ⟨S2x8192x4096, .f32⟩
  | .hbm, ⟨13, _⟩ => ⟨S_, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | .hbm, ⟨18, _⟩ => ⟨S16384x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== FnetZ.lean ====
abbrev S2x8192x2048 : Shape := ⟨3, ![2, 8192, 2048]⟩
abbrev S2x2048x8192 : Shape := ⟨3, ![2, 2048, 8192]⟩
abbrev S16384x2048 : Shape := ⟨2, ![16384, 2048]⟩
abbrev S32x16384x128 : Shape := ⟨3, ![32, 16384, 128]⟩
abbrev S2048x2048 : Shape := ⟨2, ![2048, 2048]⟩
abbrev S1x2048x1024 : Shape := ⟨3, ![1, 2048, 1024]⟩
abbrev S8x2048x128 : Shape := ⟨3, ![8, 2048, 128]⟩
abbrev S1x2048x256 : Shape := ⟨3, ![1, 2048, 256]⟩
abbrev S2048x256 : Shape := ⟨2, ![2048, 256]⟩
abbrev S2048x128 : Shape := ⟨2, ![2048, 128]⟩
abbrev S1x2048x128 : Shape := ⟨3, ![1, 2048, 128]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2x2048x8192, .f32⟩
  | .hbm, ⟨2, _⟩ => ⟨S16384x2048, .f32⟩
  | .hbm, ⟨3, _⟩ => ⟨S16384x2048, .bf16⟩
  | .hbm, ⟨4, _⟩ => ⟨S32x16384x128, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S8x2048x128, .bf16⟩
  | .local _ .vmem, ⟨5, _⟩ => ⟨S8x2048x128, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FnetZReferenceIdeal.lean ====
abbrev S2x8192x2048 : Shape := ⟨3, ![2, 8192, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S2x8192x8192 : Shape := ⟨3, ![2, 8192, 8192]⟩
abbrev S2x8192x4096 : Shape := ⟨3, ![2, 8192, 4096]⟩
abbrev S_ : Shape := ⟨0, ![]⟩
abbrev S16384x32x128 : Shape := ⟨3, ![16384, 32, 128]⟩
abbrev S32x16384x128 : Shape := ⟨3, ![32, 16384, 128]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048x8192, .f32⟩
  | .hbm, ⟨2, _⟩ => ⟨S1x2048x8192, .f32⟩
  | .hbm, ⟨3, _⟩ => ⟨S2048x8192, .f32⟩
  | .hbm, ⟨4, _⟩ => ⟨S2x8192x8192, .f32⟩
  | .hbm, ⟨5, _⟩ => ⟨S2x8192x4096, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192x4096, .f32⟩
  | .hbm, ⟨11, _⟩ => ⟨S2x8192x4096, .f32⟩
  | .hbm, ⟨12, _⟩ => ⟨S_, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S16384x32x128, .f32⟩
  | .hbm, ⟨17, _⟩ => ⟨S32x16384x128, .f32⟩
  | .hbm, ⟨18, _⟩ => ⟨S32x16384x128, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== AttnQ.lean ====
abbrev S2x8192x2048 : Shape := ⟨3, ![2, 8192, 2048]⟩
abbrev S1x2048x9216 : Shape := ⟨3, ![1, 2048, 9216]⟩
abbrev S16384x2048 : Shape := ⟨2, ![16384, 2048]⟩
abbrev S16 : Shape := ⟨1, ![16]⟩
abbrev S_ : Shape := ⟨0, ![]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x4096 : Shape := ⟨2, ![16384, 4096]⟩
abbrev S2048x2048 : Shape := ⟨2, ![2048, 2048]⟩
abbrev S1x2048x1024 : Shape := ⟨3, ![1, 2048, 1024]⟩
abbrev S2048x128 : Shape := ⟨2, ![2048, 128]⟩
abbrev S2048x1024 : Shape := ⟨2, ![2048, 1024]⟩
abbrev S1x2048x256 : Shape := ⟨3, ![1, 2048, 256]⟩
abbrev S2048x256 : Shape := ⟨2, ![2048, 256]⟩
abbrev S1x128 : Shape := ⟨2, ![1, 128]⟩

abbrev nBuf : Space → Nat
  | .hbm => 54
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S1x2048x9216, .f32⟩
  | .hbm, ⟨2, _⟩ => ⟨S16384x2048, .f32⟩
  | .hbm, ⟨3, _⟩ => ⟨S16384x2048, .bf16⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S128, .f32⟩
  | .hbm, ⟨13, _⟩ => ⟨S128x64, .f32⟩
  | .hbm, ⟨14, _⟩ => ⟨S8192, .f32⟩
  | .hbm, ⟨15, _⟩ => ⟨S64, .f32⟩
  | .hbm, ⟨16, _⟩ => ⟨S1x64, .f32⟩
  | .hbm, ⟨17, _⟩ => ⟨S128x64, .f32⟩
  | .hbm, ⟨18, _⟩ => ⟨S8192, .f32⟩
  | .hbm, ⟨19, _⟩ => ⟨S8192x1, .f32⟩
  | .hbm, ⟨20, _⟩ => ⟨S1x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x64, .f32⟩
  | .hbm, ⟨40, _⟩ => ⟨S_, .f32⟩
  | .hbm, ⟨41, _⟩ => ⟨S8192x64, .f32⟩
  | .hbm, ⟨42, _⟩ => ⟨S8192x64, .f32⟩
  | .hbm, ⟨43, _⟩ => ⟨S8192x64, .f32⟩
  | .hbm, ⟨44, _⟩ => ⟨S_, .f32⟩
  | .hbm, ⟨45, _⟩ => ⟨S8192x64, .f32⟩
  | .hbm, ⟨46, _⟩ => ⟨S8192x64, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S1x8192x1x64, .f32⟩
  | .hbm, ⟨51, _⟩ => ⟨S1x8192x2x64, .f32⟩
  | .hbm, ⟨52, _⟩ => ⟨S8192x128, .f32⟩
  | .hbm, ⟨53, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x1024, .bf16⟩
  | .local _ .vmem, ⟨9, _⟩ => ⟨S2048x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnQReferenceIdeal.lean ====
abbrev S2x8192x2048 : Shape := ⟨3, ![2, 8192, 2048]⟩
abbrev S1x2048x9216 : Shape := ⟨3, ![1, 2048, 9216]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S2048x9216 : Shape := ⟨2, ![2048, 9216]⟩
abbrev S2x8192x9216 : Shape := ⟨3, ![2, 8192, 9216]⟩
abbrev S2x8192x4096 : Shape := ⟨3, ![2, 8192, 4096]⟩
abbrev S2x8192x512 : Shape := ⟨3, ![2, 8192, 512]⟩
abbrev S2x8192x64x64 : Shape := ⟨4, ![2, 8192, 64, 64]⟩
abbrev S2x8192x64x32 : Shape := ⟨4, ![2, 8192, 64, 32]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S2x8192x64x16 : Shape := ⟨4, ![2, 8192, 64, 16]⟩
abbrev S16384x4096 : Shape := ⟨2, ![16384, 4096]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x9216, .f32⟩
  | .hbm, ⟨2, _⟩ => ⟨S128, .f32⟩
  | .hbm, ⟨3, _⟩ => ⟨S128x64, .f32⟩
  | .hbm, ⟨4, _⟩ => ⟨S8192, .f32⟩
  | .hbm, ⟨5, _⟩ => ⟨S64, .f32⟩
  | .hbm, ⟨6, _⟩ => ⟨S1x64, .f32⟩
  | .hbm, ⟨7, _⟩ => ⟨S128x64, .f32⟩
  | .hbm, ⟨8, _⟩ => ⟨S8192, .f32⟩
  | .hbm, ⟨9, _⟩ => ⟨S2048x9216, .f32⟩
  | .hbm, ⟨10, _⟩ => ⟨S2x8192x9216, .f32⟩
  | .hbm, ⟨11, _⟩ => ⟨S2x8192x4096, .f32⟩
  | .hbm, ⟨12, _⟩ => ⟨S2x8192x512, .f32⟩
  | .hbm, ⟨13, _⟩ => ⟨S2x8192x512, .f32⟩
  | .hbm, ⟨14, _⟩ => ⟨S2x8192x4096, .f32⟩
  | .hbm, ⟨15, _⟩ => ⟨S2x8192x64x64, .f32⟩
  | .hbm, ⟨16, _⟩ => ⟨S2x8192x64x32, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S1x8192x1x16, .f32⟩
  | .hbm, ⟨32, _⟩ => ⟨S8192x16, .f32⟩
  | .hbm, ⟨33, _⟩ => ⟨S1x8192x1x16, .f32⟩
  | .hbm, ⟨34, _⟩ => ⟨S2x8192x64x16, .f32⟩
  | .hbm, ⟨35, _⟩ => ⟨S2x8192x64x16, .f32⟩
  | .hbm, ⟨36, _⟩ => ⟨S2x8192x64x16, .f32⟩
  | .hbm, ⟨37, _⟩ => ⟨S2x8192x64x16, .f32⟩
  | .hbm, ⟨38, _⟩ => ⟨S2x8192x64x16, .f32⟩
  | .hbm, ⟨39, _⟩ => ⟨S2x8192x64x16, .f32⟩
  | .hbm, ⟨40, _⟩ => ⟨S2x8192x64x16, .f32⟩
  | .hbm, ⟨41, _⟩ => ⟨S2x8192x64x16, .f32⟩
  | .hbm, ⟨42, _⟩ => ⟨S2x8192x64x16, .f32⟩
  | .hbm, ⟨43, _⟩ => ⟨S2x8192x64x16, .f32⟩
  | .hbm, ⟨44, _⟩ => ⟨S2x8192x64x16, .f32⟩
  | .hbm, ⟨45, _⟩ => ⟨S2x8192x64x16, .f32⟩
  | .hbm, ⟨46, _⟩ => ⟨S2x8192x64x32, .f32⟩
  | .hbm, ⟨47, _⟩ => ⟨S2x8192x64x32, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S8192x1, .f32⟩
  | .hbm, ⟨57, _⟩ => ⟨S1x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S1x8192x1x16, .f32⟩
  | .hbm, ⟨63, _⟩ => ⟨S8192x16, .f32⟩
  | .hbm, ⟨64, _⟩ => ⟨S1x8192x1x16, .f32⟩
  | .hbm, ⟨65, _⟩ => ⟨S2x8192x64x16, .f32⟩
  | .hbm, ⟨66, _⟩ => ⟨S2x8192x64x16, .f32⟩
  | .hbm, ⟨67, _⟩ => ⟨S2x8192x64x16, .f32⟩
  | .hbm, ⟨68, _⟩ => ⟨S2x8192x64x16, .f32⟩
  | .hbm, ⟨69, _⟩ => ⟨S2x8192x64x16, .f32⟩
  | .hbm, ⟨70, _⟩ => ⟨S2x8192x64x16, .f32⟩
  | .hbm, ⟨71, _⟩ => ⟨S2x8192x64x16, .f32⟩
  | .hbm, ⟨72, _⟩ => ⟨S2x8192x64x16, .f32⟩
  | .hbm, ⟨73, _⟩ => ⟨S2x8192x64x16, .f32⟩
  | .hbm, ⟨74, _⟩ => ⟨S2x8192x64x16, .f32⟩
  | .hbm, ⟨75, _⟩ => ⟨S2x8192x64x16, .f32⟩
  | .hbm, ⟨76, _⟩ => ⟨S2x8192x64x16, .f32⟩
  | .hbm, ⟨77, _⟩ => ⟨S2x8192x64x32, .f32⟩
  | .hbm, ⟨78, _⟩ => ⟨S2x8192x64x64, .f32⟩
  | .hbm, ⟨79, _⟩ => ⟨S16384x4096, .f32⟩
  | .hbm, ⟨80, _⟩ => ⟨S_, .f32⟩
  | .hbm, ⟨81, _⟩ => ⟨S16384x4096, .f32⟩
  | .hbm, ⟨82, _⟩ => ⟨S16384x4096, .f32⟩
  | .hbm, ⟨83, _⟩ => ⟨S16384x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩

abbrev nD : Nat := 1
abbrev τ : Topo := Topo.v7x

variable {F : FTy → Type} [FloatOps F]
-- ==== GmlpV.lean ====
abbrev S2x8192x2048 : Shape := ⟨3, ![2, 8192, 2048]⟩
abbrev S1x2048x12288 : Shape := ⟨3, ![1, 2048, 12288]⟩
abbrev S16384x2048 : Shape := ⟨2, ![16384, 2048]⟩
abbrev S1x2048x4096 : Shape := ⟨3, ![1, 2048, 4096]⟩
abbrev S2048x4096 : Shape := ⟨2, ![2048, 4096]⟩
abbrev S16384x4096 : Shape := ⟨2, ![16384, 4096]⟩
abbrev S16384x128 : Shape := ⟨2, ![16384, 128]⟩
abbrev S256x2048 : Shape := ⟨2, ![256, 2048]⟩
abbrev S256x4096 : Shape := ⟨2, ![256, 4096]⟩
abbrev S256x128 : Shape := ⟨2, ![256, 128]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S1x2048x12288, .f32⟩
  | .hbm, ⟨2, _⟩ => ⟨S16384x2048, .f32⟩
  | .hbm, ⟨3, _⟩ => ⟨S16384x2048, .bf16⟩
  | .hbm, ⟨4, _⟩ => ⟨S1x2048x4096, .f32⟩
  | .hbm, ⟨5, _⟩ => ⟨S2048x4096, .f32⟩
  | .hbm, ⟨6, _⟩ => ⟨S2048x4096, .bf16⟩
  | .hbm, ⟨7, _⟩ => ⟨S16384x4096, .bf16⟩
  | .hbm, ⟨8, _⟩ => ⟨S16384x128, .f32⟩
  | .hbm, ⟨9, _⟩ => ⟨S16384x128, .f32⟩
  | .local _ .vmem, ⟨0, _⟩ => ⟨S256x2048, .bf16⟩
  | .local _ .vmem, ⟨1, _⟩ => ⟨S256x2048, .bf16⟩
  | .local _ .vmem, ⟨2, _⟩ => ⟨S2048x4096, .bf16⟩
  | .local _ .vmem, ⟨3, _⟩ => ⟨S256x4096, .bf16⟩
  | .local _ .vmem, ⟨4, _⟩ => ⟨S256x4096, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpVIdeal.lean ====
variable {F : FTy → Type} [FloatOps F] [Named F]
def κ : String → Option EReal := fun
  | "fifth" => some ((1 / 5 : ℝ) : EReal)
  | "part3" => some ((1024 / 3 : ℝ) : EReal)
  | "part5" => some ((2048 / 5 : ℝ) : EReal)
  | "part6" => some ((1280 / 3 : ℝ) : EReal)
  | "part7" => some ((3072 / 7 : ℝ) : EReal)
  | "seventh" => some ((1 / 7 : ℝ) : EReal)
  | "sixth" => some ((1 / 6 : ℝ) : EReal)
  | "third" => some ((1 / 3 : ℝ) : EReal)
  | _ => none
-- ==== GmlpVReferenceIdeal.lean ====
abbrev S2x8192x2048 : Shape := ⟨3, ![2, 8192, 2048]⟩
abbrev S1x2048x12288 : Shape := ⟨3, ![1, 2048, 12288]⟩
abbrev S2048x12288 : Shape := ⟨2, ![2048, 12288]⟩
abbrev S2x8192x12288 : Shape := ⟨3, ![2, 8192, 12288]⟩
abbrev S2x8192x8192 : Shape := ⟨3, ![2, 8192, 8192]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S16384x4096 : Shape := ⟨2, ![16384, 4096]⟩
abbrev S16384x1 : Shape := ⟨2, ![16384, 1]⟩
abbrev S16384x128 : Shape := ⟨2, ![16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x12288, .f32⟩
  | .hbm, ⟨2, _⟩ => ⟨S2048x12288, .f32⟩
  | .hbm, ⟨3, _⟩ => ⟨S2x8192x12288, .f32⟩
  | .hbm, ⟨4, _⟩ => ⟨S2x8192x8192, .f32⟩
  | .hbm, ⟨5, _⟩ => ⟨S2x8192x4096, .f32⟩
  | .hbm, ⟨6, _⟩ => ⟨S2x8192x8192, .f32⟩
  | .hbm, ⟨7, _⟩ => ⟨S2x8192x8192, .f32⟩
  | .hbm, ⟨8, _⟩ => ⟨S_, .f32⟩
  | .hbm, ⟨9, _⟩ => ⟨S2x8192x8192, .f32⟩
  | .hbm, ⟨10, _⟩ => ⟨S2x8192x8192, .f32⟩
  | .hbm, ⟨11, _⟩ => ⟨S2x8192x8192, .f32⟩
  | .hbm, ⟨12, _⟩ => ⟨S_, .f32⟩
  | .hbm, ⟨13, _⟩ => ⟨S2x8192x8192, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192x8192, .f32⟩
  | .hbm, ⟨18, _⟩ => ⟨S2x8192x8192, .f32⟩
  | .hbm, ⟨19, _⟩ => ⟨S_, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S2x8192x4096, .f32⟩
  | .hbm, ⟨24, _⟩ => ⟨S2x8192x4096, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x4096, .f32⟩
  | .hbm, ⟨32, _⟩ => ⟨S2x8192x4096, .f32⟩
  | .hbm, ⟨33, _⟩ => ⟨S2x8192x4096, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S16384x4096, .f32⟩
  | .hbm, ⟨41, _⟩ => ⟨S16384x4096, .bf16⟩
  | .hbm, ⟨42, _⟩ => ⟨S16384x1, .f32⟩
  | .hbm, ⟨43, _⟩ => ⟨S16384x128, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1, .f32⟩
  | .hbm, ⟨48, _⟩ => ⟨S16384x1, .f32⟩
  | .hbm, ⟨49, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== FnetU.lean ====
abbrev S2x8192x2048 : Shape := ⟨3, ![2, 8192, 2048]⟩
abbrev S2x2048x8192 : Shape := ⟨3, ![2, 2048, 8192]⟩
abbrev S2x16x256x256 : Shape := ⟨4, ![2, 16, 256, 256]⟩
abbrev S16384x2048 : Shape := ⟨2, ![16384, 2048]⟩
abbrev S1x2048x4096 : Shape := ⟨3, ![1, 2048, 4096]⟩
abbrev S2048x4096 : Shape := ⟨2, ![2048, 4096]⟩
abbrev S1x16x256x256 : Shape := ⟨4, ![1, 16, 256, 256]⟩
abbrev S16x256x256 : Shape := ⟨3, ![16, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S16x256x512 : Shape := ⟨3, ![16, 256, 512]⟩
abbrev S2x64x128x2048 : Shape := ⟨4, ![2, 64, 128, 2048]⟩
abbrev S32x16384x128 : Shape := ⟨3, ![32, 16384, 128]⟩
abbrev S1x64x16x2048 : Shape := ⟨4, ![1, 64, 16, 2048]⟩
abbrev S2048x1024 : Shape := ⟨2, ![2048, 1024]⟩
abbrev S4x256x512 : Shape := ⟨3, ![4, 256, 512]⟩
abbrev S8x1024x128 : Shape := ⟨3, ![8, 1024, 128]⟩
abbrev S1024x2048 : Shape := ⟨2, ![1024, 2048]⟩
abbrev S64x16x2048 : Shape := ⟨3, ![64, 16, 2048]⟩
abbrev S2048x512 : Shape := ⟨2, ![2048, 512]⟩
abbrev S1024x512 : Shape := ⟨2, ![1024, 512]⟩
abbrev S1024x256 : Shape := ⟨2, ![1024, 256]⟩
abbrev S1x256x512 : Shape := ⟨3, ![1, 256, 512]⟩
abbrev S256x512 : Shape := ⟨2, ![256, 512]⟩
abbrev S64x2x8x512 : Shape := ⟨4, ![64, 2, 8, 512]⟩
abbrev S64x1x8x512 : Shape := ⟨4, ![64, 1, 8, 512]⟩
abbrev S64x8x512 : Shape := ⟨3, ![64, 8, 512]⟩
abbrev S512x512 : Shape := ⟨2, ![512, 512]⟩
abbrev S1024x128 : Shape := ⟨2, ![1024, 128]⟩
abbrev S1x1024x128 : Shape := ⟨3, ![1, 1024, 128]⟩

abbrev nBuf : Space → Nat
  | .hbm => 37
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x2048x8192, .f32⟩
  | .hbm, ⟨2, _⟩ => ⟨S2x16x256x256, .f32⟩
  | .hbm, ⟨3, _⟩ => ⟨S16384x2048, .f32⟩
  | .hbm, ⟨4, _⟩ => ⟨S16384x2048, .bf16⟩
  | .hbm, ⟨5, _⟩ => ⟨S1x2048x4096, .f32⟩
  | .hbm, ⟨6, _⟩ => ⟨S2048x4096, .f32⟩
  | .hbm, ⟨7, _⟩ => ⟨S2048x4096, .bf16⟩
  | .hbm, ⟨8, _⟩ => ⟨S1x16x256x256, .f32⟩
  | .hbm, ⟨9, _⟩ => ⟨S16x256x256, .f32⟩
  | .hbm, ⟨10, _⟩ => ⟨S256, .f32⟩
  | .hbm, ⟨11, _⟩ => ⟨S256x1, .f32⟩
  | .hbm, ⟨12, _⟩ => ⟨S1x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S16x256x256, .f32⟩
  | .hbm, ⟨29, _⟩ => ⟨S16x256x256, .f32⟩
  | .hbm, ⟨30, _⟩ => ⟨S16x256x256, .f32⟩
  | .hbm, ⟨31, _⟩ => ⟨S16x256x256, .f32⟩
  | .hbm, ⟨32, _⟩ => ⟨S16x256x512, .f32⟩
  | .hbm, ⟨33, _⟩ => ⟨S16x256x512, .bf16⟩
  | .hbm, ⟨34, _⟩ => ⟨S2x64x128x2048, .bf16⟩
  | .hbm, ⟨35, _⟩ => ⟨S32x16384x128, .bf16⟩
  | .hbm, ⟨36, _⟩ => ⟨S32x16384x128, .bf16⟩
  | .local _ .vmem, ⟨0, _⟩ => ⟨S1x64x16x2048, .bf16⟩
  | .local _ .vmem, ⟨1, _⟩ => ⟨S1x64x16x2048, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x512, .bf16⟩
  | .local _ .vmem, ⟨5, _⟩ => ⟨S4x256x512, .bf16⟩
  | .local _ .vmem, ⟨6, _⟩ => ⟨S8x1024x128, .bf16⟩
  | .local _ .vmem, ⟨7, _⟩ => ⟨S8x1024x128, .bf16⟩
  | .local _ .vmem, ⟨8, _⟩ => ⟨S8x1024x128, .bf16⟩
  | .local _ .vmem, ⟨9, _⟩ => ⟨S8x1024x128, .bf16⟩
  | .local _ .vmem, ⟨10, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x64x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FnetUReferenceIdeal.lean ====
abbrev S2x8192x2048 : Shape := ⟨3, ![2, 8192, 2048]⟩
abbrev S2x2048x8192 : Shape := ⟨3, ![2, 2048, 8192]⟩
abbrev S2x16x256x256 : Shape := ⟨4, ![2, 16, 256, 256]⟩
abbrev S1x2048x8192 : Shape := ⟨3, ![1, 2048, 8192]⟩
abbrev S2048x8192 : Shape := ⟨2, ![2048, 8192]⟩
abbrev S2x8192x8192 : Shape := ⟨3, ![2, 8192, 8192]⟩
abbrev S2x8192x4096 : Shape := ⟨3, ![2, 8192, 4096]⟩
abbrev S2x8192x16x256 : Shape := ⟨4, ![2, 8192, 16, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x16x256x256 : Shape := ⟨4, ![1, 16, 256, 256]⟩
abbrev S16x256x256 : Shape := ⟨3, ![16, 256, 256]⟩
abbrev S16x256x2x8192 : Shape := ⟨4, ![16, 256, 2, 8192]⟩
abbrev S2x64x16x8x32x128 : Shape := ⟨6, ![2, 64, 16, 8, 32, 128]⟩
abbrev S32x2x16x64x8x128 : Shape := ⟨6, ![32, 2, 16, 64, 8, 128]⟩
abbrev S32x16384x128 : Shape := ⟨3, ![32, 16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048x8192, .f32⟩
  | .hbm, ⟨2, _⟩ => ⟨S2x16x256x256, .f32⟩
  | .hbm, ⟨3, _⟩ => ⟨S1x2048x8192, .f32⟩
  | .hbm, ⟨4, _⟩ => ⟨S2048x8192, .f32⟩
  | .hbm, ⟨5, _⟩ => ⟨S2x8192x8192, .f32⟩
  | .hbm, ⟨6, _⟩ => ⟨S2x8192x4096, .f32⟩
  | .hbm, ⟨7, _⟩ => ⟨S2x8192x4096, .f32⟩
  | .hbm, ⟨8, _⟩ => ⟨S2x8192x16x256, .f32⟩
  | .hbm, ⟨9, _⟩ => ⟨S256, .f32⟩
  | .hbm, ⟨10, _⟩ => ⟨S256x1, .f32⟩
  | .hbm, ⟨11, _⟩ => ⟨S1x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S2x8192x16x256, .f32⟩
  | .hbm, ⟨23, _⟩ => ⟨S1x16x256x256, .f32⟩
  | .hbm, ⟨24, _⟩ => ⟨S16x256x256, .f32⟩
  | .hbm, ⟨25, _⟩ => ⟨S16x256x2x8192, .f32⟩
  | .hbm, ⟨26, _⟩ => ⟨S2x8192x16x256, .f32⟩
  | .hbm, ⟨27, _⟩ => ⟨S2x64x16x8x32x128, .f32⟩
  | .hbm, ⟨28, _⟩ => ⟨S32x2x16x64x8x128, .f32⟩
  | .hbm, ⟨29, _⟩ => ⟨S32x16384x128, .f32⟩
  | .hbm, ⟨30, _⟩ => ⟨S32x16384x128, .bf16⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S2x8192x16x256, .f32⟩
  | .hbm, ⟨37, _⟩ => ⟨S1x16x256x256, .f32⟩
  | .hbm, ⟨38, _⟩ => ⟨S16x256x256, .f32⟩
  | .hbm, ⟨39, _⟩ => ⟨S16x256x2x8192, .f32⟩
  | .hbm, ⟨40, _⟩ => ⟨S2x8192x16x256, .f32⟩
  | .hbm, ⟨41, _⟩ => ⟨S2x64x16x8x32x128, .f32⟩
  | .hbm, ⟨42, _⟩ => ⟨S32x2x16x64x8x128, .f32⟩
  | .hbm, ⟨43, _⟩ => ⟨S32x16384x128, .f32⟩
  | .hbm, ⟨44, _⟩ => ⟨S32x16384x128, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.Head.lean ====
/-
  One attention head's block as the kernel computes it, as a function of what it loads: four 128-lane query tiles (each
  two heads of 64 lanes), the stacked key and value tiles and eight sinks. Lane `c` of row `128 t + r` belongs to query
  head `2 t + c / 64`.
-/
module

public import proofs.«01_k».proof.Proof.Gen.KernelIdeal.Frame

@[expose] public section

noncomputable section

open Idealize.ShloMosaic Idealize.ShloMosaic.TcCoe Idealize.SL.Sem

namespace Cert.KernelIdeal.Attn

open Cert.KernelIdeal Cert.KernelIdeal.Gen

variable {F : FTy → Type} [FloatOps F] [Named F]

/-- Which of the 128 lanes are the lower 64. -/
def lo : IVec S1x128 1 := cmpi .slt (iota .tc S1x128 32 [1] iota_S1x128_d1_w32) (broadcast S1x128 64#32)

/-- Which keys of the previous block a row may see: `c ≥ r`, and none in the first block. -/
def prevOk (j : BitVec 32) : IVec S128x128 1 :=
  cmpi .sge (iota .tc S128x128 32 [1] iota_S128x128_d1_w32)
    (addi (iota .tc S128x128 32 [0] iota_S128x128_d0_w32)
      (broadcast S128x128 (Scalar.select (Scalar.cmpi .sgt j 0#32) 0#32 128#32)))

/-- Which keys of the next block a row may see: `c ≤ r`, and none in the last block. -/
def nextOk (j : BitVec 32) : IVec S128x128 1 :=
  cmpi .sle (iota .tc S128x128 32 [1] iota_S128x128_d1_w32)
    (subi (iota .tc S128x128 32 [0] iota_S128x128_d0_w32)
      (broadcast S128x128 (Scalar.select (Scalar.cmpi .slt j 63#32) 0#32 128#32)))

/-- The three band tiles and the context tile, one under the other. -/
def stack640 (a b c : Vec F S128x128 .bf16) (d : Vec F S256x128 .bf16) : FVec F S640x128 .bf16 :=
  concatenate S640x128 0
    [⟨S128x128, shapeCast S128x128 a shapeCasts_S128x128_S128x128⟩, ⟨S128x128, shapeCast S128x128 b shapeCasts_S128x128_S128x128⟩,
      ⟨S128x128, shapeCast S128x128 c shapeCasts_S128x128_S128x128⟩, ⟨S256x128, shapeCast S256x128 d shapeCasts_S256x128_S256x128⟩]
    concatenates_S128x128_S128x128_S128x128_S256x128_S640x128_d0

/-- The four query tiles, one under the other. -/
def stack512 (a b c d : Vec F S128x128 .bf16) : FVec F S512x128 .bf16 :=
  concatenate S512x128 0
    [⟨S128x128, shapeCast S128x128 a shapeCasts_S128x128_S128x128⟩, ⟨S128x128, shapeCast S128x128 b shapeCasts_S128x128_S128x128⟩,
      ⟨S128x128, shapeCast S128x128 c shapeCasts_S128x128_S128x128⟩, ⟨S128x128, shapeCast S128x128 d shapeCasts_S128x128_S128x128⟩]
    concatenates_S128x128_S128x128_S128x128_S128x128_S512x128_d0

/-- The lower half lanes of `x`, the upper of `y`, over 512 rows. -/
def sel512 (x y : FVec F S512x128 .bf16) : FVec F S512x128 .bf16 :=
  select (broadcastTo S512x128 (shapeCast S1x128 lo shapeCasts_S1x128_S1x128) broadcasts_S1x128_S512x128) x y

/-- The same over 512 rows of `f32`. -/
def selOut (x y : FVec F S512x128 .f32) : FVec F S512x128 .f32 :=
  select (broadcastTo S512x128 (shapeCast S1x128 lo shapeCasts_S1x128_S1x128) broadcasts_S1x128_S512x128) x y

/-- The same over 640 rows. -/
def sel640 (x y : FVec F S640x128 .bf16) : FVec F S640x128 .bf16 :=
  select (broadcastTo S640x128 (shapeCast S1x128 lo shapeCasts_S1x128_S1x128) broadcasts_S1x128_S640x128) x y

/-- Every row's dot product with every key. -/
def scores (q : FVec F S512x128 .bf16) (k : FVec F S640x128 .bf16) : FVec F S512x640 .f32 :=
  matmul dot_S512x128_S640x128_S512x640_1_1_0_0_n_n none q k (constant S512x640 .f32 0x00000000#32)

/-- A row's scores against the previous block, masked. -/
def part0 (pv : IVec S128x128 1) (s : FVec F S128x640 .f32) : FVec F S128x128 .f32 :=
  select pv (extractStridedSlice S128x128 ![0, 0] s slices_S128x640_o0_0_S128x128) (broadcast S128x128 (Named.named κ "mask" 0xF149F2CA#32))

/-- Against its own block. -/
def part1 (s : FVec F S128x640 .f32) : FVec F S128x128 .f32 :=
  extractStridedSlice S128x128 ![0, 128] s slices_S128x640_o0_128_S128x128

/-- Against the next block, masked. -/
def part2 (nx : IVec S128x128 1) (s : FVec F S128x640 .f32) : FVec F S128x128 .f32 :=
  select nx (extractStridedSlice S128x128 ![0, 256] s slices_S128x640_o0_256_S128x128) (broadcast S128x128 (Named.named κ "mask" 0xF149F2CA#32))

/-- Against the first half of the context. -/
def part3 (s : FVec F S128x640 .f32) : FVec F S128x128 .f32 :=
  extractStridedSlice S128x128 ![0, 384] s slices_S128x640_o0_384_S128x128

/-- Against the second half. -/
def part4 (s : FVec F S128x640 .f32) : FVec F S128x128 .f32 :=
  extractStridedSlice S128x128 ![0, 512] s slices_S128x640_o0_512_S128x128

/-- The sink in base two. -/
def sink2 (k : F .f32) : F .f32 := Scalar.mulf k (Named.named κ "log2e" 0x3FB8AA3B#32)

/-- A row's greatest score, the sink's included. -/
def rowMax (pv nx : IVec S128x128 1) (s : FVec F S128x640 .f32) (k : F .f32) : FVec F S128x1 .f32 :=
  maximumf (shapeCast S128x1 (multiReduction .maximumf [1] S128
      (maximumf (maximumf (maximumf (maximumf (part0 pv s) (part1 s)) (part2 nx s)) (part3 s)) (part4 s))
      0xFF800000#32 reduces_S128x128_S128 (.inl rfl) rfl) shapeCasts_S128_S128x1)
    (broadcast S128x1 (sink2 k))

/-- Two to the power of a score less the row's greatest. -/
def expo (p : FVec F S128x128 .f32) (mx : FVec F S128x1 .f32) : FVec F S128x128 .bf16 :=
  truncf .bf16 (exp2 (subf p (broadcastTo S128x128 mx broadcasts_S128x1_S128x128))) bitsLt_bf16_f32

/-- A row's weights over its 640 keys. -/
def rowP (pv nx : IVec S128x128 1) (s : FVec F S128x640 .f32) (k : F .f32) : FVec F S128x640 .bf16 :=
  concatenate S128x640 1
    [⟨S128x128, expo (part0 pv s) (rowMax pv nx s k)⟩, ⟨S128x128, expo (part1 s) (rowMax pv nx s k)⟩,
      ⟨S128x128, expo (part2 nx s) (rowMax pv nx s k)⟩, ⟨S128x128, expo (part3 s) (rowMax pv nx s k)⟩,
      ⟨S128x128, expo (part4 s) (rowMax pv nx s k)⟩]
    concatenates_S128x128_S128x128_S128x128_S128x128_S128x128_S128x640_d1

/-- The sink's weight in a row. -/
def rowS (pv nx : IVec S128x128 1) (s : FVec F S128x640 .f32) (k : F .f32) : FVec F S128x1 .f32 :=
  exp2 (subf (broadcast S128x1 (sink2 k)) (rowMax pv nx s k))

/-- The weights of all four tiles' rows, each with its own sink. -/
def allP (pv nx : IVec S128x128 1) (s : FVec F S512x640 .f32) (k0 k1 k2 k3 : F .f32) : FVec F S512x640 .bf16 :=
  concatenate S512x640 0
    [⟨S128x640, rowP pv nx (extractStridedSlice S128x640 ![0, 0] s slices_S512x640_o0_0_S128x640) k0⟩,
      ⟨S128x640, rowP pv nx (extractStridedSlice S128x640 ![128, 0] s slices_S512x640_o128_0_S128x640) k1⟩,
      ⟨S128x640, rowP pv nx (extractStridedSlice S128x640 ![256, 0] s slices_S512x640_o256_0_S128x640) k2⟩,
      ⟨S128x640, rowP pv nx (extractStridedSlice S128x640 ![384, 0] s slices_S512x640_o384_0_S128x640) k3⟩]
    concatenates_S128x640_S128x640_S128x640_S128x640_S512x640_d0

/-- The sinks' weights of all four tiles' rows. -/
def allS (pv nx : IVec S128x128 1) (s : FVec F S512x640 .f32) (k0 k1 k2 k3 : F .f32) : FVec F S512x1 .f32 :=
  concatenate S512x1 0
    [⟨S128x1, rowS pv nx (extractStridedSlice S128x640 ![0, 0] s slices_S512x640_o0_0_S128x640) k0⟩,
      ⟨S128x1, rowS pv nx (extractStridedSlice S128x640 ![128, 0] s slices_S512x640_o128_0_S128x640) k1⟩,
      ⟨S128x1, rowS pv nx (extractStridedSlice S128x640 ![256, 0] s slices_S512x640_o256_0_S128x640) k2⟩,
      ⟨S128x1, rowS pv nx (extractStridedSlice S128x640 ![384, 0] s slices_S512x640_o384_0_S128x640) k3⟩]
    concatenates_S128x1_S128x1_S128x1_S128x1_S512x1_d0

/-- The weights times the values and, in the other half lanes, times one. -/
def weighted (p : FVec F S512x640 .bf16) (v : FVec F S640x128 .bf16) : FVec F S512x128 .f32 :=
  matmul dot_S512x640_S640x128_S512x128_1_0_0_1_n_n none p v (constant S512x128 .f32 0x00000000#32)

/-- The weights' sums brought under the lanes they divide, the sink's weight added. -/
def denom (o : FVec F S512x128 .f32) (s : FVec F S512x1 .f32) : FVec F S512x128 .f32 :=
  addf (dynamicRotate 1 64#32 none o rotates_S512x128_d1) (broadcastTo S512x128 s broadcasts_S512x1_S512x128)

/-- Values over weights' sums, the two half lanes chosen. -/
def quot (o0 o1 : FVec F S512x128 .f32) (s0 s1 : FVec F S512x1 .f32) : FVec F S512x128 .f32 :=
  divf (selOut o0 o1) (selOut (denom o0 s0) (denom o1 s1))

/-- One key head's result for its eight query heads; `ke*` are the sinks of the even, `ko*` of the odd ones. -/
def head (pv nx : IVec S128x128 1) (q : FVec F S512x128 .bf16) (k v : FVec F S640x128 .bf16)
    (ke0 ke1 ke2 ke3 ko0 ko1 ko2 ko3 : F .f32) : FVec F S512x128 .f32 :=
  quot
    (weighted (allP pv nx (scores (sel512 q (broadcast S512x128 (Scalar.ofBits .bf16 0x0000#16))) k) ke0 ke1 ke2 ke3)
      (sel640 v (broadcast S640x128 (Scalar.ofBits .bf16 0x3F80#16))))
    (weighted (allP pv nx (scores (sel512 (broadcast S512x128 (Scalar.ofBits .bf16 0x0000#16)) q) k) ko0 ko1 ko2 ko3)
      (sel640 (broadcast S640x128 (Scalar.ofBits .bf16 0x3F80#16)) v))
    (allS pv nx (scores (sel512 q (broadcast S512x128 (Scalar.ofBits .bf16 0x0000#16))) k) ke0 ke1 ke2 ke3)
    (allS pv nx (scores (sel512 (broadcast S512x128 (Scalar.ofBits .bf16 0x0000#16)) q) k) ko0 ko1 ko2 ko3)

/-- One of the four tiles of a head's result, gated and rounded. -/
def gated (o : FVec F S128x128 .f32) (z : Vec F S128x128 .bf16) : FVec F S128x128 .bf16 :=
  truncf .bf16 (mulf o (extf .f32 (shapeCast S128x128 z shapeCasts_S128x128_S128x128) bitsLt_bf16_f32)) bitsLt_bf16_f32

end Cert.KernelIdeal.Attn
-- ==== Proof.Pieces.lean ====
/-
  What the kernel's body leaves in its output block: thirty-two tiles of 128 lanes, tile `4 hh + t` being tile `t` of key
  head `hh`'s result (Head.lean), gated.
-/
module

public import proofs.«01_k».proof.Proof.Head

@[expose] public section

noncomputable section

open Idealize.ShloMosaic Idealize.ShloMosaic.TcCoe Idealize.SL.Sem

namespace Cert.KernelIdeal.Attn

open Cert.KernelIdeal Cert.KernelIdeal.Gen

variable {F : FTy → Type} [FloatOps F] [Named F]

theorem inbQ {o : Nat} (h : o + 128 ≤ 4096) : ∀ a, (![0, o] : Fin 2 → Nat) a + S128x128.size a ≤ S128x4096.size a := by
  intro a; fin_cases a
  · show 0 + 128 ≤ 128; omega
  · exact h

theorem inbK {o : Nat} (h : o + 128 ≤ 1024) : ∀ a, (![0, o] : Fin 2 → Nat) a + S128x128.size a ≤ S128x1024.size a := by
  intro a; fin_cases a
  · show 0 + 128 ≤ 128; omega
  · exact h

theorem inbC {o : Nat} (h : o + 128 ≤ 1024) : ∀ a, (![0, o] : Fin 2 → Nat) a + S256x128.size a ≤ S256x1024.size a := by
  intro a; fin_cases a
  · show 0 + 256 ≤ 256; omega
  · exact h

theorem slicesT {t : Nat} (h : t < 4) : S512x128.Slices ![128 * t, 0] S128x128 := by
  interval_cases t <;> decide

/-- Loads of 128 lanes from a 4096-lane block, by the first lane. -/
abbrev LoadsQ (F : FTy → Type) := ∀ o : Nat, o + 128 ≤ 4096 → Vec F S128x128 .bf16

/-- Loads of 128 lanes from a 1024-lane block, by the first lane. -/
abbrev LoadsK (F : FTy → Type) := ∀ o : Nat, o + 128 ≤ 1024 → Vec F S128x128 .bf16

/-- Loads of 128 lanes from the context's 1024-lane block, by the first lane. -/
abbrev LoadsC (F : FTy → Type) := ∀ o : Nat, o + 128 ≤ 1024 → Vec F S256x128 .bf16

/-- Loads of one sink, by its place. -/
abbrev LoadsS (F : FTy → Type) := ∀ o : Fin 2 → Nat, (∀ a, o a + S1x1.size a ≤ S8x8.size a) → F .f32

/-- Key head `hh`'s result from the loads. -/
def headAt (i : grid0.Coords) (s : LoadsS F) (q : LoadsQ F) (k0 k1 k2 : LoadsK F) (kc : LoadsC F) (v0 v1 v2 : LoadsK F) (vc : LoadsC F)
    (hh : Fin 8) : FVec F S512x128 .f32 :=
  head (prevOk (BitVec.ofNat 32 (i 2).val)) (nextOk (BitVec.ofNat 32 (i 2).val))
    (stack512 (q (512 * hh.val) (by omega)) (q (512 * hh.val + 128) (by omega)) (q (512 * hh.val + 256) (by omega)) (q (512 * hh.val + 384) (by omega)))
    (stack640 (k0 (128 * hh.val) (by omega)) (k1 (128 * hh.val) (by omega)) (k2 (128 * hh.val) (by omega)) (kc (128 * hh.val) (by omega)))
    (stack640 (v0 (128 * hh.val) (by omega)) (v1 (128 * hh.val) (by omega)) (v2 (128 * hh.val) (by omega)) (vc (128 * hh.val) (by omega)))
    (s (k0_off1 i (BitVec.ofNat 32 hh.val)) (k0_off1_inb i hh)) (s (k0_off2 i (BitVec.ofNat 32 hh.val)) (k0_off2_inb i hh))
    (s (k0_off3 i (BitVec.ofNat 32 hh.val)) (k0_off3_inb i hh)) (s (k0_off4 i (BitVec.ofNat 32 hh.val)) (k0_off4_inb i hh))
    (s (k0_off5 i (BitVec.ofNat 32 hh.val)) (k0_off5_inb i hh)) (s (k0_off6 i (BitVec.ofNat 32 hh.val)) (k0_off6_inb i hh))
    (s (k0_off7 i (BitVec.ofNat 32 hh.val)) (k0_off7_inb i hh)) (s (k0_off8 i (BitVec.ofNat 32 hh.val)) (k0_off8_inb i hh))

/-- The tile the body stores for key head `hh` and query tile `t`: where, and what. -/
def piece (i : grid0.Coords) (s : LoadsS F) (q : LoadsQ F) (k0 k1 k2 : LoadsK F) (kc : LoadsC F) (v0 v1 v2 : LoadsK F) (vc : LoadsC F)
    (z : LoadsQ F) (hh : Fin 8) (t : Fin 4) : View.Piece (Elt F) S128x4096 .bf16 :=
  ⟨Rect.unit ![0, 512 * hh.val + 128 * t.val] S128x128.size (inbQ (by omega)),
    gated (extractStridedSlice S128x128 ![128 * t.val, 0] (headAt i s q k0 k1 k2 kc v0 v1 v2 vc hh) (slicesT t.isLt))
      (z (512 * hh.val + 128 * t.val) (by omega))⟩

set_option maxRecDepth 65536 in
/-- Every tile the body stores is one of these. -/
theorem pieces_eq (c : Dev nD) (i : grid0.Coords) (arg3 : Memref sig .tc .smem S8x8 .f32) (harg3 : arg3.IsWhole) (arg4 : Memref sig .tc .vmem S128x4096 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x1024 .bf16) (harg12 : arg12.IsWhole) (arg13 : Memref sig .tc .vmem S128x4096 .bf16) (harg13 : arg13.IsWhole) (arg14 : Memref sig .tc .vmem S128x4096 .bf16) (harg14 : arg14.IsWhole)
    (x0 : Vec F S8x8 .f32) (x1 : Vec F S128x4096 .bf16) (x2 : Vec F S128x1024 .bf16) (x3 : Vec F S128x1024 .bf16) (x4 : Vec F S128x1024 .bf16) (x5 : Vec F S256x1024 .bf16) (x6 : Vec F S128x1024 .bf16) (x7 : Vec F S128x1024 .bf16) (x8 : Vec F S128x1024 .bf16) (x9 : Vec F S256x1024 .bf16) (x10 : Vec F S128x4096 .bf16) :
    (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1 =
      ([(7, 3), (7, 2), (7, 1), (7, 0), (6, 3), (6, 2), (6, 1), (6, 0), (5, 3), (5, 2), (5, 1), (5, 0), (4, 3), (4, 2), (4, 1), (4, 0),
        (3, 3), (3, 2), (3, 1), (3, 0), (2, 3), (2, 2), (2, 1), (2, 0), (1, 3), (1, 2), (1, 1), (1, 0), (0, 3), (0, 2), (0, 1), (0, 0)] :
        List (Fin 8 × Fin 4)).map fun p => piece i
          (fun o h => View.readAt (Elt F) arg3.view (Rect.unit (s := S8x8) o S1x1.size h).toLoadRect (harg3.unread x0) (Shape.Idx.first (show 0 < S1x1.numel by decide)))
          (fun o h => View.readAt (Elt F) arg4.view (Rect.unit (s := S128x4096) ![0, o] S128x128.size (inbQ h)).toLoadRect (harg4.unread x1))
          (fun o h => View.readAt (Elt F) arg5.view (Rect.unit (s := S128x1024) ![0, o] S128x128.size (inbK h)).toLoadRect (harg5.unread x2))
          (fun o h => View.readAt (Elt F) arg6.view (Rect.unit (s := S128x1024) ![0, o] S128x128.size (inbK h)).toLoadRect (harg6.unread x3))
          (fun o h => View.readAt (Elt F) arg7.view (Rect.unit (s := S128x1024) ![0, o] S128x128.size (inbK h)).toLoadRect (harg7.unread x4))
          (fun o h => View.readAt (Elt F) arg8.view (Rect.unit (s := S256x1024) ![0, o] S256x128.size (inbC h)).toLoadRect (harg8.unread x5))
          (fun o h => View.readAt (Elt F) arg9.view (Rect.unit (s := S128x1024) ![0, o] S128x128.size (inbK h)).toLoadRect (harg9.unread x6))
          (fun o h => View.readAt (Elt F) arg10.view (Rect.unit (s := S128x1024) ![0, o] S128x128.size (inbK h)).toLoadRect (harg10.unread x7))
          (fun o h => View.readAt (Elt F) arg11.view (Rect.unit (s := S128x1024) ![0, o] S128x128.size (inbK h)).toLoadRect (harg11.unread x8))
          (fun o h => View.readAt (Elt F) arg12.view (Rect.unit (s := S256x1024) ![0, o] S256x128.size (inbC h)).toLoadRect (harg12.unread x9))
          (fun o h => View.readAt (Elt F) arg13.view (Rect.unit (s := S128x4096) ![0, o] S128x128.size (inbQ h)).toLoadRect (harg13.unread x10))
          p.1 p.2 := by
  sl_kernel_rfl

end Cert.KernelIdeal.Attn
-- ==== Proof.Consts.lean ====
/-
  The constants the programs spell, as the extended reals they denote.
-/
module

public import Idealize.ShloMosaic.PureOps.Ideal
public import Idealize.ShloMosaic.PureOps.IdealRules
public import proofs.«01_k».proof.Proof.Gen.KernelIdeal

@[expose] public section

noncomputable section

namespace Cert.Consts

open Idealize.ShloMosaic

/-- The kernel's zero in the lanes of the other head. -/
theorem zero_bf16 : Ideal.ofBits .bf16 0x0000#16 = 0 := by
  simp [Ideal.ofBits, Ideal.ieee, -EReal.coe_mul]

/-- The kernel's one beside the values. -/
theorem one_bf16 : Ideal.ofBits .bf16 0x3F80#16 = 1 := by
  simp [Ideal.ofBits, Ideal.ieee, -EReal.coe_mul]; norm_num

/-- The zero a product accumulates onto. -/
theorem zero_f32 : Ideal.ofBits .f32 0x00000000#32 = 0 := by
  simp [Ideal.ofBits, Ideal.ieee, -EReal.coe_mul]

/-- The start of a row's maximum. -/
theorem bot_f32 : Ideal.ofBits .f32 0xFF800000#32 = ⊥ := by
  simp [Ideal.ofBits, Ideal.ieee, -EReal.coe_mul]

/-- The scores' scale, one over the root of 64. -/
theorem eighth_f32 : Ideal.ofBits .f32 0x3E000000#32 = ((1 / 8 : ℝ) : EReal) := by
  simp [Ideal.ofBits, Ideal.ieee, -EReal.coe_mul]; norm_num

/-- The two whose logarithm changes the base. -/
theorem two_f32 : Ideal.ofBits .f32 0x40000000#32 = ((2 : ℝ) : EReal) := by
  simp [Ideal.ofBits, Ideal.ieee, -EReal.coe_mul]; norm_num

/-- The bound of the precondition. -/
theorem top_f32 : Ideal.ofBits .f32 0x7F800000#32 = ⊤ := by
  simp [Ideal.ofBits, Ideal.ieee, -EReal.coe_mul]

/-- The mask is minus infinity. -/
theorem mask_eq : Named.named (F := Ideal) (φ := .f32) Cert.KernelIdeal.κ "mask" 0xF149F2CA#32 = ⊥ :=
  IdealRules.named_const.ideal_named_scalar _ _ _ _ rfl

/-- The change of base is one over the logarithm of two. -/
theorem log2e_eq : Named.named (F := Ideal) (φ := .f32) Cert.KernelIdeal.κ "log2e" 0x3FB8AA3B#32 = (((Real.log 2)⁻¹ : ℝ) : EReal) :=
  IdealRules.named_const.ideal_named_scalar _ _ _ _ rfl

end Cert.Consts

end
-- ==== Proof.Soft.lean ====
/-
  The softmax with a sink over the extended reals, free of any array: a row of real scores, some of them masked, its sink
  and its weights' sum. Kernel and reference subtract different maxima and mask differently; both are `soft`.
-/
module

public import Idealize.ShloMosaic.PureOps.Ideal
public import Mathlib.Analysis.SpecialFunctions.Pow.Real

@[expose] public section

noncomputable section

open Idealize.ShloMosaic

namespace Cert.Soft

variable {ι κ : Type} [Fintype ι] [Fintype κ]

/-- The softmax of the scores `y` that are not masked, with the sink `sk` among them, weighting `w`. -/
def soft (ok : ι → Prop) [DecidablePred ok] (y : ι → ℝ) (sk : ℝ) (w : ι → EReal) : EReal :=
  ∑ j ∈ Finset.univ.filter ok, ((Real.exp (y j) / (∑ i ∈ Finset.univ.filter ok, Real.exp (y i) + Real.exp sk) : ℝ) : EReal) * w j

/-- The real numbers' sum is the extended reals' sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals times a nonnegative real. -/
theorem sum_mul (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A softmax does not depend on what is subtracted from its scores. -/
theorem shift (s : Finset ι) (y : ι → ℝ) (sk M : ℝ) (j : ι) :
    Real.exp (y j - M) / (∑ i ∈ s, Real.exp (y i - M) + Real.exp (sk - M))
      = Real.exp (y j) / (∑ i ∈ s, Real.exp (y i) + Real.exp sk) := by
  have e : ∀ x : ℝ, Real.exp (x - M) = Real.exp x * Real.exp (-M) := fun x => by rw [sub_eq_add_neg, Real.exp_add]
  simp only [e]
  rw [← Finset.sum_mul, ← add_mul, mul_div_mul_right _ _ (Real.exp_pos _).ne']

theorem denom_pos (s : Finset ι) (y : ι → ℝ) (sk : ℝ) : 0 < ∑ i ∈ s, Real.exp (y i) + Real.exp sk :=
  add_pos_of_nonneg_of_pos (Finset.sum_nonneg fun _ _ => (Real.exp_pos _).le) (Real.exp_pos _)

/-- Two softmaxes over different index types agree where their unmasked entries correspond. -/
theorem soft_congr {ok : ι → Prop} [DecidablePred ok] {ok' : κ → Prop} [DecidablePred ok'] {y : ι → ℝ} {y' : κ → ℝ} {sk sk' : ℝ}
    {w : ι → EReal} {w' : κ → EReal} (f : ι → κ) (g : κ → ι) (hf : ∀ i, ok i → ok' (f i)) (hg : ∀ k, ok' k → ok (g k))
    (hgf : ∀ i, ok i → g (f i) = i) (hfg : ∀ k, ok' k → f (g k) = k) (hy : ∀ i, ok i → y i = y' (f i))
    (hw : ∀ i, ok i → w i = w' (f i)) (hsk : sk = sk') : soft ok y sk w = soft ok' y' sk' w' := by
  subst hsk
  have hz : ∑ i ∈ Finset.univ.filter ok, Real.exp (y i) = ∑ k ∈ Finset.univ.filter ok', Real.exp (y' k) :=
    Finset.sum_nbij' f g (by simpa using hf) (by simpa using hg) (by simpa using hgf) (by simpa using hfg)
      (fun i hi => by rw [hy i (by simpa using hi)])
  unfold soft
  rw [hz]
  exact Finset.sum_nbij' f g (by simpa using hf) (by simpa using hg) (by simpa using hgf) (by simpa using hfg)
    (fun i hi => by rw [hy i (by simpa using hi), hw i (by simpa using hi)])

/-- The sum of the entries, the masked ones zero. -/
theorem sum_masked (ok : ι → Prop) [DecidablePred ok] (f : ι → EReal) :
    ∑ j, (if ok j then f j else 0) = ∑ j ∈ Finset.univ.filter ok, f j := (Finset.sum_filter _ _).symm

theorem rpow_two (x y M : ℝ) (h : x = y * (Real.log 2)⁻¹) : Real.rpow 2 (x - M) = Real.exp (y - M * Real.log 2) := by
  have h2 : Real.log 2 ≠ 0 := (Real.log_pos (by norm_num)).ne'
  show (2 : ℝ) ^ (x - M) = _
  rw [Real.rpow_def_of_pos (by norm_num), h]
  congr 1
  field_simp

/-- THE KERNEL'S FORM: powers of two of scores in base two, the weights' sum divided once, after the weighting. -/
theorem kernel_form (ok : ι → Prop) [DecidablePred ok] (y : ι → ℝ) (sk M : ℝ) (w s : ι → EReal) (b mx : EReal)
    (hs : ∀ j, s j = if ok j then ((y j * (Real.log 2)⁻¹ : ℝ) : EReal) else ⊥) (hb : b = ((sk * (Real.log 2)⁻¹ : ℝ) : EReal))
    (hm : mx = (M : EReal)) :
    Ideal.div (∑ j, Ideal.exp2 (s j - mx) * w j) (∑ j, Ideal.exp2 (s j - mx) * 1 + Ideal.exp2 (b - mx)) = soft ok y sk w := by
  have he : ∀ j, Ideal.exp2 (s j - mx) = if ok j then ((Real.exp (y j - M * Real.log 2) : ℝ) : EReal) else 0 := by
    intro j
    rw [hs, hm]
    by_cases h : ok j
    · rw [if_pos h, if_pos h, ← EReal.coe_sub, Ideal.exp2_coe, rpow_two _ (y j) M rfl]
    · rw [if_neg h, if_neg h, EReal.bot_sub, Ideal.exp2_bot]
  have hk : Ideal.exp2 (b - mx) = ((Real.exp (sk - M * Real.log 2) : ℝ) : EReal) := by
    rw [hb, hm, ← EReal.coe_sub, Ideal.exp2_coe, rpow_two _ sk M rfl]
  have hz : ∑ j, Ideal.exp2 (s j - mx) * 1 + Ideal.exp2 (b - mx)
      = ((∑ j ∈ Finset.univ.filter ok, Real.exp (y j - M * Real.log 2) + Real.exp (sk - M * Real.log 2) : ℝ) : EReal) := by
    simp only [mul_one, he, hk]
    rw [sum_masked, EReal.coe_add, coe_sum]
  have hp := denom_pos (Finset.univ.filter ok) (fun j => y j - M * Real.log 2) (sk - M * Real.log 2)
  rw [hz, Ideal.div_coe hp.ne']
  simp only [he, ite_mul, zero_mul]
  rw [sum_masked, sum_mul _ _ (by positivity)]
  unfold soft
  refine Finset.sum_congr rfl fun j _ => ?_
  rw [← shift _ y sk (M * Real.log 2) j, mul_right_comm, ← EReal.coe_mul, mul_one_div]

/-- THE REFERENCE'S FORM: exponentials of the scores less their maximum, each divided by their sum. -/
theorem reference_form (ok : ι → Prop) [DecidablePred ok] (y : ι → ℝ) (sk M : ℝ) (w s : ι → EReal) (mx : EReal)
    (hs : ∀ j, s j = if ok j then (y j : EReal) else ⊥) (hm : mx = (M : EReal)) :
    ∑ j, w j * Ideal.div (Ideal.exp (s j - mx)) (∑ j, Ideal.exp (s j - mx) + Ideal.exp ((sk : EReal) - mx)) = soft ok y sk w := by
  have he : ∀ j, Ideal.exp (s j - mx) = if ok j then ((Real.exp (y j - M) : ℝ) : EReal) else 0 := by
    intro j
    rw [hs, hm]
    by_cases h : ok j
    · rw [if_pos h, if_pos h, ← EReal.coe_sub, Ideal.exp_coe]
    · rw [if_neg h, if_neg h, EReal.bot_sub, Ideal.exp_bot]
  have hz : ∑ j, Ideal.exp (s j - mx) + Ideal.exp ((sk : EReal) - mx)
      = ((∑ j ∈ Finset.univ.filter ok, Real.exp (y j - M) + Real.exp (sk - M) : ℝ) : EReal) := by
    simp only [he]
    rw [sum_masked, EReal.coe_add, coe_sum, hm, ← EReal.coe_sub, Ideal.exp_coe]
  have hp := denom_pos (Finset.univ.filter ok) (fun j => y j - M) (sk - M)
  rw [hz]
  unfold soft
  refine Eq.trans ?_ (Finset.sum_filter _ _).symm
  refine Finset.sum_congr rfl fun j _ => ?_
  rw [Ideal.div_coe hp.ne', he, ← shift _ y sk M j]
  by_cases h : ok j
  · rw [if_pos h, if_pos h, ← EReal.coe_mul, mul_one_div, mul_comm]
  · rw [if_neg h, if_neg h, zero_mul, mul_zero]

end Cert.Soft
-- ==== Proof.HeadIdeal.lean ====
/-
  The head's block (Head.lean) read at an index over the extended reals.
-/
module

public import proofs.«01_k».proof.Proof.Head
public import proofs.«01_k».proof.Proof.Consts
public import proofs.«01_k».proof.Proof.Soft
public import Idealize.ShloMosaic.PureOps.Ideal.Laws
public import Idealize.ShloMosaic.Lib.Pointwise
public import Idealize.ShloMosaic.Lib.Pipeline.Value
public import Idealize.ShloMosaic.Lib.WordCmp
public import Idealize.ShloMosaic.Lib.KernelVsHost

@[expose] public section

noncomputable section

open Idealize.ShloMosaic Idealize.ShloMosaic.TcCoe Idealize.SL.Sem

namespace Cert.KernelIdeal.Attn

open Cert.KernelIdeal Cert.KernelIdeal.Gen

/-- A choice by the lower lanes is a choice by the lane's number. -/
theorem select_lo {α : Type} (l : Fin 128) (a b : α) : Scalar.select (lo (ix2 0 l)) a b = if l.val < 64 then a else b := by
  have h : ∀ l : Fin 128, lo (ix2 0 l) = if l.val < 64 then 1#1 else 0#1 := by decide +kernel
  rw [h]
  by_cases hl : l.val < 64
  · rw [if_pos hl, if_pos hl]; rfl
  · rw [if_neg hl, if_neg hl]; rfl

theorem sel512_apply (x y : FVec Ideal S512x128 .bf16) (r : Fin 512) (l : Fin 128) :
    sel512 x y (ix2 r l) = if l.val < 64 then x (ix2 r l) else y (ix2 r l) := by
  rw [← select_lo]; unfold sel512; rw [shapeCast_self]; rfl

theorem selOut_apply (x y : FVec Ideal S512x128 .f32) (r : Fin 512) (l : Fin 128) :
    selOut x y (ix2 r l) = if l.val < 64 then x (ix2 r l) else y (ix2 r l) := by
  rw [← select_lo]; unfold selOut; rw [shapeCast_self]; rfl

theorem sel640_apply (x y : FVec Ideal S640x128 .bf16) (r : Fin 640) (l : Fin 128) :
    sel640 x y (ix2 r l) = if l.val < 64 then x (ix2 r l) else y (ix2 r l) := by
  rw [← select_lo]; unfold sel640; rw [shapeCast_self]; rfl

/-- A row and a key's dot product. -/
theorem scores_apply (q : FVec Ideal S512x128 .bf16) (k : FVec Ideal S640x128 .bf16) (r : Fin 512) (j : Fin 640) :
    scores q k (ix2 r j) = ∑ l : Fin 128, q (ix2 r l) * k (ix2 j l) := by
  unfold scores
  simp only [pointwise, Consts.zero_f32, zero_add]

/-- A row's weighting of a lane. -/
theorem weighted_apply (p : FVec Ideal S512x640 .bf16) (v : FVec Ideal S640x128 .bf16) (r : Fin 512) (l : Fin 128) :
    weighted p v (ix2 r l) = ∑ j : Fin 640, p (ix2 r j) * v (ix2 j l) := by
  unfold weighted
  simp only [pointwise, Consts.zero_f32, zero_add]

/-- The lane 64 further round. -/
def far (l : Fin 128) : Fin 128 := ⟨(l.val + 64) % 128, Nat.mod_lt _ (by norm_num)⟩

theorem denom_apply (o : FVec Ideal S512x128 .f32) (s : FVec Ideal S512x1 .f32) (r : Fin 512) (l : Fin 128) :
    denom o s (ix2 r l) = o (ix2 r (far l)) + s (ix2 r 0) := by
  have e : dynamicRotate 1 64#32 none o rotates_S512x128_d1 (ix2 r l) = o (ix2 r (far l)) := by
    refine dynamicRotate_apply _ _ _ _ _ _ fun b => ?_
    fin_cases b
    · rfl
    · show (l.val + 64) % 128 = (l.val + 128 - 64 % 128) % 128
      omega
  show _ + _ = _
  rw [e]
  simp only [pointwise]
  rfl

/-- A slice of a matrix read at a row and a column. -/
theorem slice2 {α : Type} {A B a b : Nat} (o0 o1 : Nat) (x : (⟨2, ![A, B]⟩ : Shape).Idx → α)
    (h : (⟨2, ![A, B]⟩ : Shape).Slices ![o0, o1] ⟨2, ![a, b]⟩) (i : Fin a) (j : Fin b) (i' : Fin A) (j' : Fin B)
    (hi : i'.val = o0 + i.val) (hj : j'.val = o1 + j.val) :
    extractStridedSlice ⟨2, ![a, b]⟩ ![o0, o1] x h (ix2 i j) = x (ix2 i' j') :=
  extractStridedSlice_apply _ _ _ _ _ fun d => match d with | ⟨0, _⟩ => hi | ⟨1, _⟩ => hj

/-- The scores `f` of row `r` of a tile as the softmax sees them: the band's ends masked. -/
def slot (pv nx : IVec S128x128 1) (f : Fin 640 → EReal) (r : Fin 128) (j : Fin 640) : EReal :=
  if h : j.val < 128 then (if pv (ix2 r ⟨j.val, h⟩) = 1#1 then f j else ⊥)
  else if h : 256 ≤ j.val ∧ j.val < 384 then (if nx (ix2 r ⟨j.val - 256, by omega⟩) = 1#1 then f j else ⊥)
  else f j

/-- The same for a tile's block of scores. -/
abbrev slotRow (pv nx : IVec S128x128 1) (s : FVec Ideal S128x640 .f32) (r : Fin 128) (j : Fin 640) : EReal :=
  slot pv nx (fun j => s (ix2 r j)) r j

theorem select_bit {α : Type} (b : BitVec 1) (x y : α) : Scalar.select b x y = if b = 1#1 then x else y := rfl

section Row

variable (pv nx : IVec S128x128 1) (s : FVec Ideal S128x640 .f32) (k : EReal) (r : Fin 128) (l : Fin 128)

theorem part0_apply : part0 pv s (ix2 r l) = slotRow pv nx s r ⟨l.val, by omega⟩ := by
  unfold slotRow slot
  rw [dif_pos (show (⟨l.val, by omega⟩ : Fin 640).val < 128 from l.isLt)]
  unfold part0
  rw [Consts.mask_eq, ValueIdx.select_apply, select_bit,
    slice2 0 0 s slices_S128x640_o0_0_S128x128 r l r ⟨l.val, by omega⟩ (Nat.zero_add _).symm (Nat.zero_add _).symm]
  rfl

theorem part1_apply : part1 s (ix2 r l) = slotRow pv nx s r ⟨128 + l.val, by omega⟩ := by
  unfold slotRow slot
  rw [dif_neg (by show ¬ 128 + l.val < 128; omega), dif_neg (by show ¬ (256 ≤ 128 + l.val ∧ _); omega)]
  exact slice2 _ _ _ _ _ _ _ _ (Nat.zero_add _).symm rfl

theorem part2_apply : part2 nx s (ix2 r l) = slotRow pv nx s r ⟨256 + l.val, by omega⟩ := by
  unfold slotRow slot
  rw [dif_neg (by show ¬ 256 + l.val < 128; omega), dif_pos (by show 256 ≤ 256 + l.val ∧ 256 + l.val < 384; omega)]
  unfold part2
  rw [Consts.mask_eq, ValueIdx.select_apply, select_bit,
    slice2 0 256 s slices_S128x640_o0_256_S128x128 r l r ⟨256 + l.val, by omega⟩ (Nat.zero_add _).symm rfl]
  simp only [Nat.add_sub_cancel_left]
  rfl

theorem part3_apply : part3 s (ix2 r l) = slotRow pv nx s r ⟨384 + l.val, by omega⟩ := by
  unfold slotRow slot
  rw [dif_neg (by show ¬ 384 + l.val < 128; omega), dif_neg (by show ¬ (256 ≤ 384 + l.val ∧ 384 + l.val < 384); omega)]
  exact slice2 _ _ _ _ _ _ _ _ (Nat.zero_add _).symm rfl

theorem part4_apply : part4 s (ix2 r l) = slotRow pv nx s r ⟨512 + l.val, by omega⟩ := by
  unfold slotRow slot
  rw [dif_neg (by show ¬ 512 + l.val < 128; omega), dif_neg (by show ¬ (256 ≤ 512 + l.val ∧ 512 + l.val < 384); omega)]
  exact slice2 _ _ _ _ _ _ _ _ (Nat.zero_add _).symm rfl

theorem sink2_apply : sink2 (F := Ideal) k = k * (((Real.log 2)⁻¹ : ℝ) : EReal) := by
  unfold sink2; rw [Consts.log2e_eq]; rfl

theorem expo_apply (p : FVec Ideal S128x128 .f32) (mx : FVec Ideal S128x1 .f32) :
    expo p mx (ix2 r l) = Ideal.exp2 (p (ix2 r l) - mx (ix2 r 0)) := by
  unfold expo
  simp only [pointwise]
  rfl

/-- A row's maximum is a real number where its sink is one and no score is plus infinity. -/
theorem rowMax_real (b : ℝ) (hb : sink2 (F := Ideal) k = (b : EReal)) (hs : ∀ j, slotRow pv nx s r j ≠ ⊤) :
    ∃ M : ℝ, rowMax (F := Ideal) pv nx s k (ix2 r 0) = (M : EReal) := by
  have e : rowMax (F := Ideal) pv nx s k (ix2 r 0) = max ((multiReduction (F := Ideal) .maximumf [1] S128
      (maximumf (maximumf (maximumf (maximumf (part0 pv s) (part1 s)) (part2 nx s)) (part3 s)) (part4 s))
      0xFF800000#32 reduces_S128x128_S128 (.inl rfl) rfl) (ix1 r)) (b : EReal) := by
    unfold rowMax
    rw [hb]
    show max (shapeCast S128x1 _ shapeCasts_S128_S128x1 (ix2 r 0)) _ = _
    rw [shapeCast_apply _ _ _ (ix1 r) (by rw [Shape.rowMajor_val_one, Shape.rowMajor_val_two]; show r.val = r.val * 1 + 0; omega)]
    rfl
  have ht : ∀ l : Fin 128, (maximumf (maximumf (maximumf (maximumf (part0 pv s) (part1 s)) (part2 nx s)) (part3 s)) (part4 s)) (ix2 r l) ≠ ⊤ := by
    intro l
    show max (max (max (max (part0 pv s (ix2 r l)) (part1 s (ix2 r l))) (part2 nx s (ix2 r l))) (part3 s (ix2 r l))) (part4 s (ix2 r l)) ≠ ⊤
    rw [part0_apply pv nx, part1_apply pv nx, part2_apply pv nx, part3_apply pv nx, part4_apply pv nx]
    simp only [ne_eq, max_eq_top, hs, or_self, not_false_eq_true]
  have hl : ∀ l : Fin 128, reduces_S128x128_S128.lift (ix1 r) l = ix2 r l := fun l => by
    funext a; fin_cases a <;> rfl
  have hr := Ideal.multiReduction_maximumf_single (φ := .f32)
    (maximumf (maximumf (maximumf (maximumf (part0 pv s) (part1 s)) (part2 nx s)) (part3 s)) (part4 s))
    0xFF800000#32 reduces_S128x128_S128 (.inl rfl) rfl (ix1 r)
  have hne : (Finset.univ : Finset (Fin 128)).fold max (⊥ : EReal)
      ((maximumf (maximumf (maximumf (maximumf (part0 pv s) (part1 s)) (part2 nx s)) (part3 s)) (part4 s)) ∘ reduces_S128x128_S128.lift (ix1 r)) ≠ ⊤ := by
    refine ne_of_lt ((Finset.fold_max_lt _).2 ⟨bot_lt_top, fun l _ => ?_⟩)
    have h := ht l
    rw [← hl l] at h
    exact lt_top_iff_ne_top.mpr h
  refine ⟨_, (e.trans (congrArg (fun z => max z (b : EReal)) hr)).trans (EReal.coe_toReal ?_ ?_).symm⟩
  · rw [ne_eq, max_eq_top, not_or]
    refine ⟨?_, EReal.coe_ne_top b⟩
    rw [Ideal.ofBits_def, Consts.bot_f32]
    exact hne
  · exact ne_of_gt (lt_of_lt_of_le (EReal.bot_lt_coe b) (le_max_right _ _))

/-- A row's weights. -/
theorem rowP_apply (j : Fin 640) :
    rowP (F := Ideal) pv nx s k (ix2 r j) = Ideal.exp2 (slotRow pv nx s r j - rowMax (F := Ideal) pv nx s k (ix2 r 0)) := by
  have key : ∀ (n : Nat) (hn : n < 5) (x : FVec Ideal S128x128 .f32) (l : Fin 128) (hj : j.val = 128 * n + l.val)
      (_ : [(⟨S128x128, expo (part0 pv s) (rowMax (F := Ideal) pv nx s k)⟩ : (s : Shape) × (s.Idx → EReal)), ⟨S128x128, expo (part1 s) (rowMax (F := Ideal) pv nx s k)⟩,
        ⟨S128x128, expo (part2 nx s) (rowMax (F := Ideal) pv nx s k)⟩, ⟨S128x128, expo (part3 s) (rowMax (F := Ideal) pv nx s k)⟩,
        ⟨S128x128, expo (part4 s) (rowMax (F := Ideal) pv nx s k)⟩][n] = ⟨S128x128, expo x (rowMax (F := Ideal) pv nx s k)⟩)
      (_ : x (ix2 r l) = slotRow pv nx s r j),
      rowP (F := Ideal) pv nx s k (ix2 r j) = Ideal.exp2 (slotRow pv nx s r j - rowMax (F := Ideal) pv nx s k (ix2 r 0)) := by
    intro n hn x l hj hx hs
    rw [← hs, ← expo_apply]
    unfold rowP
    refine concatenate_apply_piece 1 _ _ (ix2 r j) n ?_ S128x128 _ ?_ rfl (128 * n) ?_ (ix2 r l) ?_ hj.symm
    · exact hn
    · exact hx
    · interval_cases n <;> rfl
    · intro b hb
      fin_cases b
      · rfl
      · exact absurd rfl hb
  have hj := j.isLt
  rcases (show j.val < 128 ∨ (128 ≤ j.val ∧ j.val < 256) ∨ (256 ≤ j.val ∧ j.val < 384) ∨ (384 ≤ j.val ∧ j.val < 512) ∨ 512 ≤ j.val by omega)
    with h | h | h | h | h
  · exact key 0 (by norm_num) _ ⟨j.val, h⟩ (Nat.zero_add _).symm rfl (part0_apply pv nx s r _)
  · exact key 1 (by norm_num) _ ⟨j.val - 128, by omega⟩ (show j.val = 128 + (j.val - 128) by omega) rfl ((part1_apply pv nx s r _).trans (congrArg _ (Fin.ext (show 128 + (j.val - 128) = j.val by omega))))
  · exact key 2 (by norm_num) _ ⟨j.val - 256, by omega⟩ (show j.val = 256 + (j.val - 256) by omega) rfl ((part2_apply pv nx s r _).trans (congrArg _ (Fin.ext (show 256 + (j.val - 256) = j.val by omega))))
  · exact key 3 (by norm_num) _ ⟨j.val - 384, by omega⟩ (show j.val = 384 + (j.val - 384) by omega) rfl ((part3_apply pv nx s r _).trans (congrArg _ (Fin.ext (show 384 + (j.val - 384) = j.val by omega))))
  · exact key 4 (by norm_num) _ ⟨j.val - 512, by omega⟩ (show j.val = 512 + (j.val - 512) by omega) rfl ((part4_apply pv nx s r _).trans (congrArg _ (Fin.ext (show 512 + (j.val - 512) = j.val by omega))))

theorem rowS_apply :
    rowS (F := Ideal) pv nx s k (ix2 r 0) = Ideal.exp2 (sink2 (F := Ideal) k - rowMax (F := Ideal) pv nx s k (ix2 r 0)) := rfl

end Row

/-- Four stacked tiles read at a row. -/
theorem stack4 {α : Type} {B : Nat} (x : Fin 4 → (⟨2, ![128, B]⟩ : Shape).Idx → α)
    (h : Shape.Concatenates [(⟨2, ![128, B]⟩ : Shape), ⟨2, ![128, B]⟩, ⟨2, ![128, B]⟩, ⟨2, ![128, B]⟩] ⟨2, ![512, B]⟩ 0)
    (t : Fin 4) (r : Fin 128) (j : Fin B) :
    concatenate ⟨2, ![512, B]⟩ 0 [⟨⟨2, ![128, B]⟩, x 0⟩, ⟨⟨2, ![128, B]⟩, x 1⟩, ⟨⟨2, ![128, B]⟩, x 2⟩, ⟨⟨2, ![128, B]⟩, x 3⟩] h
      (ix2 ⟨128 * t.val + r.val, by omega⟩ j) = x t (ix2 r j) := by
  refine concatenate_apply_piece (t := ⟨2, ![512, B]⟩) 0 _ _ (ix2 ⟨128 * t.val + r.val, by omega⟩ j) t.val ?_ ⟨2, ![128, B]⟩ _ ?_ rfl (128 * t.val) ?_ (ix2 r j) ?_ ?_
  · exact t.isLt
  · fin_cases t <;> rfl
  · fin_cases t <;> rfl
  · intro b hb
    fin_cases b
    · exact absurd rfl hb
    · rfl
  · rfl

section All

variable (pv nx : IVec S128x128 1) (s : FVec Ideal S512x640 .f32) (k : Fin 4 → EReal) (t : Fin 4) (r : Fin 128)

/-- The rows of tile `t`. -/
def rowsOf : FVec Ideal S128x640 .f32 :=
  extractStridedSlice S128x640 ![128 * t.val, 0] s (by fin_cases t <;> decide)

theorem slotRow_rowsOf (j : Fin 640) : slotRow pv nx (rowsOf s t) r j
    = slot pv nx (fun j => s (ix2 ⟨128 * t.val + r.val, by omega⟩ j)) r j :=
  congrArg (fun f => slot pv nx f r j) (funext fun j => slice2 _ _ _ _ _ _ _ _ rfl (Nat.zero_add _).symm)

theorem allP_apply (j : Fin 640) : allP (F := Ideal) pv nx s (k 0) (k 1) (k 2) (k 3) (ix2 ⟨128 * t.val + r.val, by omega⟩ j)
    = rowP (F := Ideal) pv nx (rowsOf s t) (k t) (ix2 r j) :=
  stack4 (fun t => rowP (F := Ideal) pv nx (rowsOf s t) (k t)) concatenates_S128x640_S128x640_S128x640_S128x640_S512x640_d0 t r j

theorem allS_apply : allS (F := Ideal) pv nx s (k 0) (k 1) (k 2) (k 3) (ix2 ⟨128 * t.val + r.val, by omega⟩ 0)
    = rowS (F := Ideal) pv nx (rowsOf s t) (k t) (ix2 r 0) :=
  stack4 (fun t => rowS (F := Ideal) pv nx (rowsOf s t) (k t)) concatenates_S128x1_S128x1_S128x1_S128x1_S512x1_d0 t r 0

/-- One row's quotient is the softmax of its real scores: the values' lane over the weights' sum and the sink's weight. -/
theorem row_soft (ok : Fin 640 → Prop) [DecidablePred ok] (y : Fin 640 → ℝ) (sk : ℝ) (w one : Fin 640 → EReal)
    (hs : ∀ j, slot pv nx (fun j => s (ix2 ⟨128 * t.val + r.val, by omega⟩ j)) r j = if ok j then ((y j * (Real.log 2)⁻¹ : ℝ) : EReal) else ⊥) (hk : k t = (sk : EReal))
    (h1 : ∀ j, one j = 1) :
    Ideal.div (∑ j, allP (F := Ideal) pv nx s (k 0) (k 1) (k 2) (k 3) (ix2 ⟨128 * t.val + r.val, by omega⟩ j) * w j)
      (∑ j, allP (F := Ideal) pv nx s (k 0) (k 1) (k 2) (k 3) (ix2 ⟨128 * t.val + r.val, by omega⟩ j) * one j
        + allS (F := Ideal) pv nx s (k 0) (k 1) (k 2) (k 3) (ix2 ⟨128 * t.val + r.val, by omega⟩ 0)) = Soft.soft ok y sk w := by
  have hb : sink2 (F := Ideal) (k t) = ((sk * (Real.log 2)⁻¹ : ℝ) : EReal) := by rw [sink2_apply, hk, EReal.coe_mul]
  obtain ⟨M, hM⟩ := rowMax_real pv nx (rowsOf s t) (k t) r _ hb fun j => by
    rw [slotRow_rowsOf, hs]; split
    · exact EReal.coe_ne_top _
    · exact bot_ne_top
  simp only [allP_apply, allS_apply, rowP_apply, rowS_apply, slotRow_rowsOf, h1]
  exact Soft.kernel_form ok y sk M w _ _ _ hs hb hM

end All

/-- THE HEAD AT AN INDEX: lane `l` of row `128 t + r` is the softmax over the 640 keys of the scores of its half's query,
    weighting lane `l` of the values. -/
theorem head_apply (pv nx : IVec S128x128 1) (q : FVec Ideal S512x128 .bf16) (kk v : FVec Ideal S640x128 .bf16)
    (ke ko : Fin 4 → EReal) (t : Fin 4) (r : Fin 128) (l : Fin 128)
    (ok : Fin 640 → Prop) [DecidablePred ok] (y : Fin 640 → ℝ) (sk : ℝ)
    (hs : ∀ j, slot pv nx (fun j => ∑ l' : Fin 128, (if l'.val < 64 ↔ l.val < 64 then q (ix2 ⟨128 * t.val + r.val, by omega⟩ l') else 0) * kk (ix2 j l')) r j
      = if ok j then ((y j * (Real.log 2)⁻¹ : ℝ) : EReal) else ⊥)
    (hk : (if l.val < 64 then ke t else ko t) = (sk : EReal)) :
    head (F := Ideal) pv nx q kk v (ke 0) (ke 1) (ke 2) (ke 3) (ko 0) (ko 1) (ko 2) (ko 3) (ix2 ⟨128 * t.val + r.val, by omega⟩ l)
      = Soft.soft ok y sk (fun j => v (ix2 j l)) := by
  have hz : ∀ i, broadcast S512x128 (Scalar.ofBits (F := Ideal) .bf16 0x0000#16) i = 0 := fun i => Consts.zero_bf16
  have ho : ∀ i, broadcast S640x128 (Scalar.ofBits (F := Ideal) .bf16 0x3F80#16) i = 1 := fun i => Consts.one_bf16
  unfold head quot
  rw [ValueIdx.divf_apply]
  rw [selOut_apply, selOut_apply]
  by_cases hl : l.val < 64
  · rw [if_pos hl] at hk
    have hf : ¬ (far l).val < 64 := by show ¬ (l.val + 64) % 128 < 64; omega
    rw [if_pos hl, if_pos hl, denom_apply, weighted_apply, weighted_apply]
    simp only [sel640_apply, if_pos hl, if_neg hf, ho]
    refine row_soft pv nx _ ke t r ok y sk _ _ (fun j => ?_) hk fun _ => rfl
    rw [← hs]
    refine congrArg (fun f => slot pv nx f r j) (funext fun j => ?_)
    rw [scores_apply]
    simp only [sel512_apply, hz, hl, iff_true]
  · rw [if_neg hl] at hk
    have hf : (far l).val < 64 := by show (l.val + 64) % 128 < 64; omega
    rw [if_neg hl, if_neg hl, denom_apply, weighted_apply, weighted_apply]
    simp only [sel640_apply, if_neg hl, if_pos hf, ho]
    refine row_soft pv nx _ ko t r ok y sk _ _ (fun j => ?_) hk fun _ => rfl
    rw [← hs]
    refine congrArg (fun f => slot pv nx f r j) (funext fun j => ?_)
    rw [scores_apply]
    simp only [sel512_apply, hz, hl, iff_false, ite_not]

end Cert.KernelIdeal.Attn
-- ==== Proof.Block.lean ====
/-
  The kernel's output block as a function of its input blocks (Pieces.lean), and over the extended reals at an index: the
  softmax of one query head's row over its 640 keys, gated.
-/
module

public import proofs.«01_k».proof.Proof.Pieces
public import proofs.«01_k».proof.Proof.HeadIdeal

@[expose] public section

noncomputable section

open Idealize.ShloMosaic Idealize.ShloMosaic.TcCoe Idealize.SL.Sem

namespace Cert.KernelIdeal.Attn

open Cert.KernelIdeal Cert.KernelIdeal.Gen

section Loads

variable {F : FTy → Type} [FloatOps F] [Named F]

/-- 128 lanes of a 4096-lane block. -/
def ldQ (x : Vec F S128x4096 .bf16) : LoadsQ F := fun o h => View.ld x (Rect.unit (s := S128x4096) ![0, o] S128x128.size (inbQ h))

/-- 128 lanes of a 1024-lane block. -/
def ldK (x : Vec F S128x1024 .bf16) : LoadsK F := fun o h => View.ld x (Rect.unit (s := S128x1024) ![0, o] S128x128.size (inbK h))

/-- 128 lanes of the context's block. -/
def ldC (x : Vec F S256x1024 .bf16) : LoadsC F := fun o h => View.ld x (Rect.unit (s := S256x1024) ![0, o] S256x128.size (inbC h))

/-- One sink. -/
def ldS (x : Vec F S8x8 .f32) : LoadsS F := fun o h => View.ld x (Rect.unit (s := S8x8) o S1x1.size h) (Shape.Idx.first (show 0 < S1x1.numel by decide))

/-- Tiles of 128 lanes written side by side, read at a row and a lane. -/
theorem tiles_apply (val : Fin 8 → Fin 4 → Vec F S128x128 .bf16) {L : List (Fin 8 × Fin 4)} {y : S128x4096.Idx}
    (hc : ∃ p ∈ L.map (fun p => (⟨Rect.unit ![0, 512 * p.1.val + 128 * p.2.val] S128x128.size (inbQ (by omega)), val p.1 p.2⟩ : View.Piece (Elt F) S128x4096 .bf16)), y ∈ p.1.set)
    (hh : Fin 8) (t : Fin 4) (r l : Fin 128) (hy : y = ix2 r ⟨512 * hh.val + 128 * t.val + l.val, by omega⟩) :
    View.canon (L.map (fun p => (⟨Rect.unit ![0, 512 * p.1.val + 128 * p.2.val] S128x128.size (inbQ (by omega)), val p.1 p.2⟩ : View.Piece (Elt F) S128x4096 .bf16))) y
      = val hh t (ix2 r l) := by
  let G : S128x4096.Idx → Elt F .bf16 := fun y =>
    val ⟨(y 1).val / 512, by have : (y 1).val < 4096 := (y 1).isLt; omega⟩ ⟨(y 1).val / 128 % 4, by omega⟩
      (ix2 (y 0) ⟨(y 1).val % 128, by omega⟩)
  have hG : ∀ (hh : Fin 8) (t : Fin 4) (r l : Fin 128), G (ix2 r ⟨512 * hh.val + 128 * t.val + l.val, by omega⟩) = val hh t (ix2 r l) := by
    intro hh t r l
    have e1 : (⟨(512 * hh.val + 128 * t.val + l.val) / 512, by omega⟩ : Fin 8) = hh := Fin.ext (by show _ / 512 = _; omega)
    have e2 : (⟨(512 * hh.val + 128 * t.val + l.val) / 128 % 4, by omega⟩ : Fin 4) = t := Fin.ext (by show _ / 128 % 4 = _; omega)
    have e3 : (⟨(512 * hh.val + 128 * t.val + l.val) % 128, by omega⟩ : Fin 128) = l := Fin.ext (by show _ % 128 = _; omega)
    show val ⟨(512 * hh.val + 128 * t.val + l.val) / 512, _⟩ ⟨(512 * hh.val + 128 * t.val + l.val) / 128 % 4, _⟩
      (ix2 r ⟨(512 * hh.val + 128 * t.val + l.val) % 128, _⟩) = _
    rw [e1, e2, e3]
  refine (View.canon_apply_of_pieces G _ ?_ _ hc).trans (hy ▸ hG hh t r l)
  intro p hp x
  obtain ⟨⟨a, b⟩, -, rfl⟩ := List.mem_map.mp hp
  have hx : x = ix2 (n0 := 128) (n1 := 128) (x 0) (x 1) := eq_ix2 x
  rw [hx]
  refine ((hG a b (x 0) (x 1)).symm.trans (congrArg G ?_) :)
  funext d
  apply Fin.ext
  match d with
  | ⟨0, _⟩ => show (x 0).val = 0 + 1 * (x 0).val; omega
  | ⟨1, _⟩ => show 512 * a.val + 128 * b.val + (x 1).val = 512 * a.val + 128 * b.val + 1 * (x 1).val; omega

/-- The body's tiles, read at a row and a lane. -/
theorem pieces_apply (i : grid0.Coords) (s : LoadsS F) (q : LoadsQ F) (k0 k1 k2 : LoadsK F) (kc : LoadsC F) (v0 v1 v2 : LoadsK F)
    (vc : LoadsC F) (z : LoadsQ F) {L : List (Fin 8 × Fin 4)} {y : S128x4096.Idx}
    (hc : ∃ p ∈ L.map (fun p => piece i s q k0 k1 k2 kc v0 v1 v2 vc z p.1 p.2), y ∈ p.1.set)
    (hh : Fin 8) (t : Fin 4) (r l : Fin 128) (hy : y = ix2 r ⟨512 * hh.val + 128 * t.val + l.val, by omega⟩) :
    View.canon (L.map fun p => piece i s q k0 k1 k2 kc v0 v1 v2 vc z p.1 p.2) y
      = gated (extractStridedSlice S128x128 ![128 * t.val, 0] (headAt i s q k0 k1 k2 kc v0 v1 v2 vc hh) (slicesT t.isLt))
        (z (512 * hh.val + 128 * t.val) (by omega)) (ix2 r l) :=
  tiles_apply (fun hh t => gated (extractStridedSlice S128x128 ![128 * t.val, 0] (headAt i s q k0 k1 k2 kc v0 v1 v2 vc hh) (slicesT t.isLt))
    (z (512 * hh.val + 128 * t.val) (by omega))) hc hh t r l hy

/-- THE OUTPUT BLOCK at row `r`, lane `512 hh + 128 t + l`: tile `t` of key head `hh`'s result, gated. -/
theorem out_apply (c : Dev nD) (i : grid0.Coords) (arg3 : Memref sig .tc .smem S8x8 .f32) (harg3 : arg3.IsWhole) (arg4 : Memref sig .tc .vmem S128x4096 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x1024 .bf16) (harg12 : arg12.IsWhole) (arg13 : Memref sig .tc .vmem S128x4096 .bf16) (harg13 : arg13.IsWhole) (arg14 : Memref sig .tc .vmem S128x4096 .bf16) (harg14 : arg14.IsWhole)
    (x0 : Vec F S8x8 .f32) (x1 : Vec F S128x4096 .bf16) (x2 : Vec F S128x1024 .bf16) (x3 : Vec F S128x1024 .bf16) (x4 : Vec F S128x1024 .bf16) (x5 : Vec F S256x1024 .bf16) (x6 : Vec F S128x1024 .bf16) (x7 : Vec F S128x1024 .bf16) (x8 : Vec F S128x1024 .bf16) (x9 : Vec F S256x1024 .bf16) (x10 : Vec F S128x4096 .bf16) (hh : Fin 8) (t : Fin 4) (r l : Fin 128) :
    out0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix2 r ⟨512 * hh.val + 128 * t.val + l.val, by omega⟩)
      = gated (extractStridedSlice S128x128 ![128 * t.val, 0]
          (headAt i (ldS x0) (ldQ x1) (ldK x2) (ldK x3) (ldK x4) (ldC x5) (ldK x6) (ldK x7) (ldK x8) (ldC x9) hh) (slicesT t.isLt))
        (ldQ x10 (512 * hh.val + 128 * t.val) (by omega)) (ix2 r l) := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  have hc := cover0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
  rw [pieces_eq] at hc ⊢
  simp only [View.readAt_eq_ld, harg3.read_unread, harg4.read_unread, harg5.read_unread, harg6.read_unread, harg7.read_unread,
    harg8.read_unread, harg9.read_unread, harg10.read_unread, harg11.read_unread, harg12.read_unread, harg13.read_unread] at hc ⊢
  exact pieces_apply i (ldS x0) (ldQ x1) (ldK x2) (ldK x3) (ldK x4) (ldC x5) (ldK x6) (ldK x7) (ldK x8) (ldC x9) (ldQ x10) (hc _) hh t r l rfl

end Loads

end Cert.KernelIdeal.Attn
-- ==== Proof.BlockIdeal.lean ====
/-
  The kernel's output block over the extended reals at an index: the softmax of one query head's row over its 640 keys, weighting
  a lane of the values, times the gate.
-/
module

public import proofs.«01_k».proof.Proof.Block
public import Idealize.ShloMosaic.Lib.WordCmp

@[expose] public section

noncomputable section

open Idealize.ShloMosaic Idealize.ShloMosaic.TcCoe Idealize.SL.Sem

namespace Cert.KernelIdeal.Attn

open Cert.KernelIdeal Cert.KernelIdeal.Gen WordCmp

/-- Whether the row `r` of block `n` sees slot `j`: in the block before, lanes from the row on; in the block after, lanes up to it. -/
def vis (n : Nat) (r : Fin 128) (j : Fin 640) : Prop :=
  (j.val < 128 → r.val ≤ j.val ∧ 0 < n) ∧ (256 ≤ j.val ∧ j.val < 384 → j.val - 256 ≤ r.val ∧ n < 63)

instance (n : Nat) (r : Fin 128) (j : Fin 640) : Decidable (vis n r j) := by unfold vis; infer_instance

/-- A bit made of a proposition. -/
theorem ofBool_eq_one (p : Prop) [Decidable p] : BitVec.ofBool (decide p) = 1#1 ↔ p := by
  by_cases h : p <;> simp [h]

theorem prevOk_apply (n : Nat) (hn : n < 64) (r c : Fin 128) :
    prevOk (BitVec.ofNat 32 n) (ix2 r c) = 1#1 ↔ (r.val ≤ c.val ∧ 0 < n) := by
  have e : prevOk (BitVec.ofNat 32 n) (ix2 r c) = IntOp.cmpi .sge (BitVec.ofNat 32 c.val)
      (BitVec.ofNat 32 r.val + Scalar.select (IntOp.cmpi .sgt (BitVec.ofNat 32 n) (BitVec.ofNat 32 0)) 0#32 128#32) := by
    show IntOp.cmpi .sge (iota .tc S128x128 32 [1] iota_S128x128_d1_w32 (ix2 r c)) (iota .tc S128x128 32 [0] iota_S128x128_d0_w32 (ix2 r c) + _) = _
    rw [iota_single_apply, iota_single_apply]; rfl
  rw [e, cmpi_sgt_ofNat (by omega) (by omega)]
  by_cases h : 0 < n
  · have : (BitVec.ofNat 32 r.val + Scalar.select (BitVec.ofBool (decide (0 < n))) 0#32 128#32) = BitVec.ofNat 32 r.val := by
      simp [h, Scalar.select]
    rw [this, cmpi_sge_ofNat (by omega) (by omega), ofBool_eq_one]
    omega
  · have : (BitVec.ofNat 32 r.val + Scalar.select (BitVec.ofBool (decide (0 < n))) 0#32 128#32) = BitVec.ofNat 32 (r.val + 128) := by
      simp [h, Scalar.select, BitVec.ofNat_add]
    rw [this, cmpi_sge_ofNat (by omega) (by omega), ofBool_eq_one]
    omega

theorem nextOk_apply (n : Nat) (hn : n < 64) (r c : Fin 128) :
    nextOk (BitVec.ofNat 32 n) (ix2 r c) = 1#1 ↔ (c.val ≤ r.val ∧ n < 63) := by
  have e : nextOk (BitVec.ofNat 32 n) (ix2 r c) = IntOp.cmpi .sle (BitVec.ofNat 32 c.val)
      (BitVec.ofNat 32 r.val - Scalar.select (IntOp.cmpi .slt (BitVec.ofNat 32 n) (BitVec.ofNat 32 63)) 0#32 128#32) := by
    show IntOp.cmpi .sle (iota .tc S128x128 32 [1] iota_S128x128_d1_w32 (ix2 r c)) (iota .tc S128x128 32 [0] iota_S128x128_d0_w32 (ix2 r c) - _) = _
    rw [iota_single_apply, iota_single_apply]; rfl
  rw [e, cmpi_slt_ofNat (by omega) (by omega)]
  by_cases h : n < 63
  · have : (BitVec.ofNat 32 r.val - Scalar.select (BitVec.ofBool (decide (n < 63))) 0#32 128#32) = BitVec.ofNat 32 r.val := by
      simp [h, Scalar.select]
    rw [this, cmpi_sle_ofNat (by omega) (by omega), ofBool_eq_one]
    omega
  · have : (BitVec.ofNat 32 r.val - Scalar.select (BitVec.ofBool (decide (n < 63))) 0#32 128#32) = BitVec.ofNat 32 r.val - 128#32 := by
      simp [h, Scalar.select]
    rw [this, cmpi_sle_eq, ofBool_eq_one]
    have h1 : (BitVec.ofNat 32 c.val).toInt = c.val := by
      rw [BitVec.toInt_eq_toNat_of_lt] <;> simp [BitVec.toNat_ofNat] <;> omega
    have h2 : (BitVec.ofNat 32 r.val - 128#32).toInt = (r.val : Int) - 128 := by
      have hr := r.isLt
      generalize r.val = x at hr
      interval_cases x <;> rfl
    rw [h1, h2]
    omega

/-- A row's scores with the band's ends masked, by visibility. -/
theorem slot_vis (n : Nat) (hn : n < 64) (f : Fin 640 → EReal) (r : Fin 128) (j : Fin 640) :
    slot (prevOk (BitVec.ofNat 32 n)) (nextOk (BitVec.ofNat 32 n)) f r j = if vis n r j then f j else ⊥ := by
  unfold slot
  have hr := r.isLt
  split
  · rename_i h
    refine if_congr ((prevOk_apply n hn r _).trans ?_) rfl rfl
    unfold vis; show r.val ≤ j.val ∧ 0 < n ↔ _; omega
  · split
    · rename_i h h'
      refine if_congr ((nextOk_apply n hn r _).trans ?_) rfl rfl
      unfold vis; show j.val - 256 ≤ r.val ∧ n < 63 ↔ _; omega
    · rename_i h h'
      rw [if_pos]
      unfold vis; omega

/-- A lane of the 640 rows of keys or values: three blocks of the band, then the context. -/
def rows640 (a b c : Vec Ideal S128x1024 .bf16) (d : Vec Ideal S256x1024 .bf16) (j : Fin 640) (l : Fin 1024) : EReal :=
  if h : j.val < 128 then a (ix2 ⟨j.val, h⟩ l)
  else if h : j.val < 256 then b (ix2 ⟨j.val - 128, by omega⟩ l)
  else if h : j.val < 384 then c (ix2 ⟨j.val - 256, by omega⟩ l)
  else d (ix2 ⟨j.val - 384, by omega⟩ l)

/-- The stacked tiles at a row and a lane. -/
theorem stack640_apply (a b c : Vec Ideal S128x128 .bf16) (d : Vec Ideal S256x128 .bf16) (j : Fin 640) (l : Fin 128) :
    stack640 a b c d (ix2 j l)
      = if h : j.val < 128 then a (ix2 ⟨j.val, h⟩ l)
        else if h : j.val < 256 then b (ix2 ⟨j.val - 128, by omega⟩ l)
        else if h : j.val < 384 then c (ix2 ⟨j.val - 256, by omega⟩ l)
        else d (ix2 ⟨j.val - 384, by omega⟩ l) := by
  unfold stack640
  simp only [shapeCast_self]
  split
  · rename_i h
    refine concatenate_apply_piece (t := S640x128) 0 _ _ (ix2 j l) 0 ?_ S128x128 _ ?_ rfl 0 ?_ (ix2 ⟨j.val, h⟩ l) ?_ ?_
    · show 0 < 4; omega
    · rfl
    · rfl
    · intro b hb
      fin_cases b
      · exact absurd rfl hb
      · rfl
    · show 0 + j.val = j.val; omega
  · split
    · rename_i h h'
      refine concatenate_apply_piece (t := S640x128) 0 _ _ (ix2 j l) 1 ?_ S128x128 _ ?_ rfl 128 ?_ (ix2 ⟨j.val - 128, by omega⟩ l) ?_ ?_
      · show 1 < 4; omega
      · rfl
      · rfl
      · intro b hb
        fin_cases b
        · exact absurd rfl hb
        · rfl
      · show 128 + (j.val - 128) = j.val; omega
    · split
      · rename_i h h' h''
        refine concatenate_apply_piece (t := S640x128) 0 _ _ (ix2 j l) 2 ?_ S128x128 _ ?_ rfl 256 ?_ (ix2 ⟨j.val - 256, by omega⟩ l) ?_ ?_
        · show 2 < 4; omega
        · rfl
        · rfl
        · intro b hb
          fin_cases b
          · exact absurd rfl hb
          · rfl
        · show 256 + (j.val - 256) = j.val; omega
      · rename_i h h' h''
        refine concatenate_apply_piece (t := S640x128) 0 _ _ (ix2 j l) 3 ?_ S256x128 _ ?_ rfl 384 ?_ (ix2 ⟨j.val - 384, by omega⟩ l) ?_ ?_
        · show 3 < 4; omega
        · rfl
        · rfl
        · intro b hb
          fin_cases b
          · exact absurd rfl hb
          · rfl
        · show 384 + (j.val - 384) = j.val; omega

theorem ldQ_apply (x : Vec Ideal S128x4096 .bf16) (o : Nat) (h : o + 128 ≤ 4096) (r l : Fin 128) :
    ldQ x o h (ix2 r l) = x (ix2 r ⟨o + l.val, by omega⟩) := by
  unfold ldQ; rw [View.ld_unit]; exact slice2 _ _ _ _ _ _ _ _ (Nat.zero_add _).symm rfl

theorem ldK_apply (x : Vec Ideal S128x1024 .bf16) (o : Nat) (h : o + 128 ≤ 1024) (r l : Fin 128) :
    ldK x o h (ix2 r l) = x (ix2 r ⟨o + l.val, by omega⟩) := by
  unfold ldK; rw [View.ld_unit]; exact slice2 _ _ _ _ _ _ _ _ (Nat.zero_add _).symm rfl

theorem ldC_apply (x : Vec Ideal S256x1024 .bf16) (o : Nat) (h : o + 128 ≤ 1024) (r : Fin 256) (l : Fin 128) :
    ldC x o h (ix2 r l) = x (ix2 r ⟨o + l.val, by omega⟩) := by
  unfold ldC; rw [View.ld_unit]; exact slice2 _ _ _ _ _ _ _ _ (Nat.zero_add _).symm rfl

theorem ldS_apply (x : Vec Ideal S8x8 .f32) (o : Fin 2 → Nat) (h) (a b : Fin 8) (ho : o = ![a.val, b.val]) :
    ldS x o h = x (ix2 a b) := by
  subst ho
  refine congrArg x (funext fun d => Fin.ext ?_)
  match d with
  | ⟨0, _⟩ => show a.val + 1 * 0 = a.val; omega
  | ⟨1, _⟩ => show b.val + 1 * 0 = b.val; omega

/-- The stacked loads of a key head's 128 lanes. -/
theorem stack640_ld (a b c : Vec Ideal S128x1024 .bf16) (d : Vec Ideal S256x1024 .bf16) (o : Nat) (h : o + 128 ≤ 1024) (j : Fin 640) (l : Fin 128) :
    stack640 (ldK a o h) (ldK b o h) (ldK c o h) (ldC d o h) (ix2 j l) = rows640 a b c d j ⟨o + l.val, by omega⟩ := by
  rw [stack640_apply]; simp only [ldK_apply, ldC_apply]; rfl

/-- The stacked queries of a key head. -/
theorem stack512_ld (x : Vec Ideal S128x4096 .bf16) (o : Nat) (h : o + 512 ≤ 4096) (t : Fin 4) (r l : Fin 128) :
    stack512 (ldQ x o (by omega)) (ldQ x (o + 128) (by omega)) (ldQ x (o + 256) (by omega)) (ldQ x (o + 384) (by omega))
      (ix2 ⟨128 * t.val + r.val, by omega⟩ l) = x (ix2 r ⟨o + 128 * t.val + l.val, by omega⟩) := by
  unfold stack512
  simp only [shapeCast_self]
  refine (stack4 (fun t : Fin 4 => ldQ x (o + 128 * t.val) (by omega)) concatenates_S128x128_S128x128_S128x128_S128x128_S512x128_d0 t r l).trans ?_
  exact ldQ_apply _ _ _ _ _

/-- The dot product over a head's 128 lanes with the other half's queries zero is one over the half's 64 lanes. -/
theorem half_sum (f g : Fin 128 → EReal) (l : Fin 128) :
    ∑ l' : Fin 128, (if l'.val < 64 ↔ l.val < 64 then f l' else 0) * g l'
      = ∑ e : Fin 64, f ⟨64 * (l.val / 64) + e.val, by omega⟩ * g ⟨64 * (l.val / 64) + e.val, by omega⟩ := by
  rw [show (∑ l' : Fin 128, (if l'.val < 64 ↔ l.val < 64 then f l' else 0) * g l')
      = (∑ e : Fin 64, (if e.val < 64 ↔ l.val < 64 then f ⟨e.val, by omega⟩ else 0) * g ⟨e.val, by omega⟩)
        + ∑ e : Fin 64, (if 64 + e.val < 64 ↔ l.val < 64 then f ⟨64 + e.val, by omega⟩ else 0) * g ⟨64 + e.val, by omega⟩ from
    Fin.sum_univ_add (a := 64) (b := 64) fun l' : Fin (64 + 64) => (if l'.val < 64 ↔ l.val < 64 then f l' else 0) * g l']
  by_cases hl : l.val < 64
  · have h0 : l.val / 64 = 0 := by omega
    rw [Finset.sum_congr (g := fun _ => (0 : EReal)) (s₁ := (Finset.univ : Finset (Fin 64))) (f := fun e : Fin 64 => (if 64 + e.val < 64 ↔ l.val < 64 then f ⟨64 + e.val, by omega⟩ else 0) * g ⟨64 + e.val, by omega⟩) rfl
      fun e _ => by rw [if_neg (by omega), zero_mul]]
    rw [Finset.sum_const_zero, add_zero]
    refine Finset.sum_congr rfl fun e _ => ?_
    rw [if_pos (by omega)]
    have : (⟨e.val, by omega⟩ : Fin 128) = ⟨64 * (l.val / 64) + e.val, by omega⟩ := Fin.ext (by show e.val = 64 * (l.val / 64) + e.val; omega)
    rw [this]
  · have h0 : l.val / 64 = 1 := by omega
    rw [Finset.sum_congr (g := fun _ => (0 : EReal)) (s₁ := (Finset.univ : Finset (Fin 64))) (f := fun e : Fin 64 => (if e.val < 64 ↔ l.val < 64 then f ⟨e.val, by omega⟩ else 0) * g ⟨e.val, by omega⟩) rfl
      fun e _ => by rw [if_neg (by omega), zero_mul]]
    rw [Finset.sum_const_zero, zero_add]
    refine Finset.sum_congr rfl fun e _ => ?_
    rw [if_pos (by omega)]
    have : (⟨64 + e.val, by omega⟩ : Fin 128) = ⟨64 * (l.val / 64) + e.val, by omega⟩ := Fin.ext (by show 64 + e.val = 64 * (l.val / 64) + e.val; omega)
    rw [this]

/-- THE OUTPUT BLOCK over the extended reals, at row `r` and lane `512 hh + 128 t + l`, where the scores are real. -/
theorem block_soft (c : Dev nD) (i : grid0.Coords) (arg3 : Memref sig .tc .smem S8x8 .f32) (harg3 : arg3.IsWhole) (arg4 : Memref sig .tc .vmem S128x4096 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x1024 .bf16) (harg12 : arg12.IsWhole) (arg13 : Memref sig .tc .vmem S128x4096 .bf16) (harg13 : arg13.IsWhole) (arg14 : Memref sig .tc .vmem S128x4096 .bf16) (harg14 : arg14.IsWhole)
    (x0 : Vec Ideal S8x8 .f32) (x1 : Vec Ideal S128x4096 .bf16) (x2 : Vec Ideal S128x1024 .bf16) (x3 : Vec Ideal S128x1024 .bf16) (x4 : Vec Ideal S128x1024 .bf16) (x5 : Vec Ideal S256x1024 .bf16) (x6 : Vec Ideal S128x1024 .bf16) (x7 : Vec Ideal S128x1024 .bf16) (x8 : Vec Ideal S128x1024 .bf16) (x9 : Vec Ideal S256x1024 .bf16) (x10 : Vec Ideal S128x4096 .bf16) (n : Nat) (hn : (i 2).val = n) (hh : Fin 8) (t : Fin 4) (r l : Fin 128) (y : Fin 640 → ℝ) (sk : ℝ)
    (hs : ∀ j, ∑ e : Fin 64, x1 (ix2 r ⟨512 * hh.val + 128 * t.val + 64 * (l.val / 64) + e.val, by omega⟩)
        * rows640 x2 x3 x4 x5 j ⟨128 * hh.val + 64 * (l.val / 64) + e.val, by omega⟩ = ((y j * (Real.log 2)⁻¹ : ℝ) : EReal))
    (hk : x0 (ix2 hh ⟨2 * t.val + l.val / 64, by omega⟩) = (sk : EReal)) :
    out0_A_11 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix2 r ⟨512 * hh.val + 128 * t.val + l.val, by omega⟩)
      = Soft.soft (vis n r) y sk (fun j => rows640 x6 x7 x8 x9 j ⟨128 * hh.val + l.val, by omega⟩)
        * x10 (ix2 r ⟨512 * hh.val + 128 * t.val + l.val, by omega⟩) := by
  have hn64 : n < 64 := by have : (i 2).val < 64 := (i 2).isLt; omega
  have hi1 : (i 1).val = 0 := by have : (i 1).val < 1 := (i 1).isLt; omega
  rw [out_apply]
  unfold gated
  rw [shapeCast_self]
  show extractStridedSlice (s := S512x128) S128x128 ![128 * t.val, 0] _ _ (ix2 r l) * ldQ x10 (512 * hh.val + 128 * t.val) (by omega) (ix2 r l) = _
  rw [ldQ_apply, slice2 _ _ _ _ _ _ ⟨128 * t.val + r.val, by omega⟩ l rfl (Nat.zero_add _).symm]
  congr 1
  unfold headAt
  have hoff : ∀ (b : Fin 8) (o : Fin 2 → Nat) (h), o = ![8 * (i 1).val + hh.val, b.val] → ldS x0 o h = x0 (ix2 hh b) := fun b o h ho =>
    ldS_apply x0 o h hh b (by rw [ho, hi1]; simp)
  rw [hoff 0 _ _ (k0_off1_eq i hh), hoff 2 _ _ (k0_off2_eq i hh), hoff 4 _ _ (k0_off3_eq i hh), hoff 6 _ _ (k0_off4_eq i hh),
    hoff 1 _ _ (k0_off5_eq i hh), hoff 3 _ _ (k0_off6_eq i hh), hoff 5 _ _ (k0_off7_eq i hh), hoff 7 _ _ (k0_off8_eq i hh), hn]
  refine (head_apply _ _ _ _ _ (fun t => x0 (ix2 hh ⟨2 * t.val, by omega⟩)) (fun t => x0 (ix2 hh ⟨2 * t.val + 1, by omega⟩)) t r l (vis n r) y sk ?_ ?_).trans ?_
  · intro j
    rw [slot_vis n hn64]
    split
    · rw [← hs j, half_sum]
      refine Finset.sum_congr rfl fun e _ => ?_
      rw [stack512_ld _ _ (by omega), stack640_ld]
      refine congr (congrArg HMul.hMul (congrArg (fun a => x1 (ix2 r a)) (Fin.ext ?_))) (congrArg (rows640 x2 x3 x4 x5 j) (Fin.ext ?_)) <;> (dsimp only; omega)
    · rfl
  · rw [← hk]
    split
    · exact congrArg (fun a => x0 (ix2 hh a)) (Fin.ext (by show 2 * t.val = 2 * t.val + l.val / 64; omega))
    · exact congrArg (fun a => x0 (ix2 hh a)) (Fin.ext (by show 2 * t.val + 1 = 2 * t.val + l.val / 64; omega))
  · exact congrArg (Soft.soft (vis n r) y sk) (funext fun j => stack640_ld _ _ _ _ _ _ _ _)

end Cert.KernelIdeal.Attn
-- ==== Proof.Host.lean ====
/-
  The arrays that the host code prepares for the kernel, over the extended reals at an index: the scaled queries, the doubled
  key and value heads, the gate and the sinks.
-/
module

public import proofs.«01_k».proof.Proof.BlockIdeal
public import proofs.«01_k».proof.Proof.Gen.KernelIdeal.Value

@[expose] public section

noncomputable section

open Idealize.ShloMosaic Idealize.ShloMosaic.TcCoe Idealize.SL.Sem

namespace Cert.KernelIdeal.Attn

open Cert.KernelIdeal Cert.KernelIdeal.Gen

/-- Rows of 8 heads of 64 lanes, each head written twice side by side: both copies read the head. -/
theorem dup_apply {N R : Nat} (hR : R = 2 * N) (x : (⟨4, ![2, N, 8, 64]⟩ : Shape).Idx → EReal)
    (h1 : (⟨4, ![2, N, 8, 64]⟩ : Shape).ShapeCasts ⟨4, ![R, 8, 1, 64]⟩)
    (h2 : Shape.Concatenates [(⟨4, ![R, 8, 1, 64]⟩ : Shape), ⟨4, ![R, 8, 1, 64]⟩] ⟨4, ![R, 8, 2, 64]⟩ 2)
    (h3 : (⟨4, ![R, 8, 2, 64]⟩ : Shape).ShapeCasts ⟨2, ![R, 1024]⟩)
    (b : Fin 2) (n : Fin N) (hh : Fin 8) (s : Fin 2) (e : Fin 64) (r : Fin R) (l : Fin 1024)
    (hr : r.val = N * b.val + n.val) (hl : l.val = 128 * hh.val + 64 * s.val + e.val) :
    shapeCast ⟨2, ![R, 1024]⟩ (concatenate ⟨4, ![R, 8, 2, 64]⟩ 2 [⟨⟨4, ![R, 8, 1, 64]⟩, shapeCast ⟨4, ![R, 8, 1, 64]⟩ x h1⟩,
      ⟨⟨4, ![R, 8, 1, 64]⟩, shapeCast ⟨4, ![R, 8, 1, 64]⟩ x h1⟩] h2) h3 (ix2 r l) = x (ix4 b n hh e) := by
  rw [shapeCast_apply _ _ _ (ix4 r hh s e) (by
    rw [Shape.rowMajor_val_four, Shape.rowMajor_val_two]
    show ((r.val * 8 + hh.val) * 2 + s.val) * 64 + e.val = r.val * 1024 + l.val
    omega)]
  have hx : shapeCast ⟨4, ![R, 8, 1, 64]⟩ x h1 (ix4 r hh 0 e) = x (ix4 b n hh e) := by
    rw [shapeCast_apply _ _ _ (ix4 b n hh e) (by
      rw [Shape.rowMajor_val_four, Shape.rowMajor_val_four]
      show ((b.val * N + n.val) * 8 + hh.val) * 64 + e.val = ((r.val * 8 + hh.val) * 1 + 0) * 64 + e.val
      rw [hr, Nat.mul_comm b.val N]; omega)]
  rw [← hx]
  have hcase : s = 0 ∨ s = 1 := by fin_cases s <;> simp
  rcases hcase with rfl | rfl
  · refine concatenate_apply_piece (t := ⟨4, ![R, 8, 2, 64]⟩) 2 _ _ (ix4 r hh 0 e) 0 ?_ ⟨4, ![R, 8, 1, 64]⟩ _ ?_ rfl 0 ?_ (ix4 r hh 0 e) ?_ ?_
    · show 0 < 2; omega
    · rfl
    · rfl
    · intro d hd
      fin_cases d
      · rfl
      · rfl
      · exact absurd rfl hd
      · rfl
    · rfl
  · refine concatenate_apply_piece (t := ⟨4, ![R, 8, 2, 64]⟩) 2 _ _ (ix4 r hh 1 e) 1 ?_ ⟨4, ![R, 8, 1, 64]⟩ _ ?_ rfl 1 ?_ (ix4 r hh 0 e) ?_ ?_
    · show 1 < 2; omega
    · rfl
    · rfl
    · intro d hd
      fin_cases d
      · rfl
      · rfl
      · exact absurd rfl hd
      · rfl
    · rfl

variable (m : (ℓ : Loc nD τ sig) → Buf (Elt Ideal) ℓ) (c : Dev nD)

/-- The queries' array. -/
abbrev aq : FVec Ideal S2x8192x64x64 .f32 := m ((c : Thread nD τ).loc main_arg0)
/-- The keys' array. -/
abbrev ak : FVec Ideal S2x8192x8x64 .f32 := m ((c : Thread nD τ).loc main_arg1)
/-- The values' array. -/
abbrev av : FVec Ideal S2x8192x8x64 .f32 := m ((c : Thread nD τ).loc main_arg2)
/-- The context's keys. -/
abbrev akc : FVec Ideal S2x256x8x64 .f32 := m ((c : Thread nD τ).loc main_arg3)
/-- The context's values. -/
abbrev avc : FVec Ideal S2x256x8x64 .f32 := m ((c : Thread nD τ).loc main_arg4)
/-- The gate. -/
abbrev az : FVec Ideal S2x8192x4096 .f32 := m ((c : Thread nD τ).loc main_arg5)
/-- The sinks. -/
abbrev asink : FVec Ideal S64 .f32 := m ((c : Thread nD τ).loc main_arg6)

/-- The sinks as the kernel reads them: head `8 hh + a`. -/
theorem V_sink (hh a : Fin 8) : V m c main_v24 (ix2 hh a) = asink m c (ix1 ⟨8 * hh.val + a.val, by omega⟩) := by
  have e : V m c main_v24 = shapeCast S8x8 (asink m c) shapeCasts_S64_S8x8 := by
    unfold V; after_results; rfl
  rw [e]
  exact shapeCast_apply _ _ _ _ (by
    rw [Shape.rowMajor_val_one, Shape.rowMajor_val_two]
    show 8 * hh.val + a.val = hh.val * 8 + a.val
    omega)

/-- The gate as the kernel reads it. -/
theorem V_gate (b : Fin 2) (n : Fin 8192) (l : Fin 4096) (r : Fin 16384) (hr : r.val = 8192 * b.val + n.val) :
    V m c main_v23 (ix2 r l) = az m c (ix3 b n l) := by
  have e : V m c main_v23 = truncf (F := Ideal) .bf16 (shapeCast S16384x4096 (az m c) shapeCasts_S2x8192x4096_S16384x4096) bitsLt_bf16_f32 := by
    unfold V; after_results; rfl
  rw [e]
  exact shapeCast_apply _ _ _ _ (by
    rw [Shape.rowMajor_val_three, Shape.rowMajor_val_two]
    show (b.val * 8192 + n.val) * 4096 + l.val = r.val * 4096 + l.val
    omega)

/-- The queries as the kernel reads them: times an eighth over the logarithm of two. -/
theorem V_query (b : Fin 2) (n : Fin 8192) (h e : Fin 64) (r : Fin 16384) (l : Fin 4096) (hr : r.val = 8192 * b.val + n.val)
    (hl : l.val = 64 * h.val + e.val) :
    V m c main_v5 (ix2 r l) = aq m c (ix4 b n h e) * ((1 / 8 * (Real.log 2)⁻¹ : ℝ) : EReal) := by
  have e' : V m c main_v5 = truncf (F := Ideal) .bf16 (mulf (shapeCast S16384x4096 (aq m c) shapeCasts_S2x8192x64x64_S16384x4096)
      (broadcastInDim S16384x4096 ![] bcast_S_S16384x4096
        (Host.divf (F := Ideal) (constant S_ .f32 0x3E000000#32) (Host.log (F := Ideal) (constant S_ .f32 0x40000000#32) : FVec Ideal S_ .f32)))) bitsLt_bf16_f32 := by
    unfold V; after_results; rfl
  rw [e']
  show shapeCast S16384x4096 (aq m c) shapeCasts_S2x8192x64x64_S16384x4096 (ix2 r l)
    * Ideal.div (Scalar.ofBits (F := Ideal) .f32 0x3E000000#32) (Ideal.log (Scalar.ofBits (F := Ideal) .f32 0x40000000#32)) = _
  rw [shapeCast_apply _ _ _ (ix4 b n h e) (by
    rw [Shape.rowMajor_val_four, Shape.rowMajor_val_two]
    show ((b.val * 8192 + n.val) * 64 + h.val) * 64 + e.val = r.val * 4096 + l.val
    omega)]
  congr 1
  show Ideal.div (Ideal.ofBits .f32 0x3E000000#32) (Ideal.log (Ideal.ofBits .f32 0x40000000#32)) = _
  rw [Consts.eighth_f32, Consts.two_f32, Ideal.log_coe, if_neg (by norm_num),
    Ideal.div_coe (Real.log_pos (by norm_num)).ne', one_div (Real.log 2), EReal.coe_mul]

/-- The keys as the kernel reads them. -/
theorem V_key (b : Fin 2) (n : Fin 8192) (hh : Fin 8) (s : Fin 2) (e : Fin 64) (r : Fin 16384) (l : Fin 1024)
    (hr : r.val = 8192 * b.val + n.val) (hl : l.val = 128 * hh.val + 64 * s.val + e.val) :
    V m c main_v9 (ix2 r l) = ak m c (ix4 b n hh e) := by
  have e' : V m c main_v9 = truncf (F := Ideal) .bf16 (shapeCast S16384x1024 (concatenate S16384x8x2x64 2
      [⟨S16384x8x1x64, shapeCast S16384x8x1x64 (ak m c) shapeCasts_S2x8192x8x64_S16384x8x1x64⟩,
        ⟨S16384x8x1x64, shapeCast S16384x8x1x64 (ak m c) shapeCasts_S2x8192x8x64_S16384x8x1x64⟩]
      concatenates_S16384x8x1x64_S16384x8x1x64_S16384x8x2x64_d2) shapeCasts_S16384x8x2x64_S16384x1024) bitsLt_bf16_f32 := by
    unfold V; after_results; rfl
  rw [e']
  exact dup_apply (N := 8192) (R := 16384) rfl (ak m c) _ concatenates_S16384x8x1x64_S16384x8x1x64_S16384x8x2x64_d2 _ b n hh s e r l hr hl

/-- The values as the kernel reads them. -/
theorem V_value (b : Fin 2) (n : Fin 8192) (hh : Fin 8) (s : Fin 2) (e : Fin 64) (r : Fin 16384) (l : Fin 1024)
    (hr : r.val = 8192 * b.val + n.val) (hl : l.val = 128 * hh.val + 64 * s.val + e.val) :
    V m c main_v13 (ix2 r l) = av m c (ix4 b n hh e) := by
  have e' : V m c main_v13 = truncf (F := Ideal) .bf16 (shapeCast S16384x1024 (concatenate S16384x8x2x64 2
      [⟨S16384x8x1x64, shapeCast S16384x8x1x64 (av m c) shapeCasts_S2x8192x8x64_S16384x8x1x64⟩,
        ⟨S16384x8x1x64, shapeCast S16384x8x1x64 (av m c) shapeCasts_S2x8192x8x64_S16384x8x1x64⟩]
      concatenates_S16384x8x1x64_S16384x8x1x64_S16384x8x2x64_d2) shapeCasts_S16384x8x2x64_S16384x1024) bitsLt_bf16_f32 := by
    unfold V; after_results; rfl
  rw [e']
  exact dup_apply (N := 8192) (R := 16384) rfl (av m c) _ concatenates_S16384x8x1x64_S16384x8x1x64_S16384x8x2x64_d2 _ b n hh s e r l hr hl

/-- The context's keys as the kernel reads them. -/
theorem V_ctxKey (b : Fin 2) (n : Fin 256) (hh : Fin 8) (s : Fin 2) (e : Fin 64) (r : Fin 512) (l : Fin 1024)
    (hr : r.val = 256 * b.val + n.val) (hl : l.val = 128 * hh.val + 64 * s.val + e.val) :
    V m c main_v17 (ix2 r l) = akc m c (ix4 b n hh e) := by
  have e' : V m c main_v17 = truncf (F := Ideal) .bf16 (shapeCast S512x1024 (concatenate S512x8x2x64 2
      [⟨S512x8x1x64, shapeCast S512x8x1x64 (akc m c) shapeCasts_S2x256x8x64_S512x8x1x64⟩,
        ⟨S512x8x1x64, shapeCast S512x8x1x64 (akc m c) shapeCasts_S2x256x8x64_S512x8x1x64⟩]
      concatenates_S512x8x1x64_S512x8x1x64_S512x8x2x64_d2) shapeCasts_S512x8x2x64_S512x1024) bitsLt_bf16_f32 := by
    unfold V; after_results; rfl
  rw [e']
  exact dup_apply (N := 256) (R := 512) rfl (akc m c) _ concatenates_S512x8x1x64_S512x8x1x64_S512x8x2x64_d2 _ b n hh s e r l hr hl

/-- The context's values as the kernel reads them. -/
theorem V_ctxValue (b : Fin 2) (n : Fin 256) (hh : Fin 8) (s : Fin 2) (e : Fin 64) (r : Fin 512) (l : Fin 1024)
    (hr : r.val = 256 * b.val + n.val) (hl : l.val = 128 * hh.val + 64 * s.val + e.val) :
    V m c main_v21 (ix2 r l) = avc m c (ix4 b n hh e) := by
  have e' : V m c main_v21 = truncf (F := Ideal) .bf16 (shapeCast S512x1024 (concatenate S512x8x2x64 2
      [⟨S512x8x1x64, shapeCast S512x8x1x64 (avc m c) shapeCasts_S2x256x8x64_S512x8x1x64⟩,
        ⟨S512x8x1x64, shapeCast S512x8x1x64 (avc m c) shapeCasts_S2x256x8x64_S512x8x1x64⟩]
      concatenates_S512x8x1x64_S512x8x1x64_S512x8x2x64_d2) shapeCasts_S512x8x2x64_S512x1024) bitsLt_bf16_f32 := by
    unfold V; after_results; rfl
  rw [e']
  exact dup_apply (N := 256) (R := 512) rfl (avc m c) _ concatenates_S512x8x1x64_S512x8x1x64_S512x8x2x64_d2 _ b n hh s e r l hr hl

end Cert.KernelIdeal.Attn
-- ==== Proof.Spec.lean ====
/-
  The layer's attention as one formula over the arrays' entries: each query attends to the keys of its own batch within 128
  places of it and to the context's, with the head's sink in the softmax's denominator, and the result is gated.
-/
module

public import proofs.«01_k».proof.Proof.Soft
public import Idealize.ShloMosaic.Lib.Pointwise

@[expose] public section

noncomputable section

open Idealize.ShloMosaic

namespace Cert.Spec

/-- Two batches of `N` rows of `H` heads of 64 lanes. -/
abbrev Heads (N H : Nat) := (⟨4, ![2, N, H, 64]⟩ : Shape).Idx → EReal

/-- One head's rows: the sequence's, then the context's. -/
def row (f : Heads 8192 8) (g : Heads 256 8) (b : Fin 2) (hh : Fin 8) (e : Fin 64) (j : Fin 8448) : EReal :=
  if h : j.val < 8192 then f (ix4 b ⟨j.val, h⟩ hh e) else g (ix4 b ⟨j.val - 8192, by omega⟩ hh e)

/-- Whether query `n` attends to row `j`: within 128 places, or in the context. -/
def near (n : Fin 8192) (j : Fin 8448) : Prop := j.val < 8192 → n.val ≤ j.val + 128 ∧ j.val ≤ n.val + 128

instance (n : Fin 8192) (j : Fin 8448) : Decidable (near n j) := by unfold near; infer_instance

/-- The key head of a query head: eight query heads share one. -/
def grp (h : Fin 64) : Fin 8 := ⟨h.val / 8, by omega⟩

/-- The score of query `(b, n, h)` against row `j`. -/
def score (q : Heads 8192 64) (k : Heads 8192 8) (kc : Heads 256 8) (b : Fin 2) (n : Fin 8192) (h : Fin 64) (j : Fin 8448) : ℝ :=
  (∑ e : Fin 64, (q (ix4 b n h e)).toReal * (row k kc b (grp h) e j).toReal) * (1 / 8)

/-- Lane `e` of the gated attention of query `(b, n, h)`. -/
def attn (q : Heads 8192 64) (k v : Heads 8192 8) (kc vc : Heads 256 8) (z : (⟨3, ![2, 8192, 4096]⟩ : Shape).Idx → EReal)
    (s : (⟨1, ![64]⟩ : Shape).Idx → EReal) (b : Fin 2) (n : Fin 8192) (h e : Fin 64) : EReal :=
  Soft.soft (near n) (score q k kc b n h) (s (ix1 h)).toReal (row v vc b (grp h) e) * z (ix3 b n ⟨64 * h.val + e.val, by omega⟩)

/-- An array all of whose entries are real. -/
def AllReal {ι : Type} (f : ι → EReal) : Prop := ∀ i, f i = ((f i).toReal : EReal)

theorem row_real {f : Heads 8192 8} {g : Heads 256 8} (hf : AllReal f) (hg : AllReal g) (b : Fin 2) (hh : Fin 8) (e : Fin 64) (j : Fin 8448) :
    row f g b hh e j = ((row f g b hh e j).toReal : EReal) := by
  unfold row; split
  · exact hf _
  · exact hg _

end Cert.Spec
-- ==== Proof.Array.lean ====
/-
  The kernel's result array over the extended reals: at every index it holds the layer's gated attention (Spec.lean).
-/
module

public import proofs.«01_k».proof.Proof.Host
public import proofs.«01_k».proof.Proof.Spec

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-! ## The blocks that each grid point reads -/

theorem index_q : ∀ t : Fin grid0.N, win0_1.index t 0 = t.val ∧ win0_1.index t 1 = 0 := by decide +kernel
theorem index_z : ∀ t : Fin grid0.N, win0_10.index t 0 = t.val ∧ win0_10.index t 1 = 0 := by decide +kernel
theorem index_o : ∀ t : Fin grid0.N, win0_11.index t 0 = t.val ∧ win0_11.index t 1 = 0 := by decide +kernel
theorem index_s : ∀ t : Fin grid0.N, win0_0.index t 0 = 0 ∧ win0_0.index t 1 = 0 := by decide +kernel
theorem index_k0 : ∀ t : Fin grid0.N, win0_2.index t 0 = 64 * (t.val / 64) + (t.val % 64 - 1) ∧ win0_2.index t 1 = 0 := by decide +kernel
theorem index_k1 : ∀ t : Fin grid0.N, win0_3.index t 0 = 64 * (t.val / 64) + t.val % 64 ∧ win0_3.index t 1 = 0 := by decide +kernel
theorem index_k2 : ∀ t : Fin grid0.N, win0_4.index t 0 = 64 * (t.val / 64) + min 63 (t.val % 64 + 1) ∧ win0_4.index t 1 = 0 := by decide +kernel
theorem index_kc : ∀ t : Fin grid0.N, win0_5.index t 0 = t.val / 64 ∧ win0_5.index t 1 = 0 := by decide +kernel
theorem index_v0 : ∀ t : Fin grid0.N, win0_6.index t 0 = 64 * (t.val / 64) + (t.val % 64 - 1) ∧ win0_6.index t 1 = 0 := by decide +kernel
theorem index_v1 : ∀ t : Fin grid0.N, win0_7.index t 0 = 64 * (t.val / 64) + t.val % 64 ∧ win0_7.index t 1 = 0 := by decide +kernel
theorem index_v2 : ∀ t : Fin grid0.N, win0_8.index t 0 = 64 * (t.val / 64) + min 63 (t.val % 64 + 1) ∧ win0_8.index t 1 = 0 := by decide +kernel
theorem index_vc : ∀ t : Fin grid0.N, win0_9.index t 0 = t.val / 64 ∧ win0_9.index t 1 = 0 := by decide +kernel
theorem coords_2 : ∀ t : Fin grid0.N, (grid0.coords t 2).val = t.val % 64 := by decide +kernel

variable (m : (ℓ : Loc nD τ sig) → Buf (Elt Ideal) ℓ) (c : Dev nD)

/-- The sinks at a grid point. -/
theorem blk_s (t : Fin cfg0.N) (r : Fin 8) (l : Fin 8) (g : Fin 8) (hg : g.val = (win0_0.index t 0) * 8 + r.val) :
    iblk m c 0 t (ix2 r l) = V m c main_v24 (ix2 g l) := by
  have hi := index_s t
  have key : ∀ X : Buf (Elt Ideal) ((c : Thread nD τ).loc main_v24), ((cfg0.win 0).blk t).view.read (Elt Ideal) X (ix2 r l) = X (ix2 g l) := by
    intro X
    rw [View.read_apply]
    show X _ = _
    congr 1
    funext a
    apply Fin.ext
    match a with
    | ⟨0, _⟩ => show win0_0.index t 0 * 8 + 1 * r.val = g.val; omega
    | ⟨1, _⟩ => show win0_0.index t 1 * 8 + 1 * l.val = l.val; rw [hi.2]; omega
  exact key (V m c main_v24)

/-- The queries' block. -/
theorem blk_q (t : Fin cfg0.N) (r : Fin 128) (l : Fin 4096) (g : Fin 16384) (hg : g.val = (win0_1.index t 0) * 128 + r.val) :
    iblk m c 1 t (ix2 r l) = V m c main_v5 (ix2 g l) := by
  have hi := index_q t
  have key : ∀ X : Buf (Elt Ideal) ((c : Thread nD τ).loc main_v5), ((cfg0.win 1).blk t).view.read (Elt Ideal) X (ix2 r l) = X (ix2 g l) := by
    intro X
    rw [View.read_apply]
    show X _ = _
    congr 1
    funext a
    apply Fin.ext
    match a with
    | ⟨0, _⟩ => show win0_1.index t 0 * 128 + 1 * r.val = g.val; omega
    | ⟨1, _⟩ => show win0_1.index t 1 * 4096 + 1 * l.val = l.val; rw [hi.2]; omega
  exact key (V m c main_v5)

/-- The keys' block before. -/
theorem blk_k0 (t : Fin cfg0.N) (r : Fin 128) (l : Fin 1024) (g : Fin 16384) (hg : g.val = (win0_2.index t 0) * 128 + r.val) :
    iblk m c 2 t (ix2 r l) = V m c main_v9 (ix2 g l) := by
  have hi := index_k0 t
  have key : ∀ X : Buf (Elt Ideal) ((c : Thread nD τ).loc main_v9), ((cfg0.win 2).blk t).view.read (Elt Ideal) X (ix2 r l) = X (ix2 g l) := by
    intro X
    rw [View.read_apply]
    show X _ = _
    congr 1
    funext a
    apply Fin.ext
    match a with
    | ⟨0, _⟩ => show win0_2.index t 0 * 128 + 1 * r.val = g.val; omega
    | ⟨1, _⟩ => show win0_2.index t 1 * 1024 + 1 * l.val = l.val; rw [hi.2]; omega
  exact key (V m c main_v9)

/-- The keys' own block. -/
theorem blk_k1 (t : Fin cfg0.N) (r : Fin 128) (l : Fin 1024) (g : Fin 16384) (hg : g.val = (win0_3.index t 0) * 128 + r.val) :
    iblk m c 3 t (ix2 r l) = V m c main_v9 (ix2 g l) := by
  have hi := index_k1 t
  have key : ∀ X : Buf (Elt Ideal) ((c : Thread nD τ).loc main_v9), ((cfg0.win 3).blk t).view.read (Elt Ideal) X (ix2 r l) = X (ix2 g l) := by
    intro X
    rw [View.read_apply]
    show X _ = _
    congr 1
    funext a
    apply Fin.ext
    match a with
    | ⟨0, _⟩ => show win0_3.index t 0 * 128 + 1 * r.val = g.val; omega
    | ⟨1, _⟩ => show win0_3.index t 1 * 1024 + 1 * l.val = l.val; rw [hi.2]; omega
  exact key (V m c main_v9)

/-- The keys' block after. -/
theorem blk_k2 (t : Fin cfg0.N) (r : Fin 128) (l : Fin 1024) (g : Fin 16384) (hg : g.val = (win0_4.index t 0) * 128 + r.val) :
    iblk m c 4 t (ix2 r l) = V m c main_v9 (ix2 g l) := by
  have hi := index_k2 t
  have key : ∀ X : Buf (Elt Ideal) ((c : Thread nD τ).loc main_v9), ((cfg0.win 4).blk t).view.read (Elt Ideal) X (ix2 r l) = X (ix2 g l) := by
    intro X
    rw [View.read_apply]
    show X _ = _
    congr 1
    funext a
    apply Fin.ext
    match a with
    | ⟨0, _⟩ => show win0_4.index t 0 * 128 + 1 * r.val = g.val; omega
    | ⟨1, _⟩ => show win0_4.index t 1 * 1024 + 1 * l.val = l.val; rw [hi.2]; omega
  exact key (V m c main_v9)

/-- The context's keys. -/
theorem blk_kc (t : Fin cfg0.N) (r : Fin 256) (l : Fin 1024) (g : Fin 512) (hg : g.val = (win0_5.index t 0) * 256 + r.val) :
    iblk m c 5 t (ix2 r l) = V m c main_v17 (ix2 g l) := by
  have hi := index_kc t
  have key : ∀ X : Buf (Elt Ideal) ((c : Thread nD τ).loc main_v17), ((cfg0.win 5).blk t).view.read (Elt Ideal) X (ix2 r l) = X (ix2 g l) := by
    intro X
    rw [View.read_apply]
    show X _ = _
    congr 1
    funext a
    apply Fin.ext
    match a with
    | ⟨0, _⟩ => show win0_5.index t 0 * 256 + 1 * r.val = g.val; omega
    | ⟨1, _⟩ => show win0_5.index t 1 * 1024 + 1 * l.val = l.val; rw [hi.2]; omega
  exact key (V m c main_v17)

/-- The values' block before. -/
theorem blk_v0 (t : Fin cfg0.N) (r : Fin 128) (l : Fin 1024) (g : Fin 16384) (hg : g.val = (win0_6.index t 0) * 128 + r.val) :
    iblk m c 6 t (ix2 r l) = V m c main_v13 (ix2 g l) := by
  have hi := index_v0 t
  have key : ∀ X : Buf (Elt Ideal) ((c : Thread nD τ).loc main_v13), ((cfg0.win 6).blk t).view.read (Elt Ideal) X (ix2 r l) = X (ix2 g l) := by
    intro X
    rw [View.read_apply]
    show X _ = _
    congr 1
    funext a
    apply Fin.ext
    match a with
    | ⟨0, _⟩ => show win0_6.index t 0 * 128 + 1 * r.val = g.val; omega
    | ⟨1, _⟩ => show win0_6.index t 1 * 1024 + 1 * l.val = l.val; rw [hi.2]; omega
  exact key (V m c main_v13)

/-- The values' own block. -/
theorem blk_v1 (t : Fin cfg0.N) (r : Fin 128) (l : Fin 1024) (g : Fin 16384) (hg : g.val = (win0_7.index t 0) * 128 + r.val) :
    iblk m c 7 t (ix2 r l) = V m c main_v13 (ix2 g l) := by
  have hi := index_v1 t
  have key : ∀ X : Buf (Elt Ideal) ((c : Thread nD τ).loc main_v13), ((cfg0.win 7).blk t).view.read (Elt Ideal) X (ix2 r l) = X (ix2 g l) := by
    intro X
    rw [View.read_apply]
    show X _ = _
    congr 1
    funext a
    apply Fin.ext
    match a with
    | ⟨0, _⟩ => show win0_7.index t 0 * 128 + 1 * r.val = g.val; omega
    | ⟨1, _⟩ => show win0_7.index t 1 * 1024 + 1 * l.val = l.val; rw [hi.2]; omega
  exact key (V m c main_v13)

/-- The values' block after. -/
theorem blk_v2 (t : Fin cfg0.N) (r : Fin 128) (l : Fin 1024) (g : Fin 16384) (hg : g.val = (win0_8.index t 0) * 128 + r.val) :
    iblk m c 8 t (ix2 r l) = V m c main_v13 (ix2 g l) := by
  have hi := index_v2 t
  have key : ∀ X : Buf (Elt Ideal) ((c : Thread nD τ).loc main_v13), ((cfg0.win 8).blk t).view.read (Elt Ideal) X (ix2 r l) = X (ix2 g l) := by
    intro X
    rw [View.read_apply]
    show X _ = _
    congr 1
    funext a
    apply Fin.ext
    match a with
    | ⟨0, _⟩ => show win0_8.index t 0 * 128 + 1 * r.val = g.val; omega
    | ⟨1, _⟩ => show win0_8.index t 1 * 1024 + 1 * l.val = l.val; rw [hi.2]; omega
  exact key (V m c main_v13)

/-- The context's values. -/
theorem blk_vc (t : Fin cfg0.N) (r : Fin 256) (l : Fin 1024) (g : Fin 512) (hg : g.val = (win0_9.index t 0) * 256 + r.val) :
    iblk m c 9 t (ix2 r l) = V m c main_v21 (ix2 g l) := by
  have hi := index_vc t
  have key : ∀ X : Buf (Elt Ideal) ((c : Thread nD τ).loc main_v21), ((cfg0.win 9).blk t).view.read (Elt Ideal) X (ix2 r l) = X (ix2 g l) := by
    intro X
    rw [View.read_apply]
    show X _ = _
    congr 1
    funext a
    apply Fin.ext
    match a with
    | ⟨0, _⟩ => show win0_9.index t 0 * 256 + 1 * r.val = g.val; omega
    | ⟨1, _⟩ => show win0_9.index t 1 * 1024 + 1 * l.val = l.val; rw [hi.2]; omega
  exact key (V m c main_v21)

/-- The gate's block. -/
theorem blk_z (t : Fin cfg0.N) (r : Fin 128) (l : Fin 4096) (g : Fin 16384) (hg : g.val = (win0_10.index t 0) * 128 + r.val) :
    iblk m c 10 t (ix2 r l) = V m c main_v23 (ix2 g l) := by
  have hi := index_z t
  have key : ∀ X : Buf (Elt Ideal) ((c : Thread nD τ).loc main_v23), ((cfg0.win 10).blk t).view.read (Elt Ideal) X (ix2 r l) = X (ix2 g l) := by
    intro X
    rw [View.read_apply]
    show X _ = _
    congr 1
    funext a
    apply Fin.ext
    match a with
    | ⟨0, _⟩ => show win0_10.index t 0 * 128 + 1 * r.val = g.val; omega
    | ⟨1, _⟩ => show win0_10.index t 1 * 4096 + 1 * l.val = l.val; rw [hi.2]; omega
  exact key (V m c main_v23)

/-! ## Slots and rows -/

/-- The row of slot `j` for query block `i`. -/
def keyOf (i : Nat) (hi : i < 64) (j : Fin 640) : Fin 8448 :=
  if h : j.val < 128 then ⟨128 * (i - 1) + j.val, by omega⟩
  else if h : j.val < 256 then ⟨128 * i + (j.val - 128), by omega⟩
  else if h : j.val < 384 then ⟨128 * min 63 (i + 1) + (j.val - 256), by omega⟩
  else ⟨8192 + (j.val - 384), by omega⟩

/-- The slot of a row that query block `i` sees. -/
def slotOf (i : Nat) (k : Fin 8448) : Fin 640 :=
  if k.val < 8192 then ⟨(k.val + 128 - 128 * i) % 384, by omega⟩ else ⟨384 + (k.val - 8192), by omega⟩

theorem keyOf_val (i : Nat) (hi : i < 64) (j : Fin 640) : (keyOf i hi j).val =
    if j.val < 128 then 128 * (i - 1) + j.val else if j.val < 256 then 128 * i + (j.val - 128)
    else if j.val < 384 then 128 * min 63 (i + 1) + (j.val - 256) else 8192 + (j.val - 384) := by
  unfold keyOf; split_ifs <;> rfl

theorem slotOf_val (i : Nat) (k : Fin 8448) : (slotOf i k).val =
    if k.val < 8192 then (k.val + 128 - 128 * i) % 384 else 384 + (k.val - 8192) := by
  unfold slotOf; split_ifs <;> rfl

theorem near_keyOf (i : Nat) (hi : i < 64) (r : Fin 128) (n : Fin 8192) (hn : n.val = 128 * i + r.val) (j : Fin 640) (h : vis i r j) :
    Spec.near n (keyOf i hi j) := by
  unfold vis at h; unfold Spec.near; rw [keyOf_val, hn]; split_ifs <;> omega

theorem vis_slotOf (i : Nat) (hi : i < 64) (r : Fin 128) (n : Fin 8192) (hn : n.val = 128 * i + r.val) (k : Fin 8448) (h : Spec.near n k) :
    vis i r (slotOf i k) := by
  unfold Spec.near at h; unfold vis; rw [slotOf_val]; rw [hn] at h
  have := r.isLt
  split_ifs with hk
  · have h' := h hk
    have e : (k.val + 128 - 128 * i) % 384 = k.val + 128 - 128 * i := Nat.mod_eq_of_lt (by omega)
    rw [e]; omega
  · omega

theorem slotOf_keyOf (i : Nat) (hi : i < 64) (r : Fin 128) (j : Fin 640) (h : vis i r j) : slotOf i (keyOf i hi j) = j := by
  apply Fin.ext
  unfold vis at h
  rw [slotOf_val, keyOf_val]
  split_ifs <;> omega

theorem keyOf_slotOf (i : Nat) (hi : i < 64) (r : Fin 128) (n : Fin 8192) (hn : n.val = 128 * i + r.val) (k : Fin 8448) (h : Spec.near n k) :
    keyOf i hi (slotOf i k) = k := by
  apply Fin.ext
  unfold Spec.near at h; rw [hn] at h
  have := r.isLt
  rw [keyOf_val, slotOf_val]
  by_cases hk : k.val < 8192
  · have h' := h hk
    have e : (k.val + 128 - 128 * i) % 384 = k.val + 128 - 128 * i := Nat.mod_eq_of_lt (by omega)
    rw [if_pos hk, e]; split_ifs <;> omega
  · rw [if_neg hk]; split_ifs <;> omega

/-- The keys' rows at a grid point. -/
theorem rows_key (t : Fin cfg0.N) (b : Fin 2) (i : Nat) (hi : i < 64) (ht : t.val = 64 * b.val + i) (hh : Fin 8) (s : Fin 2) (e : Fin 64)
    (j : Fin 640) (l : Fin 1024) (hl : l.val = 128 * hh.val + 64 * s.val + e.val) :
    rows640 (iblk m c 2 t) (iblk m c 3 t) (iblk m c 4 t) (iblk m c 5 t) j l = Spec.row (ak m c) (akc m c) b hh e (keyOf i hi j) := by
  have h0 := (index_k0 t).1
  have h1 := (index_k1 t).1
  have h2 := (index_k2 t).1
  have h3 := (index_kc t).1
  have hk := keyOf_val i hi j
  unfold rows640 Spec.row
  have e1 : t.val / 64 = b.val := by omega
  have e2 : t.val % 64 = i := by omega
  rw [e1] at h0 h1 h2 h3
  rw [e2] at h0 h1 h2
  by_cases c0 : j.val < 128
  · rw [if_pos c0] at hk
    rw [dif_pos c0, dif_pos (by omega), blk_k0 m c t _ l ⟨8192 * b.val + (keyOf i hi j).val, by omega⟩ (by show 8192 * b.val + (keyOf i hi j).val = _ * 128 + j.val; omega)]
    exact V_key m c b _ hh s e _ l rfl hl
  · rw [if_neg c0] at hk
    rw [dif_neg c0]
    by_cases c1 : j.val < 256
    · rw [if_pos c1] at hk
      rw [dif_pos c1, dif_pos (by omega), blk_k1 m c t _ l ⟨8192 * b.val + (keyOf i hi j).val, by omega⟩ (by show 8192 * b.val + (keyOf i hi j).val = _ * 128 + (j.val - 128); omega)]
      exact V_key m c b _ hh s e _ l rfl hl
    · rw [if_neg c1] at hk
      rw [dif_neg c1]
      by_cases c2 : j.val < 384
      · rw [if_pos c2] at hk
        rw [dif_pos c2, dif_pos (by omega), blk_k2 m c t _ l ⟨8192 * b.val + (keyOf i hi j).val, by omega⟩ (by show 8192 * b.val + (keyOf i hi j).val = _ * 128 + (j.val - 256); omega)]
        exact V_key m c b _ hh s e _ l rfl hl
      · rw [if_neg c2] at hk
        rw [dif_neg c2, dif_neg (by omega), blk_kc m c t _ l ⟨256 * b.val + ((keyOf i hi j).val - 8192), by omega⟩ (by show 256 * b.val + ((keyOf i hi j).val - 8192) = _ * 256 + (j.val - 384); omega)]
        exact V_ctxKey m c b _ hh s e _ l rfl hl

/-- The values' rows at a grid point. -/
theorem rows_value (t : Fin cfg0.N) (b : Fin 2) (i : Nat) (hi : i < 64) (ht : t.val = 64 * b.val + i) (hh : Fin 8) (s : Fin 2) (e : Fin 64)
    (j : Fin 640) (l : Fin 1024) (hl : l.val = 128 * hh.val + 64 * s.val + e.val) :
    rows640 (iblk m c 6 t) (iblk m c 7 t) (iblk m c 8 t) (iblk m c 9 t) j l = Spec.row (av m c) (avc m c) b hh e (keyOf i hi j) := by
  have h0 := (index_v0 t).1
  have h1 := (index_v1 t).1
  have h2 := (index_v2 t).1
  have h3 := (index_vc t).1
  have hk := keyOf_val i hi j
  unfold rows640 Spec.row
  have e1 : t.val / 64 = b.val := by omega
  have e2 : t.val % 64 = i := by omega
  rw [e1] at h0 h1 h2 h3
  rw [e2] at h0 h1 h2
  by_cases c0 : j.val < 128
  · rw [if_pos c0] at hk
    rw [dif_pos c0, dif_pos (by omega), blk_v0 m c t _ l ⟨8192 * b.val + (keyOf i hi j).val, by omega⟩ (by show 8192 * b.val + (keyOf i hi j).val = _ * 128 + j.val; omega)]
    exact V_value m c b _ hh s e _ l rfl hl
  · rw [if_neg c0] at hk
    rw [dif_neg c0]
    by_cases c1 : j.val < 256
    · rw [if_pos c1] at hk
      rw [dif_pos c1, dif_pos (by omega), blk_v1 m c t _ l ⟨8192 * b.val + (keyOf i hi j).val, by omega⟩ (by show 8192 * b.val + (keyOf i hi j).val = _ * 128 + (j.val - 128); omega)]
      exact V_value m c b _ hh s e _ l rfl hl
    · rw [if_neg c1] at hk
      rw [dif_neg c1]
      by_cases c2 : j.val < 384
      · rw [if_pos c2] at hk
        rw [dif_pos c2, dif_pos (by omega), blk_v2 m c t _ l ⟨8192 * b.val + (keyOf i hi j).val, by omega⟩ (by show 8192 * b.val + (keyOf i hi j).val = _ * 128 + (j.val - 256); omega)]
        exact V_value m c b _ hh s e _ l rfl hl
      · rw [if_neg c2] at hk
        rw [dif_neg c2, dif_neg (by omega), blk_vc m c t _ l ⟨256 * b.val + ((keyOf i hi j).val - 8192), by omega⟩ (by show 256 * b.val + ((keyOf i hi j).val - 8192) = _ * 256 + (j.val - 384); omega)]
        exact V_ctxValue m c b _ hh s e _ l rfl hl

/-! ## The result -/

/-- What the kernel's result array holds. -/
def result : S16384x4096.Idx → EReal := fun x =>
  Spec.attn (aq m c) (ak m c) (av m c) (akc m c) (avc m c) (az m c) (asink m c)
    ⟨(x 0).val / 8192, by have : (x 0).val < 16384 := (x 0).isLt; omega⟩ ⟨(x 0).val % 8192, by omega⟩
    ⟨(x 1).val / 64, by have : (x 1).val < 4096 := (x 1).isLt; omega⟩ ⟨(x 1).val % 64, by omega⟩

theorem result_apply (b : Fin 2) (n : Fin 8192) (h e : Fin 64) (g : Fin 16384) (l : Fin 4096) (hg : g.val = 8192 * b.val + n.val)
    (hl : l.val = 64 * h.val + e.val) :
    result m c (ix2 g l) = Spec.attn (aq m c) (ak m c) (av m c) (akc m c) (avc m c) (az m c) (asink m c) b n h e := by
  unfold result
  have e1 : (⟨g.val / 8192, by omega⟩ : Fin 2) = b := Fin.ext (by show g.val / 8192 = _; omega)
  have e2 : (⟨g.val % 8192, by omega⟩ : Fin 8192) = n := Fin.ext (by show g.val % 8192 = _; omega)
  have e3 : (⟨l.val / 64, by omega⟩ : Fin 64) = h := Fin.ext (by show l.val / 64 = _; omega)
  have e4 : (⟨l.val % 64, by omega⟩ : Fin 64) = e := Fin.ext (by show l.val % 64 = _; omega)
  show Spec.attn _ _ _ _ _ _ _ (⟨g.val / 8192, _⟩ : Fin 2) (⟨g.val % 8192, _⟩ : Fin 8192) (⟨l.val / 64, _⟩ : Fin 64) (⟨l.val % 64, _⟩ : Fin 64) = _
  rw [e1, e2, e3, e4]

variable (hq : Spec.AllReal (aq m c)) (hk : Spec.AllReal (ak m c)) (hkc : Spec.AllReal (akc m c)) (hs : Spec.AllReal (asink m c))

include hq hk hkc hs

/-- WHAT A GRID POINT LEAVES in the output's block: the layer's gated attention of its rows. -/
theorem outs_apply (t : Fin cfg0.N) (b : Fin 2) (i : Nat) (hi : i < 64) (ht : t.val = 64 * b.val + i) (r : Fin 128) (h e : Fin 64)
    (n : Fin 8192) (hn : n.val = 128 * i + r.val) (l : Fin 4096) (hl : l.val = 64 * h.val + e.val) :
    outsAt0 m c t (ix2 r l) = Spec.attn (aq m c) (ak m c) (av m c) (akc m c) (avc m c) (az m c) (asink m c) b n h e := by
  obtain ⟨hh, tt, s, hd⟩ : ∃ (hh : Fin 8) (tt : Fin 4) (s : Fin 2), h.val = 8 * hh.val + 2 * tt.val + s.val :=
    ⟨⟨h.val / 8, by omega⟩, ⟨h.val % 8 / 2, by omega⟩, ⟨h.val % 2, by omega⟩, by dsimp only; omega⟩
  have hg : Spec.grp h = hh := Fin.ext (by show h.val / 8 = _; omega)
  let ll : Fin 128 := ⟨64 * s.val + e.val, by omega⟩
  have hll : ll.val / 64 = s.val := by show (64 * s.val + e.val) / 64 = _; omega
  have hlv : ll.val = 64 * s.val + e.val := rfl
  have hl' : l = ⟨512 * hh.val + 128 * tt.val + ll.val, by omega⟩ := Fin.ext (by dsimp only; omega)
  rw [hl']
  have hrow : ∀ j, Spec.score (aq m c) (ak m c) (akc m c) b n h (keyOf i hi j) * (Real.log 2)⁻¹
      = ∑ e : Fin 64, ((aq m c (ix4 b n h e)).toReal * (1 / 8 * (Real.log 2)⁻¹)) * (Spec.row (ak m c) (akc m c) b hh e (keyOf i hi j)).toReal := by
    intro j
    unfold Spec.score
    rw [hg, Finset.sum_mul, Finset.sum_mul]
    exact Finset.sum_congr rfl fun e _ => by ring
  have hblk := block_soft c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
    i (by rw [coords_2 t]; omega) hh tt r ll
    (fun j => Spec.score (aq m c) (ak m c) (akc m c) b n h (keyOf i hi j)) (asink m c (ix1 h)).toReal
  refine (hblk ?_ ?_).trans ?_
  · intro j
    rw [hrow, Soft.coe_sum]
    refine Finset.sum_congr rfl fun e _ => ?_
    refine (congrArg₂ (fun x y : EReal => x * y)
        ((blk_q m c t r _ ⟨8192 * b.val + n.val, by omega⟩ (by rw [(index_q t).1]; dsimp only; omega)).trans
          (V_query m c b n h e _ _ rfl (by dsimp only; omega)))
      (rows_key m c t b i hi ht hh s e j _ (by dsimp only; omega))).trans ?_
    rw [EReal.coe_mul (_ * _) (EReal.toReal _), EReal.coe_mul (EReal.toReal _) _, ← hq, ← Spec.row_real hk hkc]
  · refine ((blk_s m c t hh _ hh (by rw [(index_s t).1]; omega)).trans (V_sink m c hh _)).trans ?_
    rw [← hs]
    exact congrArg (fun a => asink m c (ix1 a)) (Fin.ext (by dsimp only; omega))
  · unfold Spec.attn
    refine congrArg₂ (fun x y : EReal => x * y) ?_
      (((blk_z m c t r _ ⟨8192 * b.val + n.val, by omega⟩ (by rw [(index_z t).1]; dsimp only; omega)).trans
        (V_gate m c b n _ _ rfl)).trans (congrArg (fun a => az m c (ix3 b n a)) (Fin.ext (hl'.symm ▸ hl))))
    rw [hg]
    exact Soft.soft_congr (keyOf i hi) (slotOf i) (near_keyOf i hi r n hn) (vis_slotOf i hi r n hn) (slotOf_keyOf i hi r)
      (keyOf_slotOf i hi r n hn) (fun _ _ => rfl)
      (fun j _ => rows_value m c t b i hi ht hh s e j _ (by dsimp only; omega)) rfl

omit hq hk hkc hs in
/-- Every index of the result lies in its row block's point's block. -/
theorem mem_blk (t : Fin cfg0.N) (x : main_v25.ty.shape.Idx) (ht : (x 0).val / 128 = t.val) : x ∈ ((cfg0.win 11).blk t).view.set := by
  show x ∈ ((View.whole main_v25).slice (win0_11.rect t)).set
  have h0 : (x 0).val < 16384 := (x 0).isLt
  have h1 : (x 1).val < 4096 := (x 1).isLt
  rw [View.set_slice_whole, Rect.mem_set_unit]
  have hi := index_o t
  intro a
  match a with
  | ⟨0, _⟩ => show win0_11.index t 0 * 128 ≤ (x 0).val ∧ (x 0).val < win0_11.index t 0 * 128 + 128; rw [hi.1]; omega
  | ⟨1, _⟩ => show win0_11.index t 1 * 4096 ≤ (x 1).val ∧ (x 1).val < win0_11.index t 1 * 4096 + 4096; rw [hi.2]; omega

/-- THE RESULT ARRAY after the run. -/
theorem final : (dats m 0 c).arrAt 11 cfg0.N = result m c := by
  refine (dats m 0 c).arrAt_eq_of_cover 11 (result m c) (fun t _ => ?_) fun x => ?_
  · rw [Value.flushed11]
    funext j
    have hN : t.val < 128 := t.isLt
    have hi := index_o t
    have hj : j = ix2 (n0 := 128) (n1 := 4096) (j 0) (j 1) := eq_ix2 j
    have h0 : (j 0).val < 128 := (j 0).isLt
    have h1 : (j 1).val < 4096 := (j 1).isLt
    rw [View.read_apply]
    show outsAt0 m c t j = result m c _
    rw [hj, outs_apply m c hq hk hkc hs t ⟨t.val / 64, by omega⟩ (t.val % 64) (by omega) (by dsimp only; omega) (j 0) ⟨(j 1).val / 64, by omega⟩ ⟨(j 1).val % 64, by omega⟩
      ⟨128 * (t.val % 64) + (j 0).val, by omega⟩ rfl (j 1) (by dsimp only; omega)]
    rw [← result_apply m c _ _ _ _ ⟨128 * t.val + (j 0).val, by omega⟩ (j 1) (by dsimp only; omega) (by dsimp only; omega)]
    congr 1
    funext a
    apply Fin.ext
    match a with
    | ⟨0, _⟩ => show 128 * t.val + (j 0).val = win0_11.index t 0 * 128 + 1 * (j 0).val; omega
    | ⟨1, _⟩ => show (j 1).val = win0_11.index t 1 * 4096 + 1 * (j 1).val; omega
  · have h0 : (x 0).val < 16384 := (x 0).isLt
    exact ⟨⟨(x 0).val / 128, by show _ < 128; omega⟩, flush0_11 _, mem_blk _ x rfl⟩

end Cert.KernelIdeal.Attn
-- ==== Proof.Ref.lean ====
/-
  The reference's result, read at an index from its arguments: it is the attention's formula.
-/
module

public import proofs.«01_k».proof.Proof.Spec
public import proofs.«01_k».proof.Proof.Consts
public import proofs.«01_k».proof.Proof.Gen.ReferenceIdeal.Read
public import Idealize.ShloMosaic.Lib.Pointwise
public import Idealize.ShloMosaic.Lib.WordCmp

@[expose] public section

noncomputable section

namespace Cert.ReferenceIdeal.Attn

open Cert.ReferenceIdeal Cert.ReferenceIdeal.Gen Cert.ReferenceIdeal.Read Idealize.ShloMosaic

/-! ## A maximum that is real -/

/-- Folding the maximum keeps the greatest element away when it is neither in the list nor the start. -/
theorem foldl_max_ne_top {ι : Type} (f : ι → EReal) (hf : ∀ i, f i ≠ ⊤) (l : List ι) :
    ∀ b : EReal, b ≠ ⊤ → l.foldl (fun r n => max r (f n)) b ≠ ⊤ := by
  induction l with
  | nil => intro b hb; exact hb
  | cons a l ih =>
    intro b hb
    refine ih _ ?_
    rw [ne_eq, max_eq_top, not_or]
    exact ⟨hb, hf a⟩

/-- The fold of the maximum is at least its start. -/
theorem le_foldl_max {ι : Type} (f : ι → EReal) (l : List ι) :
    ∀ b : EReal, b ≤ l.foldl (fun r n => max r (f n)) b := by
  induction l with
  | nil => intro b; exact le_refl _
  | cons a l ih => intro b; exact (le_max_left _ _).trans (ih _)

/-- The fold of the maximum is at least each of its list's elements. -/
theorem mem_le_foldl_max {ι : Type} (f : ι → EReal) (i : ι) (l : List ι) :
    ∀ b : EReal, i ∈ l → f i ≤ l.foldl (fun r n => max r (f n)) b := by
  induction l with
  | nil => intro b h; exact absurd h (List.not_mem_nil)
  | cons a l ih =>
    intro b h
    rcases List.mem_cons.1 h with rfl | h
    · exact (le_max_right _ _).trans (le_foldl_max f l _)
    · exact ih _ h

/-- A maximum over an axis is real when the operand never is the greatest element and one of the entries is real. -/
theorem reduce_max_real {s t u : Shape} {axes : List (Fin s.rank)} (x : s.Idx → EReal) (init : u.Idx → EReal)
    (h : s.ReducesTo axes t) (hu : 0 < u.numel) (j : t.Idx) (i : s.Idx) (hi : h.drop i = j) (r : ℝ) (hr : x i = (r : EReal))
    (hx : ∀ i, x i ≠ ⊤) (h0 : init (Shape.Idx.first hu) ≠ ⊤) :
    ∃ M : ℝ, Host.reduce (fun a b : EReal => max a b) x init h hu j = (M : EReal) := by
  refine ⟨_, (EReal.coe_toReal ?_ ?_).symm⟩
  · exact foldl_max_ne_top (fun n => x (s.rowMajor.symm n)) (fun n => hx _) _ _ h0
  · have hm : s.rowMajor i ∈ (List.finRange s.numel).filter fun n => h.drop (s.rowMajor.symm n) = j := by
      rw [List.mem_filter]
      refine ⟨List.mem_finRange _, ?_⟩
      rw [Equiv.symm_apply_apply, hi]
      exact decide_eq_true rfl
    have hle := mem_le_foldl_max (fun n => x (s.rowMajor.symm n)) (s.rowMajor i) _ (init (Shape.Idx.first hu)) hm
    rw [Equiv.symm_apply_apply, hr] at hle
    exact ne_of_gt (lt_of_lt_of_le (EReal.bot_lt_coe r) hle)

/-! ## The keys and values, the context's after the sequence's -/

variable (x0 : (⟨S2x8192x64x64, .f32⟩ : BufTy).Contents (Elt Ideal)) (x1 x2 : (⟨S2x8192x8x64, .f32⟩ : BufTy).Contents (Elt Ideal))
  (x3 x4 : (⟨S2x256x8x64, .f32⟩ : BufTy).Contents (Elt Ideal)) (x5 : (⟨S2x8192x4096, .f32⟩ : BufTy).Contents (Elt Ideal))
  (x6 : (⟨S64, .f32⟩ : BufTy).Contents (Elt Ideal))

theorem join_apply (h : Shape.Concatenates [S2x8192x8x64, S2x256x8x64] S2x8448x8x64 1)
    (f : S2x8192x8x64.Idx → EReal) (g : S2x256x8x64.Idx → EReal) (b : Fin 2) (j : Fin 8448) (hh : Fin 8) (e : Fin 64) :
    concatenate S2x8448x8x64 1 [⟨S2x8192x8x64, f⟩, ⟨S2x256x8x64, g⟩] h (ix4 b j hh e) = Spec.row f g b hh e j := by
  unfold Spec.row
  by_cases hj : j.val < 8192
  · rw [dif_pos hj]
    exact concatenate_pair_apply_left (t := S2x8448x8x64) 1 f g h _ rfl (ix4 b ⟨j.val, hj⟩ hh e)
      (fun d => by fin_cases d <;> rfl)
  · rw [dif_neg hj]
    refine concatenate_pair_apply_right (t := S2x8448x8x64) 1 f g h _ rfl rfl (ix4 b ⟨j.val - 8192, by omega⟩ hh e) ?_ ?_
    · intro d hd
      fin_cases d <;> first | exact absurd rfl hd | rfl
    · show j.val - 8192 + 8192 = j.val
      omega

theorem v1_apply (b : Fin 2) (j : Fin 8448) (hh : Fin 8) (e : Fin 64) :
    val_main_v1 (F := Ideal) x1 x3 (ix4 b j hh e) = Spec.row x1 x3 b hh e j := join_apply _ x1 x3 b j hh e

theorem v2_apply (b : Fin 2) (j : Fin 8448) (hh : Fin 8) (e : Fin 64) :
    val_main_v2 (F := Ideal) x2 x4 (ix4 b j hh e) = Spec.row x2 x4 b hh e j := join_apply _ x2 x4 b j hh e

/-! ## The mask -/

/-- The absolute value of a difference of two small words. -/
theorem absi_sub (n j : Nat) (hn : n < 2 ^ 31) (hj : j < 2 ^ 31) :
    IntOp.absi (IntOp.subi (BitVec.ofNat 32 n) (BitVec.ofNat 32 j)) = BitVec.ofNat 32 (if j ≤ n then n - j else j - n) := by
  unfold IntOp.absi IntOp.subi
  rw [BitVec.msb_eq_decide]
  have ht : (BitVec.ofNat 32 n - BitVec.ofNat 32 j).toNat = if j ≤ n then n - j else 2 ^ 32 - (j - n) := by
    rw [BitVec.toNat_sub, BitVec.toNat_ofNat, BitVec.toNat_ofNat]
    split <;> omega
  by_cases h : j ≤ n
  · rw [if_pos h] at ht ⊢
    rw [if_neg (by rw [ht]; simp only [decide_eq_true_eq]; omega)]
    apply BitVec.eq_of_toNat_eq
    rw [ht, BitVec.toNat_ofNat]
    omega
  · rw [if_neg h] at ht ⊢
    rw [if_pos (by rw [ht]; simp only [decide_eq_true_eq]; omega)]
    apply BitVec.eq_of_toNat_eq
    rw [BitVec.toNat_neg, ht, BitVec.toNat_ofNat]
    omega

open WordCmp in
theorem mask_word (n : Fin 8192) (j : Fin 8448) :
    IntOp.ori (IntOp.cmpi .sle (IntOp.absi (IntOp.subi (BitVec.ofNat 32 n.val) (BitVec.ofNat 32 j.val))) 128#32)
      (IntOp.cmpi .sge (BitVec.ofNat 32 j.val) 8192#32) = 1#1 ↔ Spec.near n j := by
  have hn := n.isLt
  have hj := j.isLt
  rw [absi_sub _ _ (by omega) (by omega), cmpi_sle_ofNat (by split <;> omega) (by omega), cmpi_sge_ofNat (by omega) (by omega),
    ori_ofBool, ofBool_eq_one_iff, Bool.or_eq_true, decide_eq_true_eq, decide_eq_true_eq]
  unfold Spec.near
  split <;> omega

theorem v16_apply (n : Fin 8192) (j : Fin 8448) : val_main_v16 (F := Ideal) (ix2 n j) = 1#1 ↔ Spec.near n j := by
  rw [← mask_word n j]
  rw [val_main_v16_apply, val_main_v12_apply, val_main_v10_apply, val_main_v9_apply, val_main_v7_apply, val_main_v8_apply,
    val_main_v15_apply, val_main_v14_apply, val_main_v11_apply, val_main_v13_apply, val_main_v4_apply, val_main_v3_apply,
    val_main_v6_apply, val_main_v5_apply, val_main_c_apply, val_main_c_0_apply]
  exact Iff.rfl

/-! ## The scores -/

/-- A query head from its key head and its place in the group. -/
abbrev head (hh g : Fin 8) : Fin 64 := ⟨hh.val * 8 + g.val, by omega⟩

theorem grp_head (hh g : Fin 8) : Spec.grp (head hh g) = hh := by
  apply Fin.ext
  show (hh.val * 8 + g.val) / 8 = hh.val
  omega

theorem v0_apply (b : Fin 2) (n : Fin 8192) (hh g : Fin 8) (e : Fin 64) :
    val_main_v0 (F := Ideal) x0 (ix5 b n hh g e) = x0 (ix4 b n (head hh g) e) := by
  rw [val_main_v0_apply]
  congr 1
  funext a
  apply Fin.ext
  fin_cases a
  · show ((((b.val * 8192 + n.val) * 8 + hh.val) * 8 + g.val) * 64 + e.val) / 33554432 = b.val
    omega
  · show ((((b.val * 8192 + n.val) * 8 + hh.val) * 8 + g.val) * 64 + e.val) / 4096 % 8192 = n.val
    omega
  · show ((((b.val * 8192 + n.val) * 8 + hh.val) * 8 + g.val) * 64 + e.val) / 64 % 64 = hh.val * 8 + g.val
    omega
  · show ((((b.val * 8192 + n.val) * 8 + hh.val) * 8 + g.val) * 64 + e.val) % 64 = e.val
    omega

theorem v18_apply (b : Fin 2) (hh g : Fin 8) (n : Fin 8192) (j : Fin 8448) :
    val_main_v18 (F := Ideal) x0 x1 x3 (ix5 b hh g n j) =
      ∑ e : Fin 64, (Spec.row x1 x3 b hh e j * x0 (ix4 b n (head hh g) e) : EReal) := by
  rw [val_main_v18_apply, val_main_v17_apply]
  refine Finset.sum_congr rfl fun e _ => ?_
  have hl : lidx_main_v17 (idx_main_v18 (ix5 b hh g n j)) e = ix4 b j hh e := by
    funext a; fin_cases a <;> rfl
  have hr : ridx_main_v17 (idx_main_v18 (ix5 b hh g n j)) e = ix5 b n hh g e := by
    funext a; fin_cases a <;> rfl
  rw [hl, hr]
  exact congrArg₂ (fun x y : EReal => x * y) (v1_apply x1 x3 b j hh e) (v0_apply x0 b n hh g e)

theorem v20_apply (hq : Spec.AllReal x0) (hk : Spec.AllReal x1) (hkc : Spec.AllReal x3)
    (b : Fin 2) (hh g : Fin 8) (n : Fin 8192) (j : Fin 8448) :
    val_main_v20 (F := Ideal) x0 x1 x3 (ix5 b hh g n j) = (Spec.score x0 x1 x3 b n (head hh g) j : EReal) := by
  rw [val_main_v20_apply, v18_apply, val_main_v19_apply]
  have hc : val_main_cst (F := Ideal) (idx_main_v19 (ix5 b hh g n j)) = ((1 / 8 : ℝ) : EReal) := Consts.eighth_f32
  rw [hc]
  unfold Spec.score
  rw [EReal.coe_mul, Soft.coe_sum, grp_head]
  refine congrArg (fun z : EReal => z * ((1 / 8 : ℝ) : EReal)) (Finset.sum_congr rfl fun e _ => ?_)
  rw [EReal.coe_mul, ← Spec.row_real hk hkc, ← hq]
  exact mul_comm _ _

theorem v21_apply (hq : Spec.AllReal x0) (hk : Spec.AllReal x1) (hkc : Spec.AllReal x3)
    (b : Fin 2) (hh g : Fin 8) (n : Fin 8192) (j : Fin 8448) :
    val_main_v21 (F := Ideal) x0 x1 x3 (ix5 b hh g n j) =
      if Spec.near n j then (Spec.score x0 x1 x3 b n (head hh g) j : EReal) else ⊥ := by
  rw [val_main_v21_apply, val_main_call0_v1_apply, v20_apply x0 x1 x3 hq hk hkc, val_main_call0_v2_apply]
  have hi : idx_main_call0_v1 (ix5 b hh g n j) = ix2 n j := by
    funext a; fin_cases a <;> rfl
  rw [hi]
  have hb : val_main_call0_v0 (F := Ideal) (idx_main_call0_v2 (ix5 b hh g n j)) = (⊥ : EReal) := Consts.bot_f32
  rw [hb]
  have h16 := v16_apply n j
  by_cases h : Spec.near n j
  · rw [if_pos h, WordCmp.select_of_eq_one (h16.2 h)]
  · rw [if_neg h, WordCmp.select_of_eq_zero]
    rcases BitVec.eq_zero_or_eq_one (val_main_v16 (F := Ideal) (ix2 n j)) with h' | h'
    · exact h'
    · exact absurd (h16.1 h') h

theorem v24_apply (b : Fin 2) (hh g : Fin 8) (n : Fin 8192) :
    val_main_v24 (F := Ideal) x6 (ix5 b hh g n 0) = x6 (ix1 (head hh g)) := by
  rw [val_main_v24_apply, val_main_v23_apply, val_main_v22_apply]
  congr 1
  funext a; fin_cases a; rfl

/-! ## The scores with the sink after them -/

theorem tail_apply (h : Shape.Concatenates [S2x8x8x8192x8448, S2x8x8x8192x1] S2x8x8x8192x8449 4)
    (f : S2x8x8x8192x8448.Idx → EReal) (s : S2x8x8x8192x1.Idx → EReal) (b : Fin 2) (hh g : Fin 8) (n : Fin 8192) :
    (∀ j : Fin 8448, concatenate S2x8x8x8192x8449 4 [⟨S2x8x8x8192x8448, f⟩, ⟨S2x8x8x8192x1, s⟩] h (ix5 b hh g n j.castSucc) =
      f (ix5 b hh g n j)) ∧
    concatenate S2x8x8x8192x8449 4 [⟨S2x8x8x8192x8448, f⟩, ⟨S2x8x8x8192x1, s⟩] h (ix5 b hh g n (Fin.last 8448)) =
      s (ix5 b hh g n 0) := by
  constructor
  · intro j
    exact concatenate_pair_apply_left (t := S2x8x8x8192x8449) 4 f s h _ rfl (ix5 b hh g n j)
      (fun d => by fin_cases d <;> rfl)
  · refine concatenate_pair_apply_right (t := S2x8x8x8192x8449) 4 f s h _ rfl rfl (ix5 b hh g n 0) ?_ ?_
    · intro d hd
      fin_cases d <;> first | exact absurd rfl hd | rfl
    · rfl

theorem v25_score (hq : Spec.AllReal x0) (hk : Spec.AllReal x1) (hkc : Spec.AllReal x3)
    (b : Fin 2) (hh g : Fin 8) (n : Fin 8192) (j : Fin 8448) :
    val_main_v25 (F := Ideal) x0 x1 x3 x6 (ix5 b hh g n j.castSucc) =
      if Spec.near n j then (Spec.score x0 x1 x3 b n (head hh g) j : EReal) else ⊥ :=
  ((tail_apply _ _ _ b hh g n).1 j).trans (v21_apply x0 x1 x3 hq hk hkc b hh g n j)

theorem v25_sink (b : Fin 2) (hh g : Fin 8) (n : Fin 8192) :
    val_main_v25 (F := Ideal) x0 x1 x3 x6 (ix5 b hh g n (Fin.last 8448)) = x6 (ix1 (head hh g)) :=
  (tail_apply _ _ _ b hh g n).2.trans (v24_apply x6 b hh g n)

theorem v25_ne_top (hq : Spec.AllReal x0) (hk : Spec.AllReal x1) (hkc : Spec.AllReal x3) (hs : Spec.AllReal x6)
    (i : S2x8x8x8192x8449.Idx) : val_main_v25 (F := Ideal) x0 x1 x3 x6 i ≠ (⊤ : EReal) := by
  obtain ⟨b, hh, g, n, j, hi⟩ : ∃ (b : Fin 2) (hh g : Fin 8) (n : Fin 8192) (j : Fin 8449), i = ix5 b hh g n j :=
    ⟨i 0, i 1, i 2, i 3, i 4, eq_ix5 i⟩
  rw [hi]
  refine Fin.lastCases ?_ (fun j => ?_) j
  · rw [v25_sink, hs]
    exact EReal.coe_ne_top _
  · rw [v25_score x0 x1 x3 x6 hq hk hkc]
    split
    · exact EReal.coe_ne_top _
    · exact bot_ne_top

/-- The maximum subtracted from a row is a real number. -/
theorem v28_real (hq : Spec.AllReal x0) (hk : Spec.AllReal x1) (hkc : Spec.AllReal x3) (hs : Spec.AllReal x6)
    (b : Fin 2) (hh g : Fin 8) (n : Fin 8192) :
    ∃ M : ℝ, val_main_v28 (F := Ideal) x0 x1 x3 x6 (ix4 b hh g n) = (M : EReal) := by
  have hb : val_main_cst_2 (F := Ideal) (Shape.Idx.first h_S_) = (⊥ : EReal) := Consts.bot_f32
  obtain ⟨M, hM⟩ := reduce_max_real (val_main_v25 (F := Ideal) x0 x1 x3 x6) (val_main_cst_2 (F := Ideal))
    reducesTo_S2x8x8x8192x8449_S2x8x8x8192_d4 h_S_ (ix4 b hh g n) (ix5 b hh g n (Fin.last 8448))
    (by funext a; fin_cases a <;> rfl) _ ((v25_sink x0 x1 x3 x6 b hh g n).trans (hs _)) (v25_ne_top x0 x1 x3 x6 hq hk hkc hs)
    (by rw [hb]; exact bot_ne_top)
  refine ⟨M, ?_⟩
  rw [val_main_v28_apply, val_main_v27_apply]
  have hb' : val_main_cst_3 (F := Ideal) (idx_main_v27 (ix4 b hh g n)) = (⊥ : EReal) := Consts.bot_f32
  rw [hb']
  exact (max_eq_right bot_le).trans hM

/-! ## The softmax and the products with the values -/

theorem v32_apply (b : Fin 2) (hh g : Fin 8) (n : Fin 8192) (j : Fin 8449) :
    val_main_v32 (F := Ideal) x0 x1 x3 x6 (ix5 b hh g n j) =
      Ideal.exp ((val_main_v25 (F := Ideal) x0 x1 x3 x6 (ix5 b hh g n j) : EReal) - val_main_v28 (F := Ideal) x0 x1 x3 x6 (ix4 b hh g n)) := by
  rw [val_main_v32_apply, val_main_v31_apply, val_main_v30_apply, val_main_v29_apply]
  have hi : idx_main_v29 (idx_main_v30 (ix5 b hh g n j)) = ix4 b hh g n := by
    funext a; fin_cases a <;> rfl
  rw [hi]
  rfl

theorem v35_apply (b : Fin 2) (hh g : Fin 8) (n : Fin 8192) (j : Fin 8449) :
    val_main_v35 (F := Ideal) x0 x1 x3 x6 (ix5 b hh g n j) =
      ∑ j : Fin 8448, (val_main_v32 (F := Ideal) x0 x1 x3 x6 (ix5 b hh g n j.castSucc) : EReal) +
        val_main_v32 (F := Ideal) x0 x1 x3 x6 (ix5 b hh g n (Fin.last 8448)) := by
  rw [val_main_v35_apply, val_main_v34_apply, val_main_v33_apply]
  have hz : val_main_cst_4 (F := Ideal) (Shape.Idx.first h_S_) = (0 : EReal) := Consts.zero_f32
  rw [hz]
  refine (zero_add _).trans ((Finset.sum_congr rfl fun k _ => ?_).trans
    (Fin.sum_univ_castSucc (fun k : Fin 8449 => (val_main_v32 (F := Ideal) x0 x1 x3 x6 (ix5 b hh g n k) : EReal))))
  dsimp only
  congr 1
  funext a; fin_cases a <;> rfl

theorem v38_apply (hq : Spec.AllReal x0) (hk : Spec.AllReal x1) (hkc : Spec.AllReal x3) (hs : Spec.AllReal x6)
    (b : Fin 2) (hh : Fin 8) (e : Fin 64) (g : Fin 8) (n : Fin 8192) :
    val_main_v38 (F := Ideal) x0 x1 x2 x3 x4 x6 (ix5 b hh e g n) =
      Soft.soft (Spec.near n) (Spec.score x0 x1 x3 b n (head hh g)) (x6 (ix1 (head hh g))).toReal (Spec.row x2 x4 b hh e) := by
  obtain ⟨M, hM⟩ := v28_real x0 x1 x3 x6 hq hk hkc hs b hh g n
  rw [val_main_v38_apply]
  refine Eq.trans ?_ (Soft.reference_form (Spec.near n) (Spec.score x0 x1 x3 b n (head hh g)) (x6 (ix1 (head hh g))).toReal M
    (Spec.row x2 x4 b hh e) (fun j => val_main_v25 (F := Ideal) x0 x1 x3 x6 (ix5 b hh g n j.castSucc)) _
    (v25_score x0 x1 x3 x6 hq hk hkc b hh g n) hM)
  refine Finset.sum_congr rfl fun j _ => ?_
  have hl : lidx_main_v38 (ix5 b hh e g n) j = ix4 b j hh e := by
    funext a; fin_cases a <;> rfl
  have hr : idx_main_v37 (ridx_main_v38 (ix5 b hh e g n) j) = ix5 b hh g n j.castSucc := by
    funext a; fin_cases a <;> rfl
  rw [hl, val_main_v37_apply, hr, val_main_v36_apply, v35_apply]
  refine congrArg₂ (fun x y : EReal => x * y) (v2_apply x2 x4 b j hh e) ?_
  refine congrArg₂ Ideal.div (v32_apply x0 x1 x3 x6 b hh g n _) (congrArg₂ (fun x y : EReal => x + y) ?_ ?_)
  · exact Finset.sum_congr rfl fun k _ => v32_apply x0 x1 x3 x6 b hh g n _
  · rw [v32_apply, v25_sink, ← hs]

/-! ## The result -/

/-- The reference's result is the attention's formula over its arguments. -/
theorem v43_apply (hq : Spec.AllReal x0) (hk : Spec.AllReal x1) (hkc : Spec.AllReal x3) (hs : Spec.AllReal x6)
    (b : Fin 2) (n : Fin 8192) (h e : Fin 64) (r : Fin 16384) (l : Fin 4096) (hr : r.val = 8192 * b.val + n.val)
    (hl : l.val = 64 * h.val + e.val) :
    val_main_v43 (F := Ideal) x0 x1 x2 x3 x4 x5 x6 (ix2 r l) = Spec.attn x0 x1 x2 x3 x4 x5 x6 b n h e := by
  rw [val_main_v43_apply, val_main_v42_apply, val_main_v41_apply, val_main_v40_apply, val_main_v39_apply]
  have h42 : idx_main_v42 (ix2 r l) = ix3 b n ⟨64 * h.val + e.val, by omega⟩ := by
    funext a
    apply Fin.ext
    fin_cases a
    · show (r.val * 4096 + l.val) / 33554432 = b.val
      omega
    · show (r.val * 4096 + l.val) / 4096 % 8192 = n.val
      omega
    · show (r.val * 4096 + l.val) % 4096 = 64 * h.val + e.val
      omega
  rw [h42]
  have h40 : idx_main_v39 (idx_main_v40 (ix3 b n ⟨64 * h.val + e.val, by omega⟩)) =
      ix5 b (Spec.grp h) e ⟨h.val % 8, by omega⟩ n := by
    funext a
    apply Fin.ext
    fin_cases a
    · show ((b.val * 8192 + n.val) * 4096 + (64 * h.val + e.val)) / 33554432 = b.val
      omega
    · show ((b.val * 8192 + n.val) * 4096 + (64 * h.val + e.val)) / 512 % 8 = h.val / 8
      omega
    · show ((b.val * 8192 + n.val) * 4096 + (64 * h.val + e.val)) % 64 = e.val
      omega
    · show ((b.val * 8192 + n.val) * 4096 + (64 * h.val + e.val)) / 64 % 8 = h.val % 8
      omega
    · show ((b.val * 8192 + n.val) * 4096 + (64 * h.val + e.val)) / 4096 % 8192 = n.val
      omega
  rw [h40, v38_apply x0 x1 x2 x3 x4 x6 hq hk hkc hs]
  have hh : head (Spec.grp h) ⟨h.val % 8, by omega⟩ = h := by
    apply Fin.ext
    show h.val / 8 * 8 + h.val % 8 = h.val
    omega
  rw [hh]
  rfl

end Cert.ReferenceIdeal.Attn
-- ==== Proof.Equal.lean ====
/-
  The precondition makes queries, keys, context keys and sinks real, and then the kernel's result is the reference's.
-/
module

public import proofs.«01_k».proof.Defs
public import proofs.«01_k».proof.Proof.Array
public import proofs.«01_k».proof.Proof.Ref
public import proofs.«01_k».proof.Proof.Gen.KernelIdeal.Value
public import proofs.«01_k».proof.Proof.Gen.Pre_finite

@[expose] public section

noncomputable section

namespace Cert.Equal

open Idealize.ShloMosaic Idealize.ShloMosaic.TcCoe Idealize.SL.Sem

/-- An extended real whose absolute value is below infinity is real. -/
theorem real_of_lt (x : EReal) (h : Ideal.cmp .olt (max x (-x)) (Ideal.ofBits .f32 0x7F800000#32) = 1#1) : x = (x.toReal : EReal) := by
  rw [Consts.top_f32] at h
  have hlt : max x (-x) < ⊤ := by
    unfold Ideal.cmp at h
    exact of_decide_eq_true ((WordCmp.ofBool_eq_one_iff _).1 h)
  refine (EReal.coe_toReal ?_ ?_).symm
  · rintro rfl
    exact absurd (lt_of_le_of_lt (le_max_left _ _) hlt) (lt_irrefl _)
  · rintro rfl
    exact absurd (lt_of_le_of_lt (le_max_right _ _) hlt) (lt_irrefl _)

section Real

variable (m : (ℓ : Loc Cert.KernelIdeal.nD Cert.KernelIdeal.τ Cert.KernelIdeal.sig) → Buf (Elt Ideal) ℓ) (h : Cert.Pre_KernelIdeal_finite m)
  (c : Dev Cert.KernelIdeal.nD)

include h

/-- The queries are real. -/
theorem query_real : Spec.AllReal (KernelIdeal.Attn.aq m c) := fun i => real_of_lt _ (congrFun (h c).1 i)

/-- The keys are real. -/
theorem key_real : Spec.AllReal (KernelIdeal.Attn.ak m c) := fun i => real_of_lt _ (congrFun (h c).2.1 i)

/-- The context's keys are real. -/
theorem ctxKey_real : Spec.AllReal (KernelIdeal.Attn.akc m c) := fun i => real_of_lt _ (congrFun (h c).2.2.1 i)

/-- The sinks are real. -/
theorem sink_real : Spec.AllReal (KernelIdeal.Attn.asink m c) := fun i => real_of_lt _ (congrFun (h c).2.2.2 i)

end Real

open Cert.KernelIdeal.Attn in
/-- The kernel's array is the reference's, whatever the values, their context rows and the gate hold. -/
theorem result_eq (m : (ℓ : Loc Cert.KernelIdeal.nD Cert.KernelIdeal.τ Cert.KernelIdeal.sig) → Buf (Elt Ideal) ℓ)
    (c : Dev Cert.KernelIdeal.nD) (hq : Spec.AllReal (aq m c)) (hk : Spec.AllReal (ak m c)) (hkc : Spec.AllReal (akc m c))
    (hs : Spec.AllReal (asink m c)) :
    Cert.ReferenceIdeal.Read.val_main_v43 (F := Ideal) (aq m c) (ak m c) (av m c) (akc m c) (avc m c) (az m c) (asink m c) = result m c := by
  funext i
  obtain ⟨r, l, hi⟩ : ∃ (r : Fin 16384) (l : Fin 4096), i = ix2 r l := ⟨i 0, i 1, eq_ix2 i⟩
  rw [hi]
  have hr : r.val = 8192 * (⟨r.val / 8192, by omega⟩ : Fin 2).val + (⟨r.val % 8192, by omega⟩ : Fin 8192).val := by
    show r.val = 8192 * (r.val / 8192) + r.val % 8192
    omega
  have hl : l.val = 64 * (⟨l.val / 64, by omega⟩ : Fin 64).val + (⟨l.val % 64, by omega⟩ : Fin 64).val := by
    show l.val = 64 * (l.val / 64) + l.val % 64
    omega
  rw [result_apply m c _ _ _ _ r l hr hl]
  exact Cert.ReferenceIdeal.Attn.v43_apply _ _ _ _ _ _ _ hq hk hkc hs _ _ _ _ r l hr hl

end Cert.Equal
-- ==== Proof.Rows.lean ====
/-
  A row of the residual stream: its update by the mixer's output, and its root mean square normalisation.
-/
module

public import Idealize.ShloMosaic.PureOps.Ideal.Laws
public import Idealize.ShloMosaic.Lib.Pointwise
public import Idealize.ShloMosaic.Lib.Pipeline.Value

@[expose] public section

noncomputable section

open Idealize.ShloMosaic

namespace Cert.Rows

/-- A row's entries over the root of the mean of their squares plus one millionth. -/
def norm (x : Fin 2048 → EReal) (l : Fin 2048) : EReal :=
  x l * Ideal.rsqrt (Ideal.div (∑ k, x k * x k) (Ideal.ofBits .f32 0x45000000#32) + Ideal.ofBits .f32 0x358637BD#32)

/-- A row of the stream plus the gate times the mixer's row through the weights. -/
def stream (y : Fin 4096 → EReal) (w : Fin 4096 → Fin 2048 → EReal) (x gate : Fin 2048 → EReal) (l : Fin 2048) : EReal :=
  x l + gate l * ∑ k, y k * w k l

/-- A normalised row under its gains, its scales and its shifts. -/
def modulated (x g scale shift : Fin 2048 → EReal) (l : Fin 2048) : EReal :=
  norm x l * g l * (Ideal.ofBits .f32 0x3F800000#32 + scale l) + shift l

/-- Token `n` of sequence `b` after layer `k`: the stream plus the gate times the mixer's output through the layer's weights. -/
def updated (k : Fin 4) (y : (⟨3, ![2, 8192, 4096]⟩ : Shape).Idx → EReal) (x : (⟨3, ![2, 8192, 2048]⟩ : Shape).Idx → EReal)
    (md : (⟨3, ![4, 2, 6144]⟩ : Shape).Idx → EReal) (w : (⟨3, ![4, 4096, 2048]⟩ : Shape).Idx → EReal) (b : Fin 2) (n : Fin 8192) : Fin 2048 → EReal :=
  stream (fun e => y (ix3 b n e)) (fun e l => w (ix3 k e l)) (fun l => x (ix3 b n l)) (fun l => md (ix3 k b ⟨4096 + l.val, by omega⟩))

/-- The token after the last layer, normalised, under the final gains. -/
def last (y : (⟨3, ![2, 8192, 4096]⟩ : Shape).Idx → EReal) (x : (⟨3, ![2, 8192, 2048]⟩ : Shape).Idx → EReal)
    (md : (⟨3, ![4, 2, 6144]⟩ : Shape).Idx → EReal) (w : (⟨3, ![4, 4096, 2048]⟩ : Shape).Idx → EReal) (g : (⟨1, ![2048]⟩ : Shape).Idx → EReal)
    (b : Fin 2) (n : Fin 8192) (l : Fin 2048) : EReal :=
  norm (updated 3 y x md w b n) l * g (ix1 l)

/-- The token after layer 1, normalised under layer 2's gains and modulations. -/
def next (y : (⟨3, ![2, 8192, 4096]⟩ : Shape).Idx → EReal) (x : (⟨3, ![2, 8192, 2048]⟩ : Shape).Idx → EReal)
    (md : (⟨3, ![4, 2, 6144]⟩ : Shape).Idx → EReal) (w : (⟨3, ![4, 4096, 2048]⟩ : Shape).Idx → EReal) (g : (⟨2, ![4, 2048]⟩ : Shape).Idx → EReal)
    (b : Fin 2) (n : Fin 8192) (l : Fin 2048) : EReal :=
  modulated (updated 1 y x md w b n) (fun l => g (ix2 2 l)) (fun l => md (ix3 2 b ⟨2048 + l.val, by omega⟩)) (fun l => md (ix3 2 b ⟨l.val, by omega⟩)) l

/-- The modulations padded to eight sequences and cut into shifts, scales and gates: a part of sequence 0 or 1 reads the
    modulations. -/
theorem padded_apply (md : (⟨3, ![4, 2, 6144]⟩ : Shape).Idx → EReal) (z : (⟨3, ![4, 6, 6144]⟩ : Shape).Idx → EReal)
    (h1 : Shape.Concatenates [(⟨3, ![4, 2, 6144]⟩ : Shape), ⟨3, ![4, 6, 6144]⟩] ⟨3, ![4, 8, 6144]⟩ 1)
    (h2 : (⟨3, ![4, 8, 6144]⟩ : Shape).ShapeCasts ⟨5, ![4, 8, 3, 1, 2048]⟩)
    (k : Fin 4) (b : Fin 2) (b' : Fin 8) (hb : b'.val = b.val) (p : Fin 3) (l : Fin 2048) (o : Fin 6144) (ho : o.val = 2048 * p.val + l.val) :
    shapeCast ⟨5, ![4, 8, 3, 1, 2048]⟩ (concatenate ⟨3, ![4, 8, 6144]⟩ 1 [⟨⟨3, ![4, 2, 6144]⟩, md⟩, ⟨⟨3, ![4, 6, 6144]⟩, z⟩] h1) h2 (ix5 k b' p 0 l)
      = md (ix3 k b o) := by
  rw [shapeCast_apply _ _ _ (ix3 k b' o) (by
    rw [Shape.rowMajor_val_three, Shape.rowMajor_val_five]
    show (k.val * 8 + b'.val) * 6144 + o.val = (((k.val * 8 + b'.val) * 3 + p.val) * 1 + 0) * 2048 + l.val
    omega)]
  refine concatenate_apply_piece (t := ⟨3, ![4, 8, 6144]⟩) 1 _ _ (ix3 k b' o) 0 ?_ ⟨3, ![4, 2, 6144]⟩ _ ?_ rfl 0 ?_ (ix3 k b o) ?_ ?_
  · show 0 < 2; omega
  · rfl
  · rfl
  · intro d hd
    fin_cases d
    · rfl
    · exact absurd rfl hd
    · rfl
  · show 0 + b.val = b'.val; omega

end Cert.Rows
-- ==== Proof.FinalBlock.lean ====
/-
  The block that the last layer's output projection leaves, over the extended reals at an index.
-/
module

public import proofs.«01_k».proof.Proof.Rows
public import proofs.«01_k».proof.Proof.Consts
public import proofs.«01_k».proof.Proof.Gen.FinalIdeal.Value
public import Idealize.ShloMosaic.Lib.Pipeline.Value

@[expose] public section

noncomputable section

open Idealize.ShloMosaic Idealize.ShloMosaic.TcCoe Idealize.SL.Sem

namespace Cert.FinalIdeal.Last

open Cert.FinalIdeal Cert.FinalIdeal.Gen

/-- Slab `n` of the mixer's block: 128 of its 4096 lanes. -/
def slab (x : FVec Ideal S32x512x128 .bf16) (n : Fin 32) : S512x128.Idx → EReal := fun i => x (ix3 n (i 0) (i 1))

/-- The mixer's block with its slabs side by side. -/
def side (x : FVec Ideal S32x512x128 .bf16) : FVec Ideal S512x4096 .bf16 :=
  fun i => x (ix3 ⟨(i 1).val / 128, by have h : (i 1).val < 4096 := (i 1).isLt; omega⟩ (i 0) ⟨(i 1).val % 128, Nat.mod_lt _ (by norm_num)⟩)

theorem slab_ld (x : FVec Ideal S32x512x128 .bf16) (n : Fin 32)
    (h : ∀ a, (![n.val, 0, 0] : Fin 3 → Nat) a + S1x512x128.size a ≤ S32x512x128.size a) :
    shapeCast S512x128 (View.ld (Val := Elt Ideal) (e' := .bf16) x (Rect.unit (s := S32x512x128) ![n.val, 0, 0] S1x512x128.size h)) shapeCasts_S1x512x128_S512x128 = slab x n := by
  funext i
  have hi : i = ix2 (n0 := 512) (n1 := 128) (i 0) (i 1) := eq_ix2 i
  rw [shapeCast_apply _ _ _ (ix3 (n0 := 1) (n1 := 512) (n2 := 128) 0 (i 0) (i 1)) (by
    rw [hi, Shape.rowMajor_val_three, Shape.rowMajor_val_two]
    show (0 * 512 + (i 0).val) * 128 + (i 1).val = (i 0).val * 128 + (i 1).val
    omega)]
  refine congrArg x (funext fun a => Fin.ext ?_)
  fin_cases a
  · show n.val + 1 * 0 = n.val; omega
  · show 0 + 1 * (i 0).val = (i 0).val; omega
  · show 0 + 1 * (i 1).val = (i 1).val; omega

theorem side_eq (x : FVec Ideal S32x512x128 .bf16)
    (h : Shape.Concatenates ((List.ofFn fun n : Fin 32 => (⟨S512x128, slab x n⟩ : (s : Shape) × (s.Idx → EReal))).map (·.1)) S512x4096 1) :
    concatenate S512x4096 1 (List.ofFn fun n : Fin 32 => (⟨S512x128, slab x n⟩ : (s : Shape) × (s.Idx → EReal))) h = side x := by
  funext j
  have h1 : (j 1).val < 4096 := (j 1).isLt
  exact concatenate_ofFn_apply (t := S512x4096) 1 (fun n : Fin 32 => slab x n) h rfl 128 rfl j ⟨(j 1).val / 128, by omega⟩ rfl
    (ix2 (j 0) ⟨(j 1).val % 128, Nat.mod_lt _ (by norm_num)⟩) rfl (fun b hb => by
      fin_cases b
      · rfl
      · exact absurd rfl hb)

/-- The mixer's rows through the weights. -/
def proj (x : FVec Ideal S32x512x128 .bf16) (w : FVec Ideal S1x4096x2048 .bf16) : FVec Ideal S512x2048 .f32 :=
  matmul dot_S512x4096_S4096x2048_S512x2048_1_0_0_1_n_n none (side x) (shapeCast S4096x2048 w shapeCasts_S1x4096x2048_S4096x2048)
    (constant S512x2048 .f32 0x00000000#32)

theorem proj_apply (x : FVec Ideal S32x512x128 .bf16) (w : FVec Ideal S1x4096x2048 .bf16) (r : Fin 512) (l : Fin 2048) :
    proj x w (ix2 r l) = ∑ k : Fin 4096, side x (ix2 r k) * w (ix3 0 k l) := by
  have hw : ∀ k : Fin 4096, shapeCast S4096x2048 w shapeCasts_S1x4096x2048_S4096x2048 (ix2 k l) = w (ix3 0 k l) := fun k =>
    shapeCast_apply _ _ _ _ (by
      rw [Shape.rowMajor_val_three, Shape.rowMajor_val_two]
      show (0 * 4096 + k.val) * 2048 + l.val = k.val * 2048 + l.val
      omega)
  unfold proj
  generalize shapeCast S4096x2048 w shapeCasts_S1x4096x2048_S4096x2048 = w' at hw
  simp only [pointwise, Consts.zero_f32, zero_add, hw]

set_option maxRecDepth 4000 in
theorem pay25_eq (x : FVec Ideal S32x512x128 .bf16) (w : FVec Ideal S1x4096x2048 .bf16) :
    k0_pay25 (F := Ideal) (k0_pay2 (View.ld x r0_0)) (k0_pay3 (View.ld x r0_1)) (k0_pay4 (View.ld x r0_2)) (k0_pay5 (View.ld x r0_3)) (k0_pay6 (View.ld x r0_4)) (k0_pay7 (View.ld x r0_5)) (k0_pay8 (View.ld x r0_6)) (k0_pay9 (View.ld x r0_7)) (k0_pay10 (View.ld x r0_8)) (k0_pay11 (View.ld x r0_9)) (k0_pay12 (View.ld x r0_10)) (k0_pay13 (View.ld x r0_11)) (k0_pay14 (View.ld x r0_12)) (k0_pay15 (View.ld x r0_13)) (k0_pay16 (View.ld x r0_14)) (k0_pay17 (View.ld x r0_15)) (k0_pay18 (View.ld x r0_16)) (k0_pay19 (View.ld x r0_17)) (k0_pay20 (View.ld x r0_18)) (k0_pay21 (View.ld x r0_19)) (k0_pay22 (View.ld x r0_20)) (k0_pay23 (View.ld x r0_21)) (k0_pay24 (View.ld x r0_22)) (View.ld x r0_23) (View.ld x r0_24) (View.ld x r0_25) (View.ld x r0_26) (View.ld x r0_27) (View.ld x r0_28) (View.ld x r0_29) (View.ld x r0_30) (View.ld x r0_31) w = proj x w := by
  rw [show k0_pay2 (F := Ideal) (View.ld x r0_0) = slab x 0 from slab_ld x 0 _,
    show k0_pay3 (F := Ideal) (View.ld x r0_1) = slab x 1 from slab_ld x 1 _,
    show k0_pay4 (F := Ideal) (View.ld x r0_2) = slab x 2 from slab_ld x 2 _,
    show k0_pay5 (F := Ideal) (View.ld x r0_3) = slab x 3 from slab_ld x 3 _,
    show k0_pay6 (F := Ideal) (View.ld x r0_4) = slab x 4 from slab_ld x 4 _,
    show k0_pay7 (F := Ideal) (View.ld x r0_5) = slab x 5 from slab_ld x 5 _,
    show k0_pay8 (F := Ideal) (View.ld x r0_6) = slab x 6 from slab_ld x 6 _,
    show k0_pay9 (F := Ideal) (View.ld x r0_7) = slab x 7 from slab_ld x 7 _,
    show k0_pay10 (F := Ideal) (View.ld x r0_8) = slab x 8 from slab_ld x 8 _,
    show k0_pay11 (F := Ideal) (View.ld x r0_9) = slab x 9 from slab_ld x 9 _,
    show k0_pay12 (F := Ideal) (View.ld x r0_10) = slab x 10 from slab_ld x 10 _,
    show k0_pay13 (F := Ideal) (View.ld x r0_11) = slab x 11 from slab_ld x 11 _,
    show k0_pay14 (F := Ideal) (View.ld x r0_12) = slab x 12 from slab_ld x 12 _,
    show k0_pay15 (F := Ideal) (View.ld x r0_13) = slab x 13 from slab_ld x 13 _,
    show k0_pay16 (F := Ideal) (View.ld x r0_14) = slab x 14 from slab_ld x 14 _,
    show k0_pay17 (F := Ideal) (View.ld x r0_15) = slab x 15 from slab_ld x 15 _,
    show k0_pay18 (F := Ideal) (View.ld x r0_16) = slab x 16 from slab_ld x 16 _,
    show k0_pay19 (F := Ideal) (View.ld x r0_17) = slab x 17 from slab_ld x 17 _,
    show k0_pay20 (F := Ideal) (View.ld x r0_18) = slab x 18 from slab_ld x 18 _,
    show k0_pay21 (F := Ideal) (View.ld x r0_19) = slab x 19 from slab_ld x 19 _,
    show k0_pay22 (F := Ideal) (View.ld x r0_20) = slab x 20 from slab_ld x 20 _,
    show k0_pay23 (F := Ideal) (View.ld x r0_21) = slab x 21 from slab_ld x 21 _,
    show k0_pay24 (F := Ideal) (View.ld x r0_22) = slab x 22 from slab_ld x 22 _]
  unfold k0_pay25
  dsimp only
  rw [show shapeCast S512x128 (View.ld (Val := Elt Ideal) (e' := .bf16) x r0_23) shapeCasts_S1x512x128_S512x128 = slab x 23 from slab_ld x 23 _,
    show shapeCast S512x128 (View.ld (Val := Elt Ideal) (e' := .bf16) x r0_24) shapeCasts_S1x512x128_S512x128 = slab x 24 from slab_ld x 24 _,
    show shapeCast S512x128 (View.ld (Val := Elt Ideal) (e' := .bf16) x r0_25) shapeCasts_S1x512x128_S512x128 = slab x 25 from slab_ld x 25 _,
    show shapeCast S512x128 (View.ld (Val := Elt Ideal) (e' := .bf16) x r0_26) shapeCasts_S1x512x128_S512x128 = slab x 26 from slab_ld x 26 _,
    show shapeCast S512x128 (View.ld (Val := Elt Ideal) (e' := .bf16) x r0_27) shapeCasts_S1x512x128_S512x128 = slab x 27 from slab_ld x 27 _,
    show shapeCast S512x128 (View.ld (Val := Elt Ideal) (e' := .bf16) x r0_28) shapeCasts_S1x512x128_S512x128 = slab x 28 from slab_ld x 28 _,
    show shapeCast S512x128 (View.ld (Val := Elt Ideal) (e' := .bf16) x r0_29) shapeCasts_S1x512x128_S512x128 = slab x 29 from slab_ld x 29 _,
    show shapeCast S512x128 (View.ld (Val := Elt Ideal) (e' := .bf16) x r0_30) shapeCasts_S1x512x128_S512x128 = slab x 30 from slab_ld x 30 _,
    show shapeCast S512x128 (View.ld (Val := Elt Ideal) (e' := .bf16) x r0_31) shapeCasts_S1x512x128_S512x128 = slab x 31 from slab_ld x 31 _]
  exact congrArg (fun s : FVec Ideal S512x4096 .bf16 => matmul dot_S512x4096_S4096x2048_S512x2048_1_0_0_1_n_n none s
    (shapeCast S4096x2048 w shapeCasts_S1x4096x2048_S4096x2048) (constant S512x2048 .f32 0x00000000#32))
    (side_eq x concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4096_d1)

/-- The block's row `r` of the updated stream. -/
def upd (x0 : FVec Ideal S32x512x128 .bf16) (x1 : FVec Ideal S1x4096x2048 .bf16) (x2 : FVec Ideal S512x2048 .f32) (x3 : FVec Ideal S1x1x1x1x2048 .f32)
    (r : Fin 512) : Fin 2048 → EReal :=
  Rows.stream (fun k => side x0 (ix2 r k)) (fun k l => x1 (ix3 0 k l)) (fun l => x2 (ix2 r l)) (fun l => x3 (ix5 0 0 0 0 l))

theorem pay1_apply (v67 v69 : FVec Ideal S512x2048 .f32) (v71 v85 : FVec Ideal S1x2048 .f32) (r : Fin 512) (l : Fin 2048) :
    k0_pay1 (F := Ideal) v67 v69 v71 v85 (ix2 r l)
      = Rows.norm (fun k => v69 (ix2 r k) + v71 (ix2 0 k) * v67 (ix2 r k)) l * v85 (ix2 0 l) := by
  unfold k0_pay1 Rows.norm
  simp only [pointwise]
  rfl

theorem out_apply (x0 : FVec Ideal S32x512x128 .bf16) (x1 : FVec Ideal S1x4096x2048 .bf16) (x2 : FVec Ideal S512x2048 .f32) (x3 : FVec Ideal S1x1x1x1x2048 .f32)
    (x4 : FVec Ideal S1x2048 .f32) (r : Fin 512) (l : Fin 2048) :
    out0_5 (F := Ideal) x0 x1 x2 x3 x4 (ix2 r l) = Rows.norm (upd x0 x1 x2 x3 r) l * x4 (ix2 0 l) := by
  have e1 : View.ld (Val := Elt Ideal) (e' := .bf16) x1 r0_32 = x1 := View.ld_unit_zero (by decide) _ _
  have e2 : View.ld (Val := Elt Ideal) (e' := .f32) x2 r0_33 = x2 := View.ld_unit_zero (by decide) _ _
  have e3 : View.ld (Val := Elt Ideal) (e' := .f32) x3 r0_34 = x3 := View.ld_unit_zero (by decide) _ _
  have e4 : View.ld (Val := Elt Ideal) (e' := .f32) x4 r0_35 = x4 := View.ld_unit_zero (by decide) _ _
  unfold out0_5
  rw [e1, e2, e3, e4, pay25_eq]
  refine (congrFun (View.canon_unit_zero (by decide) _ _) (ix2 r l)).trans ?_
  rw [pay1_apply]
  congr 2
  funext k
  show k0_pay26 (F := Ideal) x2 (ix2 r k) + k0_pay27 (F := Ideal) x3 (ix2 0 k) * proj x0 x1 (ix2 r k) = x2 (ix2 r k) + x3 (ix5 0 0 0 0 k) * _
  have h26 : k0_pay26 (F := Ideal) x2 = x2 := shapeCast_self _ _
  have h27 : k0_pay27 (F := Ideal) x3 (ix2 0 k) = x3 (ix5 0 0 0 0 k) := shapeCast_apply _ _ _ _ (by
    rw [Shape.rowMajor_val_five, Shape.rowMajor_val_two]
    rfl)
  rw [h26, h27, proj_apply]

end Cert.FinalIdeal.Last
-- ==== Proof.FinalArray.lean ====
/-
  The last layer's output projection: the arrays its host code prepares, the blocks its grid reads and writes, and the array
  it returns.
-/
module

public import proofs.«01_k».proof.Proof.FinalBlock

@[expose] public section

noncomputable section

open Idealize.ShloMosaic Idealize.ShloMosaic.TcCoe Idealize.SL.Sem

namespace Cert.FinalIdeal.Last

open Cert.FinalIdeal Cert.FinalIdeal.Gen

variable (m : (ℓ : Loc nD τ sig) → Buf (Elt Ideal) ℓ) (c : Dev nD)

/-- The mixer's output. -/
abbrev ay : FVec Ideal S2x8192x4096 .f32 := m ((c : Thread nD τ).loc main_arg0)
/-- The stream. -/
abbrev ax : FVec Ideal S2x8192x2048 .f32 := m ((c : Thread nD τ).loc main_arg1)
/-- The modulations. -/
abbrev amod : FVec Ideal S4x2x6144 .f32 := m ((c : Thread nD τ).loc main_arg2)
/-- The weights. -/
abbrev aw : FVec Ideal S4x4096x2048 .f32 := m ((c : Thread nD τ).loc main_arg3)
/-- The final gains. -/
abbrev ag : FVec Ideal S2048 .f32 := m ((c : Thread nD τ).loc main_arg4)

/-- The mixer's output as the call reads it: slab `s` holds 128 lanes of every token. -/
theorem V_y (b : Fin 2) (n : Fin 8192) (s : Fin 32) (e : Fin 128) (r : Fin 16384) (k : Fin 4096) (hr : r.val = 8192 * b.val + n.val)
    (hk : k.val = 128 * s.val + e.val) : V m c main_v2 (ix3 s r e) = ay m c (ix3 b n k) := by
  have e' : V m c main_v2 = truncf (F := Ideal) .bf16 (transpose S32x16384x128 [1, 0, 2] (shapeCast S16384x32x128 (ay m c) shapeCasts_S2x8192x4096_S16384x32x128)
      transposes_S16384x32x128_S32x16384x128_1_0_2 : FVec Ideal S32x16384x128 .f32) bitsLt_bf16_f32 := by
    unfold V; after_results; rfl
  rw [e']
  show transpose S32x16384x128 [1, 0, 2] (shapeCast S16384x32x128 (ay m c) shapeCasts_S2x8192x4096_S16384x32x128)
      transposes_S16384x32x128_S32x16384x128_1_0_2 (ix3 s r e) = _
  have ht : ∀ X : S16384x32x128.Idx → EReal, transpose S32x16384x128 [1, 0, 2] X transposes_S16384x32x128_S32x16384x128_1_0_2 (ix3 s r e) = X (ix3 r s e) := fun X => by
    simp only [pointwise]
  rw [ht]
  exact shapeCast_apply _ _ _ _ (by
    rw [Shape.rowMajor_val_three, Shape.rowMajor_val_three]
    show (b.val * 8192 + n.val) * 4096 + k.val = (r.val * 32 + s.val) * 128 + e.val
    omega)

theorem V_w : V m c main_v3 = aw m c := by
  unfold V; after_results; rfl

theorem V_x (b : Fin 2) (n : Fin 8192) (l : Fin 2048) (r : Fin 16384) (hr : r.val = 8192 * b.val + n.val) :
    V m c main_v4 (ix2 r l) = ax m c (ix3 b n l) := by
  have e : V m c main_v4 = shapeCast S16384x2048 (ax m c) shapeCasts_S2x8192x2048_S16384x2048 := by
    unfold V; after_results; rfl
  rw [e]
  exact shapeCast_apply _ _ _ _ (by
    rw [Shape.rowMajor_val_three, Shape.rowMajor_val_two]
    show (b.val * 8192 + n.val) * 2048 + l.val = r.val * 2048 + l.val
    omega)

theorem V_mod (k : Fin 4) (b : Fin 2) (b' : Fin 8) (hb : b'.val = b.val) (p : Fin 3) (l : Fin 2048) (o : Fin 6144) (ho : o.val = 2048 * p.val + l.val) :
    V m c main_v7 (ix5 k b' p 0 l) = amod m c (ix3 k b o) := by
  have e : V m c main_v7 = shapeCast S4x8x3x1x2048 (concatenate S4x8x6144 1 [⟨S4x2x6144, amod m c⟩,
      ⟨S4x6x6144, (broadcastInDim S4x6x6144 ![] bcast_S_S4x6x6144 (constant S_ .f32 0x00000000#32) : FVec Ideal S4x6x6144 .f32)⟩]
      concatenates_S4x2x6144_S4x6x6144_S4x8x6144_d1) shapeCasts_S4x8x6144_S4x8x3x1x2048 := by
    unfold V; after_results; rfl
  rw [e]
  exact Rows.padded_apply _ _ _ _ k b b' hb p l o ho

theorem V_g (l : Fin 2048) : V m c main_v8 (ix2 0 l) = ag m c (ix1 l) := by
  have e : V m c main_v8 = shapeCast S1x2048 (ag m c) shapeCasts_S2048_S1x2048 := by
    unfold V; after_results; rfl
  rw [e]
  exact shapeCast_apply _ _ _ _ (by
    rw [Shape.rowMajor_val_one, Shape.rowMajor_val_two]
    show l.val = 0 * 2048 + l.val
    omega)

theorem index_y : ∀ t : Fin grid0.N, win0_0.index t 0 = 0 ∧ win0_0.index t 1 = t.val ∧ win0_0.index t 2 = 0 := by decide +kernel
theorem index_w : ∀ t : Fin grid0.N, win0_1.index t 0 = 3 ∧ win0_1.index t 1 = 0 ∧ win0_1.index t 2 = 0 := by decide +kernel
theorem index_x : ∀ t : Fin grid0.N, win0_2.index t 0 = t.val ∧ win0_2.index t 1 = 0 := by decide +kernel
theorem index_mod : ∀ t : Fin grid0.N, win0_3.index t 0 = 3 ∧ win0_3.index t 1 = t.val / 16 ∧ win0_3.index t 2 = 2 ∧ win0_3.index t 3 = 0 ∧ win0_3.index t 4 = 0 := by decide +kernel
theorem index_g : ∀ t : Fin grid0.N, win0_4.index t 0 = 0 ∧ win0_4.index t 1 = 0 := by decide +kernel
theorem index_o : ∀ t : Fin grid0.N, win0_5.index t 0 = t.val ∧ win0_5.index t 1 = 0 := by decide +kernel

variable (t : Fin cfg0.N)

theorem blk_y (s : Fin 32) (r : Fin 512) (e : Fin 128) (g : Fin 16384) (hg : g.val = 512 * t.val + r.val) :
    iblk m c 0 t (ix3 s r e) = V m c main_v2 (ix3 s g e) := by
  have hi := index_y t
  have key : ∀ X : Buf (Elt Ideal) ((c : Thread nD τ).loc main_v2), ((cfg0.win 0).blk t).view.read (Elt Ideal) X (ix3 s r e) = X (ix3 s g e) := by
    intro X
    rw [View.read_apply]
    show X _ = _
    congr 1
    funext a
    apply Fin.ext
    match a with
    | ⟨0, _⟩ => show win0_0.index t 0 * 32 + 1 * s.val = s.val; omega
    | ⟨1, _⟩ => show win0_0.index t 1 * 512 + 1 * r.val = g.val; omega
    | ⟨2, _⟩ => show win0_0.index t 2 * 128 + 1 * e.val = e.val; omega
  exact key _

theorem blk_w (k : Fin 4096) (l : Fin 2048) : iblk m c 1 t (ix3 0 k l) = V m c main_v3 (ix3 3 k l) := by
  have hi := index_w t
  have key : ∀ X : Buf (Elt Ideal) ((c : Thread nD τ).loc main_v3), ((cfg0.win 1).blk t).view.read (Elt Ideal) X (ix3 0 k l) = X (ix3 3 k l) := by
    intro X
    rw [View.read_apply]
    show X _ = _
    congr 1
    funext a
    apply Fin.ext
    match a with
    | ⟨0, _⟩ => show win0_1.index t 0 * 1 + 1 * 0 = 3; omega
    | ⟨1, _⟩ => show win0_1.index t 1 * 4096 + 1 * k.val = k.val; omega
    | ⟨2, _⟩ => show win0_1.index t 2 * 2048 + 1 * l.val = l.val; omega
  exact key _

theorem blk_x (r : Fin 512) (l : Fin 2048) (g : Fin 16384) (hg : g.val = 512 * t.val + r.val) :
    iblk m c 2 t (ix2 r l) = V m c main_v4 (ix2 g l) := by
  have hi := index_x t
  have key : ∀ X : Buf (Elt Ideal) ((c : Thread nD τ).loc main_v4), ((cfg0.win 2).blk t).view.read (Elt Ideal) X (ix2 r l) = X (ix2 g l) := by
    intro X
    rw [View.read_apply]
    show X _ = _
    congr 1
    funext a
    apply Fin.ext
    match a with
    | ⟨0, _⟩ => show win0_2.index t 0 * 512 + 1 * r.val = g.val; omega
    | ⟨1, _⟩ => show win0_2.index t 1 * 2048 + 1 * l.val = l.val; omega
  exact key _

theorem blk_mod (l : Fin 2048) (b : Fin 8) (hb : b.val = t.val / 16) :
    iblk m c 3 t (ix5 0 0 0 0 l) = V m c main_v7 (ix5 3 b 2 0 l) := by
  have hi := index_mod t
  have key : ∀ X : Buf (Elt Ideal) ((c : Thread nD τ).loc main_v7), ((cfg0.win 3).blk t).view.read (Elt Ideal) X (ix5 0 0 0 0 l) = X (ix5 3 b 2 0 l) := by
    intro X
    rw [View.read_apply]
    show X _ = _
    congr 1
    funext a
    apply Fin.ext
    match a with
    | ⟨0, _⟩ => show win0_3.index t 0 * 1 + 1 * 0 = 3; omega
    | ⟨1, _⟩ => show win0_3.index t 1 * 1 + 1 * 0 = b.val; omega
    | ⟨2, _⟩ => show win0_3.index t 2 * 1 + 1 * 0 = 2; omega
    | ⟨3, _⟩ => show win0_3.index t 3 * 1 + 1 * 0 = 0; omega
    | ⟨4, _⟩ => show win0_3.index t 4 * 2048 + 1 * l.val = l.val; omega
  exact key _

theorem blk_g (l : Fin 2048) : iblk m c 4 t (ix2 0 l) = V m c main_v8 (ix2 0 l) := by
  have hi := index_g t
  have key : ∀ X : Buf (Elt Ideal) ((c : Thread nD τ).loc main_v8), ((cfg0.win 4).blk t).view.read (Elt Ideal) X (ix2 0 l) = X (ix2 0 l) := by
    intro X
    rw [View.read_apply]
    show X _ = _
    congr 1
    funext a
    apply Fin.ext
    match a with
    | ⟨0, _⟩ => show win0_4.index t 0 * 1 + 1 * 0 = 0; omega
    | ⟨1, _⟩ => show win0_4.index t 1 * 2048 + 1 * l.val = l.val; omega
  exact key _

/-- The array the call returns. -/
def result : FVec Ideal S16384x2048 .f32 := fun i =>
  Rows.last (ay m c) (ax m c) (amod m c) (aw m c) (ag m c) ⟨(i 0).val / 8192, by have h : (i 0).val < 16384 := (i 0).isLt; omega⟩
    ⟨(i 0).val % 8192, Nat.mod_lt _ (by norm_num)⟩ (i 1)

/-- The block a grid point writes: its 512 rows of the result. -/
theorem block_apply (r : Fin 512) (l : Fin 2048) (g : Fin 16384) (hg : g.val = 512 * t.val + r.val) :
    out0_5 (F := Ideal) (iblk m c 0 t) (iblk m c 1 t) (iblk m c 2 t) (iblk m c 3 t) (iblk m c 4 t) (ix2 r l) = result m c (ix2 g l) := by
  have hN : t.val < 32 := t.isLt
  have hw : ∀ k l, iblk m c 1 t (ix3 0 k l) = aw m c (ix3 3 k l) := fun k l => (blk_w m c t k l).trans (congrFun (V_w m c) _)
  rw [out_apply, blk_g, V_g]
  show _ = Rows.norm (Rows.updated 3 (ay m c) (ax m c) (amod m c) (aw m c) ⟨g.val / 8192, _⟩ ⟨g.val % 8192, _⟩) l * ag m c (ix1 l)
  congr 2
  unfold upd Rows.updated
  congr 1
  · funext k
    exact (blk_y m c t ⟨k.val / 128, by omega⟩ r ⟨k.val % 128, Nat.mod_lt _ (by norm_num)⟩ g hg).trans
      (V_y m c _ _ _ _ g k (by dsimp only; omega) (by dsimp only; omega))
  · funext k l
    exact hw k l
  · funext l
    exact (blk_x m c t r l g hg).trans (V_x m c _ _ l g (by dsimp only; omega))
  · funext l
    exact (blk_mod m c t l ⟨t.val / 16, by omega⟩ rfl).trans (V_mod m c 3 _ _ (by dsimp only; omega) 2 l _ (by show 4096 + l.val = 2048 * 2 + l.val; omega))

theorem mem_blk (x : main_v9.ty.shape.Idx) (ht : (x 0).val / 512 = t.val) : x ∈ ((cfg0.win 5).blk t).view.set := by
  show x ∈ ((View.whole main_v9).slice (win0_5.rect t)).set
  have h0 : (x 0).val < 16384 := (x 0).isLt
  have h1 : (x 1).val < 2048 := (x 1).isLt
  rw [View.set_slice_whole, Rect.mem_set_unit]
  have hi := index_o t
  intro a
  match a with
  | ⟨0, _⟩ => show win0_5.index t 0 * 512 ≤ (x 0).val ∧ (x 0).val < win0_5.index t 0 * 512 + 512; rw [hi.1]; omega
  | ⟨1, _⟩ => show win0_5.index t 1 * 2048 ≤ (x 1).val ∧ (x 1).val < win0_5.index t 1 * 2048 + 2048; rw [hi.2]; omega

/-- The result array after the run. -/
theorem final : (dats m 0 c).arrAt 5 cfg0.N = result m c := by
  refine (dats m 0 c).arrAt_eq_of_cover 5 (result m c) (fun t _ => ?_) fun x => ?_
  · rw [Value.flushed5]
    funext j
    have hN : t.val < 32 := t.isLt
    have hi := index_o t
    have hj : j = ix2 (n0 := 512) (n1 := 2048) (j 0) (j 1) := eq_ix2 j
    have h0 : (j 0).val < 512 := (j 0).isLt
    rw [View.read_apply]
    show out0_5 (F := Ideal) (iblk m c 0 t) (iblk m c 1 t) (iblk m c 2 t) (iblk m c 3 t) (iblk m c 4 t) j = result m c _
    rw [hj, block_apply m c t (j 0) (j 1) ⟨512 * t.val + (j 0).val, by omega⟩ rfl]
    congr 1
    funext a
    apply Fin.ext
    match a with
    | ⟨0, _⟩ => show 512 * t.val + (j 0).val = win0_5.index t 0 * 512 + 1 * (j 0).val; omega
    | ⟨1, _⟩ => show (j 1).val = win0_5.index t 1 * 2048 + 1 * (j 1).val; omega
  · have h0 : (x 0).val < 16384 := (x 0).isLt
    exact ⟨⟨(x 0).val / 512, by show _ < 32; omega⟩, flush0_5 _, mem_blk _ x rfl⟩

end Cert.FinalIdeal.Last
-- ==== Proof.FinalRef.lean ====
/-
  The last layer's output projection of the reference, over the extended reals at an index.
-/
module

public import proofs.«01_k».proof.Proof.Rows
public import proofs.«01_k».proof.Proof.Consts
public import proofs.«01_k».proof.Proof.Gen.FinalReferenceIdeal.Read

@[expose] public section

noncomputable section

open Idealize.ShloMosaic Idealize.ShloMosaic.TcCoe Idealize.SL.Sem

namespace Cert.FinalReferenceIdeal.Last

open Cert.FinalReferenceIdeal Cert.FinalReferenceIdeal.Read

variable (x0 : FVec Ideal S2x8192x4096 .f32) (x1 : FVec Ideal S2x8192x2048 .f32) (x2 : FVec Ideal S4x2x6144 .f32)
  (x3 : FVec Ideal S4x4096x2048 .f32) (x4 : FVec Ideal S2048 .f32) (b : Fin 2) (n : Fin 8192) (l : Fin 2048)

theorem gate_apply : val_main_v5 (F := Ideal) x2 (ix3 b 0 l) = x2 (ix3 3 b ⟨4096 + l.val, by omega⟩) := by
  rw [val_main_v5_apply, val_main_v2_apply, val_main_v1_apply, val_main_v0_apply]
  refine congrArg x2 (funext fun a => Fin.ext ?_)
  fin_cases a
  · rfl
  · show (b.val * 6144 + (4096 + l.val)) / 6144 % 2 = b.val; omega
  · show (b.val * 6144 + (4096 + l.val)) % 6144 = 4096 + l.val; omega

theorem weight_apply (k : Fin 4096) : val_main_v7 (F := Ideal) x3 (ix2 k l) = x3 (ix3 3 k l) := by
  rw [val_main_v7_apply, val_main_v6_apply]
  refine congrArg x3 (funext fun a => Fin.ext ?_)
  fin_cases a
  · rfl
  · show (k.val * 2048 + l.val) / 2048 % 4096 = k.val; omega
  · show (k.val * 2048 + l.val) % 2048 = l.val; omega

theorem v11_apply : val_main_v11 (F := Ideal) x0 x1 x2 x3 (ix3 b n l) = Rows.updated 3 x0 x1 x2 x3 b n l := by
  rw [val_main_v11_apply, val_main_v10_apply, val_main_v9_apply, val_main_v8_apply]
  refine congrArg₂ (fun x y : EReal => x + y) rfl (congrArg₂ (fun x y : EReal => x * y) ?_ (Finset.sum_congr rfl fun k _ =>
    congrArg₂ (fun x y : EReal => x * y) (congrArg x0 ?_) ?_))
  · exact (congrArg (val_main_v5 (F := Ideal) x2) (funext fun a => by fin_cases a <;> rfl)).trans (gate_apply x2 b l)
  · funext a; fin_cases a <;> rfl
  · exact (congrArg (val_main_v7 (F := Ideal) x3) (funext fun a => by fin_cases a <;> rfl)).trans (weight_apply x3 l k)

theorem v19_apply : val_main_v19 (F := Ideal) x0 x1 x2 x3 (ix3 b n 0)
    = Ideal.rsqrt (Ideal.div (∑ k, Rows.updated 3 x0 x1 x2 x3 b n k * Rows.updated 3 x0 x1 x2 x3 b n k) (Ideal.ofBits .f32 0x45000000#32)
      + Ideal.ofBits .f32 0x358637BD#32) := by
  rw [val_main_v19_apply, val_main_v18_apply, val_main_v16_apply, val_main_v14_apply, val_main_v13_apply]
  refine congrArg Ideal.rsqrt (congrArg₂ (fun x y : EReal => x + y) (congrArg₂ Ideal.div ?_ ?_) ?_)
  · refine (congrArg₂ (fun x y : EReal => x + y) Consts.zero_f32 (Finset.sum_congr rfl fun k _ => ?_)).trans (zero_add _)
    rw [val_main_v12_apply]
    have h : val_main_v11 (F := Ideal) x0 x1 x2 x3 (idx_main_v13 (idx_main_v14 (ix3 b n 0)) k) = Rows.updated 3 x0 x1 x2 x3 b n k :=
      (congrArg (val_main_v11 (F := Ideal) x0 x1 x2 x3) (funext fun a => by fin_cases a <;> rfl)).trans (v11_apply x0 x1 x2 x3 b n k)
    exact congrArg₂ (fun x y : EReal => x * y) h h
  · rw [val_main_v15_apply]; rfl
  · rw [val_main_v17_apply]; rfl

theorem v24_apply : val_main_v24 (F := Ideal) x0 x1 x2 x3 x4 (ix3 b n l) = Rows.last x0 x1 x2 x3 x4 b n l := by
  rw [val_main_v24_apply, val_main_v21_apply, val_main_v20_apply, val_main_v23_apply, val_main_v22_apply, v11_apply]
  refine congrArg₂ (fun x y : EReal => x * y) (congrArg₂ (fun x y : EReal => x * y) rfl ?_) (congrArg x4 ?_)
  · exact (congrArg (val_main_v19 (F := Ideal) x0 x1 x2 x3) (funext fun a => by fin_cases a <;> rfl)).trans (v19_apply x0 x1 x2 x3 b n)
  · funext a; fin_cases a; rfl

theorem v25_apply (g : Fin 16384) (hg : g.val = 8192 * b.val + n.val) :
    val_main_v25 (F := Ideal) x0 x1 x2 x3 x4 (ix2 g l) = Rows.last x0 x1 x2 x3 x4 b n l := by
  rw [val_main_v25_apply, ← v24_apply]
  refine congrArg _ (funext fun a => Fin.ext ?_)
  fin_cases a
  · show (g.val * 2048 + l.val) / 16777216 = b.val; omega
  · show (g.val * 2048 + l.val) / 2048 % 8192 = n.val; omega
  · show (g.val * 2048 + l.val) % 2048 = l.val; omega

end Cert.FinalReferenceIdeal.Last
-- ==== Proof.NextBlock.lean ====
/-
  The blocks that a middle layer's output projection leaves, the updated stream and the next layer's input, over the extended
  reals at an index.
-/
module

public import proofs.«01_k».proof.Proof.Rows
public import proofs.«01_k».proof.Proof.Consts
public import proofs.«01_k».proof.Proof.Gen.NextIdeal.Value
public import Idealize.ShloMosaic.Lib.Pipeline.Value

@[expose] public section

noncomputable section

open Idealize.ShloMosaic Idealize.ShloMosaic.TcCoe Idealize.SL.Sem

namespace Cert.NextIdeal.Mid

open Cert.NextIdeal Cert.NextIdeal.Gen

variable (x0 : FVec Ideal S512x4096 .bf16) (x1 : FVec Ideal S1x4096x2048 .bf16) (x2 : FVec Ideal S512x2048 .f32) (x3 : FVec Ideal S1x1x1x1x2048 .f32)
  (x4 : FVec Ideal S1x1x2048 .f32) (x5 x6 : FVec Ideal S1x1x1x1x2048 .f32) (r : Fin 512) (l : Fin 2048)

/-- The block's row `r` of the updated stream. -/
def upd : Fin 2048 → EReal :=
  Rows.stream (fun k => x0 (ix2 r k)) (fun k l => x1 (ix3 0 k l)) (fun l => x2 (ix2 r l)) (fun l => x3 (ix5 0 0 0 0 l))

theorem lane_apply (x : FVec Ideal S1x1x1x1x2048 .f32) :
    shapeCast S1x2048 x shapeCasts_S1x1x1x1x2048_S1x2048 (ix2 0 l) = x (ix5 0 0 0 0 l) :=
  shapeCast_apply _ _ _ _ (by
    rw [Shape.rowMajor_val_five, Shape.rowMajor_val_two]
    rfl)

theorem pay2_apply : k0_pay2 (F := Ideal) x0 x1 x2 x3 (ix2 r l) = upd x0 x1 x2 x3 r l := by
  have hw : ∀ k : Fin 4096, shapeCast S4096x2048 x1 shapeCasts_S1x4096x2048_S4096x2048 (ix2 k l) = x1 (ix3 0 k l) := fun k =>
    shapeCast_apply _ _ _ _ (by
      rw [Shape.rowMajor_val_three, Shape.rowMajor_val_two]
      show (0 * 4096 + k.val) * 2048 + l.val = k.val * 2048 + l.val
      omega)
  have hg := lane_apply l x3
  unfold k0_pay2 upd Rows.stream
  rw [shapeCast_self, shapeCast_self]
  generalize shapeCast S4096x2048 x1 shapeCasts_S1x4096x2048_S4096x2048 = w' at hw
  generalize shapeCast S1x2048 x3 shapeCasts_S1x1x1x1x2048_S1x2048 = g' at hg
  simp only [pointwise, Consts.zero_f32, zero_add, hw, ← hg]
  rfl

theorem pay6_apply : k0_pay6 (F := Ideal) x0 x1 x2 x3 (ix2 r 0)
    = Ideal.rsqrt (Ideal.div (∑ k, upd x0 x1 x2 x3 r k * upd x0 x1 x2 x3 r k) (Ideal.ofBits .f32 0x45000000#32) + Ideal.ofBits .f32 0x358637BD#32) := by
  have h : ∀ k, k0_pay2 (F := Ideal) x0 x1 x2 x3 (ix2 r k) = upd x0 x1 x2 x3 r k := fun k => pay2_apply x0 x1 x2 x3 r k
  unfold k0_pay6
  generalize k0_pay2 (F := Ideal) x0 x1 x2 x3 = u at h
  simp only [pointwise, ← h]

theorem pay1_apply (v11 : FVec Ideal S512x2048 .f32) (v14 v16 v18 : FVec Ideal S1x2048 .f32) (v26 : FVec Ideal S512x1 .f32) :
    k0_pay1 (F := Ideal) v11 v14 v16 v18 v26 (ix2 r l)
      = v11 (ix2 r l) * v26 (ix2 r 0) * v14 (ix2 0 l) * (Ideal.ofBits .f32 0x3F800000#32 + v16 (ix2 0 l)) + v18 (ix2 0 l) := by
  unfold k0_pay1
  simp only [pointwise]
  rfl

theorem stream_apply : out0_7 (F := Ideal) x0 x1 x2 x3 x4 x5 x6 (ix2 r l) = upd x0 x1 x2 x3 r l := by
  have e0 : View.ld (Val := Elt Ideal) (e' := .bf16) x0 r0_0 = x0 := View.ld_unit_zero (by decide) _ _
  have e1 : View.ld (Val := Elt Ideal) (e' := .bf16) x1 r0_1 = x1 := View.ld_unit_zero (by decide) _ _
  have e2 : View.ld (Val := Elt Ideal) (e' := .f32) x2 r0_2 = x2 := View.ld_unit_zero (by decide) _ _
  have e3 : View.ld (Val := Elt Ideal) (e' := .f32) x3 r0_3 = x3 := View.ld_unit_zero (by decide) _ _
  unfold out0_7
  rw [e0, e1, e2, e3]
  exact (congrFun (View.canon_unit_zero (by decide) _ _) (ix2 r l)).trans (pay2_apply x0 x1 x2 x3 r l)

theorem next_apply : out0_8 (F := Ideal) x0 x1 x2 x3 x4 x5 x6 (ix2 r l)
    = Rows.modulated (upd x0 x1 x2 x3 r) (fun l => x4 (ix3 0 0 l)) (fun l => x5 (ix5 0 0 0 0 l)) (fun l => x6 (ix5 0 0 0 0 l)) l := by
  have e0 : View.ld (Val := Elt Ideal) (e' := .bf16) x0 r0_0 = x0 := View.ld_unit_zero (by decide) _ _
  have e1 : View.ld (Val := Elt Ideal) (e' := .bf16) x1 r0_1 = x1 := View.ld_unit_zero (by decide) _ _
  have e2 : View.ld (Val := Elt Ideal) (e' := .f32) x2 r0_2 = x2 := View.ld_unit_zero (by decide) _ _
  have e3 : View.ld (Val := Elt Ideal) (e' := .f32) x3 r0_3 = x3 := View.ld_unit_zero (by decide) _ _
  have e4 : View.ld (Val := Elt Ideal) (e' := .f32) x4 r0_4 = x4 := View.ld_unit_zero (by decide) _ _
  have e5 : View.ld (Val := Elt Ideal) (e' := .f32) x5 r0_3 = x5 := View.ld_unit_zero (by decide) _ _
  have e6 : View.ld (Val := Elt Ideal) (e' := .f32) x6 r0_3 = x6 := View.ld_unit_zero (by decide) _ _
  unfold out0_8
  rw [e0, e1, e2, e3, e4, e5, e6]
  refine (congrFun (View.canon_unit_zero (by decide) _ _) (ix2 r l)).trans ?_
  rw [pay1_apply, pay2_apply, pay6_apply]
  have h3 : k0_pay3 (F := Ideal) x4 (ix2 0 l) = x4 (ix3 0 0 l) := shapeCast_apply _ _ _ _ (by
    rw [Shape.rowMajor_val_three, Shape.rowMajor_val_two]
    rfl)
  have h4 : k0_pay4 (F := Ideal) x5 (ix2 0 l) = x5 (ix5 0 0 0 0 l) := lane_apply l x5
  have h5 : k0_pay5 (F := Ideal) x6 (ix2 0 l) = x6 (ix5 0 0 0 0 l) := lane_apply l x6
  rw [h3, h4, h5]
  rfl

end Cert.NextIdeal.Mid
-- ==== Proof.NextArray.lean ====
/-
  A middle layer's output projection: the arrays its host code prepares, the blocks its grid reads and writes, and the two
  arrays it returns.
-/
module

public import proofs.«01_k».proof.Proof.NextBlock

@[expose] public section

noncomputable section

open Idealize.ShloMosaic Idealize.ShloMosaic.TcCoe Idealize.SL.Sem

namespace Cert.NextIdeal.Mid

open Cert.NextIdeal Cert.NextIdeal.Gen

variable (m : (ℓ : Loc nD τ sig) → Buf (Elt Ideal) ℓ) (c : Dev nD)

/-- The mixer's output. -/
abbrev ay : FVec Ideal S2x8192x4096 .f32 := m ((c : Thread nD τ).loc main_arg0)
/-- The stream. -/
abbrev ax : FVec Ideal S2x8192x2048 .f32 := m ((c : Thread nD τ).loc main_arg1)
/-- The modulations. -/
abbrev amod : FVec Ideal S4x2x6144 .f32 := m ((c : Thread nD τ).loc main_arg2)
/-- The weights. -/
abbrev aw : FVec Ideal S4x4096x2048 .f32 := m ((c : Thread nD τ).loc main_arg3)
/-- The layers' gains. -/
abbrev ag : FVec Ideal S4x2048 .f32 := m ((c : Thread nD τ).loc main_arg4)

theorem V_y (b : Fin 2) (n : Fin 8192) (k : Fin 4096) (r : Fin 16384) (hr : r.val = 8192 * b.val + n.val) :
    V m c main_v1 (ix2 r k) = ay m c (ix3 b n k) := by
  have e : V m c main_v1 = truncf (F := Ideal) .bf16 (shapeCast S16384x4096 (ay m c) shapeCasts_S2x8192x4096_S16384x4096 : FVec Ideal S16384x4096 .f32)
      bitsLt_bf16_f32 := by
    unfold V; after_results; rfl
  rw [e]
  show shapeCast S16384x4096 (ay m c) shapeCasts_S2x8192x4096_S16384x4096 (ix2 r k) = _
  exact shapeCast_apply _ _ _ _ (by
    rw [Shape.rowMajor_val_three, Shape.rowMajor_val_two]
    show (b.val * 8192 + n.val) * 4096 + k.val = r.val * 4096 + k.val
    omega)

theorem V_w : V m c main_v2 = aw m c := by
  unfold V; after_results; rfl

theorem V_x (b : Fin 2) (n : Fin 8192) (l : Fin 2048) (r : Fin 16384) (hr : r.val = 8192 * b.val + n.val) :
    V m c main_v3 (ix2 r l) = ax m c (ix3 b n l) := by
  have e : V m c main_v3 = shapeCast S16384x2048 (ax m c) shapeCasts_S2x8192x2048_S16384x2048 := by
    unfold V; after_results; rfl
  rw [e]
  exact shapeCast_apply _ _ _ _ (by
    rw [Shape.rowMajor_val_three, Shape.rowMajor_val_two]
    show (b.val * 8192 + n.val) * 2048 + l.val = r.val * 2048 + l.val
    omega)

theorem V_mod (k : Fin 4) (b : Fin 2) (b' : Fin 8) (hb : b'.val = b.val) (p : Fin 3) (l : Fin 2048) (o : Fin 6144) (ho : o.val = 2048 * p.val + l.val) :
    V m c main_v6 (ix5 k b' p 0 l) = amod m c (ix3 k b o) := by
  have e : V m c main_v6 = shapeCast S4x8x3x1x2048 (concatenate S4x8x6144 1 [⟨S4x2x6144, amod m c⟩,
      ⟨S4x6x6144, (broadcastInDim S4x6x6144 ![] bcast_S_S4x6x6144 (constant S_ .f32 0x00000000#32) : FVec Ideal S4x6x6144 .f32)⟩]
      concatenates_S4x2x6144_S4x6x6144_S4x8x6144_d1) shapeCasts_S4x8x6144_S4x8x3x1x2048 := by
    unfold V; after_results; rfl
  rw [e]
  exact Rows.padded_apply _ _ _ _ k b b' hb p l o ho

theorem V_g (k : Fin 4) (l : Fin 2048) : V m c main_v7 (ix3 k 0 l) = ag m c (ix2 k l) := by
  have e : V m c main_v7 = shapeCast S4x1x2048 (ag m c) shapeCasts_S4x2048_S4x1x2048 := by
    unfold V; after_results; rfl
  rw [e]
  exact shapeCast_apply _ _ _ _ (by
    rw [Shape.rowMajor_val_two, Shape.rowMajor_val_three]
    show k.val * 2048 + l.val = (k.val * 1 + 0) * 2048 + l.val
    omega)

theorem index_y : ∀ t : Fin grid0.N, win0_0.index t 0 = t.val ∧ win0_0.index t 1 = 0 := by decide +kernel
theorem index_w : ∀ t : Fin grid0.N, win0_1.index t 0 = 1 ∧ win0_1.index t 1 = 0 ∧ win0_1.index t 2 = 0 := by decide +kernel
theorem index_x : ∀ t : Fin grid0.N, win0_2.index t 0 = t.val ∧ win0_2.index t 1 = 0 := by decide +kernel
theorem index_gate : ∀ t : Fin grid0.N, win0_3.index t 0 = 1 ∧ win0_3.index t 1 = t.val / 16 ∧ win0_3.index t 2 = 2 ∧ win0_3.index t 3 = 0 ∧ win0_3.index t 4 = 0 := by decide +kernel
theorem index_g : ∀ t : Fin grid0.N, win0_4.index t 0 = 2 ∧ win0_4.index t 1 = 0 ∧ win0_4.index t 2 = 0 := by decide +kernel
theorem index_scale : ∀ t : Fin grid0.N, win0_5.index t 0 = 2 ∧ win0_5.index t 1 = t.val / 16 ∧ win0_5.index t 2 = 1 ∧ win0_5.index t 3 = 0 ∧ win0_5.index t 4 = 0 := by decide +kernel
theorem index_shift : ∀ t : Fin grid0.N, win0_6.index t 0 = 2 ∧ win0_6.index t 1 = t.val / 16 ∧ win0_6.index t 2 = 0 ∧ win0_6.index t 3 = 0 ∧ win0_6.index t 4 = 0 := by decide +kernel
theorem index_stream : ∀ t : Fin grid0.N, win0_7.index t 0 = t.val ∧ win0_7.index t 1 = 0 := by decide +kernel
theorem index_next : ∀ t : Fin grid0.N, win0_8.index t 0 = t.val ∧ win0_8.index t 1 = 0 := by decide +kernel

variable (t : Fin cfg0.N)

theorem blk_y (r : Fin 512) (k : Fin 4096) (g : Fin 16384) (hg : g.val = 512 * t.val + r.val) :
    iblk m c 0 t (ix2 r k) = V m c main_v1 (ix2 g k) := by
  have hi := index_y t
  have key : ∀ X : Buf (Elt Ideal) ((c : Thread nD τ).loc main_v1), ((cfg0.win 0).blk t).view.read (Elt Ideal) X (ix2 r k) = X (ix2 g k) := by
    intro X
    rw [View.read_apply]
    show X _ = _
    congr 1
    funext a
    apply Fin.ext
    match a with
    | ⟨0, _⟩ => show win0_0.index t 0 * 512 + 1 * r.val = g.val; omega
    | ⟨1, _⟩ => show win0_0.index t 1 * 4096 + 1 * k.val = k.val; omega
  exact key _

theorem blk_w (k : Fin 4096) (l : Fin 2048) :
    iblk m c 1 t (ix3 0 k l) = V m c main_v2 (ix3 1 k l) := by
  have hi := index_w t
  have key : ∀ X : Buf (Elt Ideal) ((c : Thread nD τ).loc main_v2), ((cfg0.win 1).blk t).view.read (Elt Ideal) X (ix3 0 k l) = X (ix3 1 k l) := by
    intro X
    rw [View.read_apply]
    show X _ = _
    congr 1
    funext a
    apply Fin.ext
    match a with
    | ⟨0, _⟩ => show win0_1.index t 0 * 1 + 1 * 0 = 1; omega
    | ⟨1, _⟩ => show win0_1.index t 1 * 4096 + 1 * k.val = k.val; omega
    | ⟨2, _⟩ => show win0_1.index t 2 * 2048 + 1 * l.val = l.val; omega
  exact key _

theorem blk_x (r : Fin 512) (l : Fin 2048) (g : Fin 16384) (hg : g.val = 512 * t.val + r.val) :
    iblk m c 2 t (ix2 r l) = V m c main_v3 (ix2 g l) := by
  have hi := index_x t
  have key : ∀ X : Buf (Elt Ideal) ((c : Thread nD τ).loc main_v3), ((cfg0.win 2).blk t).view.read (Elt Ideal) X (ix2 r l) = X (ix2 g l) := by
    intro X
    rw [View.read_apply]
    show X _ = _
    congr 1
    funext a
    apply Fin.ext
    match a with
    | ⟨0, _⟩ => show win0_2.index t 0 * 512 + 1 * r.val = g.val; omega
    | ⟨1, _⟩ => show win0_2.index t 1 * 2048 + 1 * l.val = l.val; omega
  exact key _

theorem blk_gate (l : Fin 2048) (b : Fin 8) (hb : b.val = t.val / 16) :
    iblk m c 3 t (ix5 0 0 0 0 l) = V m c main_v6 (ix5 1 b 2 0 l) := by
  have hi := index_gate t
  have key : ∀ X : Buf (Elt Ideal) ((c : Thread nD τ).loc main_v6), ((cfg0.win 3).blk t).view.read (Elt Ideal) X (ix5 0 0 0 0 l) = X (ix5 1 b 2 0 l) := by
    intro X
    rw [View.read_apply]
    show X _ = _
    congr 1
    funext a
    apply Fin.ext
    match a with
    | ⟨0, _⟩ => show win0_3.index t 0 * 1 + 1 * 0 = 1; omega
    | ⟨1, _⟩ => show win0_3.index t 1 * 1 + 1 * 0 = b.val; omega
    | ⟨2, _⟩ => show win0_3.index t 2 * 1 + 1 * 0 = 2; omega
    | ⟨3, _⟩ => show win0_3.index t 3 * 1 + 1 * 0 = 0; omega
    | ⟨4, _⟩ => show win0_3.index t 4 * 2048 + 1 * l.val = l.val; omega
  exact key _

theorem blk_scale (l : Fin 2048) (b : Fin 8) (hb : b.val = t.val / 16) :
    iblk m c 5 t (ix5 0 0 0 0 l) = V m c main_v6 (ix5 2 b 1 0 l) := by
  have hi := index_scale t
  have key : ∀ X : Buf (Elt Ideal) ((c : Thread nD τ).loc main_v6), ((cfg0.win 5).blk t).view.read (Elt Ideal) X (ix5 0 0 0 0 l) = X (ix5 2 b 1 0 l) := by
    intro X
    rw [View.read_apply]
    show X _ = _
    congr 1
    funext a
    apply Fin.ext
    match a with
    | ⟨0, _⟩ => show win0_5.index t 0 * 1 + 1 * 0 = 2; omega
    | ⟨1, _⟩ => show win0_5.index t 1 * 1 + 1 * 0 = b.val; omega
    | ⟨2, _⟩ => show win0_5.index t 2 * 1 + 1 * 0 = 1; omega
    | ⟨3, _⟩ => show win0_5.index t 3 * 1 + 1 * 0 = 0; omega
    | ⟨4, _⟩ => show win0_5.index t 4 * 2048 + 1 * l.val = l.val; omega
  exact key _

theorem blk_shift (l : Fin 2048) (b : Fin 8) (hb : b.val = t.val / 16) :
    iblk m c 6 t (ix5 0 0 0 0 l) = V m c main_v6 (ix5 2 b 0 0 l) := by
  have hi := index_shift t
  have key : ∀ X : Buf (Elt Ideal) ((c : Thread nD τ).loc main_v6), ((cfg0.win 6).blk t).view.read (Elt Ideal) X (ix5 0 0 0 0 l) = X (ix5 2 b 0 0 l) := by
    intro X
    rw [View.read_apply]
    show X _ = _
    congr 1
    funext a
    apply Fin.ext
    match a with
    | ⟨0, _⟩ => show win0_6.index t 0 * 1 + 1 * 0 = 2; omega
    | ⟨1, _⟩ => show win0_6.index t 1 * 1 + 1 * 0 = b.val; omega
    | ⟨2, _⟩ => show win0_6.index t 2 * 1 + 1 * 0 = 0; omega
    | ⟨3, _⟩ => show win0_6.index t 3 * 1 + 1 * 0 = 0; omega
    | ⟨4, _⟩ => show win0_6.index t 4 * 2048 + 1 * l.val = l.val; omega
  exact key _

theorem blk_g (l : Fin 2048) :
    iblk m c 4 t (ix3 0 0 l) = V m c main_v7 (ix3 2 0 l) := by
  have hi := index_g t
  have key : ∀ X : Buf (Elt Ideal) ((c : Thread nD τ).loc main_v7), ((cfg0.win 4).blk t).view.read (Elt Ideal) X (ix3 0 0 l) = X (ix3 2 0 l) := by
    intro X
    rw [View.read_apply]
    show X _ = _
    congr 1
    funext a
    apply Fin.ext
    match a with
    | ⟨0, _⟩ => show win0_4.index t 0 * 1 + 1 * 0 = 2; omega
    | ⟨1, _⟩ => show win0_4.index t 1 * 1 + 1 * 0 = 0; omega
    | ⟨2, _⟩ => show win0_4.index t 2 * 2048 + 1 * l.val = l.val; omega
  exact key _

/-- The batch a row of the flattened arrays belongs to. -/
def batch (i : Fin 16384) : Fin 2 := ⟨i.val / 8192, by omega⟩

/-- The token a row of the flattened arrays holds. -/
def token (i : Fin 16384) : Fin 8192 := ⟨i.val % 8192, Nat.mod_lt _ (by norm_num)⟩

/-- The updated stream the call returns. -/
def stream : FVec Ideal S16384x2048 .f32 := fun i =>
  Rows.updated 1 (ay m c) (ax m c) (amod m c) (aw m c) (batch (i 0)) (token (i 0)) (i 1)

/-- The next layer's input, which the call also returns. -/
def next : FVec Ideal S16384x2048 .bf16 := fun i =>
  Rows.next (ay m c) (ax m c) (amod m c) (aw m c) (ag m c) (batch (i 0)) (token (i 0)) (i 1)

/-- A grid point's row of the updated stream. -/
theorem upd_eq (r : Fin 512) (g : Fin 16384) (hg : g.val = 512 * t.val + r.val) :
    upd (iblk m c 0 t) (iblk m c 1 t) (iblk m c 2 t) (iblk m c 3 t) r
      = Rows.updated 1 (ay m c) (ax m c) (amod m c) (aw m c) (batch g) (token g) := by
  have hN : t.val < 32 := t.isLt
  have hr : g.val = 8192 * (batch g).val + (token g).val := by
    show g.val = 8192 * (g.val / 8192) + g.val % 8192
    omega
  have hw : ∀ k l, iblk m c 1 t (ix3 0 k l) = aw m c (ix3 1 k l) := fun k l => (blk_w m c t k l).trans (congrFun (V_w m c) _)
  unfold upd Rows.updated
  congr 1
  · funext k
    exact (blk_y m c t r k g hg).trans (V_y m c _ _ k g hr)
  · funext k l
    exact hw k l
  · funext l
    exact (blk_x m c t r l g hg).trans (V_x m c _ _ l g hr)
  · funext l
    exact (blk_gate m c t l ⟨t.val / 16, by omega⟩ rfl).trans (V_mod m c 1 _ _ (by show t.val / 16 = g.val / 8192; omega) 2 l _
      (by show 4096 + l.val = 2048 * 2 + l.val; omega))

/-- The block of the stream that a grid point writes: its 512 rows. -/
theorem stream_block (r : Fin 512) (l : Fin 2048) (g : Fin 16384) (hg : g.val = 512 * t.val + r.val) :
    out0_7 (F := Ideal) (iblk m c 0 t) (iblk m c 1 t) (iblk m c 2 t) (iblk m c 3 t) (iblk m c 4 t) (iblk m c 5 t) (iblk m c 6 t) (ix2 r l)
      = stream m c (ix2 g l) := by
  rw [stream_apply, upd_eq m c t r g hg]
  rfl

/-- The block of the next layer's input that a grid point writes: its 512 rows. -/
theorem next_block (r : Fin 512) (l : Fin 2048) (g : Fin 16384) (hg : g.val = 512 * t.val + r.val) :
    out0_8 (F := Ideal) (iblk m c 0 t) (iblk m c 1 t) (iblk m c 2 t) (iblk m c 3 t) (iblk m c 4 t) (iblk m c 5 t) (iblk m c 6 t) (ix2 r l)
      = next m c (ix2 g l) := by
  have hN : t.val < 32 := t.isLt
  have hb : (⟨t.val / 16, by omega⟩ : Fin 8).val = (batch g).val := by
    show t.val / 16 = g.val / 8192
    omega
  rw [next_apply, upd_eq m c t r g hg]
  show _ = Rows.next (ay m c) (ax m c) (amod m c) (aw m c) (ag m c) (batch g) (token g) l
  unfold Rows.next
  congr 1
  · funext l
    exact (blk_g m c t l).trans (V_g m c 2 l)
  · funext l
    exact (blk_scale m c t l ⟨t.val / 16, by omega⟩ rfl).trans (V_mod m c 2 _ _ hb 1 l _ (by show 2048 + l.val = 2048 * 1 + l.val; omega))
  · funext l
    exact (blk_shift m c t l ⟨t.val / 16, by omega⟩ rfl).trans (V_mod m c 2 _ _ hb 0 l _ (by show l.val = 2048 * 0 + l.val; omega))

theorem mem_stream (x : main_v8_0.ty.shape.Idx) (ht : (x 0).val / 512 = t.val) : x ∈ ((cfg0.win 7).blk t).view.set := by
  show x ∈ ((View.whole main_v8_0).slice (win0_7.rect t)).set
  have h0 : (x 0).val < 16384 := (x 0).isLt
  have h1 : (x 1).val < 2048 := (x 1).isLt
  rw [View.set_slice_whole, Rect.mem_set_unit]
  have hi := index_stream t
  intro a
  match a with
  | ⟨0, _⟩ => show win0_7.index t 0 * 512 ≤ (x 0).val ∧ (x 0).val < win0_7.index t 0 * 512 + 512; rw [hi.1]; omega
  | ⟨1, _⟩ => show win0_7.index t 1 * 2048 ≤ (x 1).val ∧ (x 1).val < win0_7.index t 1 * 2048 + 2048; rw [hi.2]; omega

/-- The stream after the run. -/
theorem final_stream : (dats m 0 c).arrAt 7 cfg0.N = stream m c := by
  refine (dats m 0 c).arrAt_eq_of_cover 7 (stream m c) (fun t _ => ?_) fun x => ?_
  · rw [Value.flushed7]
    funext j
    have hN : t.val < 32 := t.isLt
    have hi := index_stream t
    have hj : j = ix2 (n0 := 512) (n1 := 2048) (j 0) (j 1) := eq_ix2 j
    have h0 : (j 0).val < 512 := (j 0).isLt
    rw [View.read_apply]
    show out0_7 (F := Ideal) (iblk m c 0 t) (iblk m c 1 t) (iblk m c 2 t) (iblk m c 3 t) (iblk m c 4 t) (iblk m c 5 t) (iblk m c 6 t) j = stream m c _
    rw [hj, stream_block m c t (j 0) (j 1) ⟨512 * t.val + (j 0).val, by omega⟩ rfl]
    congr 1
    funext a
    apply Fin.ext
    match a with
    | ⟨0, _⟩ => show 512 * t.val + (j 0).val = win0_7.index t 0 * 512 + 1 * (j 0).val; omega
    | ⟨1, _⟩ => show (j 1).val = win0_7.index t 1 * 2048 + 1 * (j 1).val; omega
  · have h0 : (x 0).val < 16384 := (x 0).isLt
    exact ⟨⟨(x 0).val / 512, by show _ < 32; omega⟩, flush0_7 _, mem_stream _ x rfl⟩

theorem mem_next (x : main_v8_1.ty.shape.Idx) (ht : (x 0).val / 512 = t.val) : x ∈ ((cfg0.win 8).blk t).view.set := by
  show x ∈ ((View.whole main_v8_1).slice (win0_8.rect t)).set
  have h0 : (x 0).val < 16384 := (x 0).isLt
  have h1 : (x 1).val < 2048 := (x 1).isLt
  rw [View.set_slice_whole, Rect.mem_set_unit]
  have hi := index_next t
  intro a
  match a with
  | ⟨0, _⟩ => show win0_8.index t 0 * 512 ≤ (x 0).val ∧ (x 0).val < win0_8.index t 0 * 512 + 512; rw [hi.1]; omega
  | ⟨1, _⟩ => show win0_8.index t 1 * 2048 ≤ (x 1).val ∧ (x 1).val < win0_8.index t 1 * 2048 + 2048; rw [hi.2]; omega

/-- The next layer's input after the run. -/
theorem final_next : (dats m 0 c).arrAt 8 cfg0.N = next m c := by
  refine (dats m 0 c).arrAt_eq_of_cover 8 (next m c) (fun t _ => ?_) fun x => ?_
  · rw [Value.flushed8]
    funext j
    have hN : t.val < 32 := t.isLt
    have hi := index_next t
    have hj : j = ix2 (n0 := 512) (n1 := 2048) (j 0) (j 1) := eq_ix2 j
    have h0 : (j 0).val < 512 := (j 0).isLt
    rw [View.read_apply]
    show out0_8 (F := Ideal) (iblk m c 0 t) (iblk m c 1 t) (iblk m c 2 t) (iblk m c 3 t) (iblk m c 4 t) (iblk m c 5 t) (iblk m c 6 t) j = next m c _
    rw [hj, next_block m c t (j 0) (j 1) ⟨512 * t.val + (j 0).val, by omega⟩ rfl]
    congr 1
    funext a
    apply Fin.ext
    match a with
    | ⟨0, _⟩ => show 512 * t.val + (j 0).val = win0_8.index t 0 * 512 + 1 * (j 0).val; omega
    | ⟨1, _⟩ => show (j 1).val = win0_8.index t 1 * 2048 + 1 * (j 1).val; omega
  · have h0 : (x 0).val < 16384 := (x 0).isLt
    exact ⟨⟨(x 0).val / 512, by show _ < 32; omega⟩, flush0_8 _, mem_next _ x rfl⟩

end Cert.NextIdeal.Mid
-- ==== Proof.NextRef.lean ====
/-
  A middle layer's output projection of the reference, with the next layer's input, over the extended reals at an index.
-/
module

public import proofs.«01_k».proof.Proof.Rows
public import proofs.«01_k».proof.Proof.Consts
public import proofs.«01_k».proof.Proof.Gen.NextReferenceIdeal.Read

@[expose] public section

noncomputable section

open Idealize.ShloMosaic Idealize.ShloMosaic.TcCoe Idealize.SL.Sem

namespace Cert.NextReferenceIdeal.Mid

open Cert.NextReferenceIdeal Cert.NextReferenceIdeal.Read

variable (x0 : FVec Ideal S2x8192x4096 .f32) (x1 : FVec Ideal S2x8192x2048 .f32) (x2 : FVec Ideal S4x2x6144 .f32)
  (x3 : FVec Ideal S4x4096x2048 .f32) (x4 : FVec Ideal S4x2048 .f32) (b : Fin 2) (n : Fin 8192) (l : Fin 2048)

theorem gate_apply : val_main_v5 (F := Ideal) x2 (ix3 b 0 l) = x2 (ix3 1 b ⟨4096 + l.val, by omega⟩) := by
  rw [val_main_v5_apply, val_main_v2_apply, val_main_v1_apply, val_main_v0_apply]
  refine congrArg x2 (funext fun a => Fin.ext ?_)
  fin_cases a
  · rfl
  · show (b.val * 6144 + (4096 + l.val)) / 6144 % 2 = b.val; omega
  · show (b.val * 6144 + (4096 + l.val)) % 6144 = 4096 + l.val; omega

theorem weight_apply (k : Fin 4096) : val_main_v7 (F := Ideal) x3 (ix2 k l) = x3 (ix3 1 k l) := by
  rw [val_main_v7_apply, val_main_v6_apply]
  refine congrArg x3 (funext fun a => Fin.ext ?_)
  fin_cases a
  · rfl
  · show (k.val * 2048 + l.val) / 2048 % 4096 = k.val; omega
  · show (k.val * 2048 + l.val) % 2048 = l.val; omega

theorem v11_apply : val_main_v11 (F := Ideal) x0 x1 x2 x3 (ix3 b n l) = Rows.updated 1 x0 x1 x2 x3 b n l := by
  rw [val_main_v11_apply, val_main_v10_apply, val_main_v9_apply, val_main_v8_apply]
  refine congrArg₂ (fun x y : EReal => x + y) rfl (congrArg₂ (fun x y : EReal => x * y) ?_ (Finset.sum_congr rfl fun k _ =>
    congrArg₂ (fun x y : EReal => x * y) (congrArg x0 ?_) ?_))
  · exact (congrArg (val_main_v5 (F := Ideal) x2) (funext fun a => by fin_cases a <;> rfl)).trans (gate_apply x2 b l)
  · funext a; fin_cases a <;> rfl
  · exact (congrArg (val_main_v7 (F := Ideal) x3) (funext fun a => by fin_cases a <;> rfl)).trans (weight_apply x3 l k)

theorem scale_apply : val_main_v16 (F := Ideal) x2 (ix3 b 0 l) = x2 (ix3 2 b ⟨2048 + l.val, by omega⟩) := by
  rw [val_main_v16_apply, val_main_v14_apply, val_main_v13_apply, val_main_v12_apply]
  refine congrArg x2 (funext fun a => Fin.ext ?_)
  fin_cases a
  · rfl
  · show (b.val * 6144 + (2048 + l.val)) / 6144 % 2 = b.val; omega
  · show (b.val * 6144 + (2048 + l.val)) % 6144 = 2048 + l.val; omega

theorem shift_apply : val_main_v15 (F := Ideal) x2 (ix3 b 0 l) = x2 (ix3 2 b ⟨l.val, by omega⟩) := by
  rw [val_main_v15_apply, val_main_v14_apply, val_main_v13_apply, val_main_v12_apply]
  refine congrArg x2 (funext fun a => Fin.ext ?_)
  fin_cases a
  · rfl
  · show (b.val * 6144 + l.val) / 6144 % 2 = b.val; omega
  · show (b.val * 6144 + l.val) % 6144 = l.val; omega

theorem gain_apply : val_main_v19 (F := Ideal) x4 (ix1 l) = x4 (ix2 2 l) := by
  rw [val_main_v19_apply, val_main_v18_apply]
  refine congrArg x4 (funext fun a => Fin.ext ?_)
  fin_cases a
  · rfl
  · show l.val % 2048 = l.val; omega

theorem v27_apply : val_main_v27 (F := Ideal) x0 x1 x2 x3 (ix3 b n 0)
    = Ideal.rsqrt (Ideal.div (∑ k, Rows.updated 1 x0 x1 x2 x3 b n k * Rows.updated 1 x0 x1 x2 x3 b n k) (Ideal.ofBits .f32 0x45000000#32)
      + Ideal.ofBits .f32 0x358637BD#32) := by
  rw [val_main_v27_apply, val_main_v26_apply, val_main_v24_apply, val_main_v22_apply, val_main_v21_apply]
  refine congrArg Ideal.rsqrt (congrArg₂ (fun x y : EReal => x + y) (congrArg₂ Ideal.div ?_ ?_) ?_)
  · refine (congrArg₂ (fun x y : EReal => x + y) Consts.zero_f32 (Finset.sum_congr rfl fun k _ => ?_)).trans (zero_add _)
    rw [val_main_v20_apply]
    have h : val_main_v11 (F := Ideal) x0 x1 x2 x3 (idx_main_v21 (idx_main_v22 (ix3 b n 0)) k) = Rows.updated 1 x0 x1 x2 x3 b n k :=
      (congrArg (val_main_v11 (F := Ideal) x0 x1 x2 x3) (funext fun a => by fin_cases a <;> rfl)).trans (v11_apply x0 x1 x2 x3 b n k)
    exact congrArg₂ (fun x y : EReal => x * y) h h
  · rw [val_main_v23_apply]; rfl
  · rw [val_main_v25_apply]; rfl

theorem v38_apply : val_main_v38 (F := Ideal) x0 x1 x2 x3 x4 (ix3 b n l) = Rows.next x0 x1 x2 x3 x4 b n l := by
  rw [val_main_v38_apply, val_main_v36_apply, val_main_v32_apply, val_main_v29_apply, val_main_v28_apply, val_main_v31_apply, val_main_v30_apply,
    val_main_v35_apply, val_main_v34_apply, val_main_v33_apply, val_main_v37_apply, v11_apply]
  refine congrArg₂ (fun x y : EReal => x + y) (congrArg₂ (fun x y : EReal => x * y) (congrArg₂ (fun x y : EReal => x * y)
    (congrArg₂ (fun x y : EReal => x * y) rfl ?_) ?_) (congrArg₂ (fun x y : EReal => x + y) rfl ?_)) ?_
  · exact (congrArg (val_main_v27 (F := Ideal) x0 x1 x2 x3) (funext fun a => by fin_cases a <;> rfl)).trans (v27_apply x0 x1 x2 x3 b n)
  · exact (congrArg (val_main_v19 (F := Ideal) x4) (funext fun a => by fin_cases a; rfl)).trans (gain_apply x4 l)
  · exact (congrArg (val_main_v16 (F := Ideal) x2) (funext fun a => by fin_cases a <;> rfl)).trans (scale_apply x2 b l)
  · exact (congrArg (val_main_v15 (F := Ideal) x2) (funext fun a => by fin_cases a <;> rfl)).trans (shift_apply x2 b l)

theorem v39_apply (g : Fin 16384) (hg : g.val = 8192 * b.val + n.val) :
    val_main_v39 (F := Ideal) x0 x1 x2 x3 (ix2 g l) = Rows.updated 1 x0 x1 x2 x3 b n l := by
  rw [val_main_v39_apply, ← v11_apply]
  refine congrArg _ (funext fun a => Fin.ext ?_)
  fin_cases a
  · show (g.val * 2048 + l.val) / 16777216 = b.val; omega
  · show (g.val * 2048 + l.val) / 2048 % 8192 = n.val; omega
  · show (g.val * 2048 + l.val) % 2048 = l.val; omega

theorem v41_apply (g : Fin 16384) (hg : g.val = 8192 * b.val + n.val) :
    val_main_v41 (F := Ideal) x0 x1 x2 x3 x4 (ix2 g l) = Rows.next x0 x1 x2 x3 x4 b n l := by
  rw [val_main_v41_apply, val_main_v40_apply, ← v38_apply]
  refine congrArg (val_main_v38 (F := Ideal) x0 x1 x2 x3 x4) (funext fun a => Fin.ext ?_)
  fin_cases a
  · show (g.val * 2048 + l.val) / 16777216 = b.val; omega
  · show (g.val * 2048 + l.val) / 2048 % 8192 = n.val; omega
  · show (g.val * 2048 + l.val) % 2048 = l.val; omega

end Cert.NextReferenceIdeal.Mid
-- ==== Proof.Gates.lean ====
/-
  The activations the input projections apply: SiLU and GELU as the kernel spells them and as the reference does, the same
  over the extended reals, and a projected entry.
-/
module

public import proofs.«01_k».proof.Proof.Consts
public import Idealize.ShloMosaic.PureOps.Ideal.Laws
public import Idealize.ShloMosaic.Lib.Pointwise
public import Idealize.ShloMosaic.Lib.Pipeline.Value

@[expose] public section

noncomputable section

open Idealize.ShloMosaic

namespace Cert.Gates

theorem one_f32 : Ideal.ofBits .f32 0x3F800000#32 = 1 := by
  simp [Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

/-- SiLU: an entry times its logistic function, which is one over one plus the exponential of its negation. -/
def silu (z : EReal) : EReal := z * Ideal.logistic z

/-- SiLU as the reference's function spells it. -/
theorem silu_spelled (z : EReal) :
    z * Ideal.div (Ideal.ofBits .f32 0x3F800000#32) (Ideal.ofBits .f32 0x3F800000#32 + Ideal.exp (-z)) = silu z := by
  rw [one_f32]
  rfl

/-- GELU through the hyperbolic tangent, as the reference spells it. -/
def gelu (u : EReal) : EReal :=
  u * (Ideal.ofBits .f32 0x3F000000#32 * (1
    + Ideal.tanh (Ideal.ofBits .f32 0x3F4C422A#32 * (u + Ideal.ofBits .f32 0x3D372713#32 * (u * u * u)))))

/-- The logistic function through the hyperbolic tangent of half the argument. -/
theorem logistic_eq (r : ℝ) : (1 / 2 : ℝ) * (1 + Real.tanh (1 / 2 * r)) = (1 + Real.exp (-r))⁻¹ := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add, add_neg_cancel, Real.exp_zero]
  have p := Real.exp_pos (1 / 2 * r)
  have q := Real.exp_pos (-(1 / 2 * r))
  rw [Real.tanh_eq_sinh_div_cosh, Real.sinh_eq, Real.cosh_eq, e1]
  generalize Real.exp (1 / 2 * r) = a at *
  generalize Real.exp (-(1 / 2 * r)) = b at *
  have h : 1 + b * b = b * (a + b) := by rw [← e2]; ring
  rw [h]
  field_simp
  linear_combination (2 : ℝ) * e2

/-- The kernel's SiLU, half an entry times one plus the hyperbolic tangent of that half, is the reference's, at the
    infinities too. -/
theorem silu_eq (z : EReal) :
    Ideal.ofBits .f32 0x3F000000#32 * z * (1 + Ideal.tanh (Ideal.ofBits .f32 0x3F000000#32 * z)) = silu z := by
  rw [half_f32, silu]
  have hp : (0 : ℝ) < 1 / 2 := by norm_num
  induction z with
  | bot =>
    rw [EReal.coe_mul_bot_of_pos hp, Ideal.tanh_bot, Ideal.logistic_bot]
    have h0 : (1 : EReal) + -1 = 0 := by
      rw [← EReal.coe_one, ← EReal.coe_neg, ← EReal.coe_add, add_neg_cancel, EReal.coe_zero]
    rw [h0, mul_zero]
  | top =>
    rw [EReal.coe_mul_top_of_pos hp, Ideal.tanh_top, Ideal.logistic_top, mul_one]
    exact EReal.top_mul_of_pos (by norm_num)
  | coe r =>
    rw [Ideal.logistic_coe, ← EReal.coe_mul, Ideal.tanh_coe, ← logistic_eq]
    norm_cast
    ring

/-- The kernel's GELU is the reference's. -/
theorem gelu_eq (u : EReal) :
    Ideal.ofBits .f32 0x3F000000#32 * u * (1
      + Ideal.tanh (Ideal.ofBits .f32 0x3F4C422A#32 * (u + Ideal.ofBits .f32 0x3D372713#32 * (u * u * u)))) = gelu u := by
  unfold gelu
  rw [mul_comm (Ideal.ofBits .f32 0x3F000000#32) u, mul_assoc]

/-- Entry `o` of token `n` of sequence `b` through a layer's input weights. -/
def proj {B W : Nat} (h : (⟨3, ![2, 8192, 2048]⟩ : Shape).Idx → EReal) (w : (⟨3, ![B, 2048, W]⟩ : Shape).Idx → EReal)
    (k : Fin B) (b : Fin 2) (n : Fin 8192) (o : Fin W) : EReal :=
  ∑ e : Fin 2048, h (ix3 b n e) * w (ix3 k e o)

/-- The batch a row of the flattened arrays belongs to. -/
def batch (i : Fin 16384) : Fin 2 := ⟨i.val / 8192, by omega⟩

/-- The token a row of the flattened arrays holds. -/
def token (i : Fin 16384) : Fin 8192 := ⟨i.val % 8192, Nat.mod_lt _ (by norm_num)⟩

theorem row_eq (i : Fin 16384) : i.val = 8192 * (batch i).val + (token i).val := by
  show i.val = 8192 * (i.val / 8192) + i.val % 8192
  omega

end Cert.Gates
-- ==== Proof.GmlpUzBlock.lean ====
/-
  The block that the gated layer's first input projection leaves, over the extended reals at an index.
-/
module

public import proofs.«01_k».proof.Proof.Gates
public import proofs.«01_k».proof.Proof.Gen.GmlpUzIdeal.Value
public import Idealize.ShloMosaic.Lib.Pipeline.Value

@[expose] public section

noncomputable section

open Idealize.ShloMosaic Idealize.ShloMosaic.TcCoe Idealize.SL.Sem

namespace Cert.GmlpUzIdeal.Uz

open Cert.GmlpUzIdeal Cert.GmlpUzIdeal.Gen

variable (x0 : FVec Ideal S2048x2048 .bf16) (x1 x2 : FVec Ideal S1x2048x512 .f32)

theorem weight_apply (w : FVec Ideal S1x2048x256 .f32) (k : Fin 2048) (l : Fin 256) :
    shapeCast S2048x256 w shapeCasts_S1x2048x256_S2048x256 (ix2 k l) = w (ix3 0 k l) :=
  shapeCast_apply _ _ _ _ (by
    rw [Shape.rowMajor_val_three, Shape.rowMajor_val_two]
    show (0 * 2048 + k.val) * 256 + l.val = k.val * 256 + l.val
    omega)

/-- 256 columns of the two products, the first's GELU times the second's SiLU. -/
theorem pay3_apply (h : FVec Ideal S2048x2048 .bf16) (u z : FVec Ideal S1x2048x256 .f32) (r : Fin 2048) (l : Fin 256) :
    k0_pay3 (F := Ideal) h u z (ix2 r l)
      = Gates.gelu (∑ k : Fin 2048, h (ix2 r k) * u (ix3 0 k l)) * Gates.silu (∑ k : Fin 2048, h (ix2 r k) * z (ix3 0 k l)) := by
  have hu : ∀ k, shapeCast S2048x256 u shapeCasts_S1x2048x256_S2048x256 (ix2 k l) = u (ix3 0 k l) := fun k => weight_apply u k l
  have hz : ∀ k, shapeCast S2048x256 z shapeCasts_S1x2048x256_S2048x256 (ix2 k l) = z (ix3 0 k l) := fun k => weight_apply z k l
  unfold k0_pay3 k0_pay2
  rw [shapeCast_self]
  generalize shapeCast S2048x256 u shapeCasts_S1x2048x256_S2048x256 = u' at hu
  generalize shapeCast S2048x256 z shapeCasts_S1x2048x256_S2048x256 = z' at hz
  simp only [pointwise, Consts.zero_f32, zero_add, ← hu, ← hz]
  exact congrArg₂ (fun x y : EReal => x * y) (Gates.gelu_eq _) (Gates.silu_eq _)

/-- The block's entry at row `r` and column `l`. -/
def entry (r : Fin 2048) (l : Fin 512) : EReal :=
  Gates.gelu (∑ k : Fin 2048, x0 (ix2 r k) * x1 (ix3 0 k l)) * Gates.silu (∑ k : Fin 2048, x0 (ix2 r k) * x2 (ix3 0 k l))

/-- 256 columns of the block from column `o`. -/
theorem tile_apply (o : ℕ) (hw : ∀ a, (![0, 0, o] : Fin 3 → ℕ) a + S1x2048x256.size a ≤ S1x2048x512.size a)
    (ho : ∀ a, (![0, o] : Fin 2 → ℕ) a + S2048x256.size a ≤ S2048x512.size a) (x : S2048x256.Idx) :
    k0_pay3 (F := Ideal) (View.ld x0 r0_0) (View.ld x1 (Rect.unit (s := S1x2048x512) ![0, 0, o] S1x2048x256.size hw))
        (View.ld x2 (Rect.unit (s := S1x2048x512) ![0, 0, o] S1x2048x256.size hw)) x
      = entry x0 x1 x2 ((Rect.unit (s := S2048x512) ![0, o] S2048x256.size ho).emb x 0) ((Rect.unit (s := S2048x512) ![0, o] S2048x256.size ho).emb x 1) := by
  have hx : x = ix2 (n0 := 2048) (n1 := 256) (x 0) (x 1) := eq_ix2 x
  have hr : ((Rect.unit (s := S2048x512) ![0, o] S2048x256.size ho).emb x 0 : Fin 2048) = x 0 :=
    Fin.ext (by show 0 + 1 * (x 0).val = (x 0).val; omega)
  have hl : ∀ (v : FVec Ideal S1x2048x512 .f32) (k : Fin 2048),
      View.ld (Val := Elt Ideal) (e' := .f32) v (Rect.unit (s := S1x2048x512) ![0, 0, o] S1x2048x256.size hw) (ix3 0 k (x 1))
        = v (ix3 0 k ((Rect.unit (s := S2048x512) ![0, o] S2048x256.size ho).emb x 1)) := by
    intro v k
    show v _ = v _
    congr 1
    funext a
    apply Fin.ext
    match a with
    | ⟨0, _⟩ => rfl
    | ⟨1, _⟩ => show 0 + 1 * k.val = k.val; omega
    | ⟨2, _⟩ => rfl
  refine (congrArg _ hx).trans ((pay3_apply _ _ _ (x 0) (x 1)).trans ?_)
  rw [View.ld_unit_zero (by decide), hr]
  exact congrArg₂ (fun x y : EReal => x * y)
    (congrArg Gates.gelu (Finset.sum_congr rfl fun k _ => congrArg (fun y : EReal => x0 (ix2 (x 0) k) * y) (hl x1 k)))
    (congrArg Gates.silu (Finset.sum_congr rfl fun k _ => congrArg (fun y : EReal => x0 (ix2 (x 0) k) * y) (hl x2 k)))

/-- The block a grid point leaves. -/
theorem out_apply (r : Fin 2048) (l : Fin 512) : out0_3 (F := Ideal) x0 x1 x2 (ix2 r l) = entry x0 x1 x2 r l := by
  unfold out0_3
  refine View.canon_apply_of_pieces (Val := Elt Ideal) (e := .bf16) (fun y : S2048x512.Idx => entry x0 x1 x2 (y 0) (y 1)) _ ?_ _ (cover0_3 _ _ _)
  intro p hp x
  simp only [List.mem_cons, List.not_mem_nil, or_false] at hp
  rcases hp with rfl | rfl
  · exact tile_apply x0 x1 x2 256 inb_S1x2048x512_S1x2048x256_0_0_256 inb_S2048x512_S2048x256_0_256 x
  · exact tile_apply x0 x1 x2 0 inb_S1x2048x512_S1x2048x256_0_0_0 inb_S2048x512_S2048x256_0_0 x

end Cert.GmlpUzIdeal.Uz
-- ==== Proof.GmlpUzArray.lean ====
/-
  The gated layer's first input projection: the arrays its host code prepares, the blocks its grid reads and writes, and the
  array it returns.
-/
module

public import proofs.«01_k».proof.Proof.GmlpUzBlock

@[expose] public section

noncomputable section

open Idealize.ShloMosaic Idealize.ShloMosaic.TcCoe Idealize.SL.Sem

namespace Cert.GmlpUzIdeal.Uz

open Cert.GmlpUzIdeal Cert.GmlpUzIdeal.Gen

variable (m : (ℓ : Loc nD τ sig) → Buf (Elt Ideal) ℓ) (c : Dev nD)

/-- The layer's input. -/
abbrev ah : FVec Ideal S2x8192x2048 .f32 := m ((c : Thread nD τ).loc main_arg0)
/-- The layer's input weights. -/
abbrev aw : FVec Ideal S1x2048x12288 .f32 := m ((c : Thread nD τ).loc main_arg1)

theorem V_h (k : Fin 2048) (r : Fin 16384) : V m c main_v1 (ix2 r k) = ah m c (ix3 (Gates.batch r) (Gates.token r) k) := by
  have e : V m c main_v1 = truncf (F := Ideal) .bf16 (shapeCast S16384x2048 (ah m c) shapeCasts_S2x8192x2048_S16384x2048 : FVec Ideal S16384x2048 .f32)
      bitsLt_bf16_f32 := by
    unfold V; after_results; rfl
  have hr := Gates.row_eq r
  rw [e]
  show shapeCast S16384x2048 (ah m c) shapeCasts_S2x8192x2048_S16384x2048 (ix2 r k) = _
  exact shapeCast_apply _ _ _ _ (by
    rw [Shape.rowMajor_val_three, Shape.rowMajor_val_two]
    show ((Gates.batch r).val * 8192 + (Gates.token r).val) * 2048 + k.val = r.val * 2048 + k.val
    omega)

theorem index_h : ∀ t : Fin grid0.N, win0_0.index t 0 = t.val / 8 ∧ win0_0.index t 1 = 0 := by decide +kernel
theorem index_u : ∀ t : Fin grid0.N, win0_1.index t 0 = 0 ∧ win0_1.index t 1 = 0 ∧ win0_1.index t 2 = t.val % 8 := by decide +kernel
theorem index_z : ∀ t : Fin grid0.N, win0_2.index t 0 = 0 ∧ win0_2.index t 1 = 0 ∧ win0_2.index t 2 = 16 + t.val % 8 := by decide +kernel
theorem index_out : ∀ t : Fin grid0.N, win0_3.index t 0 = t.val / 8 ∧ win0_3.index t 1 = t.val % 8 := by decide +kernel

variable (t : Fin cfg0.N)

theorem blk_h (r : Fin 2048) (k : Fin 2048) (g : Fin 16384) (hg : g.val = 2048 * (t.val / 8) + r.val) :
    iblk m c 0 t (ix2 r k) = V m c main_v1 (ix2 g k) := by
  have hi := index_h t
  have key : ∀ X : Buf (Elt Ideal) ((c : Thread nD τ).loc main_v1), ((cfg0.win 0).blk t).view.read (Elt Ideal) X (ix2 r k) = X (ix2 g k) := by
    intro X
    rw [View.read_apply]
    show X _ = _
    congr 1
    funext a
    apply Fin.ext
    match a with
    | ⟨0, _⟩ => show win0_0.index t 0 * 2048 + 1 * r.val = g.val; omega
    | ⟨1, _⟩ => show win0_0.index t 1 * 2048 + 1 * k.val = k.val; omega
  exact key _

theorem blk_u (k : Fin 2048) (l : Fin 512) (o : Fin 12288) (ho : o.val = 512 * (t.val % 8) + l.val) :
    iblk m c 1 t (ix3 0 k l) = aw m c (ix3 0 k o) := by
  have hi := index_u t
  have key : ∀ X : Buf (Elt Ideal) ((c : Thread nD τ).loc main_arg1), ((cfg0.win 1).blk t).view.read (Elt Ideal) X (ix3 0 k l) = X (ix3 0 k o) := by
    intro X
    rw [View.read_apply]
    show X _ = _
    congr 1
    funext a
    apply Fin.ext
    match a with
    | ⟨0, _⟩ => show win0_1.index t 0 * 1 + 1 * 0 = 0; omega
    | ⟨1, _⟩ => show win0_1.index t 1 * 2048 + 1 * k.val = k.val; omega
    | ⟨2, _⟩ => show win0_1.index t 2 * 512 + 1 * l.val = o.val; omega
  exact (key _).trans (congrFun (V_main_arg1 m c) _)

theorem blk_z (k : Fin 2048) (l : Fin 512) (o : Fin 12288) (ho : o.val = 8192 + (512 * (t.val % 8) + l.val)) :
    iblk m c 2 t (ix3 0 k l) = aw m c (ix3 0 k o) := by
  have hi := index_z t
  have key : ∀ X : Buf (Elt Ideal) ((c : Thread nD τ).loc main_arg1), ((cfg0.win 2).blk t).view.read (Elt Ideal) X (ix3 0 k l) = X (ix3 0 k o) := by
    intro X
    rw [View.read_apply]
    show X _ = _
    congr 1
    funext a
    apply Fin.ext
    match a with
    | ⟨0, _⟩ => show win0_2.index t 0 * 1 + 1 * 0 = 0; omega
    | ⟨1, _⟩ => show win0_2.index t 1 * 2048 + 1 * k.val = k.val; omega
    | ⟨2, _⟩ => show win0_2.index t 2 * 512 + 1 * l.val = o.val; omega
  exact (key _).trans (congrFun (V_main_arg1 m c) _)

/-- The array the call returns. -/
def result : FVec Ideal S16384x4096 .bf16 := fun i =>
  Gates.gelu (Gates.proj (ah m c) (aw m c) 0 (Gates.batch (i 0)) (Gates.token (i 0)) ⟨(i 1).val, by have : (i 1).val < 4096 := (i 1).isLt; omega⟩)
    * Gates.silu (Gates.proj (ah m c) (aw m c) 0 (Gates.batch (i 0)) (Gates.token (i 0)) ⟨8192 + (i 1).val, by have : (i 1).val < 4096 := (i 1).isLt; omega⟩)

/-- The block that a grid point writes: 2048 rows of 512 columns. -/
theorem block (r : Fin 2048) (l : Fin 512) (g : Fin 16384) (hg : g.val = 2048 * (t.val / 8) + r.val) (o : Fin 4096) (ho : o.val = 512 * (t.val % 8) + l.val) :
    out0_3 (F := Ideal) (iblk m c 0 t) (iblk m c 1 t) (iblk m c 2 t) (ix2 r l) = result m c (ix2 g o) := by
  have hh : ∀ k, iblk m c 0 t (ix2 r k) = ah m c (ix3 (Gates.batch g) (Gates.token g) k) := fun k => (blk_h m c t r k g hg).trans (V_h m c k g)
  rw [out_apply]
  exact congrArg₂ (fun x y : EReal => x * y)
    (congrArg Gates.gelu (Finset.sum_congr rfl fun k _ => congrArg₂ (fun x y : EReal => x * y) (hh k) (blk_u m c t k l ⟨o.val, by omega⟩ ho)))
    (congrArg Gates.silu (Finset.sum_congr rfl fun k _ => congrArg₂ (fun x y : EReal => x * y) (hh k)
      (blk_z m c t k l ⟨8192 + o.val, by omega⟩ (by show 8192 + o.val = _; omega))))

theorem mem (x : main_v2.ty.shape.Idx) (h0 : (x 0).val / 2048 = t.val / 8) (h1 : (x 1).val / 512 = t.val % 8) :
    x ∈ ((cfg0.win 3).blk t).view.set := by
  show x ∈ ((View.whole main_v2).slice (win0_3.rect t)).set
  rw [View.set_slice_whole, Rect.mem_set_unit]
  have hi := index_out t
  intro a
  match a with
  | ⟨0, _⟩ => show win0_3.index t 0 * 2048 ≤ (x 0).val ∧ (x 0).val < win0_3.index t 0 * 2048 + 2048; rw [hi.1]; omega
  | ⟨1, _⟩ => show win0_3.index t 1 * 512 ≤ (x 1).val ∧ (x 1).val < win0_3.index t 1 * 512 + 512; rw [hi.2]; omega

/-- The array after the run. -/
theorem final : (dats m 0 c).arrAt 3 cfg0.N = result m c := by
  refine (dats m 0 c).arrAt_eq_of_cover 3 (result m c) (fun t _ => ?_) fun x => ?_
  · rw [Value.flushed3]
    funext j
    have hN : t.val < 64 := t.isLt
    have hi := index_out t
    have hj : j = ix2 (n0 := 2048) (n1 := 512) (j 0) (j 1) := eq_ix2 j
    have h0 : (j 0).val < 2048 := (j 0).isLt
    have h1 : (j 1).val < 512 := (j 1).isLt
    rw [View.read_apply]
    show out0_3 (F := Ideal) (iblk m c 0 t) (iblk m c 1 t) (iblk m c 2 t) j = result m c _
    rw [hj, block m c t (j 0) (j 1) ⟨2048 * (t.val / 8) + (j 0).val, by omega⟩ rfl ⟨512 * (t.val % 8) + (j 1).val, by omega⟩ rfl]
    congr 1
    funext a
    apply Fin.ext
    match a with
    | ⟨0, _⟩ => show 2048 * (t.val / 8) + (j 0).val = win0_3.index t 0 * 2048 + 1 * (j 0).val; omega
    | ⟨1, _⟩ => show 512 * (t.val % 8) + (j 1).val = win0_3.index t 1 * 512 + 1 * (j 1).val; omega
  · have h0 : (x 0).val < 16384 := (x 0).isLt
    have h1 : (x 1).val < 4096 := (x 1).isLt
    exact ⟨⟨8 * ((x 0).val / 2048) + (x 1).val / 512, by show _ < 64; omega⟩, flush0_3 _, mem _ x (by show _ = (8 * ((x 0).val / 2048) + (x 1).val / 512) / 8; omega)
      (by show _ = (8 * ((x 0).val / 2048) + (x 1).val / 512) % 8; omega)⟩

end Cert.GmlpUzIdeal.Uz
-- ==== Proof.GmlpUzRef.lean ====
/-
  The gated layer's first input projection of the reference, over the extended reals at an index.
-/
module

public import proofs.«01_k».proof.Proof.Gates
public import proofs.«01_k».proof.Proof.Gen.GmlpUzReferenceIdeal.Read

@[expose] public section

noncomputable section

open Idealize.ShloMosaic Idealize.ShloMosaic.TcCoe Idealize.SL.Sem

namespace Cert.GmlpUzReferenceIdeal.Uz

open Cert.GmlpUzReferenceIdeal Cert.GmlpUzReferenceIdeal.Read

variable (x0 : FVec Ideal S2x8192x2048 .f32) (x1 : FVec Ideal S1x2048x12288 .f32) (b : Fin 2) (n : Fin 8192)

theorem v1_apply (o : Fin 12288) : val_main_v1 (F := Ideal) x0 x1 (ix3 b n o) = Gates.proj x0 x1 0 b n o := by
  rw [val_main_v1_apply]
  refine Finset.sum_congr rfl fun k _ => ?_
  rw [val_main_v0_apply]
  refine congrArg₂ (fun x y : EReal => x * y) (congrArg x0 ?_) (congrArg x1 (funext fun a => Fin.ext ?_))
  · funext a; fin_cases a <;> rfl
  · fin_cases a
    · rfl
    · show (k.val * 12288 + o.val) / 12288 % 2048 = k.val; omega
    · show (k.val * 12288 + o.val) % 12288 = o.val; omega

/-- A value column. -/
theorem v2_apply (o : Fin 8192) : val_main_v2 (F := Ideal) x0 x1 (ix3 b n o) = Gates.proj x0 x1 0 b n ⟨o.val, by omega⟩ := by
  rw [val_main_v2_apply, ← v1_apply]
  exact congrArg _ (funext fun a => by fin_cases a <;> rfl)

/-- A gate column. -/
theorem v3_apply (l : Fin 4096) : val_main_v3 (F := Ideal) x0 x1 (ix3 b n l) = Gates.proj x0 x1 0 b n ⟨8192 + l.val, by omega⟩ := by
  rw [val_main_v3_apply, ← v1_apply]
  exact congrArg _ (funext fun a => by fin_cases a <;> rfl)

theorem v16_apply (o : Fin 8192) : val_main_v16 (F := Ideal) x0 x1 (ix3 b n o) = Gates.gelu (Gates.proj x0 x1 0 b n ⟨o.val, by omega⟩) := by
  rw [val_main_v16_apply, val_main_v15_apply, val_main_v14_apply, val_main_cst_2_apply, val_main_v13_apply, val_main_v12_apply, val_main_cst_1_apply,
    val_main_v11_apply, val_main_v10_apply, val_main_v9_apply, val_main_cst_0_apply, val_main_v8_apply, val_main_v7_apply, val_main_v6_apply,
    val_main_cst_apply, val_main_v5_apply, val_main_v4_apply, v2_apply]
  unfold Gates.gelu
  rw [← Gates.one_f32]
  rfl

theorem v19_apply (l : Fin 4096) : val_main_v19 (F := Ideal) x0 x1 (ix3 b n l) = Gates.silu (Gates.proj x0 x1 0 b n ⟨8192 + l.val, by omega⟩) := by
  rw [val_main_v19_apply, val_main_call0_v5_apply, val_main_call0_v4_apply, val_main_call0_cst_0_apply, val_main_call0_v3_apply,
    val_main_call0_v2_apply, val_main_call0_cst_apply, val_main_call0_v1_apply, val_main_call0_v0_apply, v3_apply]
  exact Gates.silu_spelled _

theorem v22_apply (g : Fin 16384) (hg : g.val = 8192 * b.val + n.val) (l : Fin 4096) :
    val_main_v22 (F := Ideal) x0 x1 (ix2 g l)
      = Gates.gelu (Gates.proj x0 x1 0 b n ⟨l.val, by omega⟩) * Gates.silu (Gates.proj x0 x1 0 b n ⟨8192 + l.val, by omega⟩) := by
  have e : idx_main_v21 (ix2 g l) = ix3 b n l := funext fun a => Fin.ext (by
    fin_cases a
    · show (g.val * 4096 + l.val) / 33554432 = b.val; omega
    · show (g.val * 4096 + l.val) / 4096 % 8192 = n.val; omega
    · show (g.val * 4096 + l.val) % 4096 = l.val; omega)
  rw [val_main_v22_apply, val_main_v21_apply, e, val_main_v20_apply, val_main_v17_apply, v19_apply]
  refine congrArg₂ (fun x y : EReal => x * y) ?_ rfl
  rw [← v16_apply x0 x1 b n ⟨l.val, by omega⟩]
  exact congrArg _ (funext fun a => by fin_cases a <;> rfl)

end Cert.GmlpUzReferenceIdeal.Uz
-- ==== Proof.AttnZBlock.lean ====
/-
  The block that the attention layer's gate projection leaves, over the extended reals at an index.
-/
module

public import proofs.«01_k».proof.Proof.Gates
public import proofs.«01_k».proof.Proof.Gen.AttnZIdeal.Value
public import Idealize.ShloMosaic.Lib.Pipeline.Value

@[expose] public section

noncomputable section

open Idealize.ShloMosaic Idealize.ShloMosaic.TcCoe Idealize.SL.Sem

namespace Cert.AttnZIdeal.Gate

open Cert.AttnZIdeal Cert.AttnZIdeal.Gen

variable (x0 : FVec Ideal S2048x2048 .bf16) (x1 : FVec Ideal S1x2048x1024 .f32)

/-- SiLU of 256 columns of the product. -/
theorem pay4_apply (h : FVec Ideal S2048x2048 .bf16) (w : FVec Ideal S1x2048x256 .f32) (r : Fin 2048) (l : Fin 256) :
    k0_pay4 (F := Ideal) h w (ix2 r l) = Gates.silu (∑ k : Fin 2048, h (ix2 r k) * w (ix3 0 k l)) := by
  have hw : ∀ k, shapeCast S2048x256 w shapeCasts_S1x2048x256_S2048x256 (ix2 k l) = w (ix3 0 k l) := fun k =>
    shapeCast_apply _ _ _ _ (by
      rw [Shape.rowMajor_val_three, Shape.rowMajor_val_two]
      show (0 * 2048 + k.val) * 256 + l.val = k.val * 256 + l.val
      omega)
  unfold k0_pay4 k0_pay3
  rw [shapeCast_self]
  generalize shapeCast S2048x256 w shapeCasts_S1x2048x256_S2048x256 = w' at hw
  simp only [pointwise, Consts.zero_f32, zero_add, ← hw]
  exact Gates.silu_eq _

/-- The block's entry at row `r` and column `l`. -/
def entry (r : Fin 2048) (l : Fin 1024) : EReal := Gates.silu (∑ k : Fin 2048, x0 (ix2 r k) * x1 (ix3 0 k l))

/-- 256 columns of the block from column `o`. -/
theorem tile_apply (o : ℕ) (hw : ∀ a, (![0, 0, o] : Fin 3 → ℕ) a + S1x2048x256.size a ≤ S1x2048x1024.size a)
    (ho : ∀ a, (![0, o] : Fin 2 → ℕ) a + S2048x256.size a ≤ S2048x1024.size a) (x : S2048x256.Idx) :
    k0_pay4 (F := Ideal) (View.ld x0 r0_0) (View.ld x1 (Rect.unit (s := S1x2048x1024) ![0, 0, o] S1x2048x256.size hw)) x
      = entry x0 x1 ((Rect.unit (s := S2048x1024) ![0, o] S2048x256.size ho).emb x 0) ((Rect.unit (s := S2048x1024) ![0, o] S2048x256.size ho).emb x 1) := by
  have hx : x = ix2 (n0 := 2048) (n1 := 256) (x 0) (x 1) := eq_ix2 x
  have hr : ((Rect.unit (s := S2048x1024) ![0, o] S2048x256.size ho).emb x 0 : Fin 2048) = x 0 :=
    Fin.ext (by show 0 + 1 * (x 0).val = (x 0).val; omega)
  have hl : ∀ k : Fin 2048, View.ld (Val := Elt Ideal) (e' := .f32) x1 (Rect.unit (s := S1x2048x1024) ![0, 0, o] S1x2048x256.size hw) (ix3 0 k (x 1))
      = x1 (ix3 0 k ((Rect.unit (s := S2048x1024) ![0, o] S2048x256.size ho).emb x 1)) := by
    intro k
    show x1 _ = x1 _
    congr 1
    funext a
    apply Fin.ext
    match a with
    | ⟨0, _⟩ => rfl
    | ⟨1, _⟩ => show 0 + 1 * k.val = k.val; omega
    | ⟨2, _⟩ => rfl
  refine (congrArg _ hx).trans ((pay4_apply _ _ (x 0) (x 1)).trans ?_)
  rw [View.ld_unit_zero (by decide), hr]
  exact congrArg Gates.silu (Finset.sum_congr rfl fun k _ => congrArg (fun y : EReal => x0 (ix2 (x 0) k) * y) (hl k))

/-- The block a grid point leaves. -/
theorem out_apply (r : Fin 2048) (l : Fin 1024) : out0_2 (F := Ideal) x0 x1 (ix2 r l) = entry x0 x1 r l := by
  unfold out0_2
  refine View.canon_apply_of_pieces (Val := Elt Ideal) (e := .bf16) (fun y : S2048x1024.Idx => entry x0 x1 (y 0) (y 1)) _ ?_ _ (cover0_2 _ _ _ _ _)
  intro p hp x
  simp only [List.mem_cons, List.not_mem_nil, or_false] at hp
  rcases hp with rfl | rfl | rfl | rfl
  · exact tile_apply x0 x1 768 inb_S1x2048x1024_S1x2048x256_0_0_768 inb_S2048x1024_S2048x256_0_768 x
  · exact tile_apply x0 x1 512 inb_S1x2048x1024_S1x2048x256_0_0_512 inb_S2048x1024_S2048x256_0_512 x
  · exact tile_apply x0 x1 256 inb_S1x2048x1024_S1x2048x256_0_0_256 inb_S2048x1024_S2048x256_0_256 x
  · exact tile_apply x0 x1 0 inb_S1x2048x1024_S1x2048x256_0_0_0 inb_S2048x1024_S2048x256_0_0 x

end Cert.AttnZIdeal.Gate
-- ==== Proof.AttnZArray.lean ====
/-
  The attention layer's gate projection: the arrays its host code prepares, the blocks its grid reads and writes, and the
  array it returns.
-/
module

public import proofs.«01_k».proof.Proof.AttnZBlock

@[expose] public section

noncomputable section

open Idealize.ShloMosaic Idealize.ShloMosaic.TcCoe Idealize.SL.Sem

namespace Cert.AttnZIdeal.Gate

open Cert.AttnZIdeal Cert.AttnZIdeal.Gen

variable (m : (ℓ : Loc nD τ sig) → Buf (Elt Ideal) ℓ) (c : Dev nD)

/-- The layer's input. -/
abbrev ah : FVec Ideal S2x8192x2048 .f32 := m ((c : Thread nD τ).loc main_arg0)
/-- The layer's input weights. -/
abbrev aw : FVec Ideal S1x2048x9216 .f32 := m ((c : Thread nD τ).loc main_arg1)

theorem V_h (k : Fin 2048) (r : Fin 16384) : V m c main_v1 (ix2 r k) = ah m c (ix3 (Gates.batch r) (Gates.token r) k) := by
  have e : V m c main_v1 = truncf (F := Ideal) .bf16 (shapeCast S16384x2048 (ah m c) shapeCasts_S2x8192x2048_S16384x2048 : FVec Ideal S16384x2048 .f32)
      bitsLt_bf16_f32 := by
    unfold V; after_results; rfl
  have hr := Gates.row_eq r
  rw [e]
  show shapeCast S16384x2048 (ah m c) shapeCasts_S2x8192x2048_S16384x2048 (ix2 r k) = _
  exact shapeCast_apply _ _ _ _ (by
    rw [Shape.rowMajor_val_three, Shape.rowMajor_val_two]
    show ((Gates.batch r).val * 8192 + (Gates.token r).val) * 2048 + k.val = r.val * 2048 + k.val
    omega)

theorem index_h : ∀ t : Fin grid0.N, win0_0.index t 0 = t.val / 4 ∧ win0_0.index t 1 = 0 := by decide +kernel
theorem index_z : ∀ t : Fin grid0.N, win0_1.index t 0 = 0 ∧ win0_1.index t 1 = 0 ∧ win0_1.index t 2 = 5 + t.val % 4 := by decide +kernel
theorem index_out : ∀ t : Fin grid0.N, win0_2.index t 0 = t.val / 4 ∧ win0_2.index t 1 = t.val % 4 := by decide +kernel

variable (t : Fin cfg0.N)

theorem blk_h (r : Fin 2048) (k : Fin 2048) (g : Fin 16384) (hg : g.val = 2048 * (t.val / 4) + r.val) :
    iblk m c 0 t (ix2 r k) = V m c main_v1 (ix2 g k) := by
  have hi := index_h t
  have key : ∀ X : Buf (Elt Ideal) ((c : Thread nD τ).loc main_v1), ((cfg0.win 0).blk t).view.read (Elt Ideal) X (ix2 r k) = X (ix2 g k) := by
    intro X
    rw [View.read_apply]
    show X _ = _
    congr 1
    funext a
    apply Fin.ext
    match a with
    | ⟨0, _⟩ => show win0_0.index t 0 * 2048 + 1 * r.val = g.val; omega
    | ⟨1, _⟩ => show win0_0.index t 1 * 2048 + 1 * k.val = k.val; omega
  exact key _

theorem blk_z (k : Fin 2048) (l : Fin 1024) (o : Fin 9216) (ho : o.val = 5120 + (1024 * (t.val % 4) + l.val)) :
    iblk m c 1 t (ix3 0 k l) = aw m c (ix3 0 k o) := by
  have hi := index_z t
  have key : ∀ X : Buf (Elt Ideal) ((c : Thread nD τ).loc main_arg1), ((cfg0.win 1).blk t).view.read (Elt Ideal) X (ix3 0 k l) = X (ix3 0 k o) := by
    intro X
    rw [View.read_apply]
    show X _ = _
    congr 1
    funext a
    apply Fin.ext
    match a with
    | ⟨0, _⟩ => show win0_1.index t 0 * 1 + 1 * 0 = 0; omega
    | ⟨1, _⟩ => show win0_1.index t 1 * 2048 + 1 * k.val = k.val; omega
    | ⟨2, _⟩ => show win0_1.index t 2 * 1024 + 1 * l.val = o.val; omega
  exact (key _).trans (congrFun (V_main_arg1 m c) _)

/-- The array the call returns. -/
def result : FVec Ideal S16384x4096 .bf16 := fun i =>
  Gates.silu (Gates.proj (ah m c) (aw m c) 0 (Gates.batch (i 0)) (Gates.token (i 0)) ⟨5120 + (i 1).val, by have : (i 1).val < 4096 := (i 1).isLt; omega⟩)

/-- The block that a grid point writes: 2048 rows of 1024 columns. -/
theorem block (r : Fin 2048) (l : Fin 1024) (g : Fin 16384) (hg : g.val = 2048 * (t.val / 4) + r.val) (o : Fin 4096) (ho : o.val = 1024 * (t.val % 4) + l.val) :
    out0_2 (F := Ideal) (iblk m c 0 t) (iblk m c 1 t) (ix2 r l) = result m c (ix2 g o) := by
  have hh : ∀ k, iblk m c 0 t (ix2 r k) = ah m c (ix3 (Gates.batch g) (Gates.token g) k) := fun k => (blk_h m c t r k g hg).trans (V_h m c k g)
  rw [out_apply]
  exact congrArg Gates.silu (Finset.sum_congr rfl fun k _ => congrArg₂ (fun x y : EReal => x * y) (hh k)
    (blk_z m c t k l ⟨5120 + o.val, by omega⟩ (by show 5120 + o.val = _; omega)))

theorem mem (x : main_v2.ty.shape.Idx) (h0 : (x 0).val / 2048 = t.val / 4) (h1 : (x 1).val / 1024 = t.val % 4) :
    x ∈ ((cfg0.win 2).blk t).view.set := by
  show x ∈ ((View.whole main_v2).slice (win0_2.rect t)).set
  rw [View.set_slice_whole, Rect.mem_set_unit]
  have hi := index_out t
  intro a
  match a with
  | ⟨0, _⟩ => show win0_2.index t 0 * 2048 ≤ (x 0).val ∧ (x 0).val < win0_2.index t 0 * 2048 + 2048; rw [hi.1]; omega
  | ⟨1, _⟩ => show win0_2.index t 1 * 1024 ≤ (x 1).val ∧ (x 1).val < win0_2.index t 1 * 1024 + 1024; rw [hi.2]; omega

/-- The array after the run. -/
theorem final : (dats m 0 c).arrAt 2 cfg0.N = result m c := by
  refine (dats m 0 c).arrAt_eq_of_cover 2 (result m c) (fun t _ => ?_) fun x => ?_
  · rw [Value.flushed2]
    funext j
    have hN : t.val < 32 := t.isLt
    have hi := index_out t
    have hj : j = ix2 (n0 := 2048) (n1 := 1024) (j 0) (j 1) := eq_ix2 j
    have h0 : (j 0).val < 2048 := (j 0).isLt
    have h1 : (j 1).val < 1024 := (j 1).isLt
    rw [View.read_apply]
    show out0_2 (F := Ideal) (iblk m c 0 t) (iblk m c 1 t) j = result m c _
    rw [hj, block m c t (j 0) (j 1) ⟨2048 * (t.val / 4) + (j 0).val, by omega⟩ rfl ⟨1024 * (t.val % 4) + (j 1).val, by omega⟩ rfl]
    congr 1
    funext a
    apply Fin.ext
    match a with
    | ⟨0, _⟩ => show 2048 * (t.val / 4) + (j 0).val = win0_2.index t 0 * 2048 + 1 * (j 0).val; omega
    | ⟨1, _⟩ => show 1024 * (t.val % 4) + (j 1).val = win0_2.index t 1 * 1024 + 1 * (j 1).val; omega
  · have h0 : (x 0).val < 16384 := (x 0).isLt
    have h1 : (x 1).val < 4096 := (x 1).isLt
    exact ⟨⟨4 * ((x 0).val / 2048) + (x 1).val / 1024, by show _ < 32; omega⟩, flush0_2 _, mem _ x (by show _ = (4 * ((x 0).val / 2048) + (x 1).val / 1024) / 4; omega)
      (by show _ = (4 * ((x 0).val / 2048) + (x 1).val / 1024) % 4; omega)⟩

end Cert.AttnZIdeal.Gate
-- ==== Proof.AttnZRef.lean ====
/-
  The attention layer's gate projection of the reference, over the extended reals at an index.
-/
module

public import proofs.«01_k».proof.Proof.Gates
public import proofs.«01_k».proof.Proof.Gen.AttnZReferenceIdeal.Read

@[expose] public section

noncomputable section

open Idealize.ShloMosaic Idealize.ShloMosaic.TcCoe Idealize.SL.Sem

namespace Cert.AttnZReferenceIdeal.Gate

open Cert.AttnZReferenceIdeal Cert.AttnZReferenceIdeal.Read

variable (x0 : FVec Ideal S2x8192x2048 .f32) (x1 : FVec Ideal S1x2048x9216 .f32) (b : Fin 2) (n : Fin 8192)

theorem v1_apply (o : Fin 9216) : val_main_v1 (F := Ideal) x0 x1 (ix3 b n o) = Gates.proj x0 x1 0 b n o := by
  rw [val_main_v1_apply]
  refine Finset.sum_congr rfl fun k _ => ?_
  rw [val_main_v0_apply]
  refine congrArg₂ (fun x y : EReal => x * y) (congrArg x0 ?_) (congrArg x1 (funext fun a => Fin.ext ?_))
  · funext a; fin_cases a <;> rfl
  · fin_cases a
    · rfl
    · show (k.val * 9216 + o.val) / 9216 % 2048 = k.val; omega
    · show (k.val * 9216 + o.val) % 9216 = o.val; omega

/-- A gate column. -/
theorem v5_apply (l : Fin 4096) : val_main_v5 (F := Ideal) x0 x1 (ix3 b n l) = Gates.proj x0 x1 0 b n ⟨5120 + l.val, by omega⟩ := by
  rw [val_main_v5_apply, ← v1_apply]
  exact congrArg _ (funext fun a => by fin_cases a <;> rfl)

theorem v6_apply (l : Fin 4096) : val_main_v6 (F := Ideal) x0 x1 (ix3 b n l) = Gates.silu (Gates.proj x0 x1 0 b n ⟨5120 + l.val, by omega⟩) := by
  rw [val_main_v6_apply, val_main_call0_v5_apply, val_main_call0_v4_apply, val_main_call0_cst_0_apply, val_main_call0_v3_apply,
    val_main_call0_v2_apply, val_main_call0_cst_apply, val_main_call0_v1_apply, val_main_call0_v0_apply, v5_apply]
  exact Gates.silu_spelled _

theorem v8_apply (g : Fin 16384) (hg : g.val = 8192 * b.val + n.val) (l : Fin 4096) :
    val_main_v8 (F := Ideal) x0 x1 (ix2 g l) = Gates.silu (Gates.proj x0 x1 0 b n ⟨5120 + l.val, by omega⟩) := by
  rw [val_main_v8_apply, val_main_v7_apply, ← v6_apply]
  refine congrArg (val_main_v6 (F := Ideal) x0 x1) (funext fun a => Fin.ext ?_)
  fin_cases a
  · show (g.val * 4096 + l.val) / 33554432 = b.val; omega
  · show (g.val * 4096 + l.val) / 4096 % 8192 = n.val; omega
  · show (g.val * 4096 + l.val) % 4096 = l.val; omega

end Cert.AttnZReferenceIdeal.Gate
-- ==== Proof.FnetZBlock.lean ====
/-
  The block that the Fourier layer's gate projection leaves, in slabs of 128 lanes, over the extended reals at an index.
-/
module

public import proofs.«01_k».proof.Proof.Gates
public import proofs.«01_k».proof.Proof.Gen.FnetZIdeal.Value
public import Idealize.ShloMosaic.Lib.Pipeline.Value

@[expose] public section

noncomputable section

open Idealize.ShloMosaic Idealize.ShloMosaic.TcCoe Idealize.SL.Sem

namespace Cert.FnetZIdeal.Gate

open Cert.FnetZIdeal Cert.FnetZIdeal.Gen

variable (x0 : FVec Ideal S2048x2048 .bf16) (x1 : FVec Ideal S1x2048x1024 .f32)

/-- 256 columns of the product. -/
theorem pay3_apply (h : FVec Ideal S2048x2048 .bf16) (w : FVec Ideal S1x2048x256 .f32) (r : Fin 2048) (l : Fin 256) :
    k0_pay3 (F := Ideal) h w (ix2 r l) = ∑ k : Fin 2048, h (ix2 r k) * w (ix3 0 k l) := by
  have hw : ∀ k, shapeCast S2048x256 w shapeCasts_S1x2048x256_S2048x256 (ix2 k l) = w (ix3 0 k l) := fun k =>
    shapeCast_apply _ _ _ _ (by
      rw [Shape.rowMajor_val_three, Shape.rowMajor_val_two]
      show (0 * 2048 + k.val) * 256 + l.val = k.val * 256 + l.val
      omega)
  unfold k0_pay3 k0_pay2
  rw [shapeCast_self]
  generalize shapeCast S2048x256 w shapeCasts_S1x2048x256_S2048x256 = w' at hw
  simp only [pointwise, Consts.zero_f32, zero_add, ← hw]

/-- SiLU of a slab's columns. -/
theorem pay1_apply (v : FVec Ideal S2048x128 .f32) (r : Fin 2048) (l : Fin 128) :
    k0_pay1 (F := Ideal) v (Scalar.ofBits .f32 0x3F000000#32) (ix3 0 r l) = Gates.silu (v (ix2 r l)) := by
  unfold k0_pay1
  refine (shapeCast_apply _ _ _ (ix2 r l) (by
    rw [Shape.rowMajor_val_two, Shape.rowMajor_val_three]
    show r.val * 128 + l.val = (0 * 2048 + r.val) * 128 + l.val
    omega)).trans ?_
  simp only [pointwise]
  exact Gates.silu_eq _

/-- The block's entry in slab `s` at row `r` and lane `l`. -/
def entry (s : Fin 8) (r : Fin 2048) (l : Fin 128) : EReal :=
  Gates.silu (∑ k : Fin 2048, x0 (ix2 r k) * x1 (ix3 0 k ⟨128 * s.val + l.val, by omega⟩))

/-- Slab `s`, the 128 columns from `q` of the 256 from `o`. -/
theorem tile_apply (o q s : ℕ) (hs : o + q = 128 * s) (hq2 : q + 128 ≤ 256) (hw : ∀ a, (![0, 0, o] : Fin 3 → ℕ) a + S1x2048x256.size a ≤ S1x2048x1024.size a)
    (hq : S2048x256.Slices ![0, q] S2048x128) (ho : ∀ a, (![s, 0, 0] : Fin 3 → ℕ) a + S1x2048x128.size a ≤ S8x2048x128.size a)
    (x : S1x2048x128.Idx) :
    k0_pay1 (F := Ideal) (extractStridedSlice S2048x128 ![0, q]
        (k0_pay3 (View.ld x0 r0_0) (View.ld x1 (Rect.unit (s := S1x2048x1024) ![0, 0, o] S1x2048x256.size hw))) hq) (Scalar.ofBits .f32 0x3F000000#32) x
      = entry x0 x1 ((Rect.unit (s := S8x2048x128) ![s, 0, 0] S1x2048x128.size ho).emb x 0)
          ((Rect.unit (s := S8x2048x128) ![s, 0, 0] S1x2048x128.size ho).emb x 1) ((Rect.unit (s := S8x2048x128) ![s, 0, 0] S1x2048x128.size ho).emb x 2) := by
  have h0 : (x 0).val < 1 := (x 0).isLt
  have h1 : (x 1).val < 2048 := (x 1).isLt
  have h2 : (x 2).val < 128 := (x 2).isLt
  have hx : x = ix3 (n0 := 1) (n1 := 2048) (n2 := 128) 0 (x 1) (x 2) := by
    funext a
    apply Fin.ext
    match a with
    | ⟨0, _⟩ => show (x 0).val = 0; omega
    | ⟨1, _⟩ => rfl
    | ⟨2, _⟩ => rfl
  have hr : ((Rect.unit (s := S8x2048x128) ![s, 0, 0] S1x2048x128.size ho).emb x 1 : Fin 2048) = x 1 :=
    Fin.ext (by show 0 + 1 * (x 1).val = (x 1).val; omega)
  refine (congrArg _ hx).trans ((pay1_apply _ (x 1) (x 2)).trans (congrArg Gates.silu ?_))
  refine (extractStridedSlice_apply ![0, q] _ hq (ix2 (x 1) (x 2)) (ix2 (x 1) ⟨q + (x 2).val, by omega⟩) (fun a => match a with
    | ⟨0, _⟩ => by show (x 1).val = 0 + (x 1).val; omega
    | ⟨1, _⟩ => rfl)).trans ((pay3_apply _ _ (x 1) _).trans ?_)
  rw [View.ld_unit_zero (by decide), hr]
  refine Finset.sum_congr rfl fun k _ => congrArg (fun y : EReal => x0 (ix2 (x 1) k) * y) ?_
  show x1 _ = x1 _
  congr 1
  funext a
  apply Fin.ext
  match a with
  | ⟨0, _⟩ => rfl
  | ⟨1, _⟩ => show 0 + 1 * k.val = k.val; omega
  | ⟨2, _⟩ => show o + 1 * (q + (x 2).val) = 128 * (s + 1 * (x 0).val) + (0 + 1 * (x 2).val); omega

/-- The block a grid point leaves. -/
theorem out_apply (s : Fin 8) (r : Fin 2048) (l : Fin 128) : out0_2 (F := Ideal) x0 x1 (ix3 s r l) = entry x0 x1 s r l := by
  unfold out0_2
  refine View.canon_apply_of_pieces (Val := Elt Ideal) (e := .bf16) (fun y : S8x2048x128.Idx => entry x0 x1 (y 0) (y 1) (y 2)) _ ?_ _
    (cover0_2 _ _ _ _ _ _ _ _ _)
  intro p hp x
  simp only [List.mem_cons, List.not_mem_nil, or_false] at hp
  rcases hp with rfl | rfl | rfl | rfl | rfl | rfl | rfl | rfl
  · exact tile_apply x0 x1 768 128 7 rfl (by norm_num) inb_S1x2048x1024_S1x2048x256_0_0_768 slices_S2048x256_o0_128_S2048x128 inb_S8x2048x128_S1x2048x128_7_0_0 x
  · exact tile_apply x0 x1 768 0 6 rfl (by norm_num) inb_S1x2048x1024_S1x2048x256_0_0_768 slices_S2048x256_o0_0_S2048x128 inb_S8x2048x128_S1x2048x128_6_0_0 x
  · exact tile_apply x0 x1 512 128 5 rfl (by norm_num) inb_S1x2048x1024_S1x2048x256_0_0_512 slices_S2048x256_o0_128_S2048x128 inb_S8x2048x128_S1x2048x128_5_0_0 x
  · exact tile_apply x0 x1 512 0 4 rfl (by norm_num) inb_S1x2048x1024_S1x2048x256_0_0_512 slices_S2048x256_o0_0_S2048x128 inb_S8x2048x128_S1x2048x128_4_0_0 x
  · exact tile_apply x0 x1 256 128 3 rfl (by norm_num) inb_S1x2048x1024_S1x2048x256_0_0_256 slices_S2048x256_o0_128_S2048x128 inb_S8x2048x128_S1x2048x128_3_0_0 x
  · exact tile_apply x0 x1 256 0 2 rfl (by norm_num) inb_S1x2048x1024_S1x2048x256_0_0_256 slices_S2048x256_o0_0_S2048x128 inb_S8x2048x128_S1x2048x128_2_0_0 x
  · exact tile_apply x0 x1 0 128 1 rfl (by norm_num) inb_S1x2048x1024_S1x2048x256_0_0_0 slices_S2048x256_o0_128_S2048x128 inb_S8x2048x128_S1x2048x128_1_0_0 x
  · exact tile_apply x0 x1 0 0 0 rfl (by norm_num) inb_S1x2048x1024_S1x2048x256_0_0_0 slices_S2048x256_o0_0_S2048x128 inb_S8x2048x128_S1x2048x128_0_0_0 x

end Cert.FnetZIdeal.Gate
-- ==== Proof.FnetZArray.lean ====
/-
  The Fourier layer's gate projection: the arrays its host code prepares, the blocks its grid reads and writes, and the
  array it returns.
-/
module

public import proofs.«01_k».proof.Proof.FnetZBlock

@[expose] public section

noncomputable section

open Idealize.ShloMosaic Idealize.ShloMosaic.TcCoe Idealize.SL.Sem

namespace Cert.FnetZIdeal.Gate

open Cert.FnetZIdeal Cert.FnetZIdeal.Gen

variable (m : (ℓ : Loc nD τ sig) → Buf (Elt Ideal) ℓ) (c : Dev nD)

/-- The layer's input. -/
abbrev ah : FVec Ideal S2x8192x2048 .f32 := m ((c : Thread nD τ).loc main_arg0)
/-- The Fourier layers' input weights, of which the call reads the first layer's. -/
abbrev aw : FVec Ideal S2x2048x8192 .f32 := m ((c : Thread nD τ).loc main_arg1)

theorem V_h (k : Fin 2048) (r : Fin 16384) : V m c main_v1 (ix2 r k) = ah m c (ix3 (Gates.batch r) (Gates.token r) k) := by
  have e : V m c main_v1 = truncf (F := Ideal) .bf16 (shapeCast S16384x2048 (ah m c) shapeCasts_S2x8192x2048_S16384x2048 : FVec Ideal S16384x2048 .f32)
      bitsLt_bf16_f32 := by
    unfold V; after_results; rfl
  have hr := Gates.row_eq r
  rw [e]
  show shapeCast S16384x2048 (ah m c) shapeCasts_S2x8192x2048_S16384x2048 (ix2 r k) = _
  exact shapeCast_apply _ _ _ _ (by
    rw [Shape.rowMajor_val_three, Shape.rowMajor_val_two]
    show ((Gates.batch r).val * 8192 + (Gates.token r).val) * 2048 + k.val = r.val * 2048 + k.val
    omega)

theorem index_h : ∀ t : Fin grid0.N, win0_0.index t 0 = t.val / 4 ∧ win0_0.index t 1 = 0 := by decide +kernel
theorem index_z : ∀ t : Fin grid0.N, win0_1.index t 0 = 0 ∧ win0_1.index t 1 = 0 ∧ win0_1.index t 2 = 4 + t.val % 4 := by decide +kernel
theorem index_out : ∀ t : Fin grid0.N, win0_2.index t 0 = t.val % 4 ∧ win0_2.index t 1 = t.val / 4 ∧ win0_2.index t 2 = 0 := by decide +kernel

variable (t : Fin cfg0.N)

theorem blk_h (r : Fin 2048) (k : Fin 2048) (g : Fin 16384) (hg : g.val = 2048 * (t.val / 4) + r.val) :
    iblk m c 0 t (ix2 r k) = V m c main_v1 (ix2 g k) := by
  have hi := index_h t
  have key : ∀ X : Buf (Elt Ideal) ((c : Thread nD τ).loc main_v1), ((cfg0.win 0).blk t).view.read (Elt Ideal) X (ix2 r k) = X (ix2 g k) := by
    intro X
    rw [View.read_apply]
    show X _ = _
    congr 1
    funext a
    apply Fin.ext
    match a with
    | ⟨0, _⟩ => show win0_0.index t 0 * 2048 + 1 * r.val = g.val; omega
    | ⟨1, _⟩ => show win0_0.index t 1 * 2048 + 1 * k.val = k.val; omega
  exact key _

theorem blk_z (k : Fin 2048) (l : Fin 1024) (o : Fin 8192) (ho : o.val = 4096 + (1024 * (t.val % 4) + l.val)) :
    iblk m c 1 t (ix3 0 k l) = aw m c (ix3 0 k o) := by
  have hi := index_z t
  have key : ∀ X : Buf (Elt Ideal) ((c : Thread nD τ).loc main_arg1), ((cfg0.win 1).blk t).view.read (Elt Ideal) X (ix3 0 k l) = X (ix3 0 k o) := by
    intro X
    rw [View.read_apply]
    show X _ = _
    congr 1
    funext a
    apply Fin.ext
    match a with
    | ⟨0, _⟩ => show win0_1.index t 0 * 1 + 1 * 0 = 0; omega
    | ⟨1, _⟩ => show win0_1.index t 1 * 2048 + 1 * k.val = k.val; omega
    | ⟨2, _⟩ => show win0_1.index t 2 * 1024 + 1 * l.val = o.val; omega
  exact (key _).trans (congrFun (V_main_arg1 m c) _)

/-- The array the call returns, column `128 s + l` in slab `s`. -/
def result : FVec Ideal S32x16384x128 .bf16 := fun i =>
  Gates.silu (Gates.proj (ah m c) (aw m c) 0 (Gates.batch (i 1)) (Gates.token (i 1))
    ⟨4096 + (128 * (i 0).val + (i 2).val), by have : (i 0).val < 32 := (i 0).isLt; have : (i 2).val < 128 := (i 2).isLt; omega⟩)

/-- The block that a grid point writes: 2048 rows of eight slabs. -/
theorem block (s : Fin 8) (r : Fin 2048) (l : Fin 128) (g : Fin 16384) (hg : g.val = 2048 * (t.val / 4) + r.val) (o : Fin 32) (ho : o.val = 8 * (t.val % 4) + s.val) :
    out0_2 (F := Ideal) (iblk m c 0 t) (iblk m c 1 t) (ix3 s r l) = result m c (ix3 o g l) := by
  have hh : ∀ k, iblk m c 0 t (ix2 r k) = ah m c (ix3 (Gates.batch g) (Gates.token g) k) := fun k => (blk_h m c t r k g hg).trans (V_h m c k g)
  rw [out_apply]
  exact congrArg Gates.silu (Finset.sum_congr rfl fun k _ => congrArg₂ (fun x y : EReal => x * y) (hh k)
    (blk_z m c t k ⟨128 * s.val + l.val, by omega⟩ ⟨4096 + (128 * o.val + l.val), by omega⟩
      (by show 4096 + (128 * o.val + l.val) = 4096 + (1024 * (t.val % 4) + (128 * s.val + l.val)); omega)))

theorem mem (x : main_v2.ty.shape.Idx) (h0 : (x 0).val / 8 = t.val % 4) (h1 : (x 1).val / 2048 = t.val / 4) :
    x ∈ ((cfg0.win 2).blk t).view.set := by
  show x ∈ ((View.whole main_v2).slice (win0_2.rect t)).set
  have h2 : (x 2).val < 128 := (x 2).isLt
  rw [View.set_slice_whole, Rect.mem_set_unit]
  have hi := index_out t
  intro a
  match a with
  | ⟨0, _⟩ => show win0_2.index t 0 * 8 ≤ (x 0).val ∧ (x 0).val < win0_2.index t 0 * 8 + 8; rw [hi.1]; omega
  | ⟨1, _⟩ => show win0_2.index t 1 * 2048 ≤ (x 1).val ∧ (x 1).val < win0_2.index t 1 * 2048 + 2048; rw [hi.2.1]; omega
  | ⟨2, _⟩ => show win0_2.index t 2 * 128 ≤ (x 2).val ∧ (x 2).val < win0_2.index t 2 * 128 + 128; rw [hi.2.2]; omega

/-- The array after the run. -/
theorem final : (dats m 0 c).arrAt 2 cfg0.N = result m c := by
  refine (dats m 0 c).arrAt_eq_of_cover 2 (result m c) (fun t _ => ?_) fun x => ?_
  · rw [Value.flushed2]
    funext j
    have hN : t.val < 32 := t.isLt
    have hi := index_out t
    have hj : j = ix3 (n0 := 8) (n1 := 2048) (n2 := 128) (j 0) (j 1) (j 2) := eq_ix3 j
    have h0 : (j 0).val < 8 := (j 0).isLt
    have h1 : (j 1).val < 2048 := (j 1).isLt
    rw [View.read_apply]
    show out0_2 (F := Ideal) (iblk m c 0 t) (iblk m c 1 t) j = result m c _
    rw [hj, block m c t (j 0) (j 1) (j 2) ⟨2048 * (t.val / 4) + (j 1).val, by omega⟩ rfl ⟨8 * (t.val % 4) + (j 0).val, by omega⟩ rfl]
    congr 1
    funext a
    apply Fin.ext
    match a with
    | ⟨0, _⟩ => show 8 * (t.val % 4) + (j 0).val = win0_2.index t 0 * 8 + 1 * (j 0).val; omega
    | ⟨1, _⟩ => show 2048 * (t.val / 4) + (j 1).val = win0_2.index t 1 * 2048 + 1 * (j 1).val; omega
    | ⟨2, _⟩ => show (j 2).val = win0_2.index t 2 * 128 + 1 * (j 2).val; omega
  · have h0 : (x 0).val < 32 := (x 0).isLt
    have h1 : (x 1).val < 16384 := (x 1).isLt
    exact ⟨⟨4 * ((x 1).val / 2048) + (x 0).val / 8, by show _ < 32; omega⟩, flush0_2 _, mem _ x (by show _ = (4 * ((x 1).val / 2048) + (x 0).val / 8) % 4; omega)
      (by show _ = (4 * ((x 1).val / 2048) + (x 0).val / 8) / 4; omega)⟩

end Cert.FnetZIdeal.Gate
-- ==== Proof.FnetZRef.lean ====
/-
  The Fourier layer's gate projection of the reference, in slabs of 128 lanes, over the extended reals at an index.
-/
module

public import proofs.«01_k».proof.Proof.Gates
public import proofs.«01_k».proof.Proof.Gen.FnetZReferenceIdeal.Read

@[expose] public section

noncomputable section

open Idealize.ShloMosaic Idealize.ShloMosaic.TcCoe Idealize.SL.Sem

namespace Cert.FnetZReferenceIdeal.Gate

open Cert.FnetZReferenceIdeal Cert.FnetZReferenceIdeal.Read

variable (x0 : FVec Ideal S2x8192x2048 .f32) (x1 : FVec Ideal S2x2048x8192 .f32) (b : Fin 2) (n : Fin 8192)

theorem v2_apply (o : Fin 8192) : val_main_v2 (F := Ideal) x0 x1 (ix3 b n o) = Gates.proj x0 x1 0 b n o := by
  rw [val_main_v2_apply]
  refine Finset.sum_congr rfl fun k _ => ?_
  rw [val_main_v1_apply, val_main_v0_apply]
  refine congrArg₂ (fun x y : EReal => x * y) (congrArg x0 ?_) (congrArg x1 (funext fun a => Fin.ext ?_))
  · funext a; fin_cases a <;> rfl
  · fin_cases a
    · rfl
    · show (k.val * 8192 + o.val) / 8192 % 2048 = k.val; omega
    · show (k.val * 8192 + o.val) % 8192 = o.val; omega

/-- A gate column. -/
theorem v4_apply (l : Fin 4096) : val_main_v4 (F := Ideal) x0 x1 (ix3 b n l) = Gates.proj x0 x1 0 b n ⟨4096 + l.val, by omega⟩ := by
  rw [val_main_v4_apply, ← v2_apply]
  exact congrArg _ (funext fun a => by fin_cases a <;> rfl)

theorem v5_apply (l : Fin 4096) : val_main_v5 (F := Ideal) x0 x1 (ix3 b n l) = Gates.silu (Gates.proj x0 x1 0 b n ⟨4096 + l.val, by omega⟩) := by
  rw [val_main_v5_apply, val_main_call0_v5_apply, val_main_call0_v4_apply, val_main_call0_cst_0_apply, val_main_call0_v3_apply,
    val_main_call0_v2_apply, val_main_call0_cst_apply, val_main_call0_v1_apply, val_main_call0_v0_apply, v4_apply]
  exact Gates.silu_spelled _

theorem v8_apply (s : Fin 32) (g : Fin 16384) (hg : g.val = 8192 * b.val + n.val) (l : Fin 128) :
    val_main_v8 (F := Ideal) x0 x1 (ix3 s g l) = Gates.silu (Gates.proj x0 x1 0 b n ⟨4096 + (128 * s.val + l.val), by omega⟩) := by
  rw [val_main_v8_apply, val_main_v7_apply, val_main_v6_apply, ← v5_apply x0 x1 b n ⟨128 * s.val + l.val, by omega⟩]
  refine congrArg (val_main_v5 (F := Ideal) x0 x1) (funext fun a => Fin.ext ?_)
  fin_cases a
  · show ((g.val * 32 + s.val) * 128 + l.val) / 33554432 = b.val; omega
  · show ((g.val * 32 + s.val) * 128 + l.val) / 4096 % 8192 = n.val; omega
  · show ((g.val * 32 + s.val) * 128 + l.val) % 4096 = 128 * s.val + l.val; omega

end Cert.FnetZReferenceIdeal.Gate
-- ==== Proof.Rotary.lean ====
/-
  The rotary embedding of a head's 64 entries: sixteen frequencies turn the first half by the token's row and the second
  by its column, each entry with its mate sixteen places off.
-/
module

public import proofs.«01_k».proof.Proof.Gates
public import Idealize.ShloMosaic.Lib.KernelVsHost

@[expose] public section

noncomputable section

open Idealize.ShloMosaic

namespace Cert.Rotary

/-- The quarter that a quarter of a head is turned with. -/
def mate : Fin 4 → Fin 4 := ![1, 0, 3, 2]

/-- An entry of quarter `q` turned: it and its mate, by the quarter's cosine and signed sine. -/
def turn (c s x : Fin 4 → EReal) (q : Fin 4) : EReal := x q * c q + x (mate q) * s q

/-- A nonnegative finite factor on both tables is one on the turned entry. -/
theorem turn_scaled (c s x : Fin 4 → EReal) (q : Fin 4) (k : EReal) (h0 : 0 ≤ k) (ht : k ≠ ⊤) :
    turn (fun p => c p * k) (fun p => s p * k) x q = turn c s x q * k := by
  unfold turn
  rw [EReal.right_distrib_of_nonneg_of_ne_top h0 ht, mul_assoc, mul_assoc]

/-- The lane a lane of a tile of two heads is turned with. -/
def across (l : Fin 128) : Fin 128 := if h : l.val % 32 < 16 then ⟨l.val + 16, by omega⟩ else ⟨l.val - 16, by omega⟩

/-- In a head's quarters, it is the same frequency of the quarter's mate. -/
theorem across_eq : ∀ (g : Fin 2) (q : Fin 4) (f : Fin 16),
    across ⟨64 * g.val + 16 * q.val + f.val, by omega⟩ = ⟨64 * g.val + 16 * (mate q).val + f.val, by omega⟩ := by
  decide

/-- Rotating a tile's lanes by sixteen one way or the other, chosen by the lane, brings the lane it is turned with. -/
theorem across_apply {R : Nat} (x : (⟨2, ![R, 128]⟩ : Shape).Idx → EReal) (h : (⟨2, ![R, 128]⟩ : Shape).Rotates 1 none) (r : Fin R) (l : Fin 128) :
    (if l.val % 32 < 16 then dynamicRotate 1 112#32 none x h (ix2 r l) else dynamicRotate 1 16#32 none x h (ix2 r l)) = x (ix2 r (across l)) := by
  unfold across
  by_cases hl : l.val % 32 < 16
  · rw [if_pos hl, dif_pos hl]
    refine dynamicRotate_apply 1 112#32 x h _ _ fun b => ?_
    match b with
    | ⟨0, _⟩ => rfl
    | ⟨1, _⟩ => show l.val + 16 = (l.val + 128 - 112 % 128) % 128; omega
  · rw [if_neg hl, dif_neg hl]
    refine dynamicRotate_apply 1 16#32 x h _ _ fun b => ?_
    match b with
    | ⟨0, _⟩ => rfl
    | ⟨1, _⟩ => show l.val - 16 = (l.val + 128 - 16 % 128) % 128; omega

/-- Four tables side by side, read at a quarter. -/
theorem side4 {R : Nat} (x : Fin 4 → (⟨2, ![R, 16]⟩ : Shape).Idx → EReal)
    (h : Shape.Concatenates [(⟨2, ![R, 16]⟩ : Shape), ⟨2, ![R, 16]⟩, ⟨2, ![R, 16]⟩, ⟨2, ![R, 16]⟩] ⟨2, ![R, 64]⟩ 1)
    (r : Fin R) (q : Fin 4) (f : Fin 16) :
    concatenate ⟨2, ![R, 64]⟩ 1 [⟨⟨2, ![R, 16]⟩, x 0⟩, ⟨⟨2, ![R, 16]⟩, x 1⟩, ⟨⟨2, ![R, 16]⟩, x 2⟩, ⟨⟨2, ![R, 16]⟩, x 3⟩] h
      (ix2 r ⟨16 * q.val + f.val, by omega⟩) = x q (ix2 r f) := by
  refine concatenate_apply_piece (t := ⟨2, ![R, 64]⟩) 1 _ _ (ix2 r ⟨16 * q.val + f.val, by omega⟩) q.val ?_ ⟨2, ![R, 16]⟩ _ ?_ rfl (16 * q.val) ?_ (ix2 r f) ?_ ?_
  · exact q.isLt
  · fin_cases q <;> rfl
  · fin_cases q <;> rfl
  · intro b hb
    fin_cases b
    · rfl
    · exact absurd rfl hb
  · rfl

end Cert.Rotary
-- ==== Proof.AttnQBlock.lean ====
/-
  The block that the attention layer's query projection leaves, over the extended reals at an index.
-/
module

public import proofs.«01_k».proof.Proof.Rotary
public import proofs.«01_k».proof.Proof.Gen.AttnQIdeal.Value
public import Idealize.ShloMosaic.Lib.Pipeline.Value

@[expose] public section

noncomputable section

open Idealize.ShloMosaic Idealize.ShloMosaic.TcCoe Idealize.SL.Sem

namespace Cert.AttnQIdeal.Query

open Cert.AttnQIdeal Cert.AttnQIdeal.Gen

variable (x0 : FVec Ideal S2048x2048 .bf16) (x1 : FVec Ideal S1x2048x1024 .f32) (x2 x3 : FVec Ideal S2048x128 .f32)

/-- The lanes that take the lane sixteen up. -/
theorem lanes : ∀ l : Fin 128, k0_pay5 (ix2 0 l) = if l.val % 32 < 16 then 1#1 else 0#1 := by decide +kernel

/-- 256 columns of the product. -/
theorem pay2_apply (h : FVec Ideal S2048x2048 .bf16) (w : FVec Ideal S1x2048x256 .f32) (r : Fin 2048) (l : Fin 256) :
    k0_pay2 (F := Ideal) h w (ix2 r l) = ∑ k : Fin 2048, h (ix2 r k) * w (ix3 0 k l) := by
  have hw : ∀ k, shapeCast S2048x256 w shapeCasts_S1x2048x256_S2048x256 (ix2 k l) = w (ix3 0 k l) := fun k =>
    shapeCast_apply _ _ _ _ (by
      rw [Shape.rowMajor_val_three, Shape.rowMajor_val_two]
      show (0 * 2048 + k.val) * 256 + l.val = k.val * 256 + l.val
      omega)
  unfold k0_pay2 k0_pay1
  rw [shapeCast_self]
  generalize shapeCast S2048x256 w shapeCasts_S1x2048x256_S2048x256 = w' at hw
  simp only [pointwise, Consts.zero_f32, zero_add, ← hw]

/-- A tile of 128 lanes turned by the tables. -/
def tile (v c s : FVec Ideal S2048x128 .f32) : FVec Ideal S2048x128 .bf16 :=
  truncf .bf16 (addf (mulf v (k0_pay3 c)) (mulf (select (broadcastTo S2048x128 (shapeCast S1x128 k0_pay5 shapeCasts_S1x128_S1x128) broadcasts_S1x128_S2048x128)
    (dynamicRotate 1 112#32 none v rotates_S2048x128_d1) (dynamicRotate 1 16#32 none v rotates_S2048x128_d1)) (k0_pay4 s))) bitsLt_bf16_f32

theorem tile_turned (v c s : FVec Ideal S2048x128 .f32) (r : Fin 2048) (l : Fin 128) :
    tile v c s (ix2 r l) = v (ix2 r l) * c (ix2 r l) + v (ix2 r (Rotary.across l)) * s (ix2 r l) := by
  have hb : broadcastTo S2048x128 (shapeCast S1x128 k0_pay5 shapeCasts_S1x128_S1x128) broadcasts_S1x128_S2048x128 (ix2 r l) = k0_pay5 (ix2 0 l) := by
    rw [shapeCast_self]
    exact broadcastTo_apply _ _ _ _ (fun a => by fin_cases a <;> rfl)
  have hc : k0_pay3 (F := Ideal) c = c := shapeCast_self _ _
  have hs : k0_pay4 (F := Ideal) s = s := shapeCast_self _ _
  unfold tile
  rw [hc, hs]
  show v (ix2 r l) * c (ix2 r l) + Scalar.select (broadcastTo S2048x128 (shapeCast S1x128 k0_pay5 shapeCasts_S1x128_S1x128) broadcasts_S1x128_S2048x128 (ix2 r l))
    (dynamicRotate 1 112#32 none v rotates_S2048x128_d1 (ix2 r l)) (dynamicRotate 1 16#32 none v rotates_S2048x128_d1 (ix2 r l)) * s (ix2 r l) = _
  rw [← Rotary.across_apply v rotates_S2048x128_d1 r l, hb, lanes]
  by_cases hl : l.val % 32 < 16
  · rw [if_pos hl, if_pos hl]; rfl
  · rw [if_neg hl, if_neg hl]; rfl

/-- The product's entry at row `r` and column `l`. -/
def acc (r : Fin 2048) (l : Fin 1024) : EReal := ∑ k : Fin 2048, x0 (ix2 r k) * x1 (ix3 0 k l)

/-- The column a column is turned with. -/
def mateCol (l : Fin 1024) : Fin 1024 := ⟨128 * (l.val / 128) + (Rotary.across ⟨l.val % 128, Nat.mod_lt _ (by norm_num)⟩).val, by
  have := (Rotary.across ⟨l.val % 128, Nat.mod_lt _ (by norm_num)⟩).isLt; omega⟩

/-- The block's entry at row `r` and column `l`. -/
def entry (r : Fin 2048) (l : Fin 1024) : EReal :=
  acc x0 x1 r l * x2 (ix2 r ⟨l.val % 128, Nat.mod_lt _ (by norm_num)⟩)
    + acc x0 x1 r (mateCol l) * x3 (ix2 r ⟨l.val % 128, Nat.mod_lt _ (by norm_num)⟩)

section

variable (o e : ℕ) (hoe : (o + e) % 128 = 0) (he : e + 128 ≤ 256)
  (hw : ∀ a, (![0, 0, o] : Fin 3 → ℕ) a + S1x2048x256.size a ≤ S1x2048x1024.size a) (hq : S2048x256.Slices ![0, e] S2048x128)

/-- The product's 128 columns, `e` columns into the 256 from column `o`. -/
def cut : FVec Ideal S2048x128 .f32 :=
  extractStridedSlice S2048x128 ![0, e] (k0_pay2 (F := Ideal) (View.ld x0 r0_0) (View.ld x1 (Rect.unit (s := S1x2048x1024) ![0, 0, o] S1x2048x256.size hw))) hq

include he in
theorem cut_apply (r : Fin 2048) (l : Fin 128) (c : Fin 1024) (hc : c.val = o + e + l.val) : cut x0 x1 o e hw hq (ix2 r l) = acc x0 x1 r c := by
  unfold cut
  rw [extractStridedSlice_apply ![0, e] _ hq (ix2 r l) (ix2 r ⟨e + l.val, by omega⟩) (fun a => match a with
    | ⟨0, _⟩ => by show r.val = 0 + r.val; omega
    | ⟨1, _⟩ => rfl), pay2_apply, View.ld_unit_zero (by decide)]
  refine Finset.sum_congr rfl fun k _ => congrArg (fun y : EReal => x0 (ix2 r k) * y) ?_
  show x1 _ = x1 _
  congr 1
  funext a
  apply Fin.ext
  match a with
  | ⟨0, _⟩ => rfl
  | ⟨1, _⟩ => show 0 + 1 * k.val = k.val; omega
  | ⟨2, _⟩ => show o + 1 * (e + l.val) = c.val; omega

include hoe he in
theorem tile_entry (r : Fin 2048) (l : Fin 128) (c : Fin 1024) (hc : c.val = o + e + l.val) :
    tile (cut x0 x1 o e hw hq) (View.ld (Val := Elt Ideal) (e' := .f32) x2 r0_2) (View.ld (Val := Elt Ideal) (e' := .f32) x3 r0_2) (ix2 r l)
      = entry x0 x1 x2 x3 r c := by
  have hm : (⟨c.val % 128, Nat.mod_lt _ (by norm_num)⟩ : Fin 128) = l := Fin.ext (by show c.val % 128 = l.val; omega)
  rw [tile_turned, View.ld_unit_zero (by decide), View.ld_unit_zero (by decide), cut_apply x0 x1 o e he hw hq r l c hc,
    cut_apply x0 x1 o e he hw hq r (Rotary.across l) (mateCol c) (by
      show 128 * (c.val / 128) + (Rotary.across ⟨c.val % 128, _⟩).val = _
      rw [hm]; omega)]
  unfold entry
  rw [hm]

include hoe he in
/-- Those columns of the block. -/
theorem tile_apply (ho : ∀ a, (![0, o + e] : Fin 2 → ℕ) a + S2048x128.size a ≤ S2048x1024.size a) (x : S2048x128.Idx) :
    tile (cut x0 x1 o e hw hq) (View.ld (Val := Elt Ideal) (e' := .f32) x2 r0_2) (View.ld (Val := Elt Ideal) (e' := .f32) x3 r0_2) x
      = entry x0 x1 x2 x3 ((Rect.unit (s := S2048x1024) ![0, o + e] S2048x128.size ho).emb x 0) ((Rect.unit (s := S2048x1024) ![0, o + e] S2048x128.size ho).emb x 1) := by
  have hx : x = ix2 (n0 := 2048) (n1 := 128) (x 0) (x 1) := eq_ix2 x
  have hr : ((Rect.unit (s := S2048x1024) ![0, o + e] S2048x128.size ho).emb x 0 : Fin 2048) = x 0 :=
    Fin.ext (by show 0 + 1 * (x 0).val = (x 0).val; omega)
  refine (congrArg _ hx).trans ((tile_entry x0 x1 x2 x3 o e hoe he hw hq (x 0) (x 1) _ ?_).trans (congrArg (fun r => entry x0 x1 x2 x3 r _) hr.symm))
  show o + e + 1 * (x 1).val = o + e + (x 1).val
  omega

end

/-- The block a grid point leaves. -/
theorem out_apply (r : Fin 2048) (l : Fin 1024) : out0_4 (F := Ideal) x0 x1 x2 x3 (ix2 r l) = entry x0 x1 x2 x3 r l := by
  unfold out0_4
  refine View.canon_apply_of_pieces (Val := Elt Ideal) (e := .bf16) (fun y : S2048x1024.Idx => entry x0 x1 x2 x3 (y 0) (y 1)) _ ?_ _
    (cover0_4 _ _ _ _ _ _ _ _ _)
  intro p hp x
  simp only [List.mem_cons, List.not_mem_nil, or_false] at hp
  rcases hp with rfl | rfl | rfl | rfl | rfl | rfl | rfl | rfl
  · exact tile_apply x0 x1 x2 x3 768 128 (by norm_num) (by norm_num) inb_S1x2048x1024_S1x2048x256_0_0_768 slices_S2048x256_o0_128_S2048x128 inb_S2048x1024_S2048x128_0_896 x
  · exact tile_apply x0 x1 x2 x3 768 0 (by norm_num) (by norm_num) inb_S1x2048x1024_S1x2048x256_0_0_768 slices_S2048x256_o0_0_S2048x128 inb_S2048x1024_S2048x128_0_768 x
  · exact tile_apply x0 x1 x2 x3 512 128 (by norm_num) (by norm_num) inb_S1x2048x1024_S1x2048x256_0_0_512 slices_S2048x256_o0_128_S2048x128 inb_S2048x1024_S2048x128_0_640 x
  · exact tile_apply x0 x1 x2 x3 512 0 (by norm_num) (by norm_num) inb_S1x2048x1024_S1x2048x256_0_0_512 slices_S2048x256_o0_0_S2048x128 inb_S2048x1024_S2048x128_0_512 x
  · exact tile_apply x0 x1 x2 x3 256 128 (by norm_num) (by norm_num) inb_S1x2048x1024_S1x2048x256_0_0_256 slices_S2048x256_o0_128_S2048x128 inb_S2048x1024_S2048x128_0_384 x
  · exact tile_apply x0 x1 x2 x3 256 0 (by norm_num) (by norm_num) inb_S1x2048x1024_S1x2048x256_0_0_256 slices_S2048x256_o0_0_S2048x128 inb_S2048x1024_S2048x128_0_256 x
  · exact tile_apply x0 x1 x2 x3 0 128 (by norm_num) (by norm_num) inb_S1x2048x1024_S1x2048x256_0_0_0 slices_S2048x256_o0_128_S2048x128 inb_S2048x1024_S2048x128_0_128 x
  · exact tile_apply x0 x1 x2 x3 0 0 (by norm_num) (by norm_num) inb_S1x2048x1024_S1x2048x256_0_0_0 slices_S2048x256_o0_0_S2048x128 inb_S2048x1024_S2048x128_0_0 x

end Cert.AttnQIdeal.Query
-- ==== Proof.AttnQRef.lean ====
/-
  The attention layer's query projection of the reference, over the extended reals at an index.
-/
module

public import proofs.«01_k».proof.Proof.Rotary
public import proofs.«01_k».proof.Proof.Gen.AttnQReferenceIdeal.Read

@[expose] public section

noncomputable section

open Idealize.ShloMosaic Idealize.ShloMosaic.TcCoe Idealize.SL.Sem

namespace Cert.AttnQReferenceIdeal.Query

open Cert.AttnQReferenceIdeal Cert.AttnQReferenceIdeal.Gen Cert.AttnQReferenceIdeal.Read

/-- A token's cosines: of its row's angle in a head's first two quarters, of its column's in the last two. -/
def cosines (q : Fin 4) : FVec Ideal S8192x16 .f32 := if q.val < 2 then val_main_v26 (F := Ideal) else val_main_v55 (F := Ideal)

/-- Its sines, negated where the mate follows. -/
def sines : Fin 4 → FVec Ideal S8192x16 .f32
  | 0 => Host.negf (F := Ideal) (φ := .f32) (val_main_v28 (F := Ideal))
  | 1 => val_main_v28 (F := Ideal)
  | 2 => Host.negf (F := Ideal) (φ := .f32) (val_main_v57 (F := Ideal))
  | 3 => val_main_v57 (F := Ideal)

variable (x0 : FVec Ideal S2x8192x2048 .f32) (x1 : FVec Ideal S1x2048x9216 .f32) (b : Fin 2) (n : Fin 8192)

/-- The query entry of head `hd`, quarter `q` and frequency `f` before it is turned. -/
def plain (hd : Fin 64) (f : Fin 16) (q : Fin 4) : EReal := Gates.proj x0 x1 0 b n ⟨64 * hd.val + (16 * q.val + f.val), by omega⟩

/-- And after. -/
def turned (hd : Fin 64) (f : Fin 16) (q : Fin 4) : EReal :=
  Rotary.turn (fun p => cosines p (ix2 n f)) (fun p => sines p (ix2 n f)) (plain x0 x1 b n hd f) q

theorem v8_apply (o : Fin 9216) : val_main_v8 (F := Ideal) x0 x1 (ix3 b n o) = Gates.proj x0 x1 0 b n o := by
  rw [val_main_v8_apply]
  refine Finset.sum_congr rfl fun k _ => ?_
  rw [val_main_v7_apply]
  refine congrArg₂ (fun x y : EReal => x * y) (congrArg x0 ?_) (congrArg x1 (funext fun a => Fin.ext ?_))
  · funext a; fin_cases a <;> rfl
  · fin_cases a
    · rfl
    · show (k.val * 9216 + o.val) / 9216 % 2048 = k.val; omega
    · show (k.val * 9216 + o.val) % 9216 = o.val; omega

/-- A head's entry. -/
theorem v13_apply (hd e : Fin 64) : val_main_v13 (F := Ideal) x0 x1 (ix4 b n hd e) = Gates.proj x0 x1 0 b n ⟨64 * hd.val + e.val, by omega⟩ := by
  rw [val_main_v13_apply, val_main_v9_apply, ← v8_apply]
  refine congrArg (val_main_v8 (F := Ideal) x0 x1) (funext fun a => Fin.ext ?_)
  fin_cases a
  · show (((b.val * 8192 + n.val) * 64 + hd.val) * 64 + e.val) / 33554432 = b.val; omega
  · show (((b.val * 8192 + n.val) * 64 + hd.val) * 64 + e.val) / 4096 % 8192 = n.val; omega
  · show (((b.val * 8192 + n.val) * 64 + hd.val) * 64 + e.val) % 4096 = 64 * hd.val + e.val; omega

variable (hd : Fin 64) (f : Fin 16)

theorem quarter (q : Fin 4) (y : EReal) (k : S2x8192x64x64.Idx) (hy : y = val_main_v13 (F := Ideal) x0 x1 k)
    (h : k = ix4 b n hd ⟨16 * q.val + f.val, by omega⟩) : y = plain x0 x1 b n hd f q := by
  rw [hy, h, v13_apply]
  rfl

theorem v30_apply : val_main_v30 (F := Ideal) x0 x1 (ix4 b n hd f) = plain x0 x1 b n hd f 0 :=
  quarter x0 x1 b n hd f 0 _ _ (by rw [val_main_v30_apply, val_main_v14_apply])
    (by funext a; apply Fin.ext; fin_cases a <;> first | rfl | (show f.val = 16 * 0 + f.val; omega))

theorem v31_apply : val_main_v31 (F := Ideal) x0 x1 (ix4 b n hd f) = plain x0 x1 b n hd f 1 :=
  quarter x0 x1 b n hd f 1 _ _ (by rw [val_main_v31_apply, val_main_v14_apply])
    (by funext a; apply Fin.ext; fin_cases a <;> rfl)

theorem v59_apply : val_main_v59 (F := Ideal) x0 x1 (ix4 b n hd f) = plain x0 x1 b n hd f 2 :=
  quarter x0 x1 b n hd f 2 _ _ (by rw [val_main_v59_apply, val_main_v43_apply])
    (by funext a; apply Fin.ext; fin_cases a <;> first | rfl | (show 32 + f.val = 16 * 2 + f.val; omega))

theorem v60_apply : val_main_v60 (F := Ideal) x0 x1 (ix4 b n hd f) = plain x0 x1 b n hd f 3 :=
  quarter x0 x1 b n hd f 3 _ _ (by rw [val_main_v60_apply, val_main_v43_apply])
    (by funext a; apply Fin.ext; fin_cases a <;> first | rfl | (show 32 + (16 + f.val) = 16 * 3 + f.val; omega))

theorem v36_apply : val_main_v36 (F := Ideal) x0 x1 (ix4 b n hd f) = turned x0 x1 b n hd f 0 := by
  rw [val_main_v36_apply, val_main_v33_apply, val_main_v35_apply, v30_apply, v31_apply, val_main_v32_apply, val_main_v27_apply,
    val_main_v34_apply, val_main_v29_apply]
  have hi : idx_main_v27 (idx_main_v32 (ix4 b n hd f)) = ix2 n f := by funext a; fin_cases a <;> rfl
  have hj : idx_main_v29 (idx_main_v34 (ix4 b n hd f)) = ix2 n f := by funext a; fin_cases a <;> rfl
  rw [hi, hj]
  show plain x0 x1 b n hd f 0 * val_main_v26 (F := Ideal) (ix2 n f) - plain x0 x1 b n hd f 1 * val_main_v28 (F := Ideal) (ix2 n f)
    = plain x0 x1 b n hd f 0 * val_main_v26 (F := Ideal) (ix2 n f) + plain x0 x1 b n hd f 1 * -val_main_v28 (F := Ideal) (ix2 n f)
  rw [sub_eq_add_neg, mul_neg]

theorem v41_apply : val_main_v41 (F := Ideal) x0 x1 (ix4 b n hd f) = turned x0 x1 b n hd f 1 := by
  rw [val_main_v41_apply, val_main_v38_apply, val_main_v40_apply, v30_apply, v31_apply, val_main_v37_apply, val_main_v29_apply,
    val_main_v39_apply, val_main_v27_apply]
  have hi : idx_main_v29 (idx_main_v37 (ix4 b n hd f)) = ix2 n f := by funext a; fin_cases a <;> rfl
  have hj : idx_main_v27 (idx_main_v39 (ix4 b n hd f)) = ix2 n f := by funext a; fin_cases a <;> rfl
  rw [hi, hj]
  exact add_comm (plain x0 x1 b n hd f 0 * val_main_v28 (F := Ideal) (ix2 n f)) (plain x0 x1 b n hd f 1 * val_main_v26 (F := Ideal) (ix2 n f))

theorem v65_apply : val_main_v65 (F := Ideal) x0 x1 (ix4 b n hd f) = turned x0 x1 b n hd f 2 := by
  rw [val_main_v65_apply, val_main_v62_apply, val_main_v64_apply, v59_apply, v60_apply, val_main_v61_apply, val_main_v56_apply,
    val_main_v63_apply, val_main_v58_apply]
  have hi : idx_main_v56 (idx_main_v61 (ix4 b n hd f)) = ix2 n f := by funext a; fin_cases a <;> rfl
  have hj : idx_main_v58 (idx_main_v63 (ix4 b n hd f)) = ix2 n f := by funext a; fin_cases a <;> rfl
  rw [hi, hj]
  show plain x0 x1 b n hd f 2 * val_main_v55 (F := Ideal) (ix2 n f) - plain x0 x1 b n hd f 3 * val_main_v57 (F := Ideal) (ix2 n f)
    = plain x0 x1 b n hd f 2 * val_main_v55 (F := Ideal) (ix2 n f) + plain x0 x1 b n hd f 3 * -val_main_v57 (F := Ideal) (ix2 n f)
  rw [sub_eq_add_neg, mul_neg]

theorem v70_apply : val_main_v70 (F := Ideal) x0 x1 (ix4 b n hd f) = turned x0 x1 b n hd f 3 := by
  rw [val_main_v70_apply, val_main_v67_apply, val_main_v69_apply, v59_apply, v60_apply, val_main_v66_apply, val_main_v58_apply,
    val_main_v68_apply, val_main_v56_apply]
  have hi : idx_main_v58 (idx_main_v66 (ix4 b n hd f)) = ix2 n f := by funext a; fin_cases a <;> rfl
  have hj : idx_main_v56 (idx_main_v68 (ix4 b n hd f)) = ix2 n f := by funext a; fin_cases a <;> rfl
  rw [hi, hj]
  exact add_comm (plain x0 x1 b n hd f 2 * val_main_v57 (F := Ideal) (ix2 n f)) (plain x0 x1 b n hd f 3 * val_main_v55 (F := Ideal) (ix2 n f))

/-- Two pieces side by side in the last axis, read in the first or in the second. -/
theorem beside {w : Nat} (y z : (⟨4, ![2, 8192, 64, w]⟩ : Shape).Idx → EReal)
    (h : Shape.Concatenates [(⟨4, ![2, 8192, 64, w]⟩ : Shape), ⟨4, ![2, 8192, 64, w]⟩] ⟨4, ![2, 8192, 64, 2 * w]⟩ 3) (e : Fin w) :
    concatenate ⟨4, ![2, 8192, 64, 2 * w]⟩ 3 [⟨⟨4, ![2, 8192, 64, w]⟩, y⟩, ⟨⟨4, ![2, 8192, 64, w]⟩, z⟩] h (ix4 b n hd ⟨e.val, by omega⟩) = y (ix4 b n hd e)
      ∧ concatenate ⟨4, ![2, 8192, 64, 2 * w]⟩ 3 [⟨⟨4, ![2, 8192, 64, w]⟩, y⟩, ⟨⟨4, ![2, 8192, 64, w]⟩, z⟩] h (ix4 b n hd ⟨w + e.val, by omega⟩) = z (ix4 b n hd e) := by
  constructor
  · exact concatenate_pair_apply_left (t := ⟨4, ![2, 8192, 64, 2 * w]⟩) 3 y z h _ rfl (ix4 b n hd e) (fun a => by fin_cases a <;> rfl)
  · exact concatenate_pair_apply_right (t := ⟨4, ![2, 8192, 64, 2 * w]⟩) 3 y z h _ rfl rfl (ix4 b n hd e)
      (fun a ha => by fin_cases a <;> first | rfl | exact absurd rfl ha) (Nat.add_comm _ _)

/-- The turned half of a head, quarter by quarter. -/
theorem halves : val_main_v42 (F := Ideal) x0 x1 (ix4 b n hd ⟨f.val, by omega⟩) = turned x0 x1 b n hd f 0
    ∧ val_main_v42 (F := Ideal) x0 x1 (ix4 b n hd ⟨16 + f.val, by omega⟩) = turned x0 x1 b n hd f 1
    ∧ val_main_v71 (F := Ideal) x0 x1 (ix4 b n hd ⟨f.val, by omega⟩) = turned x0 x1 b n hd f 2
    ∧ val_main_v71 (F := Ideal) x0 x1 (ix4 b n hd ⟨16 + f.val, by omega⟩) = turned x0 x1 b n hd f 3 := by
  have hr := beside b n hd (val_main_v36 (F := Ideal) x0 x1) (val_main_v41 (F := Ideal) x0 x1) concatenates_S2x8192x64x16_S2x8192x64x16_S2x8192x64x32_d3 f
  have hc := beside b n hd (val_main_v65 (F := Ideal) x0 x1) (val_main_v70 (F := Ideal) x0 x1) concatenates_S2x8192x64x16_S2x8192x64x16_S2x8192x64x32_d3 f
  exact ⟨hr.1.trans (v36_apply x0 x1 b n hd f), hr.2.trans (v41_apply x0 x1 b n hd f), hc.1.trans (v65_apply x0 x1 b n hd f), hc.2.trans (v70_apply x0 x1 b n hd f)⟩

theorem v72_apply (q : Fin 4) (e : Fin 64) (he : e.val = 16 * q.val + f.val) :
    val_main_v72 (F := Ideal) x0 x1 (ix4 b n hd e) = turned x0 x1 b n hd f q := by
  have hh := halves x0 x1 b n hd f
  have hj := fun k : Fin 32 => beside b n hd (val_main_v42 (F := Ideal) x0 x1) (val_main_v71 (F := Ideal) x0 x1)
    concatenates_S2x8192x64x32_S2x8192x64x32_S2x8192x64x64_d3 k
  have hat : ∀ k : Fin 64, e.val = k.val → val_main_v72 (F := Ideal) x0 x1 (ix4 b n hd e) = val_main_v72 (F := Ideal) x0 x1 (ix4 b n hd k) :=
    fun k h => congrArg (fun y => val_main_v72 (F := Ideal) x0 x1 (ix4 b n hd y)) (Fin.ext h)
  have hf := f.isLt
  fin_cases q
  · exact (hat ⟨f.val, by omega⟩ (by simpa using he)).trans ((hj ⟨f.val, by omega⟩).1.trans hh.1)
  · exact (hat ⟨16 + f.val, by omega⟩ (by simpa using he)).trans ((hj ⟨16 + f.val, by omega⟩).1.trans hh.2.1)
  · exact (hat ⟨32 + f.val, by omega⟩ (by simpa using he)).trans ((hj ⟨f.val, by omega⟩).2.trans hh.2.2.1)
  · exact (hat ⟨32 + (16 + f.val), by omega⟩ (by simp at he ⊢; omega)).trans ((hj ⟨16 + f.val, by omega⟩).2.trans hh.2.2.2)

/-- The number both sides multiply by. -/
def scale : EReal := Ideal.ofBits .f32 0x3E38AA3B#32

theorem scale_eq : scale = ((12102203 / 67108864 : ℝ) : EReal) := by
  unfold scale
  simp [Ideal.ofBits, Ideal.ieee, -EReal.coe_mul]; norm_num

theorem v76_apply (g : Fin 16384) (hg : g.val = 8192 * b.val + n.val) (l : Fin 4096) :
    val_main_v76 (F := Ideal) x0 x1 (ix2 g l)
      = turned x0 x1 b n ⟨l.val / 64, by omega⟩ ⟨l.val % 16, by omega⟩ ⟨l.val % 64 / 16, by omega⟩ * scale := by
  rw [val_main_v76_apply, val_main_v75_apply, val_main_v74_apply, val_main_cst_3_apply, val_main_v73_apply]
  have hi : idx_main_v73 (ix2 g l) = ix4 b n ⟨l.val / 64, by omega⟩ ⟨l.val % 64, by omega⟩ := by
    funext a
    apply Fin.ext
    fin_cases a
    · show (g.val * 4096 + l.val) / 33554432 = b.val; omega
    · show (g.val * 4096 + l.val) / 4096 % 8192 = n.val; omega
    · show (g.val * 4096 + l.val) / 64 % 64 = l.val / 64; omega
    · show (g.val * 4096 + l.val) % 64 = l.val % 64; omega
  rw [hi, v72_apply x0 x1 b n _ ⟨l.val % 16, by omega⟩ ⟨l.val % 64 / 16, by omega⟩ _ (by show l.val % 64 = 16 * (l.val % 64 / 16) + l.val % 16; omega)]
  rfl

end Cert.AttnQReferenceIdeal.Query
-- ==== Proof.AttnQArray.lean ====
/-
  The attention layer's query projection: the arrays its host code prepares, the blocks its grid reads and writes, and the
  array it returns.
-/
module

public import proofs.«01_k».proof.Proof.AttnQBlock
public import proofs.«01_k».proof.Proof.AttnQRef

@[expose] public section

noncomputable section

open Idealize.ShloMosaic Idealize.ShloMosaic.TcCoe Idealize.SL.Sem

namespace Cert.AttnQIdeal.Query

open Cert.AttnQIdeal Cert.AttnQIdeal.Gen
open Cert.AttnQReferenceIdeal.Query (cosines sines plain turned scale scale_eq)

variable (m : (ℓ : Loc nD τ sig) → Buf (Elt Ideal) ℓ) (c : Dev nD)

/-- The layer's input. -/
abbrev ah : FVec Ideal S2x8192x2048 .f32 := m ((c : Thread nD τ).loc main_arg0)
/-- The layer's input weights. -/
abbrev aw : FVec Ideal S1x2048x9216 .f32 := m ((c : Thread nD τ).loc main_arg1)

theorem V_h (k : Fin 2048) (r : Fin 16384) : V m c main_v1 (ix2 r k) = ah m c (ix3 (Gates.batch r) (Gates.token r) k) := by
  have e : V m c main_v1 = truncf (F := Ideal) .bf16 (shapeCast S16384x2048 (ah m c) shapeCasts_S2x8192x2048_S16384x2048 : FVec Ideal S16384x2048 .f32)
      bitsLt_bf16_f32 := by
    unfold V; after_results; rfl
  have hr := Gates.row_eq r
  rw [e]
  show shapeCast S16384x2048 (ah m c) shapeCasts_S2x8192x2048_S16384x2048 (ix2 r k) = _
  exact shapeCast_apply _ _ _ _ (by
    rw [Shape.rowMajor_val_three, Shape.rowMajor_val_two]
    show ((Gates.batch r).val * 8192 + (Gates.token r).val) * 2048 + k.val = r.val * 2048 + k.val
    omega)

/-- A table's 64 columns laid out twice. -/
theorem twice (T : FVec Ideal S8192x64 .f32) (n : Fin 8192) (g : Fin 2) (e : Fin 64) :
    shapeCast S8192x128 (broadcastInDim S1x8192x2x64 ![0, 1, 2, 3] bcast_S1x8192x1x64_S1x8192x2x64_0_1_2_3
      (shapeCast S1x8192x1x64 T shapeCasts_S8192x64_S1x8192x1x64)) shapeCasts_S1x8192x2x64_S8192x128 (ix2 n ⟨64 * g.val + e.val, by omega⟩) = T (ix2 n e) := by
  rw [shapeCast_apply _ _ _ (ix4 (0 : Fin 1) n g e) (by
      rw [Shape.rowMajor_val_four, Shape.rowMajor_val_two]
      show ((0 * 8192 + n.val) * 2 + g.val) * 64 + e.val = n.val * 128 + (64 * g.val + e.val)
      omega),
    broadcastInDim_apply _ _ _ _ (ix4 (0 : Fin 1) n (0 : Fin 1) e) (fun a => by fin_cases a <;> rfl)]
  exact shapeCast_apply _ _ _ _ (by
    rw [Shape.rowMajor_val_four, Shape.rowMajor_val_two]
    show n.val * 64 + e.val = ((0 * 8192 + n.val) * 1 + 0) * 64 + e.val
    omega)

/-- Four quarters' tables side by side, scaled, laid out twice. -/
def table (x : Fin 4 → FVec Ideal S8192x16 .f32) : FVec Ideal S8192x128 .f32 :=
  shapeCast S8192x128 (broadcastInDim S1x8192x2x64 ![0, 1, 2, 3] bcast_S1x8192x1x64_S1x8192x2x64_0_1_2_3
    (shapeCast S1x8192x1x64 (mulf (concatenate S8192x64 1 [⟨S8192x16, x 0⟩, ⟨S8192x16, x 1⟩, ⟨S8192x16, x 2⟩, ⟨S8192x16, x 3⟩]
        concatenates_S8192x16_S8192x16_S8192x16_S8192x16_S8192x64_d1 : FVec Ideal S8192x64 .f32)
      (broadcastInDim S8192x64 ![] bcast_S_S8192x64 (constant (F := Ideal) S_ .f32 0x3E38AA3B#32)))
      shapeCasts_S8192x64_S1x8192x1x64)) shapeCasts_S1x8192x2x64_S8192x128

theorem table_apply (x : Fin 4 → FVec Ideal S8192x16 .f32) (n : Fin 8192) (g : Fin 2) (q : Fin 4) (f : Fin 16) (l : Fin 128)
    (hl : l.val = 64 * g.val + (16 * q.val + f.val)) : table x (ix2 n l) = x q (ix2 n f) * scale := by
  have hb : 64 * g.val + (16 * q.val + f.val) < 128 := by omega
  obtain rfl : l = ⟨64 * g.val + (16 * q.val + f.val), hb⟩ := Fin.ext hl
  unfold table
  rw [twice _ n g ⟨16 * q.val + f.val, by omega⟩]
  exact congrArg (fun y : EReal => y * scale) (Rotary.side4 x concatenates_S8192x16_S8192x16_S8192x16_S8192x16_S8192x64_d1 n q f)

theorem V_cos : V m c main_v43 = table cosines := by
  unfold V; after_results; rfl

theorem V_sin : V m c main_v46 = table sines := by
  unfold V; after_results; rfl

theorem index_h : ∀ t : Fin grid0.N, win0_0.index t 0 = t.val / 4 ∧ win0_0.index t 1 = 0 := by decide +kernel
theorem index_w : ∀ t : Fin grid0.N, win0_1.index t 0 = 0 ∧ win0_1.index t 1 = 0 ∧ win0_1.index t 2 = t.val % 4 := by decide +kernel
theorem index_cos : ∀ t : Fin grid0.N, win0_2.index t 0 = t.val / 4 % 4 ∧ win0_2.index t 1 = 0 := by decide +kernel
theorem index_sin : ∀ t : Fin grid0.N, win0_3.index t 0 = t.val / 4 % 4 ∧ win0_3.index t 1 = 0 := by decide +kernel
theorem index_out : ∀ t : Fin grid0.N, win0_4.index t 0 = t.val / 4 ∧ win0_4.index t 1 = t.val % 4 := by decide +kernel

variable (t : Fin cfg0.N)

theorem blk_h (r : Fin 2048) (k : Fin 2048) (g : Fin 16384) (hg : g.val = 2048 * (t.val / 4) + r.val) :
    iblk m c 0 t (ix2 r k) = V m c main_v1 (ix2 g k) := by
  have hi := index_h t
  have key : ∀ X : Buf (Elt Ideal) ((c : Thread nD τ).loc main_v1), ((cfg0.win 0).blk t).view.read (Elt Ideal) X (ix2 r k) = X (ix2 g k) := by
    intro X
    rw [View.read_apply]
    show X _ = _
    congr 1
    funext a
    apply Fin.ext
    match a with
    | ⟨0, _⟩ => show win0_0.index t 0 * 2048 + 1 * r.val = g.val; omega
    | ⟨1, _⟩ => show win0_0.index t 1 * 2048 + 1 * k.val = k.val; omega
  exact key _

theorem blk_w (k : Fin 2048) (l : Fin 1024) (o : Fin 9216) (ho : o.val = 1024 * (t.val % 4) + l.val) :
    iblk m c 1 t (ix3 0 k l) = aw m c (ix3 0 k o) := by
  have hi := index_w t
  have key : ∀ X : Buf (Elt Ideal) ((c : Thread nD τ).loc main_arg1), ((cfg0.win 1).blk t).view.read (Elt Ideal) X (ix3 0 k l) = X (ix3 0 k o) := by
    intro X
    rw [View.read_apply]
    show X _ = _
    congr 1
    funext a
    apply Fin.ext
    match a with
    | ⟨0, _⟩ => show win0_1.index t 0 * 1 + 1 * 0 = 0; omega
    | ⟨1, _⟩ => show win0_1.index t 1 * 2048 + 1 * k.val = k.val; omega
    | ⟨2, _⟩ => show win0_1.index t 2 * 1024 + 1 * l.val = o.val; omega
  exact (key _).trans (congrFun (V_main_arg1 m c) _)

theorem blk_cos (r : Fin 2048) (l : Fin 128) (n : Fin 8192) (hn : n.val = 2048 * (t.val / 4 % 4) + r.val) :
    iblk m c 2 t (ix2 r l) = table cosines (ix2 n l) := by
  have hi := index_cos t
  have key : ∀ X : Buf (Elt Ideal) ((c : Thread nD τ).loc main_v43), ((cfg0.win 2).blk t).view.read (Elt Ideal) X (ix2 r l) = X (ix2 n l) := by
    intro X
    rw [View.read_apply]
    show X _ = _
    congr 1
    funext a
    apply Fin.ext
    match a with
    | ⟨0, _⟩ => show win0_2.index t 0 * 2048 + 1 * r.val = n.val; omega
    | ⟨1, _⟩ => show win0_2.index t 1 * 128 + 1 * l.val = l.val; omega
  exact (key _).trans (congrFun (V_cos m c) _)

theorem blk_sin (r : Fin 2048) (l : Fin 128) (n : Fin 8192) (hn : n.val = 2048 * (t.val / 4 % 4) + r.val) :
    iblk m c 3 t (ix2 r l) = table sines (ix2 n l) := by
  have hi := index_sin t
  have key : ∀ X : Buf (Elt Ideal) ((c : Thread nD τ).loc main_v46), ((cfg0.win 3).blk t).view.read (Elt Ideal) X (ix2 r l) = X (ix2 n l) := by
    intro X
    rw [View.read_apply]
    show X _ = _
    congr 1
    funext a
    apply Fin.ext
    match a with
    | ⟨0, _⟩ => show win0_3.index t 0 * 2048 + 1 * r.val = n.val; omega
    | ⟨1, _⟩ => show win0_3.index t 1 * 128 + 1 * l.val = l.val; omega
  exact (key _).trans (congrFun (V_sin m c) _)

/-- The array the call returns. -/
def result : FVec Ideal S16384x4096 .bf16 := fun i =>
  have : (i 1).val < 4096 := (i 1).isLt
  turned (ah m c) (aw m c) (Gates.batch (i 0)) (Gates.token (i 0)) ⟨(i 1).val / 64, by omega⟩ ⟨(i 1).val % 16, by omega⟩ ⟨(i 1).val % 64 / 16, by omega⟩ * scale

/-- The block that a grid point writes: 2048 rows of 1024 columns. -/
theorem block (r : Fin 2048) (l : Fin 1024) (g : Fin 16384) (hg : g.val = 2048 * (t.val / 4) + r.val) (o : Fin 4096) (ho : o.val = 1024 * (t.val % 4) + l.val) :
    out0_4 (F := Ideal) (iblk m c 0 t) (iblk m c 1 t) (iblk m c 2 t) (iblk m c 3 t) (ix2 r l) = result m c (ix2 g o) := by
  have hh : ∀ k, iblk m c 0 t (ix2 r k) = ah m c (ix3 (Gates.batch g) (Gates.token g) k) := fun k => (blk_h m c t r k g hg).trans (V_h m c k g)
  have hacc : ∀ (l' : Fin 1024) (o' : Fin 9216), o'.val = 1024 * (t.val % 4) + l'.val →
      acc (iblk m c 0 t) (iblk m c 1 t) r l' = Gates.proj (ah m c) (aw m c) 0 (Gates.batch g) (Gates.token g) o' := fun l' o' h =>
    Finset.sum_congr rfl fun k _ => congrArg₂ (fun x y : EReal => x * y) (hh k) (blk_w m c t k l' o' h)
  have hn : (Gates.token g).val = 2048 * (t.val / 4 % 4) + r.val := by show g.val % 8192 = _; omega
  obtain ⟨hd, hhd⟩ : ∃ y : Fin 64, y.val = o.val / 64 := ⟨⟨o.val / 64, by omega⟩, rfl⟩
  obtain ⟨gg, hgg⟩ : ∃ y : Fin 2, y.val = l.val % 128 / 64 := ⟨⟨l.val % 128 / 64, by omega⟩, rfl⟩
  obtain ⟨q, hq⟩ : ∃ y : Fin 4, y.val = o.val % 64 / 16 := ⟨⟨o.val % 64 / 16, by omega⟩, rfl⟩
  obtain ⟨f, hf⟩ : ∃ y : Fin 16, y.val = o.val % 16 := ⟨⟨o.val % 16, by omega⟩, rfl⟩
  have hm : (mateCol l).val = 128 * (l.val / 128) + (64 * gg.val + 16 * (Rotary.mate q).val + f.val) := by
    have hl : (⟨l.val % 128, Nat.mod_lt _ (by norm_num)⟩ : Fin 128) = ⟨64 * gg.val + 16 * q.val + f.val, by omega⟩ :=
      Fin.ext (by show l.val % 128 = 64 * gg.val + 16 * q.val + f.val; omega)
    show 128 * (l.val / 128) + (Rotary.across ⟨l.val % 128, _⟩).val = _
    rw [hl, Rotary.across_eq]
  have hr : result m c (ix2 g o) = turned (ah m c) (aw m c) (Gates.batch g) (Gates.token g) hd f q * scale := by
    show turned (ah m c) (aw m c) (Gates.batch g) (Gates.token g) ⟨o.val / 64, _⟩ ⟨o.val % 16, _⟩ ⟨o.val % 64 / 16, _⟩ * scale = _
    congr 2
    · exact Fin.ext hhd.symm
    · exact Fin.ext hf.symm
    · exact Fin.ext hq.symm
  rw [out_apply, hr]
  unfold entry turned
  rw [← Rotary.turn_scaled _ _ _ _ scale (by rw [scale_eq]; exact EReal.coe_nonneg.2 (by norm_num)) (by rw [scale_eq]; exact EReal.coe_ne_top _),
    hacc l ⟨64 * hd.val + (16 * q.val + f.val), by omega⟩ (by show 64 * hd.val + (16 * q.val + f.val) = _; omega),
    hacc (mateCol l) ⟨64 * hd.val + (16 * (Rotary.mate q).val + f.val), by omega⟩ (by
      show 64 * hd.val + (16 * (Rotary.mate q).val + f.val) = _; omega),
    blk_cos m c t r _ (Gates.token g) hn, blk_sin m c t r _ (Gates.token g) hn,
    table_apply cosines (Gates.token g) gg q f _ (by show l.val % 128 = _; omega),
    table_apply sines (Gates.token g) gg q f _ (by show l.val % 128 = _; omega)]
  rfl

theorem mem (x : main_v47.ty.shape.Idx) (h0 : (x 0).val / 2048 = t.val / 4) (h1 : (x 1).val / 1024 = t.val % 4) :
    x ∈ ((cfg0.win 4).blk t).view.set := by
  show x ∈ ((View.whole main_v47).slice (win0_4.rect t)).set
  rw [View.set_slice_whole, Rect.mem_set_unit]
  have hi := index_out t
  intro a
  match a with
  | ⟨0, _⟩ => show win0_4.index t 0 * 2048 ≤ (x 0).val ∧ (x 0).val < win0_4.index t 0 * 2048 + 2048; rw [hi.1]; omega
  | ⟨1, _⟩ => show win0_4.index t 1 * 1024 ≤ (x 1).val ∧ (x 1).val < win0_4.index t 1 * 1024 + 1024; rw [hi.2]; omega

/-- The array after the run. -/
theorem final : (dats m 0 c).arrAt 4 cfg0.N = result m c := by
  refine (dats m 0 c).arrAt_eq_of_cover 4 (result m c) (fun t _ => ?_) fun x => ?_
  · rw [Value.flushed4]
    funext j
    have hN : t.val < 32 := t.isLt
    have hi := index_out t
    have hj : j = ix2 (n0 := 2048) (n1 := 1024) (j 0) (j 1) := eq_ix2 j
    have h0 : (j 0).val < 2048 := (j 0).isLt
    have h1 : (j 1).val < 1024 := (j 1).isLt
    rw [View.read_apply]
    show out0_4 (F := Ideal) (iblk m c 0 t) (iblk m c 1 t) (iblk m c 2 t) (iblk m c 3 t) j = result m c _
    rw [hj, block m c t (j 0) (j 1) ⟨2048 * (t.val / 4) + (j 0).val, by omega⟩ rfl ⟨1024 * (t.val % 4) + (j 1).val, by omega⟩ rfl]
    congr 1
    funext a
    apply Fin.ext
    match a with
    | ⟨0, _⟩ => show 2048 * (t.val / 4) + (j 0).val = win0_4.index t 0 * 2048 + 1 * (j 0).val; omega
    | ⟨1, _⟩ => show 1024 * (t.val % 4) + (j 1).val = win0_4.index t 1 * 1024 + 1 * (j 1).val; omega
  · have h0 : (x 0).val < 16384 := (x 0).isLt
    have h1 : (x 1).val < 4096 := (x 1).isLt
    exact ⟨⟨4 * ((x 0).val / 2048) + (x 1).val / 1024, by show _ < 32; omega⟩, flush0_4 _, mem _ x (by show _ = (4 * ((x 0).val / 2048) + (x 1).val / 1024) / 4; omega)
      (by show _ = (4 * ((x 0).val / 2048) + (x 1).val / 1024) % 4; omega)⟩

end Cert.AttnQIdeal.Query
-- ==== Proof.Moments.lean ====
/-
  Mean and squared deviation of a row of real numbers, kept chunk by chunk: a row's sum and sum of squares decide both, and
  joining two parts' mean and deviation gives those of the whole.
-/
module

public import proofs.«01_k».proof.Proof.Gates
public import proofs.«01_k».proof.Proof.Soft

@[expose] public section

noncomputable section

open Idealize.ShloMosaic

namespace Cert.Moments

/-- `a` is the mean and `d` the sum of squared deviations of `c` real numbers whose sum is `S` and whose squares sum to `Q`. -/
def Has (c S Q : ℝ) (a d : EReal) : Prop := a = ((S / c : ℝ) : EReal) ∧ d = ((Q - S ^ 2 / c : ℝ) : EReal)

/-- Division by a real that is not zero. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The mean and the deviation as they are computed from the numbers. -/
theorem of_columns {n : ℕ} (c : ℝ) (hn : (n : ℝ) = c) (hc : c ≠ 0) (y : Fin n → ℝ) (u : Fin n → EReal) (hu : ∀ k, u k = (y k : EReal))
    (a : EReal) (ha : a = Ideal.div (∑ k, u k) (c : EReal)) (d : EReal) (hd : d = ∑ k, (u k - a) * (u k - a)) :
    Has c (∑ k, y k) (∑ k, y k ^ 2) a d := by
  have h1 : a = (((∑ k, y k) / c : ℝ) : EReal) := by
    rw [ha, ← div_real _ _ hc, Soft.coe_sum]
    exact congrArg (Ideal.div · _) (Finset.sum_congr rfl fun k _ => hu k)
  refine ⟨h1, ?_⟩
  have h2 : ∀ k, (u k - a) * (u k - a) = (((y k - (∑ k, y k) / c) * (y k - (∑ k, y k) / c) : ℝ) : EReal) := fun k => by
    rw [hu, h1, EReal.coe_mul, EReal.coe_sub]
  rw [hd, Finset.sum_congr rfl fun k _ => h2 k, ← Soft.coe_sum]
  congr 1
  generalize hS : ∑ k, y k = S
  have h3 : ∀ k, (y k - S / c) * (y k - S / c) = y k ^ 2 - 2 * (S / c) * y k + (S / c) ^ 2 := fun k => by ring
  rw [Finset.sum_congr rfl fun k _ => h3 k, Finset.sum_add_distrib, Finset.sum_sub_distrib, ← Finset.mul_sum, hS, Finset.sum_const,
    Finset.card_univ, Fintype.card_fin, nsmul_eq_mul, hn]
  field_simp
  ring

/-- Two parts joined: the mean moves by the difference of the means times the second part's share, and the deviation grows by
    the square of that difference times the parts' product over their sum. -/
theorem Has.join {c e S Q S' Q' : ℝ} {a d a' d' : EReal} (h : Has c S Q a d) (h' : Has e S' Q' a' d') (hc : 0 < c) (he : 0 < e)
    (k p : ℝ) (hk : k = e / (c + e)) (hp : p = c * e / (c + e)) :
    Has (c + e) (S + S') (Q + Q') (a + (a' - a) * (k : EReal)) (d + d' + (a' - a) * (a' - a) * (p : EReal)) := by
  obtain ⟨rfl, rfl⟩ := h
  obtain ⟨rfl, rfl⟩ := h'
  have hce : c + e ≠ 0 := by positivity
  subst hk hp
  constructor
  · rw [← EReal.coe_sub, ← EReal.coe_mul, ← EReal.coe_add]
    congr 1
    field_simp
    ring
  · rw [← EReal.coe_sub, ← EReal.coe_mul, ← EReal.coe_mul, ← EReal.coe_add, ← EReal.coe_add]
    congr 1
    field_simp
    ring

/-- GELU of a real number is real. -/
theorem gelu_real (r : ℝ) : ∃ y : ℝ, Gates.gelu (r : EReal) = (y : EReal) := by
  have h0 : Ideal.ofBits .f32 0x3D372713#32 = ((Ideal.ofBits .f32 0x3D372713#32).toReal : EReal) := by
    simp [Ideal.ofBits, Ideal.ieee, -EReal.coe_mul]
  have h1 : Ideal.ofBits .f32 0x3F4C422A#32 = ((Ideal.ofBits .f32 0x3F4C422A#32).toReal : EReal) := by
    simp [Ideal.ofBits, Ideal.ieee, -EReal.coe_mul]
  unfold Gates.gelu
  rw [Gates.half_f32, h0, h1]
  refine ⟨r * (1 / 2 * (1 + Real.tanh ((Ideal.ofBits .f32 0x3F4C422A#32).toReal * (r + (Ideal.ofBits .f32 0x3D372713#32).toReal * (r * r * r))))), ?_⟩
  rw [← EReal.coe_mul, ← EReal.coe_mul, ← EReal.coe_mul, ← EReal.coe_add, ← EReal.coe_mul, Ideal.tanh_coe, ← EReal.coe_one, ← EReal.coe_add,
    ← EReal.coe_mul, ← EReal.coe_mul]

/-- A sum of products of real numbers is real. -/
theorem sum_real {n : ℕ} (f g : Fin n → EReal) (hf : ∀ k, f k = ((f k).toReal : EReal)) (hg : ∀ k, g k = ((g k).toReal : EReal)) :
    ∃ y : ℝ, ∑ k, f k * g k = (y : EReal) := by
  refine ⟨∑ k, (f k).toReal * (g k).toReal, ?_⟩
  rw [Soft.coe_sum]
  refine Finset.sum_congr rfl fun k _ => ?_
  rw [EReal.coe_mul, ← hf, ← hg]

/-- A sum over 4096 columns, chunk by chunk. -/
theorem sum_chunks (f : Fin 4096 → ℝ) :
    ∑ l, f l = ∑ j : Fin 8, ∑ k : Fin 512, f ⟨512 * j.val + k.val, by omega⟩ := by
  rw [← Fintype.sum_prod_type', ← Equiv.sum_comp (finProdFinEquiv (m := 8) (n := 512))]
  refine Finset.sum_congr rfl fun x _ => congrArg f (Fin.ext ?_)
  show x.2.val + 512 * x.1.val = 512 * x.1.val + x.2.val
  omega

/-- The mean of 4096 columns. -/
def mean (u : Fin 4096 → EReal) : EReal := Ideal.div (∑ l, u l) (Ideal.ofBits .f32 0x45800000#32)

/-- The sum of the squared deviations from that mean. -/
def deviation (u : Fin 4096 → EReal) : EReal := ∑ l, (u l - mean u) * (u l - mean u)

/-- One over the root of the variance and a small constant. -/
def rstd (u : Fin 4096 → EReal) : EReal :=
  Ideal.rsqrt (Ideal.div (deviation u) (Ideal.ofBits .f32 0x45800000#32) + Ideal.ofBits .f32 0x358637BD#32)

theorem width_f32 : Ideal.ofBits .f32 0x45800000#32 = ((4096 : ℝ) : EReal) := by
  simp [Ideal.ofBits, Ideal.ieee, -EReal.coe_mul]; norm_num

/-- What stands for 4096 real columns is their mean and deviation. -/
theorem Has.eq {u : Fin 4096 → EReal} {y : Fin 4096 → ℝ} (hu : ∀ l, u l = (y l : EReal)) {a d : EReal}
    (h : Has 4096 (∑ l, y l) (∑ l, y l ^ 2) a d) : a = mean u ∧ d = deviation u := by
  have h' := of_columns (n := 4096) 4096 (by norm_num) (by norm_num) y u hu (mean u) (by unfold mean; rw [width_f32]) (deviation u) rfl
  exact ⟨h.1.trans h'.1.symm, h.2.trans h'.2.symm⟩

end Cert.Moments
-- ==== Proof.GmlpVBlock.lean ====
/-
  The blocks that the gated layer's second input projection leaves, over the extended reals at an index: the activated
  columns, and the mean and reciprocal standard deviation that it joins from eight chunks of 512 columns.
-/
module

public import proofs.«01_k».proof.Proof.Moments
public import proofs.«01_k».proof.Proof.Gen.GmlpVIdeal.Value
public import Idealize.ShloMosaic.Lib.Pipeline.Value

@[expose] public section

noncomputable section

open Idealize.ShloMosaic Idealize.ShloMosaic.TcCoe Idealize.SL.Sem

namespace Cert.GmlpVIdeal.Stats

open Cert.GmlpVIdeal Cert.GmlpVIdeal.Gen

section Chunk

/-- The mean of a chunk's columns, row by row. -/
def meanC (g : FVec Ideal S256x512 .f32) : FVec Ideal S256x1 .f32 := k0_pay17 (F := Ideal) g

/-- A chunk's distance from its mean. -/
def awayC (g : FVec Ideal S256x512 .f32) : FVec Ideal S256x512 .f32 :=
  subf g (broadcastTo S256x512 (meanC g) broadcasts_S256x1_S256x512)

/-- The sum of a chunk's squared deviations, row by row. -/
def devC (g : FVec Ideal S256x512 .f32) : FVec Ideal S256x1 .f32 :=
  shapeCast S256x1 (multiReduction .add [1] S256 (mulf (awayC g) (awayC g)) 0x00000000#32 reduces_S256x512_S256 (.inl rfl) rfl)
    shapeCasts_S256_S256x1

/-- The running mean `a` with one more chunk. -/
def joinA (a : FVec Ideal S256x1 .f32) (g : FVec Ideal S256x512 .f32) (k : EReal) : FVec Ideal S256x1 .f32 :=
  addf (φ := .f32) a (mulf (φ := .f32) (subf (φ := .f32) (meanC g) a) (broadcast S256x1 k))

/-- The running deviation `d` with one more chunk. -/
def joinD (a d : FVec Ideal S256x1 .f32) (g : FVec Ideal S256x512 .f32) (p : EReal) : FVec Ideal S256x1 .f32 :=
  addf (φ := .f32) (addf (φ := .f32) d (devC g))
    (mulf (φ := .f32) (mulf (φ := .f32) (subf (φ := .f32) (meanC g) a) (subf (φ := .f32) (meanC g) a)) (broadcast S256x1 p))

variable (g : FVec Ideal S256x512 .f32) (r : Fin 256)

/-- A row's sum. -/
theorem row_sum (w : FVec Ideal S256x512 .f32) :
    shapeCast S256x1 (multiReduction (F := Ideal) .add [1] S256 w 0x00000000#32 reduces_S256x512_S256 (.inl rfl) rfl)
      shapeCasts_S256_S256x1 (ix2 r 0) = ∑ k : Fin 512, w (ix2 r k) := by
  rw [shapeCast_apply _ _ _ (ix1 r) (by rw [Shape.rowMajor_val_one, Shape.rowMajor_val_two]; show r.val = r.val * 1 + 0; omega)]
  refine (Ideal.multiReduction_add_single (φ := .f32) w 0x00000000#32 reduces_S256x512_S256 (.inl rfl) rfl (ix1 r)).trans ?_
  refine Finset.sum_congr rfl fun k _ => congrArg w ?_
  funext a; fin_cases a <;> rfl

theorem chunk_f32 : Ideal.ofBits .f32 0x44000000#32 = ((512 : ℝ) : EReal) := by
  simp [Ideal.ofBits, Ideal.ieee, -EReal.coe_mul]; norm_num

theorem meanC_apply : meanC g (ix2 r 0) = Ideal.div (∑ k : Fin 512, g (ix2 r k)) ((512 : ℝ) : EReal) := by
  rw [← chunk_f32, ← row_sum]
  rfl

theorem devC_apply : devC g (ix2 r 0) = ∑ k : Fin 512, (g (ix2 r k) - meanC g (ix2 r 0)) * (g (ix2 r k) - meanC g (ix2 r 0)) := by
  refine (row_sum r _).trans (Finset.sum_congr rfl fun k _ => ?_)
  have e : awayC g (ix2 r k) = g (ix2 r k) - meanC g (ix2 r 0) := by
    show g (ix2 r k) - broadcastTo S256x512 (meanC g) broadcasts_S256x1_S256x512 (ix2 r k) = _
    rw [broadcastTo_apply _ _ _ (ix2 r 0) (fun a => by fin_cases a <;> rfl)]
  exact congrArg₂ (fun x y : EReal => x * y) e e

variable {g r} {y : Fin 512 → ℝ} (hy : ∀ k, g (ix2 r k) = (y k : EReal))

include hy

/-- A chunk of real columns. -/
theorem chunk_has : Moments.Has 512 (∑ k, y k) (∑ k, y k ^ 2) (meanC g (ix2 r 0)) (devC g (ix2 r 0)) :=
  Moments.of_columns 512 (by norm_num) (by norm_num) y (fun k => g (ix2 r k)) hy _ (meanC_apply g r) _ (devC_apply g r)

/-- One more chunk of real columns. -/
theorem join_has {c S Q : ℝ} {a d : FVec Ideal S256x1 .f32} (h : Moments.Has c S Q (a (ix2 r 0)) (d (ix2 r 0))) (hc : 0 < c)
    (e : ℝ) (he : c + 512 = e) (k p : EReal) (hk : k = ((512 / e : ℝ) : EReal)) (hp : p = ((c * 512 / e : ℝ) : EReal)) :
    Moments.Has e (S + ∑ k, y k) (Q + ∑ k, y k ^ 2) (joinA a g k (ix2 r 0)) (joinD a d g p (ix2 r 0)) := by
  subst he hk hp
  exact h.join (chunk_has hy) hc (by norm_num) _ _ rfl rfl

/-- The share of chunk `n` in the first `n + 1`. -/
def share (n : ℕ) : EReal := ((1 / ((n : ℝ) + 1) : ℝ) : EReal)

/-- The weight that the difference between chunk `n`'s mean and the mean of those before it has in the deviation. -/
def part (n : ℕ) : EReal := ((512 * (n : ℝ) / ((n : ℝ) + 1) : ℝ) : EReal)

/-- The mean and the deviation of the chunks up to the `n`-th. -/
def joined (g : ℕ → FVec Ideal S256x512 .f32) : ℕ → FVec Ideal S256x1 .f32 × FVec Ideal S256x1 .f32
  | 0 => (meanC (g 0), devC (g 0))
  | n + 1 => (joinA (joined g n).1 (g (n + 1)) (share (n + 1)), joinD (joined g n).1 (joined g n).2 (g (n + 1)) (part (n + 1)))

end Chunk

/-- They are those of the chunks' real columns together. -/
theorem joined_has (g : ℕ → FVec Ideal S256x512 .f32) (r : Fin 256) (y : ℕ → Fin 512 → ℝ) (hy : ∀ n k, g n (ix2 r k) = (y n k : EReal)) (n : ℕ) :
    Moments.Has (512 * ((n : ℝ) + 1)) (∑ i ∈ Finset.range (n + 1), ∑ k, y i k) (∑ i ∈ Finset.range (n + 1), ∑ k, y i k ^ 2)
      ((joined g n).1 (ix2 r 0)) ((joined g n).2 (ix2 r 0)) := by
  induction n with
  | zero =>
    have h := chunk_has (hy 0)
    simpa [joined] using h
  | succ n ih =>
    rw [Finset.sum_range_succ _ (n + 1), Finset.sum_range_succ _ (n + 1)]
    refine join_has (hy (n + 1)) ih (by positivity) _ (by push_cast; ring) _ _ (congrArg Real.toEReal ?_) (congrArg Real.toEReal ?_)
    · push_cast; field_simp
    · push_cast; field_simp

variable (x0 : FVec Ideal S256x2048 .bf16) (x1 : FVec Ideal S2048x4096 .bf16)

/-- The activated entry at row `r` and column `l`. -/
def entry (r : Fin 256) (l : Fin 4096) : EReal := Gates.gelu (∑ k : Fin 2048, x0 (ix2 r k) * x1 (ix2 k l))

/-- 512 activated columns. -/
theorem pay2_apply (h : FVec Ideal S256x2048 .bf16) (w : FVec Ideal S2048x512 .bf16) (r : Fin 256) (l : Fin 512) :
    k0_pay2 (F := Ideal) h w (ix2 r l) = Gates.gelu (∑ k : Fin 2048, h (ix2 r k) * w (ix2 k l)) := by
  unfold k0_pay2 k0_pay1
  rw [shapeCast_self, shapeCast_self]
  simp only [pointwise, Consts.zero_f32, zero_add]
  exact Gates.gelu_eq _

/-- 512 activated columns from column `o`. -/
theorem chunk_apply (o : ℕ) (hw : ∀ a, (![0, o] : Fin 2 → ℕ) a + S2048x512.size a ≤ S2048x4096.size a) (r : Fin 256) (l : Fin 512)
    (q : Fin 4096) (hq : q.val = o + l.val) :
    k0_pay2 (F := Ideal) (View.ld x0 r0_0) (View.ld x1 (Rect.unit (s := S2048x4096) ![0, o] S2048x512.size hw)) (ix2 r l) = entry x0 x1 r q := by
  rw [pay2_apply, View.ld_unit_zero (by decide)]
  refine congrArg Gates.gelu (Finset.sum_congr rfl fun k _ => congrArg (fun y : EReal => x0 (ix2 r k) * y) ?_)
  show x1 _ = x1 _
  congr 1
  funext a
  apply Fin.ext
  match a with
  | ⟨0, _⟩ => show 0 + 1 * k.val = k.val; omega
  | ⟨1, _⟩ => show o + 1 * l.val = q.val; omega

/-- 512 columns of the block from column `o`. -/
theorem tile_apply (o : ℕ) (hw : ∀ a, (![0, o] : Fin 2 → ℕ) a + S2048x512.size a ≤ S2048x4096.size a)
    (ho : ∀ a, (![0, o] : Fin 2 → ℕ) a + S256x512.size a ≤ S256x4096.size a) (x : S256x512.Idx) :
    k0_pay3 (F := Ideal) (View.ld x0 r0_0) (View.ld x1 (Rect.unit (s := S2048x4096) ![0, o] S2048x512.size hw)) x
      = entry x0 x1 ((Rect.unit (s := S256x4096) ![0, o] S256x512.size ho).emb x 0) ((Rect.unit (s := S256x4096) ![0, o] S256x512.size ho).emb x 1) := by
  have hx : x = ix2 (n0 := 256) (n1 := 512) (x 0) (x 1) := eq_ix2 x
  have hr : ((Rect.unit (s := S256x4096) ![0, o] S256x512.size ho).emb x 0 : Fin 256) = x 0 :=
    Fin.ext (by show 0 + 1 * (x 0).val = (x 0).val; omega)
  rw [hr]
  refine (congrArg _ hx).trans ?_
  exact chunk_apply x0 x1 o hw (x 0) (x 1) _ (by show o + 1 * (x 1).val = o + (x 1).val; omega)

/-- The activated block a grid point leaves. -/
theorem out2_apply (r : Fin 256) (l : Fin 4096) : out0_2 (F := Ideal) x0 x1 (ix2 r l) = entry x0 x1 r l := by
  unfold out0_2
  refine View.canon_apply_of_pieces (Val := Elt Ideal) (e := .bf16) (fun y : S256x4096.Idx => entry x0 x1 (y 0) (y 1)) _ ?_ _ (cover0_2 _ _ _ _ _ _ _ _ _)
  intro p hp x
  simp only [List.mem_cons, List.not_mem_nil, or_false] at hp
  rcases hp with rfl | rfl | rfl | rfl | rfl | rfl | rfl | rfl
  · exact tile_apply x0 x1 3584 inb_S2048x4096_S2048x512_0_3584 inb_S256x4096_S256x512_0_3584 x
  · exact tile_apply x0 x1 3072 inb_S2048x4096_S2048x512_0_3072 inb_S256x4096_S256x512_0_3072 x
  · exact tile_apply x0 x1 2560 inb_S2048x4096_S2048x512_0_2560 inb_S256x4096_S256x512_0_2560 x
  · exact tile_apply x0 x1 2048 inb_S2048x4096_S2048x512_0_2048 inb_S256x4096_S256x512_0_2048 x
  · exact tile_apply x0 x1 1536 inb_S2048x4096_S2048x512_0_1536 inb_S256x4096_S256x512_0_1536 x
  · exact tile_apply x0 x1 1024 inb_S2048x4096_S2048x512_0_1024 inb_S256x4096_S256x512_0_1024 x
  · exact tile_apply x0 x1 512 inb_S2048x4096_S2048x512_0_512 inb_S256x4096_S256x512_0_512 x
  · exact tile_apply x0 x1 0 inb_S2048x4096_S2048x512_0_0 inb_S256x4096_S256x512_0_0 x

/-! ## The chunks joined -/

section Levels

variable (a d : FVec Ideal S256x1 .f32) (h : FVec Ideal S256x2048 .bf16) (w w' : FVec Ideal S2048x512 .bf16)

theorem second_mean : k0_pay13 (F := Ideal) a (k0_pay7 h w) (k0_pay8 h w) = joinA a (k0_pay2 h w) (Ideal.ofBits .f32 0x3F000000#32) := rfl

theorem second_dev : k0_pay14 (F := Ideal) a d (k0_pay7 h w) (k0_pay8 h w) = joinD a d (k0_pay2 h w) (Ideal.ofBits .f32 0x43800000#32) := rfl

theorem third_mean : k0_pay19 (F := Ideal) a (k0_pay15 (k0_pay1 h) w)
    = joinA a (k0_pay2 h w) (Named.named (F := Ideal) (φ := .f32) κ "third" 0x3EAAAAAB#32) := rfl

theorem third_dev : k0_pay20 (F := Ideal) a d (k0_pay15 (k0_pay1 h) w)
    = joinD a d (k0_pay2 h w) (Named.named (F := Ideal) (φ := .f32) κ "part3" 0x43AAAAAB#32) := rfl

theorem fourth_mean : k0_pay27 (F := Ideal) a (k0_pay23 (k0_pay1 h) w) k0_pay24 = joinA a (k0_pay2 h w) (Ideal.ofBits .f32 0x3E800000#32) := rfl

theorem fourth_dev : k0_pay28 (F := Ideal) a d (k0_pay21 (k0_pay1 h) w) (k0_pay23 (k0_pay1 h) w) k0_pay24
    = joinD a d (k0_pay2 h w) (Ideal.ofBits .f32 0x43C00000#32) := rfl

/-- The fifth and sixth chunks' mean, which the kernel's text joins at once. -/
theorem sixth_mean (b : FVec Ideal S256x1 .f32) (n₁ n₂ : FVec Ideal S256x1 .f32) (hb : k0_pay27 (F := Ideal) b n₁ n₂ = a) :
    k0_pay39 (F := Ideal) (k0_pay1 h) a (k0_pay33 (k0_pay1 h) b n₁ n₂ w) (Named.named κ "fifth" 0x3E4CCCCD#32) w'
      = joinA (joinA a (k0_pay2 h w) (Named.named (F := Ideal) (φ := .f32) κ "fifth" 0x3E4CCCCD#32)) (k0_pay2 h w')
          (Named.named (F := Ideal) (φ := .f32) κ "sixth" 0x3E2AAAAB#32) := by
  subst hb; rfl

/-- The fifth and sixth chunks' deviation. -/
theorem sixth_dev (b : FVec Ideal S256x1 .f32) (n₁ n₂ : FVec Ideal S256x1 .f32) (hb : k0_pay27 (F := Ideal) b n₁ n₂ = a) :
    k0_pay40 (F := Ideal) (k0_pay1 h) a d (k0_pay32 (k0_pay1 h) w) (k0_pay33 (k0_pay1 h) b n₁ n₂ w) (Named.named κ "fifth" 0x3E4CCCCD#32) w'
      = joinD (joinA a (k0_pay2 h w) (Named.named (F := Ideal) (φ := .f32) κ "fifth" 0x3E4CCCCD#32))
          (joinD a d (k0_pay2 h w) (Named.named (F := Ideal) (φ := .f32) κ "part5" 0x43CCCCCD#32)) (k0_pay2 h w')
          (Named.named (F := Ideal) (φ := .f32) κ "part6" 0x43D55555#32) := by
  subst hb; rfl

theorem seventh_mean : k0_pay45 (F := Ideal) (k0_pay1 h) a w
    = joinA a (k0_pay2 h w) (Named.named (F := Ideal) (φ := .f32) κ "seventh" 0x3E124925#32) := rfl

theorem seventh_dev : k0_pay46 (F := Ideal) (k0_pay1 h) a d w
    = joinD a d (k0_pay2 h w) (Named.named (F := Ideal) (φ := .f32) κ "part7" 0x43DB6DB7#32) := rfl

theorem eighth_mean (r : Fin 256) (l : Fin 128) : k0_pay53 (F := Ideal) a (k0_pay47 (k0_pay1 h) w) (k0_pay48 (k0_pay1 h) w) (ix2 r l)
    = joinA a (k0_pay2 h w) (Ideal.ofBits .f32 0x3E000000#32) (ix2 r 0) := by
  unfold k0_pay53
  show broadcastTo S256x128 _ broadcasts_S256x1_S256x128 (ix2 r l) = _
  rw [broadcastTo_apply _ _ _ (ix2 r 0) (fun a => by fin_cases a <;> rfl), shapeCast_self]
  rfl

theorem eighth_rstd (r : Fin 256) (l : Fin 128) : k0_pay54 (F := Ideal) a d (k0_pay47 (k0_pay1 h) w) (k0_pay48 (k0_pay1 h) w) (ix2 r l)
    = Ideal.rsqrt (joinD a d (k0_pay2 h w) (Ideal.ofBits .f32 0x43E00000#32) (ix2 r 0) * Ideal.ofBits .f32 0x39800000#32
        + Ideal.ofBits .f32 0x358637BD#32) := by
  unfold k0_pay54
  show broadcastTo S256x128 _ broadcasts_S256x1_S256x128 (ix2 r l) = _
  rw [broadcastTo_apply _ _ _ (ix2 r 0) (fun a => by fin_cases a <;> rfl), shapeCast_self]
  rfl

end Levels

theorem third_eq : Named.named (F := Ideal) (φ := .f32) κ "third" 0x3EAAAAAB#32 = ((1 / 3 : ℝ) : EReal) :=
  IdealRules.named_const.ideal_named_scalar _ _ _ _ rfl

theorem fifth_eq : Named.named (F := Ideal) (φ := .f32) κ "fifth" 0x3E4CCCCD#32 = ((1 / 5 : ℝ) : EReal) :=
  IdealRules.named_const.ideal_named_scalar _ _ _ _ rfl

theorem sixth_eq : Named.named (F := Ideal) (φ := .f32) κ "sixth" 0x3E2AAAAB#32 = ((1 / 6 : ℝ) : EReal) :=
  IdealRules.named_const.ideal_named_scalar _ _ _ _ rfl

theorem seventh_eq : Named.named (F := Ideal) (φ := .f32) κ "seventh" 0x3E124925#32 = ((1 / 7 : ℝ) : EReal) :=
  IdealRules.named_const.ideal_named_scalar _ _ _ _ rfl

theorem part3_eq : Named.named (F := Ideal) (φ := .f32) κ "part3" 0x43AAAAAB#32 = ((1024 / 3 : ℝ) : EReal) :=
  IdealRules.named_const.ideal_named_scalar _ _ _ _ rfl

theorem part5_eq : Named.named (F := Ideal) (φ := .f32) κ "part5" 0x43CCCCCD#32 = ((2048 / 5 : ℝ) : EReal) :=
  IdealRules.named_const.ideal_named_scalar _ _ _ _ rfl

theorem part6_eq : Named.named (F := Ideal) (φ := .f32) κ "part6" 0x43D55555#32 = ((1280 / 3 : ℝ) : EReal) :=
  IdealRules.named_const.ideal_named_scalar _ _ _ _ rfl

theorem part7_eq : Named.named (F := Ideal) (φ := .f32) κ "part7" 0x43DB6DB7#32 = ((3072 / 7 : ℝ) : EReal) :=
  IdealRules.named_const.ideal_named_scalar _ _ _ _ rfl

theorem quarter_f32 : Ideal.ofBits .f32 0x3E800000#32 = ((1 / 4 : ℝ) : EReal) := by
  simp [Ideal.ofBits, Ideal.ieee, -EReal.coe_mul]; norm_num

theorem part2_f32 : Ideal.ofBits .f32 0x43800000#32 = ((256 : ℝ) : EReal) := by
  simp [Ideal.ofBits, Ideal.ieee, -EReal.coe_mul]; norm_num

theorem part4_f32 : Ideal.ofBits .f32 0x43C00000#32 = ((384 : ℝ) : EReal) := by
  simp [Ideal.ofBits, Ideal.ieee, -EReal.coe_mul]; norm_num

theorem part8_f32 : Ideal.ofBits .f32 0x43E00000#32 = ((448 : ℝ) : EReal) := by
  simp [Ideal.ofBits, Ideal.ieee, -EReal.coe_mul]; norm_num

theorem per_width_f32 : Ideal.ofBits .f32 0x39800000#32 = ((1 / 4096 : ℝ) : EReal) := by
  simp [Ideal.ofBits, Ideal.ieee, -EReal.coe_mul]; norm_num

/-- Chunk `n` of the activated columns. -/
def cols (n : ℕ) : FVec Ideal S256x512 .f32 := fun i =>
  entry x0 x1 (i 0) ⟨(512 * n + (i 1 : Fin 512).val) % 4096, Nat.mod_lt _ (by norm_num)⟩

theorem chunk_eq (n : ℕ) (hn : n < 8) (hw : ∀ a, (![0, 512 * n] : Fin 2 → ℕ) a + S2048x512.size a ≤ S2048x4096.size a) :
    k0_pay2 (F := Ideal) (View.ld x0 r0_0) (View.ld x1 (Rect.unit (s := S2048x4096) ![0, 512 * n] S2048x512.size hw)) = cols x0 x1 n := by
  funext i
  obtain ⟨r, l, rfl⟩ : ∃ (r : Fin 256) (l : Fin 512), i = ix2 r l := ⟨i 0, i 1, eq_ix2 i⟩
  exact chunk_apply x0 x1 _ hw r l _ (by show (512 * n + l.val) % 4096 = 512 * n + l.val; omega)

theorem mean1 : k0_pay56 (F := Ideal) x0 x1 = (joined (cols x0 x1) 0).1 :=
  congrArg meanC (chunk_eq x0 x1 0 (by norm_num) inb_S2048x4096_S2048x512_0_0)

theorem mean2 : k0_pay59 (F := Ideal) x0 x1 = (joined (cols x0 x1) 1).1 := by
  unfold k0_pay59 k0_pay57 k0_pay58
  refine (second_mean (k0_pay56 x0 x1) (View.ld (Val := Elt Ideal) (e' := .bf16) x0 r0_0) (View.ld (Val := Elt Ideal) (e' := .bf16) x1 r0_3)).trans ?_
  rw [mean1, chunk_eq x0 x1 1 (by norm_num) inb_S2048x4096_S2048x512_0_512, Gates.half_f32.trans (congrArg Real.toEReal
    (show (1 / 2 : ℝ) = 1 / (((1 : ℕ) : ℝ) + 1) by norm_num))]
  rfl

theorem mean3 : k0_pay61 (F := Ideal) x0 x1 = (joined (cols x0 x1) 2).1 := by
  unfold k0_pay61 k0_pay60 k0_pay55
  refine (third_mean (k0_pay59 x0 x1) (View.ld (Val := Elt Ideal) (e' := .bf16) x0 r0_0) (View.ld (Val := Elt Ideal) (e' := .bf16) x1 r0_5)).trans ?_
  rw [mean2, chunk_eq x0 x1 2 (by norm_num) inb_S2048x4096_S2048x512_0_1024, third_eq.trans (congrArg Real.toEReal
    (show (1 / 3 : ℝ) = 1 / (((2 : ℕ) : ℝ) + 1) by norm_num))]
  rfl

theorem mean4 : k0_pay64 (F := Ideal) x0 x1 = (joined (cols x0 x1) 3).1 := by
  unfold k0_pay64 k0_pay62 k0_pay63 k0_pay55
  refine (fourth_mean (k0_pay61 x0 x1) (View.ld (Val := Elt Ideal) (e' := .bf16) x0 r0_0) (View.ld (Val := Elt Ideal) (e' := .bf16) x1 r0_7)).trans ?_
  rw [mean3, chunk_eq x0 x1 3 (by norm_num) inb_S2048x4096_S2048x512_0_1536, quarter_f32.trans (congrArg Real.toEReal
    (show (1 / 4 : ℝ) = 1 / (((3 : ℕ) : ℝ) + 1) by norm_num))]
  rfl

theorem fifth_share : Named.named (F := Ideal) (φ := .f32) κ "fifth" 0x3E4CCCCD#32 = share 4 :=
  fifth_eq.trans (congrArg Real.toEReal (show (1 / 5 : ℝ) = 1 / (((4 : ℕ) : ℝ) + 1) by norm_num))

theorem mean6 : k0_pay66 (F := Ideal) x0 x1 = (joined (cols x0 x1) 5).1 := by
  unfold k0_pay66 k0_pay65 k0_pay55
  refine (sixth_mean (k0_pay64 x0 x1) (View.ld (Val := Elt Ideal) (e' := .bf16) x0 r0_0) (View.ld (Val := Elt Ideal) (e' := .bf16) x1 r0_9) (View.ld (Val := Elt Ideal) (e' := .bf16) x1 r0_11) (k0_pay61 x0 x1) (k0_pay62 x0 x1)
    (k0_pay63 x0 x1) rfl).trans ?_
  rw [mean4, chunk_eq x0 x1 4 (by norm_num) inb_S2048x4096_S2048x512_0_2048, chunk_eq x0 x1 5 (by norm_num) inb_S2048x4096_S2048x512_0_2560,
    fifth_share, sixth_eq.trans (congrArg Real.toEReal (show (1 / 6 : ℝ) = 1 / (((5 : ℕ) : ℝ) + 1) by norm_num))]
  rfl

theorem mean7 : k0_pay67 (F := Ideal) x0 x1 = (joined (cols x0 x1) 6).1 := by
  unfold k0_pay67 k0_pay55
  refine (seventh_mean (k0_pay66 x0 x1) (View.ld (Val := Elt Ideal) (e' := .bf16) x0 r0_0) (View.ld (Val := Elt Ideal) (e' := .bf16) x1 r0_13)).trans ?_
  rw [mean6, chunk_eq x0 x1 6 (by norm_num) inb_S2048x4096_S2048x512_0_3072, seventh_eq.trans (congrArg Real.toEReal
    (show (1 / 7 : ℝ) = 1 / (((6 : ℕ) : ℝ) + 1) by norm_num))]
  rfl

/-- The mean's block holds what the eight chunks join to. -/
theorem out3_joined (r : Fin 256) (l : Fin 128) : out0_3 (F := Ideal) x0 x1 (ix2 r l) = (joined (cols x0 x1) 7).1 (ix2 r 0) := by
  unfold out0_3
  refine (congrFun (View.canon_unit_zero (by decide) _ _) (ix2 r l)).trans ?_
  unfold k0_pay68 k0_pay69 k0_pay55
  refine (eighth_mean (k0_pay67 x0 x1) (View.ld (Val := Elt Ideal) (e' := .bf16) x0 r0_0) (View.ld (Val := Elt Ideal) (e' := .bf16) x1 r0_15) r l).trans ?_
  rw [mean7, chunk_eq x0 x1 7 (by norm_num) inb_S2048x4096_S2048x512_0_3584, Consts.eighth_f32.trans (congrArg Real.toEReal
    (show (1 / 8 : ℝ) = 1 / (((7 : ℕ) : ℝ) + 1) by norm_num))]
  rfl

theorem dev1 : k0_pay5 (F := Ideal) (View.ld x0 r0_0) (View.ld x1 r0_1) = (joined (cols x0 x1) 0).2 :=
  congrArg devC (chunk_eq x0 x1 0 (by norm_num) inb_S2048x4096_S2048x512_0_0)

/-- The deviation of the first four chunks. -/
theorem dev4 : k0_pay28 (F := Ideal) (k0_pay61 x0 x1) (k0_pay20 (k0_pay59 x0 x1) (k0_pay14 (k0_pay56 x0 x1)
      (k0_pay5 (View.ld x0 r0_0) (View.ld x1 r0_1)) (k0_pay57 x0 x1) (k0_pay58 x0 x1)) (k0_pay60 x0 x1))
      (k0_pay21 (k0_pay55 x0 x1) (View.ld x1 r0_7)) (k0_pay62 x0 x1) (k0_pay63 x0 x1) = (joined (cols x0 x1) 3).2 := by
  have e2 := second_dev (k0_pay56 x0 x1) (k0_pay5 (View.ld (Val := Elt Ideal) (e' := .bf16) x0 r0_0) (View.ld (Val := Elt Ideal) (e' := .bf16) x1 r0_1)) (View.ld (Val := Elt Ideal) (e' := .bf16) x0 r0_0) (View.ld (Val := Elt Ideal) (e' := .bf16) x1 r0_3)
  rw [mean1, dev1, chunk_eq x0 x1 1 (by norm_num) inb_S2048x4096_S2048x512_0_512, part2_f32.trans (congrArg Real.toEReal
    (show (256 : ℝ) = 512 * ((1 : ℕ) : ℝ) / (((1 : ℕ) : ℝ) + 1) by norm_num))] at e2
  have e3 := third_dev (k0_pay59 x0 x1) (joined (cols x0 x1) 1).2 (View.ld (Val := Elt Ideal) (e' := .bf16) x0 r0_0) (View.ld (Val := Elt Ideal) (e' := .bf16) x1 r0_5)
  rw [mean2, chunk_eq x0 x1 2 (by norm_num) inb_S2048x4096_S2048x512_0_1024, part3_eq.trans (congrArg Real.toEReal
    (show (1024 / 3 : ℝ) = 512 * ((2 : ℕ) : ℝ) / (((2 : ℕ) : ℝ) + 1) by norm_num))] at e3
  have e4 := fourth_dev (k0_pay61 x0 x1) (joined (cols x0 x1) 2).2 (View.ld (Val := Elt Ideal) (e' := .bf16) x0 r0_0) (View.ld (Val := Elt Ideal) (e' := .bf16) x1 r0_7)
  rw [mean3, chunk_eq x0 x1 3 (by norm_num) inb_S2048x4096_S2048x512_0_1536, part4_f32.trans (congrArg Real.toEReal
    (show (384 : ℝ) = 512 * ((3 : ℕ) : ℝ) / (((3 : ℕ) : ℝ) + 1) by norm_num))] at e4
  rw [mean1, dev1, mean2, mean3]
  unfold k0_pay57 k0_pay58 k0_pay60 k0_pay62 k0_pay63 k0_pay55
  rw [e2]
  refine (congrArg (fun z => k0_pay28 (F := Ideal) _ z _ _ _) e3).trans ?_
  exact e4

/-- The deviation of the first seven chunks. -/
theorem dev7 (d : FVec Ideal S256x1 .f32) (hd : d = (joined (cols x0 x1) 3).2) :
    k0_pay46 (F := Ideal) (k0_pay55 x0 x1) (k0_pay66 x0 x1) (k0_pay40 (k0_pay55 x0 x1) (k0_pay64 x0 x1) d
      (k0_pay32 (k0_pay55 x0 x1) (View.ld x1 r0_9)) (k0_pay65 x0 x1) (Named.named κ "fifth" 0x3E4CCCCD#32) (View.ld x1 r0_11)) (View.ld x1 r0_13)
      = (joined (cols x0 x1) 6).2 := by
  have e6 := sixth_dev (k0_pay64 x0 x1) d (View.ld (Val := Elt Ideal) (e' := .bf16) x0 r0_0) (View.ld (Val := Elt Ideal) (e' := .bf16) x1 r0_9) (View.ld (Val := Elt Ideal) (e' := .bf16) x1 r0_11) (k0_pay61 x0 x1) (k0_pay62 x0 x1)
    (k0_pay63 x0 x1) rfl
  have e7 := seventh_dev (k0_pay66 x0 x1) (joined (cols x0 x1) 5).2 (View.ld (Val := Elt Ideal) (e' := .bf16) x0 r0_0) (View.ld (Val := Elt Ideal) (e' := .bf16) x1 r0_13)
  rw [mean6, chunk_eq x0 x1 6 (by norm_num) inb_S2048x4096_S2048x512_0_3072, part7_eq.trans (congrArg Real.toEReal
    (show (3072 / 7 : ℝ) = 512 * ((6 : ℕ) : ℝ) / (((6 : ℕ) : ℝ) + 1) by norm_num))] at e7
  unfold k0_pay65 k0_pay55
  rw [e6, hd, mean4, chunk_eq x0 x1 4 (by norm_num) inb_S2048x4096_S2048x512_0_2048, chunk_eq x0 x1 5 (by norm_num) inb_S2048x4096_S2048x512_0_2560,
    fifth_share, part5_eq.trans (congrArg Real.toEReal (show (2048 / 5 : ℝ) = 512 * ((4 : ℕ) : ℝ) / (((4 : ℕ) : ℝ) + 1) by norm_num)),
    part6_eq.trans (congrArg Real.toEReal (show (1280 / 3 : ℝ) = 512 * ((5 : ℕ) : ℝ) / (((5 : ℕ) : ℝ) + 1) by norm_num)), mean6]
  exact e7

/-- The reciprocal standard deviation's block. -/
theorem out4_joined (r : Fin 256) (l : Fin 128) : out0_4 (F := Ideal) x0 x1 (ix2 r l)
    = Ideal.rsqrt ((joined (cols x0 x1) 7).2 (ix2 r 0) * Ideal.ofBits .f32 0x39800000#32 + Ideal.ofBits .f32 0x358637BD#32) := by
  unfold out0_4
  refine (congrFun (View.canon_unit_zero (by decide) _ _) (ix2 r l)).trans ?_
  rw [dev7 x0 x1 _ (dev4 x0 x1)]
  unfold k0_pay68 k0_pay69 k0_pay55
  refine (eighth_rstd (k0_pay67 x0 x1) _ (View.ld (Val := Elt Ideal) (e' := .bf16) x0 r0_0) (View.ld (Val := Elt Ideal) (e' := .bf16) x1 r0_15) r l).trans ?_
  rw [mean7, chunk_eq x0 x1 7 (by norm_num) inb_S2048x4096_S2048x512_0_3584, part8_f32.trans (congrArg Real.toEReal
    (show (448 : ℝ) = 512 * ((7 : ℕ) : ℝ) / (((7 : ℕ) : ℝ) + 1) by norm_num))]
  rfl

/-- Where a row's activated columns are real, its two statistics are its mean and reciprocal standard deviation. -/
theorem stats_apply (r : Fin 256) (l : Fin 128) (y : Fin 4096 → ℝ) (hy : ∀ q, entry x0 x1 r q = (y q : EReal)) :
    out0_3 (F := Ideal) x0 x1 (ix2 r l) = Moments.mean (entry x0 x1 r) ∧ out0_4 (F := Ideal) x0 x1 (ix2 r l) = Moments.rstd (entry x0 x1 r) := by
  have h := joined_has (cols x0 x1) r (fun n k => y ⟨(512 * n + k.val) % 4096, Nat.mod_lt _ (by norm_num)⟩) (fun n k => hy _) 7
  have hs : ∀ f : Fin 4096 → ℝ, ∑ i ∈ Finset.range (7 + 1), ∑ k : Fin 512, f ⟨(512 * i + k.val) % 4096, Nat.mod_lt _ (by norm_num)⟩ = ∑ q, f q := by
    intro f
    rw [Moments.sum_chunks, Finset.sum_range]
    refine Finset.sum_congr rfl fun j _ => Finset.sum_congr rfl fun k _ => congrArg f (Fin.ext ?_)
    show (512 * j.val + k.val) % 4096 = 512 * j.val + k.val
    omega
  rw [hs y, hs (fun q => y q ^ 2), show (512 * (((7 : ℕ) : ℝ) + 1) : ℝ) = 4096 by norm_num] at h
  obtain ⟨ha, hd⟩ := h.eq hy
  refine ⟨(out3_joined x0 x1 r l).trans ha, (out4_joined x0 x1 r l).trans ?_⟩
  rw [hd]
  unfold Moments.rstd
  congr 2
  rw [Moments.width_f32, per_width_f32]
  unfold Ideal.div
  rw [if_neg (by norm_num), ← EReal.coe_inv, one_div]

end Cert.GmlpVIdeal.Stats
-- ==== Proof.GmlpVArray.lean ====
/-
  The gated layer's second input projection: the arrays its host code prepares, the blocks its grid reads and writes, and
  the three arrays it returns.
-/
module

public import proofs.«01_k».proof.Proof.GmlpVBlock

@[expose] public section

noncomputable section

open Idealize.ShloMosaic Idealize.ShloMosaic.TcCoe Idealize.SL.Sem

namespace Cert.GmlpVIdeal.Stats

open Cert.GmlpVIdeal Cert.GmlpVIdeal.Gen

variable (m : (ℓ : Loc nD τ sig) → Buf (Elt Ideal) ℓ) (c : Dev nD)

/-- The layer's input. -/
abbrev ah : FVec Ideal S2x8192x2048 .f32 := m ((c : Thread nD τ).loc main_arg0)
/-- The layer's input weights. -/
abbrev aw : FVec Ideal S1x2048x12288 .f32 := m ((c : Thread nD τ).loc main_arg1)

theorem V_h (k : Fin 2048) (r : Fin 16384) : V m c main_v1 (ix2 r k) = ah m c (ix3 (Gates.batch r) (Gates.token r) k) := by
  have e : V m c main_v1 = truncf (F := Ideal) .bf16 (shapeCast S16384x2048 (ah m c) shapeCasts_S2x8192x2048_S16384x2048 : FVec Ideal S16384x2048 .f32)
      bitsLt_bf16_f32 := by
    unfold V; after_results; rfl
  have hr := Gates.row_eq r
  rw [e]
  show shapeCast S16384x2048 (ah m c) shapeCasts_S2x8192x2048_S16384x2048 (ix2 r k) = _
  exact shapeCast_apply _ _ _ _ (by
    rw [Shape.rowMajor_val_three, Shape.rowMajor_val_two]
    show ((Gates.batch r).val * 8192 + (Gates.token r).val) * 2048 + k.val = r.val * 2048 + k.val
    omega)

/-- The second half of the value columns. -/
theorem V_w (k : Fin 2048) (l : Fin 4096) : V m c main_v4 (ix2 k l) = aw m c (ix3 0 k ⟨4096 + l.val, by omega⟩) := by
  have e : V m c main_v4 = truncf (F := Ideal) .bf16 (shapeCast S2048x4096
      (extractStridedSlice S1x2048x4096 ![0, 0, 4096] (aw m c) slices_S1x2048x12288_S1x2048x4096_0_0_4096) shapeCasts_S1x2048x4096_S2048x4096 : FVec Ideal S2048x4096 .f32)
      bitsLt_bf16_f32 := by
    unfold V; after_results; rfl
  rw [e]
  show shapeCast S2048x4096 (extractStridedSlice S1x2048x4096 ![0, 0, 4096] (aw m c) slices_S1x2048x12288_S1x2048x4096_0_0_4096)
    shapeCasts_S1x2048x4096_S2048x4096 (ix2 k l) = _
  rw [shapeCast_apply _ _ _ (ix3 0 k l) (by
    rw [Shape.rowMajor_val_three, Shape.rowMajor_val_two]
    show (0 * 2048 + k.val) * 4096 + l.val = k.val * 4096 + l.val
    omega)]
  exact extractStridedSlice_apply ![0, 0, 4096] (aw m c) slices_S1x2048x12288_S1x2048x4096_0_0_4096 (ix3 0 k l)
    (ix3 0 k ⟨4096 + l.val, by omega⟩) (fun a => match a with
    | ⟨0, _⟩ => rfl
    | ⟨1, _⟩ => by show k.val = 0 + k.val; omega
    | ⟨2, _⟩ => rfl)

theorem index_h : ∀ t : Fin grid0.N, win0_0.index t 0 = t.val ∧ win0_0.index t 1 = 0 := by decide +kernel
theorem index_w : ∀ t : Fin grid0.N, win0_1.index t 0 = 0 ∧ win0_1.index t 1 = 0 := by decide +kernel
theorem index_v : ∀ t : Fin grid0.N, win0_2.index t 0 = t.val ∧ win0_2.index t 1 = 0 := by decide +kernel
theorem index_mean : ∀ t : Fin grid0.N, win0_3.index t 0 = t.val ∧ win0_3.index t 1 = 0 := by decide +kernel
theorem index_rstd : ∀ t : Fin grid0.N, win0_4.index t 0 = t.val ∧ win0_4.index t 1 = 0 := by decide +kernel

variable (t : Fin cfg0.N)

theorem blk_h (r : Fin 256) (k : Fin 2048) (g : Fin 16384) (hg : g.val = 256 * t.val + r.val) :
    iblk m c 0 t (ix2 r k) = V m c main_v1 (ix2 g k) := by
  have hi := index_h t
  have key : ∀ X : Buf (Elt Ideal) ((c : Thread nD τ).loc main_v1), ((cfg0.win 0).blk t).view.read (Elt Ideal) X (ix2 r k) = X (ix2 g k) := by
    intro X
    rw [View.read_apply]
    show X _ = _
    congr 1
    funext a
    apply Fin.ext
    match a with
    | ⟨0, _⟩ => show win0_0.index t 0 * 256 + 1 * r.val = g.val; omega
    | ⟨1, _⟩ => show win0_0.index t 1 * 2048 + 1 * k.val = k.val; omega
  exact key _

theorem blk_w (k : Fin 2048) (l : Fin 4096) : iblk m c 1 t (ix2 k l) = V m c main_v4 (ix2 k l) := by
  have hi := index_w t
  have key : ∀ X : Buf (Elt Ideal) ((c : Thread nD τ).loc main_v4), ((cfg0.win 1).blk t).view.read (Elt Ideal) X (ix2 k l) = X (ix2 k l) := by
    intro X
    rw [View.read_apply]
    show X _ = _
    congr 1
    funext a
    apply Fin.ext
    match a with
    | ⟨0, _⟩ => show win0_1.index t 0 * 2048 + 1 * k.val = k.val; omega
    | ⟨1, _⟩ => show win0_1.index t 1 * 4096 + 1 * l.val = l.val; omega
  exact key _

/-- The activated columns of a row. -/
def column (g : Fin 16384) (l : Fin 4096) : EReal :=
  Gates.gelu (Gates.proj (ah m c) (aw m c) 0 (Gates.batch g) (Gates.token g) ⟨4096 + l.val, by omega⟩)

/-- A grid point's activated entry is its row's. -/
theorem entry_eq (r : Fin 256) (g : Fin 16384) (hg : g.val = 256 * t.val + r.val) (l : Fin 4096) :
    entry (iblk m c 0 t) (iblk m c 1 t) r l = column m c g l :=
  congrArg Gates.gelu (Finset.sum_congr rfl fun k _ => congrArg₂ (fun x y : EReal => x * y) ((blk_h m c t r k g hg).trans (V_h m c k g))
    ((blk_w m c t k l).trans (V_w m c k l)))

/-- The activated array the call returns. -/
def resultV : FVec Ideal S16384x4096 .bf16 := fun i => column m c (i 0) (i 1)

/-- Its rows' means. -/
def resultMean : FVec Ideal S16384x128 .f32 := fun i => Moments.mean (column m c (i 0))

/-- One over its rows' standard deviations. -/
def resultRstd : FVec Ideal S16384x128 .f32 := fun i => Moments.rstd (column m c (i 0))

/-- The activated block that a grid point writes. -/
theorem block_v (r : Fin 256) (l : Fin 4096) (g : Fin 16384) (hg : g.val = 256 * t.val + r.val) :
    out0_2 (F := Ideal) (iblk m c 0 t) (iblk m c 1 t) (ix2 r l) = resultV m c (ix2 g l) :=
  (out2_apply _ _ r l).trans (entry_eq m c t r g hg l)

theorem mem_v (x : main_v5_0.ty.shape.Idx) (h0 : (x 0).val / 256 = t.val) : x ∈ ((cfg0.win 2).blk t).view.set := by
  show x ∈ ((View.whole main_v5_0).slice (win0_2.rect t)).set
  rw [View.set_slice_whole, Rect.mem_set_unit]
  have hi := index_v t
  have h1 : (x 1).val < 4096 := (x 1).isLt
  intro a
  match a with
  | ⟨0, _⟩ => show win0_2.index t 0 * 256 ≤ (x 0).val ∧ (x 0).val < win0_2.index t 0 * 256 + 256; rw [hi.1]; omega
  | ⟨1, _⟩ => show win0_2.index t 1 * 4096 ≤ (x 1).val ∧ (x 1).val < win0_2.index t 1 * 4096 + 4096; rw [hi.2]; omega

theorem mem_mean (x : main_v5_1.ty.shape.Idx) (h0 : (x 0).val / 256 = t.val) : x ∈ ((cfg0.win 3).blk t).view.set := by
  show x ∈ ((View.whole main_v5_1).slice (win0_3.rect t)).set
  rw [View.set_slice_whole, Rect.mem_set_unit]
  have hi := index_mean t
  have h1 : (x 1).val < 128 := (x 1).isLt
  intro a
  match a with
  | ⟨0, _⟩ => show win0_3.index t 0 * 256 ≤ (x 0).val ∧ (x 0).val < win0_3.index t 0 * 256 + 256; rw [hi.1]; omega
  | ⟨1, _⟩ => show win0_3.index t 1 * 128 ≤ (x 1).val ∧ (x 1).val < win0_3.index t 1 * 128 + 128; rw [hi.2]; omega

theorem mem_rstd (x : main_v5_2.ty.shape.Idx) (h0 : (x 0).val / 256 = t.val) : x ∈ ((cfg0.win 4).blk t).view.set := by
  show x ∈ ((View.whole main_v5_2).slice (win0_4.rect t)).set
  rw [View.set_slice_whole, Rect.mem_set_unit]
  have hi := index_rstd t
  have h1 : (x 1).val < 128 := (x 1).isLt
  intro a
  match a with
  | ⟨0, _⟩ => show win0_4.index t 0 * 256 ≤ (x 0).val ∧ (x 0).val < win0_4.index t 0 * 256 + 256; rw [hi.1]; omega
  | ⟨1, _⟩ => show win0_4.index t 1 * 128 ≤ (x 1).val ∧ (x 1).val < win0_4.index t 1 * 128 + 128; rw [hi.2]; omega

/-- The activated array after the run. -/
theorem final_v : (dats m 0 c).arrAt 2 cfg0.N = resultV m c := by
  refine (dats m 0 c).arrAt_eq_of_cover 2 (resultV m c) (fun t _ => ?_) fun x => ?_
  · rw [Value.flushed2]
    funext j
    have hN : t.val < 64 := t.isLt
    have hi := index_v t
    have hj : j = ix2 (n0 := 256) (n1 := 4096) (j 0) (j 1) := eq_ix2 j
    have h0 : (j 0).val < 256 := (j 0).isLt
    rw [View.read_apply]
    show out0_2 (F := Ideal) (iblk m c 0 t) (iblk m c 1 t) j = resultV m c _
    rw [hj, block_v m c t (j 0) (j 1) ⟨256 * t.val + (j 0).val, by omega⟩ rfl]
    congr 1
    funext a
    apply Fin.ext
    match a with
    | ⟨0, _⟩ => show 256 * t.val + (j 0).val = win0_2.index t 0 * 256 + 1 * (j 0).val; omega
    | ⟨1, _⟩ => show (j 1).val = win0_2.index t 1 * 4096 + 1 * (j 1).val; omega
  · have h0 : (x 0).val < 16384 := (x 0).isLt
    exact ⟨⟨(x 0).val / 256, by show _ < 64; omega⟩, flush0_2 _, mem_v _ x rfl⟩

variable (y : Fin 16384 → Fin 4096 → ℝ) (hy : ∀ g l, column m c g l = (y g l : EReal))

include hy

/-- The two statistics that a grid point writes for a row. -/
theorem stats (r : Fin 256) (l : Fin 128) (g : Fin 16384) (hg : g.val = 256 * t.val + r.val) :
    out0_3 (F := Ideal) (iblk m c 0 t) (iblk m c 1 t) (ix2 r l) = Moments.mean (column m c g)
      ∧ out0_4 (F := Ideal) (iblk m c 0 t) (iblk m c 1 t) (ix2 r l) = Moments.rstd (column m c g) := by
  have e : entry (iblk m c 0 t) (iblk m c 1 t) r = column m c g := funext (entry_eq m c t r g hg)
  rw [← e]
  exact stats_apply _ _ r l (y g) fun q => (entry_eq m c t r g hg q).trans (hy g q)

/-- The means after the run. -/
theorem final_mean : (dats m 0 c).arrAt 3 cfg0.N = resultMean m c := by
  refine (dats m 0 c).arrAt_eq_of_cover 3 (resultMean m c) (fun t _ => ?_) fun x => ?_
  · rw [Value.flushed3]
    funext j
    have hN : t.val < 64 := t.isLt
    have hi := index_mean t
    have hj : j = ix2 (n0 := 256) (n1 := 128) (j 0) (j 1) := eq_ix2 j
    have h0 : (j 0).val < 256 := (j 0).isLt
    rw [View.read_apply]
    show out0_3 (F := Ideal) (iblk m c 0 t) (iblk m c 1 t) j = resultMean m c _
    rw [hj, (stats m c t y hy (j 0) (j 1) ⟨256 * t.val + (j 0).val, by omega⟩ rfl).1]
    refine congrArg (fun g => Moments.mean (column m c g)) (Fin.ext ?_)
    show 256 * t.val + (j 0).val = win0_3.index t 0 * 256 + 1 * (j 0).val
    omega
  · have h0 : (x 0).val < 16384 := (x 0).isLt
    exact ⟨⟨(x 0).val / 256, by show _ < 64; omega⟩, flush0_3 _, mem_mean _ x rfl⟩

/-- The reciprocal standard deviations after the run. -/
theorem final_rstd : (dats m 0 c).arrAt 4 cfg0.N = resultRstd m c := by
  refine (dats m 0 c).arrAt_eq_of_cover 4 (resultRstd m c) (fun t _ => ?_) fun x => ?_
  · rw [Value.flushed4]
    funext j
    have hN : t.val < 64 := t.isLt
    have hi := index_rstd t
    have hj : j = ix2 (n0 := 256) (n1 := 128) (j 0) (j 1) := eq_ix2 j
    have h0 : (j 0).val < 256 := (j 0).isLt
    rw [View.read_apply]
    show out0_4 (F := Ideal) (iblk m c 0 t) (iblk m c 1 t) j = resultRstd m c _
    rw [hj, (stats m c t y hy (j 0) (j 1) ⟨256 * t.val + (j 0).val, by omega⟩ rfl).2]
    refine congrArg (fun g => Moments.rstd (column m c g)) (Fin.ext ?_)
    show 256 * t.val + (j 0).val = win0_4.index t 0 * 256 + 1 * (j 0).val
    omega
  · have h0 : (x 0).val < 16384 := (x 0).isLt
    exact ⟨⟨(x 0).val / 256, by show _ < 64; omega⟩, flush0_4 _, mem_rstd _ x rfl⟩

end Cert.GmlpVIdeal.Stats
-- ==== Proof.GmlpVRef.lean ====
/-
  The gated layer's second value half of the reference with its rows' mean and reciprocal standard deviation, over the
  extended reals at an index.
-/
module

public import proofs.«01_k».proof.Proof.Moments
public import proofs.«01_k».proof.Proof.Gen.GmlpVReferenceIdeal.Read

@[expose] public section

noncomputable section

open Idealize.ShloMosaic Idealize.ShloMosaic.TcCoe Idealize.SL.Sem

namespace Cert.GmlpVReferenceIdeal.Stats

open Cert.GmlpVReferenceIdeal Cert.GmlpVReferenceIdeal.Read

variable (x0 : FVec Ideal S2x8192x2048 .f32) (x1 : FVec Ideal S1x2048x12288 .f32) (b : Fin 2) (n : Fin 8192)

theorem v1_apply (o : Fin 12288) : val_main_v1 (F := Ideal) x0 x1 (ix3 b n o) = Gates.proj x0 x1 0 b n o := by
  rw [val_main_v1_apply]
  refine Finset.sum_congr rfl fun k _ => ?_
  rw [val_main_v0_apply]
  refine congrArg₂ (fun x y : EReal => x * y) (congrArg x0 ?_) (congrArg x1 (funext fun a => Fin.ext ?_))
  · funext a; fin_cases a <;> rfl
  · fin_cases a
    · rfl
    · show (k.val * 12288 + o.val) / 12288 % 2048 = k.val; omega
    · show (k.val * 12288 + o.val) % 12288 = o.val; omega

/-- A value column. -/
theorem v2_apply (o : Fin 8192) : val_main_v2 (F := Ideal) x0 x1 (ix3 b n o) = Gates.proj x0 x1 0 b n ⟨o.val, by omega⟩ := by
  rw [val_main_v2_apply, ← v1_apply]
  exact congrArg _ (funext fun a => by fin_cases a <;> rfl)

theorem v16_apply (o : Fin 8192) : val_main_v16 (F := Ideal) x0 x1 (ix3 b n o) = Gates.gelu (Gates.proj x0 x1 0 b n ⟨o.val, by omega⟩) := by
  rw [val_main_v16_apply, val_main_v15_apply, val_main_v14_apply, val_main_cst_2_apply, val_main_v13_apply, val_main_v12_apply, val_main_cst_1_apply,
    val_main_v11_apply, val_main_v10_apply, val_main_v9_apply, val_main_cst_0_apply, val_main_v8_apply, val_main_v7_apply, val_main_v6_apply,
    val_main_cst_apply, val_main_v5_apply, val_main_v4_apply, v2_apply]
  unfold Gates.gelu
  rw [← Gates.one_f32]
  rfl

/-- A token's second value half. -/
def column (l : Fin 4096) : EReal := Gates.gelu (Gates.proj x0 x1 0 b n ⟨4096 + l.val, by omega⟩)

theorem v18_apply (l : Fin 4096) : val_main_v18 (F := Ideal) x0 x1 (ix3 b n l) = column x0 x1 b n l := by
  rw [val_main_v18_apply]
  refine Eq.trans ?_ (v16_apply x0 x1 b n ⟨4096 + l.val, by omega⟩)
  exact congrArg _ (funext fun a => by fin_cases a <;> rfl)

theorem v22_apply : val_main_v22 (F := Ideal) x0 x1 (ix3 b n 0) = Moments.mean (column x0 x1 b n) := by
  have e : ∀ k, idx_main_v19 (idx_main_v20 (ix3 b n 0)) k = ix3 b n k := fun k => funext fun a => by fin_cases a <;> rfl
  rw [val_main_v22_apply, val_main_v20_apply, val_main_v19_apply, val_main_v21_apply, val_main_cst_4_apply, val_main_cst_3_apply]
  simp only [e, v18_apply]
  show Ideal.div (Ideal.ofBits .f32 0x00000000#32 + _) _ = _
  rw [Consts.zero_f32, zero_add]
  rfl

theorem v24_apply (l : Fin 4096) : val_main_v24 (F := Ideal) x0 x1 (ix3 b n l) = column x0 x1 b n l - Moments.mean (column x0 x1 b n) := by
  have e : idx_main_v23 (ix3 b n l) = ix3 b n 0 := funext fun a => by fin_cases a <;> rfl
  rw [val_main_v24_apply, val_main_v23_apply, e, v22_apply, v18_apply]
  rfl

theorem v36_apply : val_main_v36 (F := Ideal) x0 x1 (ix3 b n 0) = Moments.rstd (column x0 x1 b n) := by
  have e : ∀ k, idx_main_v26 (idx_main_v27 (ix3 b n 0)) k = ix3 b n k := fun k => funext fun a => by fin_cases a <;> rfl
  rw [val_main_v36_apply, val_main_v35_apply, val_main_v29_apply, val_main_v27_apply, val_main_v26_apply, val_main_v28_apply, val_main_cst_6_apply,
    val_main_cst_5_apply, val_main_v34_apply, val_main_cst_7_apply]
  simp only [e, val_main_v25_apply, v24_apply]
  show Ideal.rsqrt (Ideal.div (Ideal.ofBits .f32 0x00000000#32 + _) _ + _) = _
  rw [Consts.zero_f32, zero_add]
  rfl

variable (g : Fin 16384) (hg : g.val = 8192 * b.val + n.val)

include hg

theorem v31_apply (l : Fin 4096) : val_main_v31 (F := Ideal) x0 x1 (ix2 g l) = column x0 x1 b n l := by
  have e : idx_main_v30 (ix2 g l) = ix3 b n l := funext fun a => Fin.ext (by
    fin_cases a
    · show (g.val * 4096 + l.val) / 33554432 = b.val; omega
    · show (g.val * 4096 + l.val) / 4096 % 8192 = n.val; omega
    · show (g.val * 4096 + l.val) % 4096 = l.val; omega)
  rw [val_main_v31_apply, val_main_v30_apply, e, v18_apply]
  rfl

theorem v33_apply (l : Fin 128) : val_main_v33 (F := Ideal) x0 x1 (ix2 g l) = Moments.mean (column x0 x1 b n) := by
  have e : idx_main_v32 (idx_main_v33 (ix2 g l)) = ix3 b n 0 := funext fun a => Fin.ext (by
    fin_cases a
    · show (g.val * 1 + 0) / 8192 = b.val; omega
    · show (g.val * 1 + 0) / 1 % 8192 = n.val; omega
    · rfl)
  rw [val_main_v33_apply, val_main_v32_apply, e, v22_apply]

theorem v38_apply (l : Fin 128) : val_main_v38 (F := Ideal) x0 x1 (ix2 g l) = Moments.rstd (column x0 x1 b n) := by
  have e : idx_main_v37 (idx_main_v38 (ix2 g l)) = ix3 b n 0 := funext fun a => Fin.ext (by
    fin_cases a
    · show (g.val * 1 + 0) / 8192 = b.val; omega
    · show (g.val * 1 + 0) / 1 % 8192 = n.val; omega
    · rfl)
  rw [val_main_v38_apply, val_main_v37_apply, e, v36_apply]

end Cert.GmlpVReferenceIdeal.Stats
-- ==== Proof.FnetUBlock.lean ====
/-
  The blocks that the projection to the Fourier mixer leaves, in slabs of 128 lanes, over the extended reals at an index.
-/
module

public import proofs.«01_k».proof.Proof.Gates
public import proofs.«01_k».proof.Proof.Gen.FnetUIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.FnetUIdeal.Mix

open Cert.FnetUIdeal Cert.FnetUIdeal.Gen

/-- The row of the flat block that goes to row `r` of the stored one: halves of eight rows, first of every sixteen, then the rest. -/
def source (r : Fin 1024) : Fin 1024 := ⟨16 * (r.val % 512 / 8) + 8 * (r.val / 512) + r.val % 8, by omega⟩

/-- Half of the rows: eight of every sixteen, from `8 o`. -/
theorem half_apply (v : FVec Ideal S1024x512 .f32) (o : Fin 2) (hs : S64x2x8x512.Slices ![0, o.val, 0, 0] S64x1x8x512) (p q : Fin 512) :
    shapeCast S512x512 (shapeCast S64x8x512 (extractStridedSlice S64x1x8x512 ![0, o.val, 0, 0]
        (shapeCast S64x2x8x512 v shapeCasts_S1024x512_S64x2x8x512) hs) shapeCasts_S64x1x8x512_S64x8x512) shapeCasts_S64x8x512_S512x512 (ix2 p q)
      = v (ix2 ⟨16 * (p.val / 8) + 8 * o.val + p.val % 8, by omega⟩ q) := by
  refine (shapeCast_apply _ _ _ (ix3 ⟨p.val / 8, by omega⟩ ⟨p.val % 8, by omega⟩ q) (by
    rw [Shape.rowMajor_val_three, Shape.rowMajor_val_two]
    show (p.val / 8 * 8 + p.val % 8) * 512 + q.val = p.val * 512 + q.val
    omega)).trans ?_
  refine (shapeCast_apply _ _ _ (ix4 ⟨p.val / 8, by omega⟩ 0 ⟨p.val % 8, by omega⟩ q) (by
    rw [Shape.rowMajor_val_three, Shape.rowMajor_val_four]
    show ((p.val / 8 * 1 + 0) * 8 + p.val % 8) * 512 + q.val = (p.val / 8 * 8 + p.val % 8) * 512 + q.val
    omega)).trans ?_
  refine (extractStridedSlice_apply ![0, o.val, 0, 0] _ hs _ (ix4 ⟨p.val / 8, by omega⟩ o ⟨p.val % 8, by omega⟩ q) (fun a => match a with
    | ⟨0, _⟩ => by show p.val / 8 = 0 + p.val / 8; omega
    | ⟨1, _⟩ => rfl
    | ⟨2, _⟩ => by show p.val % 8 = 0 + p.val % 8; omega
    | ⟨3, _⟩ => by show q.val = 0 + q.val; omega)).trans ?_
  exact shapeCast_apply _ _ _ _ (by
    rw [Shape.rowMajor_val_two, Shape.rowMajor_val_four]
    show (16 * (p.val / 8) + 8 * o.val + p.val % 8) * 512 + q.val = ((p.val / 8 * 2 + o.val) * 8 + p.val % 8) * 512 + q.val
    omega)

/-- A group's product with its matrix, its rows regrouped. -/
theorem pay1_apply (u : FVec Ideal S1024x256 .bf16) (w : FVec Ideal S256x512 .bf16) (r : Fin 1024) (q : Fin 512) :
    k0_pay1 (F := Ideal) u w (ix2 r q) = ∑ j : Fin 256, u (ix2 (source r) j) * w (ix2 j q) := by
  have hm : ∀ p : Fin 1024, matmul dot_S1024x256_S256x512_S1024x512_1_0_0_1_n_n none u w (constant (F := Ideal) S1024x512 .f32 0x00000000#32) (ix2 p q)
      = ∑ j : Fin 256, u (ix2 p j) * w (ix2 j q) := by
    intro p
    simp only [pointwise, Consts.zero_f32, zero_add]
  unfold k0_pay1
  rw [← hm]
  generalize matmul dot_S1024x256_S256x512_S1024x512_1_0_0_1_n_n none u w (constant (F := Ideal) S1024x512 .f32 0x00000000#32) = v
  show concatenate (α := EReal) S1024x512 0 [⟨S512x512, _⟩, ⟨S512x512, _⟩] concatenates_S512x512_S512x512_S1024x512_d0 (ix2 r q) = _
  by_cases h : r.val < 512
  · refine (concatenate_pair_apply_left (t := S1024x512) 0 _ _ concatenates_S512x512_S512x512_S1024x512_d0 _ rfl (ix2 (⟨r.val, h⟩ : Fin 512) q) (fun a => by fin_cases a <;> rfl)).trans ?_
    refine (half_apply v 0 _ _ q).trans (congrArg v (congrArg (fun p => ix2 p q) (Fin.ext ?_)))
    show 16 * (r.val / 8) + 8 * 0 + r.val % 8 = 16 * (r.val % 512 / 8) + 8 * (r.val / 512) + r.val % 8
    omega
  · refine (concatenate_pair_apply_right (t := S1024x512) 0 _ _ concatenates_S512x512_S512x512_S1024x512_d0 _ rfl rfl (ix2 (⟨r.val - 512, by omega⟩ : Fin 512) q)
      (fun a ha => by fin_cases a <;> first | rfl | exact absurd rfl ha) (by show r.val - 512 + 512 = r.val; omega)).trans ?_
    refine (half_apply v 1 _ _ q).trans (congrArg v (congrArg (fun p => ix2 p q) (Fin.ext ?_)))
    show 16 * ((r.val - 512) / 8) + 8 * 1 + (r.val - 512) % 8 = 16 * (r.val % 512 / 8) + 8 * (r.val / 512) + r.val % 8
    omega

/-- 512 columns of the projection. -/
theorem pay7_apply (a : FVec Ideal S1024x2048 .bf16) (w : FVec Ideal S2048x512 .bf16) (r : Fin 1024) (l : Fin 512) :
    k0_pay7 (F := Ideal) a w (ix2 r l) = ∑ k : Fin 2048, a (ix2 r k) * w (ix2 k l) := by
  unfold k0_pay7
  rw [shapeCast_self]
  simp only [pointwise, Consts.zero_f32, zero_add]

/-- The input's block flattened. -/
theorem pay6_apply (x0 : FVec Ideal S1x64x16x2048 .bf16) (r : Fin 1024) (k : Fin 2048) :
    k0_pay6 (F := Ideal) x0 (ix2 r k) = x0 (ix4 0 ⟨r.val / 16, by omega⟩ ⟨r.val % 16, by omega⟩ k) := by
  unfold k0_pay6
  rw [shapeCast_self]
  refine (shapeCast_apply _ _ _ (ix3 ⟨r.val / 16, by omega⟩ ⟨r.val % 16, by omega⟩ k) (by
    rw [Shape.rowMajor_val_two, Shape.rowMajor_val_three]
    show (r.val / 16 * 16 + r.val % 16) * 2048 + k.val = r.val * 2048 + k.val
    omega)).trans ?_
  exact shapeCast_apply _ _ _ _ (by
    rw [Shape.rowMajor_val_three, Shape.rowMajor_val_four]
    show ((0 * 64 + r.val / 16) * 16 + r.val % 16) * 2048 + k.val = (r.val / 16 * 16 + r.val % 16) * 2048 + k.val
    omega)

/-- The columns from `d` of a product, through a group's matrix, the 128 columns from `q` of that. -/
def slab (q d : ℕ) (hq : S1024x512.Slices ![0, q] S1024x128) (hd : S1024x512.Slices ![0, d] S1024x256)
    (a : FVec Ideal S1024x2048 .bf16) (w : FVec Ideal S2048x512 .bf16) (e : FVec Ideal S1x256x512 .bf16) : FVec Ideal S1x1024x128 .bf16 :=
  shapeCast S1x1024x128 (extractStridedSlice S1024x128 ![0, q]
    (k0_pay1 (F := Ideal) (truncf .bf16 (extractStridedSlice S1024x256 ![0, d] (k0_pay7 (F := Ideal) a w) hd) bitsLt_bf16_f32)
      (shapeCast S256x512 e shapeCasts_S1x256x512_S256x512)) hq) shapeCasts_S1024x128_S1x1024x128

theorem slab_apply (q d : ℕ) (hq : S1024x512.Slices ![0, q] S1024x128) (hd : S1024x512.Slices ![0, d] S1024x256) (hq2 : q + 128 ≤ 512) (hd2 : d + 256 ≤ 512)
    (a : FVec Ideal S1024x2048 .bf16) (w : FVec Ideal S2048x512 .bf16) (e : FVec Ideal S1x256x512 .bf16) (r : Fin 1024) (l : Fin 128) :
    slab q d hq hd a w e (ix3 0 r l)
      = ∑ j : Fin 256, (∑ k : Fin 2048, a (ix2 (source r) k) * w (ix2 k ⟨d + j.val, by omega⟩)) * e (ix3 0 j ⟨q + l.val, by omega⟩) := by
  refine (shapeCast_apply _ _ _ (ix2 r l) (by
    rw [Shape.rowMajor_val_two, Shape.rowMajor_val_three]
    show r.val * 128 + l.val = (0 * 1024 + r.val) * 128 + l.val
    omega)).trans ?_
  refine (extractStridedSlice_apply ![0, q] _ hq _ (ix2 r ⟨q + l.val, by omega⟩) (fun a => match a with
    | ⟨0, _⟩ => by show r.val = 0 + r.val; omega
    | ⟨1, _⟩ => rfl)).trans ((pay1_apply _ _ r _).trans ?_)
  refine Finset.sum_congr rfl fun j _ => congrArg₂ (fun x y : EReal => x * y) ?_ ?_
  · have hm : ∀ M : FVec Ideal S1024x512 .f32, truncf (F := Ideal) .bf16 (extractStridedSlice S1024x256 ![0, d] M hd : FVec Ideal S1024x256 .f32)
        bitsLt_bf16_f32 (ix2 (source r) j) = M (ix2 (source r) ⟨d + j.val, by omega⟩) := fun M =>
      extractStridedSlice_apply ![0, d] M hd (ix2 (source r) j) _ (fun a => match a with
        | ⟨0, _⟩ => by show (source r).val = 0 + (source r).val; omega
        | ⟨1, _⟩ => rfl)
    exact (hm _).trans (pay7_apply a w _ _)
  · exact shapeCast_apply _ _ _ _ (by
      rw [Shape.rowMajor_val_three, Shape.rowMajor_val_two]
      show (0 * 256 + j.val) * 512 + (q + l.val) = j.val * 512 + (q + l.val)
      omega)

/-- The entry of slab `s` at row `r` and lane `l`: cosine sums (`part = 0`) or sine sums (`part = 1`). -/
def entry (part : Fin 2) (a : FVec Ideal S1024x2048 .bf16) (x1 : FVec Ideal S2048x1024 .bf16) (x2 : FVec Ideal S4x256x512 .bf16)
    (s : Fin 8) (r : Fin 1024) (l : Fin 128) : EReal :=
  ∑ j : Fin 256, (∑ k : Fin 2048, a (ix2 (source r) k) * x1 (ix2 k ⟨256 * (s.val / 2) + j.val, by omega⟩))
    * x2 (ix3 ⟨s.val / 2, by omega⟩ j ⟨256 * part.val + 128 * (s.val % 2) + l.val, by omega⟩)

theorem slices_q : ∀ (part : Fin 2) (s : Fin 8), S1024x512.Slices ![0, 256 * part.val + 128 * (s.val % 2)] S1024x128 := by decide
theorem slices_d : ∀ s : Fin 8, S1024x512.Slices ![0, 256 * (s.val / 2 % 2)] S1024x256 := by decide
theorem inb_w : ∀ (s : Fin 8) (a : Fin 2), (![0, 512 * (s.val / 4)] : Fin 2 → ℕ) a + S2048x512.size a ≤ S2048x1024.size a := by decide
theorem inb_e : ∀ (s : Fin 8) (a : Fin 3), (![s.val / 2, 0, 0] : Fin 3 → ℕ) a + S1x256x512.size a ≤ S4x256x512.size a := by decide
theorem inb_o : ∀ (s : Fin 8) (a : Fin 3), (![s.val, 0, 0] : Fin 3 → ℕ) a + S1x1024x128.size a ≤ S8x1024x128.size a := by decide

/-- The store of slab `s`. -/
def piece (part : Fin 2) (a : FVec Ideal S1024x2048 .bf16) (x1 : FVec Ideal S2048x1024 .bf16) (x2 : FVec Ideal S4x256x512 .bf16) (s : Fin 8) :
    View.Piece (Elt Ideal) S8x1024x128 .bf16 :=
  ⟨Rect.unit (s := S8x1024x128) ![s.val, 0, 0] S1x1024x128.size (inb_o s),
    slab (256 * part.val + 128 * (s.val % 2)) (256 * (s.val / 2 % 2)) (slices_q part s) (slices_d s) a
      (View.ld (Val := Elt Ideal) (e' := .bf16) x1 (Rect.unit (s := S2048x1024) ![0, 512 * (s.val / 4)] S2048x512.size (inb_w s)))
      (View.ld (Val := Elt Ideal) (e' := .bf16) x2 (Rect.unit (s := S4x256x512) ![s.val / 2, 0, 0] S1x256x512.size (inb_e s)))⟩

theorem piece_apply (part : Fin 2) (a : FVec Ideal S1024x2048 .bf16) (x1 : FVec Ideal S2048x1024 .bf16) (x2 : FVec Ideal S4x256x512 .bf16) (s : Fin 8)
    (x : S1x1024x128.Idx) :
    (piece part a x1 x2 s).2 x = entry part a x1 x2 ((piece part a x1 x2 s).1.emb x 0) ((piece part a x1 x2 s).1.emb x 1) ((piece part a x1 x2 s).1.emb x 2) := by
  have h0 : (x 0).val < 1 := (x 0).isLt
  have h1 : (x 1).val < 1024 := (x 1).isLt
  have h2 : (x 2).val < 128 := (x 2).isLt
  have hx : x = ix3 (n0 := 1) (n1 := 1024) (n2 := 128) 0 (x 1) (x 2) := by
    funext b
    apply Fin.ext
    match b with
    | ⟨0, _⟩ => show (x 0).val = 0; omega
    | ⟨1, _⟩ => rfl
    | ⟨2, _⟩ => rfl
  have e0 : ((piece part a x1 x2 s).1.emb x 0 : Fin 8) = s := Fin.ext (by show s.val + 1 * (x 0).val = s.val; omega)
  have e1 : ((piece part a x1 x2 s).1.emb x 1 : Fin 1024) = x 1 := Fin.ext (by show 0 + 1 * (x 1).val = (x 1).val; omega)
  have e2 : ((piece part a x1 x2 s).1.emb x 2 : Fin 128) = x 2 := Fin.ext (by show 0 + 1 * (x 2).val = (x 2).val; omega)
  rw [e0, e1, e2]
  refine (congrArg (piece part a x1 x2 s).2 hx).trans ((slab_apply _ _ (slices_q part s) (slices_d s) (by omega) (by omega) _ _ _ (x 1) (x 2)).trans ?_)
  refine Finset.sum_congr rfl fun j _ => congrArg₂ (fun x y : EReal => x * y) (Finset.sum_congr rfl fun k _ => congrArg (fun y : EReal => _ * y) ?_) ?_
  · show x1 _ = x1 _
    congr 1
    funext b
    apply Fin.ext
    match b with
    | ⟨0, _⟩ => show 0 + 1 * k.val = k.val; omega
    | ⟨1, _⟩ => show 512 * (s.val / 4) + 1 * (256 * (s.val / 2 % 2) + j.val) = 256 * (s.val / 2) + j.val; omega
  · show x2 _ = x2 _
    congr 1
    funext b
    apply Fin.ext
    match b with
    | ⟨0, _⟩ => show s.val / 2 + 1 * 0 = s.val / 2; omega
    | ⟨1, _⟩ => show 0 + 1 * j.val = j.val; omega
    | ⟨2, _⟩ => show 0 + 1 * (256 * part.val + 128 * (s.val % 2) + (x 2).val) = 256 * part.val + 128 * (s.val % 2) + (x 2).val; omega

/-- A block written by the eight stores holds their entries. -/
theorem entry_of_pieces (v : View sig .tc .vmem S8x1024x128 .bf16) (f : v.ty.Contents (Elt Ideal)) (L : List (View.Piece (Elt Ideal) S8x1024x128 .bf16))
    (part : Fin 2) (a : FVec Ideal S1024x2048 .bf16) (x1 : FVec Ideal S2048x1024 .bf16) (x2 : FVec Ideal S4x256x512 .bf16)
    (hL : L = ([7, 6, 5, 4, 3, 2, 1, 0] : List (Fin 8)).map (piece part a x1 x2)) (s : Fin 8) (r : Fin 1024) (l : Fin 128)
    (hc : ∃ p ∈ L, (ix3 s r l : S8x1024x128.Idx) ∈ p.1.set) :
    v.read (Elt Ideal) (v.writes (Elt Ideal) f L) (ix3 s r l) = entry part a x1 x2 s r l := by
  refine View.read_writes_apply_of_pieces (Val := Elt Ideal) v f (fun y : S8x1024x128.Idx => entry part a x1 x2 (y 0) (y 1) (y 2)) L ?_ _ hc
  subst hL
  intro p hp x
  obtain ⟨s', _, rfl⟩ := List.mem_map.1 hp
  exact piece_apply part a x1 x2 s' x

theorem hz2 : (![0, 0] : Fin 2 → ℕ) = fun _ => 0 := by decide
theorem hz4 : (![0, 0, 0, 0] : Fin 4 → ℕ) = fun _ => 0 := by decide

section

variable (c : Dev nD) (i : grid0.Coords) (a2 : Memref sig .tc .vmem S1x64x16x2048 .bf16) (h2 : a2.IsWhole) (a3 : Memref sig .tc .vmem S2048x1024 .bf16) (h3 : a3.IsWhole)
  (a4 : Memref sig .tc .vmem S4x256x512 .bf16) (h4 : a4.IsWhole) (a5 : Memref sig .tc .vmem S8x1024x128 .bf16) (h5 : a5.IsWhole)
  (a6 : Memref sig .tc .vmem S8x1024x128 .bf16) (h6 : a6.IsWhole) (a7 : Memref sig .tc .vmem S1024x2048 .bf16) (h7 : a7.IsWhole)
  (x0 : Vec Ideal S1x64x16x2048 .bf16) (x1 : Vec Ideal S2048x1024 .bf16) (x2 : Vec Ideal S4x256x512 .bf16) (xs : Vec Ideal S1024x2048 .bf16)
  (s : Fin 8) (r : Fin 1024) (l : Fin 128)

theorem out_B_3 (hc : ¬cond0_0 i) : out0_B_3 (F := Ideal) c i a2 h2 a3 h3 a4 h4 a5 h5 a6 h6 a7 h7 hc x0 x1 x2 xs (ix3 s r l) = entry 0 xs x1 x2 s r l := by
  refine entry_of_pieces _ _ _ 0 xs x1 x2 ?_ s r l (cover0_B_3 (F := Ideal) c i a2 h2 a3 h3 a4 h4 a5 h5 a6 h6 a7 h7 hc x0 x1 x2 xs _)
  unfold kernelRun0_B
  dsimp only
  sl_unfold_words
  simp only [View.readAt_eq_ld, h3.read_unread, h4.read_unread, h7.read_unread, View.ld_unit_zero (S := S1024x2048) hz2]
  sl_kernel_rfl

theorem out_A_3 (hc : cond0_0 i) : out0_A_3 (F := Ideal) c i a2 h2 a3 h3 a4 h4 a5 h5 a6 h6 a7 h7 hc x0 x1 x2 (ix3 s r l) = entry 0 (k0_pay6 (F := Ideal) x0) x1 x2 s r l := by
  refine entry_of_pieces _ _ _ 0 (k0_pay6 (F := Ideal) x0) x1 x2 ?_ s r l (cover0_A_3 (F := Ideal) c i a2 h2 a3 h3 a4 h4 a5 h5 a6 h6 a7 h7 hc x0 x1 x2 _)
  unfold kernelRun0_A
  dsimp only
  sl_unfold_words
  simp only [View.readAt_eq_ld, h2.read_unread, h3.read_unread, h4.read_unread, View.readCov_unit_zero (S := S1024x2048) _ hz2,
    View.ld_unit_zero (S := S1x64x16x2048) hz4]
  sl_kernel_rfl

theorem out_B_4 (hc : ¬cond0_0 i) : out0_B_4 (F := Ideal) c i a2 h2 a3 h3 a4 h4 a5 h5 a6 h6 a7 h7 hc x0 x1 x2 xs (ix3 s r l) = entry 1 xs x1 x2 s r l := by
  refine entry_of_pieces _ _ _ 1 xs x1 x2 ?_ s r l (cover0_B_4 (F := Ideal) c i a2 h2 a3 h3 a4 h4 a5 h5 a6 h6 a7 h7 hc x0 x1 x2 xs _)
  unfold kernelRun0_B
  dsimp only
  sl_unfold_words
  simp only [View.readAt_eq_ld, h3.read_unread, h4.read_unread, h7.read_unread, View.ld_unit_zero (S := S1024x2048) hz2]
  sl_kernel_rfl

theorem out_A_4 (hc : cond0_0 i) : out0_A_4 (F := Ideal) c i a2 h2 a3 h3 a4 h4 a5 h5 a6 h6 a7 h7 hc x0 x1 x2 (ix3 s r l) = entry 1 (k0_pay6 (F := Ideal) x0) x1 x2 s r l := by
  refine entry_of_pieces _ _ _ 1 (k0_pay6 (F := Ideal) x0) x1 x2 ?_ s r l (cover0_A_4 (F := Ideal) c i a2 h2 a3 h3 a4 h4 a5 h5 a6 h6 a7 h7 hc x0 x1 x2 _)
  unfold kernelRun0_A
  dsimp only
  sl_unfold_words
  simp only [View.readAt_eq_ld, h2.read_unread, h3.read_unread, h4.read_unread, View.readCov_unit_zero (S := S1024x2048) _ hz2,
    View.ld_unit_zero (S := S1x64x16x2048) hz4]
  sl_kernel_rfl

/-- What the first column's point leaves for the row tile's others. -/
theorem scratch_A (hc : cond0_0 i) : sout0_A_0 (F := Ideal) c i a2 h2 a3 h3 a4 h4 a5 h5 a6 h6 a7 h7 hc x0 x1 x2 = k0_pay6 (F := Ideal) x0 := by
  refine (View.read_writes_eq_canon _ _ _ (scover0_A_0 (F := Ideal) c i a2 h2 a3 h3 a4 h4 a5 h5 a6 h6 a7 h7 hc x0 x1 x2)).trans ?_
  unfold kernelRun0_A
  dsimp only
  sl_unfold_words
  simp only [View.readAt_eq_ld, h2.read_unread, View.ld_unit_zero (S := S1x64x16x2048) hz4]
  exact View.canon_unit_zero hz2 _ _

end

end Cert.FnetUIdeal.Mix
-- ==== Proof.FnetURef.lean ====
/-
  The reference's projection to the Fourier mixer, the discrete Fourier transform over a group's channels and the group's
  mixing weights, over the extended reals at an index.
-/
module

public import proofs.«01_k».proof.Proof.Moments
public import proofs.«01_k».proof.Proof.Gen.FnetUReferenceIdeal.Read
public import Idealize.ShloMosaic.Lib.ValueIdxRank6

@[expose] public section

noncomputable section

open Idealize.ShloMosaic Idealize.ShloMosaic.TcCoe Idealize.SL.Sem

namespace Cert.FnetUReferenceIdeal.Mix

open Cert.FnetUReferenceIdeal Cert.FnetUReferenceIdeal.Read

variable (x0 : FVec Ideal S2x8192x2048 .f32) (x1 : FVec Ideal S2x2048x8192 .f32) (x2 : FVec Ideal S2x16x256x256 .f32)

/-- The transform's two tables: a sixteenth of the cosines (`part = 0`) and of the negated sines (`part = 1`). -/
def dft (part : Fin 2) : FVec Ideal S256x256 .f32 := match part with
  | 0 => val_main_v16 (F := Ideal)
  | 1 => val_main_v29 (F := Ideal)

/-- Row `g` of a slab holds sequence `g / 8192`'s token `tok g`. -/
def tok (g : Fin 16384) : Fin 8192 := ⟨128 * (g.val % 512 / 8) + 8 * (g.val / 512 % 16) + g.val % 8, by omega⟩

/-- The projection's column `j` of group `d`. -/
abbrev u (b : Fin 2) (n : Fin 8192) (d : Fin 16) (j : Fin 256) : EReal := Gates.proj x0 x1 0 b n ⟨256 * d.val + j.val, by omega⟩

/-- A group's transformed channels through its weights. -/
def entry (part : Fin 2) (b : Fin 2) (n : Fin 8192) (d : Fin 16) (q : Fin 256) : EReal :=
  ∑ c : Fin 256, x2 (ix4 0 d c q) * ∑ j : Fin 256, u x0 x1 b n d j * dft part (ix2 j c)

variable (b : Fin 2) (n : Fin 8192) (d : Fin 16)

theorem v2_apply (o : Fin 8192) : val_main_v2 (F := Ideal) x0 x1 (ix3 b n o) = Gates.proj x0 x1 0 b n o := by
  rw [val_main_v2_apply]
  refine Finset.sum_congr rfl fun k _ => ?_
  rw [val_main_v1_apply, val_main_v0_apply]
  refine congrArg₂ (fun x y : EReal => x * y) (congrArg x0 ?_) (congrArg x1 (funext fun a => Fin.ext ?_))
  · funext a; fin_cases a <;> rfl
  · fin_cases a
    · rfl
    · show (k.val * 8192 + o.val) / 8192 % 2048 = k.val; omega
    · show (k.val * 8192 + o.val) % 8192 = o.val; omega

theorem v5_apply (j : Fin 256) : val_main_v5 (F := Ideal) x0 x1 (ix4 b n d j) = u x0 x1 b n d j := by
  rw [val_main_v5_apply, val_main_v3_apply]
  refine (congrArg (val_main_v2 (F := Ideal) x0 x1) (funext fun a => Fin.ext ?_)).trans (v2_apply x0 x1 b n ⟨256 * d.val + j.val, by omega⟩)
  fin_cases a
  · show (((b.val * 8192 + n.val) * 16 + d.val) * 256 + j.val) / 33554432 = b.val; omega
  · show (((b.val * 8192 + n.val) * 16 + d.val) * 256 + j.val) / 4096 % 8192 = n.val; omega
  · show (((b.val * 8192 + n.val) * 16 + d.val) * 256 + j.val) % 4096 = 256 * d.val + j.val; omega

theorem v19_apply (c q : Fin 256) : val_main_v19 (F := Ideal) x2 (ix3 d c q) = x2 (ix4 0 d c q) := by
  rw [val_main_v19_apply, val_main_v18_apply]
  refine congrArg x2 (funext fun a => Fin.ext ?_)
  fin_cases a
  · rfl
  · show ((d.val * 256 + c.val) * 256 + q.val) / 65536 % 16 = d.val; omega
  · show ((d.val * 256 + c.val) * 256 + q.val) / 256 % 256 = c.val; omega
  · show ((d.val * 256 + c.val) * 256 + q.val) % 256 = q.val; omega

theorem v21_apply (q : Fin 256) : val_main_v21 (F := Ideal) x0 x1 x2 (ix4 b n d q) = entry x0 x1 x2 0 b n d q := by
  rw [val_main_v21_apply, val_main_v20_apply]
  refine Finset.sum_congr rfl fun c _ => congrArg₂ (fun x y : EReal => x * y) ?_ ?_
  · rw [← v19_apply x2 d c q]
    exact congrArg _ (funext fun a => by fin_cases a <;> rfl)
  · rw [val_main_v17_apply]
    refine Finset.sum_congr rfl fun j _ => congrArg₂ (fun x y : EReal => x * y) ?_ ?_
    · rw [← v5_apply]
      exact congrArg _ (funext fun a => by fin_cases a <;> rfl)
    · exact congrArg (val_main_v16 (F := Ideal)) (funext fun a => by fin_cases a <;> rfl)

theorem v34_apply (q : Fin 256) : val_main_v34 (F := Ideal) x0 x1 x2 (ix4 b n d q) = entry x0 x1 x2 1 b n d q := by
  rw [val_main_v34_apply, val_main_v33_apply]
  refine Finset.sum_congr rfl fun c _ => congrArg₂ (fun x y : EReal => x * y) ?_ ?_
  · rw [← v19_apply x2 d c q]
    exact congrArg (val_main_v19 (F := Ideal) x2) (funext fun a => by fin_cases a <;> rfl)
  · rw [val_main_v30_apply]
    refine Finset.sum_congr rfl fun j _ => congrArg₂ (fun x y : EReal => x * y) ?_ ?_
    · rw [← v5_apply]
      exact congrArg _ (funext fun a => by fin_cases a <;> rfl)
    · exact congrArg (val_main_v29 (F := Ideal)) (funext fun a => by fin_cases a <;> rfl)

/-- The layout the next step reads: slabs of 128 lanes, the tokens of a sequence regrouped. -/
theorem layout_apply (y : FVec Ideal S2x8192x16x256 .f32) (s : Fin 32) (g : Fin 16384) (l : Fin 128) :
    shapeCast S32x16384x128 (transpose S32x2x16x64x8x128 [4, 0, 2, 1, 3, 5]
        (shapeCast S2x64x16x8x32x128 y Gen.shapeCasts_S2x8192x16x256_S2x64x16x8x32x128)
        Gen.transposes_S2x64x16x8x32x128_S32x2x16x64x8x128_4_0_2_1_3_5) Gen.shapeCasts_S32x2x16x64x8x128_S32x16384x128 (ix3 s g l)
      = y (ix4 (Gates.batch g) (tok g) ⟨s.val / 2, by omega⟩ ⟨128 * (s.val % 2) + l.val, by omega⟩) := by
  have hr := Gates.row_eq g
  refine (shapeCast_apply _ _ _ (ix6 s (Gates.batch g) ⟨g.val / 512 % 16, by omega⟩ ⟨g.val % 512 / 8, by omega⟩ ⟨g.val % 8, by omega⟩ l) (by
    rw [Shape.rowMajor_val_six, Shape.rowMajor_val_three]
    show ((((s.val * 2 + g.val / 8192) * 16 + g.val / 512 % 16) * 64 + g.val % 512 / 8) * 8 + g.val % 8) * 128 + l.val = (s.val * 16384 + g.val) * 128 + l.val
    omega)).trans ?_
  refine (transpose_apply [4, 0, 2, 1, 3, 5] _ _ _ (ix6 (Gates.batch g) ⟨g.val % 512 / 8, by omega⟩ ⟨g.val / 512 % 16, by omega⟩ ⟨g.val % 8, by omega⟩ s l)
    (fun a => by fin_cases a <;> rfl)).trans ?_
  exact shapeCast_apply _ _ _ _ (by
    rw [Shape.rowMajor_val_six, Shape.rowMajor_val_four]
    show ((g.val / 8192 * 8192 + (128 * (g.val % 512 / 8) + 8 * (g.val / 512 % 16) + g.val % 8)) * 16 + s.val / 2) * 256 + (128 * (s.val % 2) + l.val)
      = ((((g.val / 8192 * 64 + g.val % 512 / 8) * 16 + g.val / 512 % 16) * 8 + g.val % 8) * 32 + s.val) * 128 + l.val
    omega)

variable (s : Fin 32) (g : Fin 16384) (l : Fin 128)

theorem v25_apply : val_main_v25 (F := Ideal) x0 x1 x2 (ix3 s g l)
    = entry x0 x1 x2 0 (Gates.batch g) (tok g) ⟨s.val / 2, by omega⟩ ⟨128 * (s.val % 2) + l.val, by omega⟩ := by
  rw [val_main_v25_apply, ← v21_apply, ← layout_apply (val_main_v21 (F := Ideal) x0 x1 x2) s g l]
  rfl

theorem v38_apply : val_main_v38 (F := Ideal) x0 x1 x2 (ix3 s g l)
    = entry x0 x1 x2 1 (Gates.batch g) (tok g) ⟨s.val / 2, by omega⟩ ⟨128 * (s.val % 2) + l.val, by omega⟩ := by
  rw [val_main_v38_apply, ← v34_apply, ← layout_apply (val_main_v34 (F := Ideal) x0 x1 x2) s g l]
  rfl

/-- The angles are real. -/
theorem angle_real (j c : Fin 256) : ∃ r : ℝ, val_main_v13 (F := Ideal) (ix2 j c) = (r : EReal) := by
  have h : Ideal.ofBits .f32 0x3CC90FDB#32 = ((Ideal.ofBits .f32 0x3CC90FDB#32).toReal : EReal) := by
    simp [Ideal.ofBits, Ideal.ieee, -EReal.coe_mul]
  have hi : ∀ k : S256.Idx, ∃ r : ℝ, val_main_v6 (F := Ideal) k = (r : EReal) := fun k => ⟨_, rfl⟩
  rw [val_main_v13_apply, val_main_v12_apply, val_main_cst_apply, val_main_v11_apply, val_main_v9_apply, val_main_v10_apply, val_main_v7_apply,
    val_main_v8_apply]
  obtain ⟨p, hp⟩ := hi (idx_main_v7 (idx_main_v9 (ix2 j c)))
  obtain ⟨q, hq⟩ := hi (idx_main_v8 (idx_main_v10 (ix2 j c)))
  rw [hp, hq]
  refine ⟨(Ideal.ofBits .f32 0x3CC90FDB#32).toReal * (p * q), ?_⟩
  rw [EReal.coe_mul, EReal.coe_mul, ← h]
  rfl

theorem sixteen_f32 : Ideal.ofBits .f32 0x41800000#32 = ((16 : ℝ) : EReal) := by
  simp [Ideal.ofBits, Ideal.ieee, -EReal.coe_mul]; norm_num

/-- The tables are real. -/
theorem dft_real (part : Fin 2) (j c : Fin 256) : ∃ r : ℝ, dft part (ix2 j c) = (r : EReal) := by
  obtain ⟨θ, hθ⟩ := angle_real j c
  fin_cases part
  · refine ⟨Real.cos θ / 16, ?_⟩
    show val_main_v16 (F := Ideal) (ix2 j c) = _
    rw [val_main_v16_apply, val_main_v14_apply, val_main_v15_apply, val_main_cst_0_apply, hθ, ← Moments.div_real _ _ (by norm_num), ← sixteen_f32]
    rfl
  · refine ⟨-Real.sin θ / 16, ?_⟩
    show val_main_v29 (F := Ideal) (ix2 j c) = _
    rw [val_main_v29_apply, val_main_v27_apply, val_main_v26_apply, val_main_v28_apply, val_main_cst_1_apply, hθ, ← Moments.div_real _ _ (by norm_num),
      ← sixteen_f32, EReal.coe_neg]
    rfl

/-- The same with the weights folded into the tables first. -/
def folded (part : Fin 2) (b : Fin 2) (n : Fin 8192) (d : Fin 16) (q : Fin 256) : EReal :=
  ∑ j : Fin 256, u x0 x1 b n d j * ∑ c : Fin 256, x2 (ix4 0 d c q) * dft part (ix2 j c)

/-- Of real inputs the order of the two sums does not matter. -/
theorem folded_eq (h0 : ∀ i, x0 i = ((x0 i).toReal : EReal)) (h1 : ∀ i, x1 i = ((x1 i).toReal : EReal)) (h2 : ∀ i, x2 i = ((x2 i).toReal : EReal))
    (part : Fin 2) (q : Fin 256) : folded x0 x1 x2 part b n d q = entry x0 x1 x2 part b n d q := by
  have hu : ∀ j : Fin 256, ∃ y : ℝ, u x0 x1 b n d j = (y : EReal) := fun j => Moments.sum_real _ _ (fun k => h0 _) (fun k => h1 _)
  have hx : ∀ c : Fin 256, ∃ y : ℝ, x2 (ix4 0 d c q) = (y : EReal) := fun c => ⟨_, h2 _⟩
  choose v hv using hu
  choose w hw using hx
  choose T hT using dft_real part
  unfold folded entry
  simp only [hv, hT, hw, ← EReal.coe_mul, ← Soft.coe_sum]
  congr 1
  simp only [Finset.mul_sum]
  rw [Finset.sum_comm]
  exact Finset.sum_congr rfl fun c _ => Finset.sum_congr rfl fun j _ => by ring

end Cert.FnetUReferenceIdeal.Mix
-- ==== Proof.FnetUArray.lean ====
/-
  The projection to the Fourier mixer: the arrays its host code prepares, the blocks its grid reads and writes, what a row
  tile's first point leaves for its others, and the two arrays it returns.
-/
module

public import proofs.«01_k».proof.Proof.FnetUBlock
public import proofs.«01_k».proof.Proof.FnetURef

@[expose] public section

noncomputable section

open Idealize.ShloMosaic Idealize.ShloMosaic.TcCoe Idealize.SL.Sem

namespace Cert.FnetUIdeal.Mix

open Cert.FnetUIdeal Cert.FnetUIdeal.Gen
open Cert.FnetUReferenceIdeal.Mix (dft tok folded)

variable (m : (ℓ : Loc nD τ sig) → Buf (Elt Ideal) ℓ) (c : Dev nD)

/-- The layer's input. -/
abbrev ah : FVec Ideal S2x8192x2048 .f32 := m ((c : Thread nD τ).loc main_arg0)
/-- The Fourier layers' input weights, of which the call reads the first layer's. -/
abbrev aw : FVec Ideal S2x2048x8192 .f32 := m ((c : Thread nD τ).loc main_arg1)
/-- The Fourier layers' mixing weights, of which the call reads the first layer's. -/
abbrev am : FVec Ideal S2x16x256x256 .f32 := m ((c : Thread nD τ).loc main_arg2)

theorem V_h (b : Fin 2) (p : Fin 64) (q : Fin 128) (k : Fin 2048) :
    V m c main_v28 (ix4 b p q k) = ah m c (ix3 b ⟨128 * p.val + q.val, by omega⟩ k) := by
  have e : V m c main_v28 = shapeCast S2x64x128x2048 (truncf (F := Ideal) .bf16 (shapeCast S16384x2048 (ah m c) shapeCasts_S2x8192x2048_S16384x2048 :
      FVec Ideal S16384x2048 .f32) bitsLt_bf16_f32) shapeCasts_S16384x2048_S2x64x128x2048 := by
    unfold V; after_results; rfl
  rw [e]
  refine (shapeCast_apply _ _ _ (ix2 ⟨8192 * b.val + (128 * p.val + q.val), by omega⟩ k) (by
    rw [Shape.rowMajor_val_two, Shape.rowMajor_val_four]
    show (8192 * b.val + (128 * p.val + q.val)) * 2048 + k.val = ((b.val * 64 + p.val) * 128 + q.val) * 2048 + k.val
    omega)).trans ?_
  show shapeCast S16384x2048 (ah m c) shapeCasts_S2x8192x2048_S16384x2048 _ = _
  exact shapeCast_apply _ _ _ _ (by
    rw [Shape.rowMajor_val_three, Shape.rowMajor_val_two]
    show (b.val * 8192 + (128 * p.val + q.val)) * 2048 + k.val = (8192 * b.val + (128 * p.val + q.val)) * 2048 + k.val
    omega)

theorem V_w (k : Fin 2048) (o : Fin 4096) : V m c main_v4 (ix2 k o) = aw m c (ix3 0 k ⟨o.val, by omega⟩) := by
  have e : V m c main_v4 = truncf (F := Ideal) .bf16 (shapeCast S2048x4096 (extractStridedSlice S1x2048x4096 ![0, 0, 0] (aw m c)
      slices_S2x2048x8192_S1x2048x4096_0_0_0) shapeCasts_S1x2048x4096_S2048x4096 : FVec Ideal S2048x4096 .f32) bitsLt_bf16_f32 := by
    unfold V; after_results; rfl
  rw [e]
  show shapeCast S2048x4096 (extractStridedSlice S1x2048x4096 ![0, 0, 0] (aw m c) slices_S2x2048x8192_S1x2048x4096_0_0_0)
    shapeCasts_S1x2048x4096_S2048x4096 (ix2 k o) = _
  refine (shapeCast_apply _ _ _ (ix3 0 k o) (by
    rw [Shape.rowMajor_val_three, Shape.rowMajor_val_two]
    show (0 * 2048 + k.val) * 4096 + o.val = k.val * 4096 + o.val
    omega)).trans ?_
  exact extractStridedSlice_apply ![0, 0, 0] (aw m c) slices_S2x2048x8192_S1x2048x4096_0_0_0 (ix3 0 k o) (ix3 0 k ⟨o.val, by omega⟩) (fun a => match a with
    | ⟨0, _⟩ => rfl
    | ⟨1, _⟩ => by show k.val = 0 + k.val; omega
    | ⟨2, _⟩ => by show o.val = 0 + o.val; omega)

/-- The first layer's mixing weights. -/
def mixing : FVec Ideal S16x256x256 .f32 :=
  shapeCast S16x256x256 (extractStridedSlice S1x16x256x256 ![0, 0, 0, 0] (am m c) slices_S2x16x256x256_S1x16x256x256_0_0_0_0)
    shapeCasts_S1x16x256x256_S16x256x256

theorem mixing_apply (d : Fin 16) (p q : Fin 256) : mixing m c (ix3 d p q) = am m c (ix4 0 d p q) := by
  refine (shapeCast_apply _ _ _ (ix4 0 d p q) (by
    rw [Shape.rowMajor_val_three, Shape.rowMajor_val_four]
    show ((0 * 16 + d.val) * 256 + p.val) * 256 + q.val = (d.val * 256 + p.val) * 256 + q.val
    omega)).trans ?_
  exact extractStridedSlice_apply ![0, 0, 0, 0] (am m c) slices_S2x16x256x256_S1x16x256x256_0_0_0_0 (ix4 0 d p q) (ix4 0 d p q) (fun a => match a with
    | ⟨0, _⟩ => rfl
    | ⟨1, _⟩ => by show d.val = 0 + d.val; omega
    | ⟨2, _⟩ => by show p.val = 0 + p.val; omega
    | ⟨3, _⟩ => by show q.val = 0 + q.val; omega)

/-- A table with the mixing weights folded in, as the host code computes it. -/
def fold (w : FVec Ideal S16x256x256 .f32) (T : FVec Ideal S256x256 .f32) : FVec Ideal S16x256x256 .f32 :=
  transpose S16x256x256 [0, 2, 1] (Host.dotGeneral (F := Ideal) dot_S16x256x256_S256x256_S16x256x256_1_1_02_0_n_n none w T)
    transposes_S16x256x256_S16x256x256_0_2_1

theorem fold_apply (w : FVec Ideal S16x256x256 .f32) (T : FVec Ideal S256x256 .f32) (d : Fin 16) (j q : Fin 256) :
    fold w T (ix3 d j q) = ∑ k : Fin 256, w (ix3 d k q) * T (ix2 j k) := by
  refine (transpose_apply [0, 2, 1] _ _ _ (ix3 d q j) (fun a => by fin_cases a <;> rfl)).trans ?_
  simp only [Host.dotGeneral]
  rw [Ideal.dotGeneral_apply, ← Equiv.sum_comp (ValueIdx.contrEquiv1 dot_S16x256x256_S256x256_S16x256x256_1_1_02_0_n_n 256 rfl rfl).symm]
  refine Finset.sum_congr rfl fun k _ => ?_
  have hk := ValueIdx.contrEquiv1_symm_val dot_S16x256x256_S256x256_S16x256x256_1_1_02_0_n_n 256 rfl rfl k
  generalize (ValueIdx.contrEquiv1 dot_S16x256x256_S256x256_S16x256x256_1_1_02_0_n_n 256 rfl rfl).symm k = p at hk
  refine congrArg₂ (fun x y : EReal => x * y) (congrArg w (funext fun a => Fin.ext ?_)) (congrArg T (funext fun a => Fin.ext ?_))
  · match a with
    | ⟨0, _⟩ => unfold DotDims.lhsIdx; rw [dif_neg (by decide +revert), dif_pos (by decide +revert)]; rfl
    | ⟨1, _⟩ => exact (dot_S16x256x256_S256x256_S16x256x256_1_1_02_0_n_n.lhsIdx_val_of_single rfl _ p).trans hk
    | ⟨2, _⟩ => unfold DotDims.lhsIdx; rw [dif_neg (by decide +revert), dif_pos (by decide +revert)]; rfl
  · match a with
    | ⟨0, _⟩ => unfold DotDims.rhsIdx; rw [dif_neg (by decide +revert), dif_pos (by decide +revert)]; rfl
    | ⟨1, _⟩ => exact (dot_S16x256x256_S256x256_S16x256x256_1_1_02_0_n_n.rhsIdx_val_of_single rfl _ p).trans hk

theorem V_m : V m c main_v27 = truncf (F := Ideal) .bf16 (concatenate S16x256x512 2 [⟨S16x256x256, fold (mixing m c) (dft 0)⟩,
    ⟨S16x256x256, fold (mixing m c) (dft 1)⟩] concatenates_S16x256x256_S16x256x256_S16x256x512_d2 : FVec Ideal S16x256x512 .f32) bitsLt_bf16_f32 := by
  unfold V; after_results; rfl

theorem V_m_apply (part : Fin 2) (d : Fin 16) (j q : Fin 256) (o : Fin 512) (ho : o.val = 256 * part.val + q.val) :
    V m c main_v27 (ix3 d j o) = ∑ k : Fin 256, am m c (ix4 0 d k q) * dft part (ix2 j k) := by
  have e : ∀ p : Fin 2, fold (mixing m c) (dft p) (ix3 d j q) = ∑ k : Fin 256, am m c (ix4 0 d k q) * dft p (ix2 j k) := fun p =>
    (fold_apply _ _ d j q).trans (Finset.sum_congr rfl fun k _ => congrArg (fun y : EReal => y * _) (mixing_apply m c d k q))
  rw [V_m]
  show concatenate (α := EReal) S16x256x512 2 [⟨S16x256x256, _⟩, ⟨S16x256x256, _⟩] concatenates_S16x256x256_S16x256x256_S16x256x512_d2 (ix3 d j o) = _
  fin_cases part
  · exact (concatenate_pair_apply_left (t := S16x256x512) 2 _ _ concatenates_S16x256x256_S16x256x256_S16x256x512_d2 _ rfl (ix3 d j q) (fun a => match a with
      | ⟨0, _⟩ => rfl
      | ⟨1, _⟩ => rfl
      | ⟨2, _⟩ => by show q.val = o.val; simp at ho; omega)).trans (e 0)
  · exact (concatenate_pair_apply_right (t := S16x256x512) 2 _ _ concatenates_S16x256x256_S16x256x256_S16x256x512_d2 _ rfl rfl (ix3 d j q)
      (fun a ha => match a, ha with
        | ⟨0, _⟩, _ => rfl
        | ⟨1, _⟩, _ => rfl
        | ⟨2, _⟩, ha => absurd rfl ha) (by show q.val + 256 = o.val; simp at ho; omega)).trans (e 1)

theorem index_h : ∀ t : Fin grid0.N, win0_0.index t 0 = t.val / 32 ∧ win0_0.index t 1 = 0 ∧ win0_0.index t 2 = t.val / 4 % 8 ∧ win0_0.index t 3 = 0 := by
  decide +kernel
theorem index_w : ∀ t : Fin grid0.N, win0_1.index t 0 = 0 ∧ win0_1.index t 1 = t.val % 4 := by decide +kernel
theorem index_m : ∀ t : Fin grid0.N, win0_2.index t 0 = t.val % 4 ∧ win0_2.index t 1 = 0 ∧ win0_2.index t 2 = 0 := by decide +kernel
theorem index_cos : ∀ t : Fin grid0.N, win0_3.index t 0 = t.val % 4 ∧ win0_3.index t 1 = t.val / 4 ∧ win0_3.index t 2 = 0 := by decide +kernel
theorem index_sin : ∀ t : Fin grid0.N, win0_4.index t 0 = t.val % 4 ∧ win0_4.index t 1 = t.val / 4 ∧ win0_4.index t 2 = 0 := by decide +kernel

variable (t : Fin cfg0.N)

theorem blk_h (p : Fin 64) (q : Fin 16) (k : Fin 2048) (b : Fin 2) (hb : b.val = t.val / 32) (v : Fin 128) (hv : v.val = 16 * (t.val / 4 % 8) + q.val) :
    iblk m c 0 t (ix4 0 p q k) = V m c main_v28 (ix4 b p v k) := by
  have hi := index_h t
  have key : ∀ X : Buf (Elt Ideal) ((c : Thread nD τ).loc main_v28), ((cfg0.win 0).blk t).view.read (Elt Ideal) X (ix4 0 p q k) = X (ix4 b p v k) := by
    intro X
    rw [View.read_apply]
    show X _ = _
    congr 1
    funext a
    apply Fin.ext
    match a with
    | ⟨0, _⟩ => show win0_0.index t 0 * 1 + 1 * 0 = b.val; omega
    | ⟨1, _⟩ => show win0_0.index t 1 * 64 + 1 * p.val = p.val; omega
    | ⟨2, _⟩ => show win0_0.index t 2 * 16 + 1 * q.val = v.val; omega
    | ⟨3, _⟩ => show win0_0.index t 3 * 2048 + 1 * k.val = k.val; omega
  exact key _

theorem blk_w (k : Fin 2048) (l : Fin 1024) (o : Fin 4096) (ho : o.val = 1024 * (t.val % 4) + l.val) :
    iblk m c 1 t (ix2 k l) = V m c main_v4 (ix2 k o) := by
  have hi := index_w t
  have key : ∀ X : Buf (Elt Ideal) ((c : Thread nD τ).loc main_v4), ((cfg0.win 1).blk t).view.read (Elt Ideal) X (ix2 k l) = X (ix2 k o) := by
    intro X
    rw [View.read_apply]
    show X _ = _
    congr 1
    funext a
    apply Fin.ext
    match a with
    | ⟨0, _⟩ => show win0_1.index t 0 * 2048 + 1 * k.val = k.val; omega
    | ⟨1, _⟩ => show win0_1.index t 1 * 1024 + 1 * l.val = o.val; omega
  exact key _

theorem blk_m (g : Fin 4) (j : Fin 256) (q : Fin 512) (d : Fin 16) (hd : d.val = 4 * (t.val % 4) + g.val) :
    iblk m c 2 t (ix3 g j q) = V m c main_v27 (ix3 d j q) := by
  have hi := index_m t
  have key : ∀ X : Buf (Elt Ideal) ((c : Thread nD τ).loc main_v27), ((cfg0.win 2).blk t).view.read (Elt Ideal) X (ix3 g j q) = X (ix3 d j q) := by
    intro X
    rw [View.read_apply]
    show X _ = _
    congr 1
    funext a
    apply Fin.ext
    match a with
    | ⟨0, _⟩ => show win0_2.index t 0 * 4 + 1 * g.val = d.val; omega
    | ⟨1, _⟩ => show win0_2.index t 1 * 256 + 1 * j.val = j.val; omega
    | ⟨2, _⟩ => show win0_2.index t 2 * 512 + 1 * q.val = q.val; omega
  exact key _

/-- The flattened input's block that a row tile's points share. -/
theorem flat_apply (r : Fin 1024) (k : Fin 2048) (g : Fin 16384) (hg : g.val = 1024 * (t.val / 4) + r.val) :
    k0_pay6 (F := Ideal) (iblk m c 0 t) (ix2 (source r) k) = ah m c (ix3 (Gates.batch g) (tok g) k) := by
  have hN : t.val < 64 := t.isLt
  refine (pay6_apply _ _ k).trans ((blk_h m c t _ _ k (Gates.batch g) (by show g.val / 8192 = _; omega)
    ⟨16 * (t.val / 4 % 8) + (source r).val % 16, by omega⟩ rfl).trans ((V_h m c _ _ _ k).trans ?_))
  refine congrArg (fun n => ah m c (ix3 (Gates.batch g) n k)) (Fin.ext ?_)
  show 128 * ((16 * (r.val % 512 / 8) + 8 * (r.val / 512) + r.val % 8) / 16)
      + (16 * (t.val / 4 % 8) + (16 * (r.val % 512 / 8) + 8 * (r.val / 512) + r.val % 8) % 16)
    = 128 * (g.val % 512 / 8) + 8 * (g.val / 512 % 16) + g.val % 8
  have e1 : g.val % 512 = r.val % 512 := by omega
  have e2 : g.val / 512 % 16 = 2 * (t.val / 4 % 8) + r.val / 512 := by omega
  have e3 : g.val % 8 = r.val % 8 := by omega
  have e4 : (16 * (r.val % 512 / 8) + 8 * (r.val / 512) + r.val % 8) / 16 = r.val % 512 / 8 := by omega
  have e5 : (16 * (r.val % 512 / 8) + 8 * (r.val / 512) + r.val % 8) % 16 = 8 * (r.val / 512) + r.val % 8 := by omega
  rw [e1, e2, e3, e4, e5]
  omega

theorem scratch_first (h0 : t.val % 4 = 0) : (outsAt0 m c t.val t.isLt).2.2 = k0_pay6 (F := Ideal) (iblk m c 0 t) := by
  rw [outsAt0_A m c t h0]
  dsimp only
  exact scratch_A c (grid0.coords t) (ms0_0 t) (hs0_0 t) (ms0_1 t) (hs0_1 t) (ms0_2 t) (hs0_2 t) (ms0_3 t) (hs0_3 t) (ms0_4 t) (hs0_4 t) scM0_0
    (Memref.isWhole_whole _) (iblk m c 0 t) (iblk m c 1 t) (iblk m c 2 t) ((hcond0_0 t).mpr h0)

theorem scratch_next (h0 : ¬t.val % 4 = 0) :
    (outsAt0 m c t.val t.isLt).2.2 = (outsAt0 m c (t.val - 1) (Nat.lt_of_le_of_lt (Nat.sub_le _ _) t.isLt)).2.2 := by
  rw [outsAt0_B m c t h0]
  rfl

/-- Every point holds its row tile's flattened block. -/
theorem scratch (n : ℕ) (hn : n < cfg0.N) : (outsAt0 m c n hn).2.2 = k0_pay6 (F := Ideal) (iblk m c 0 ⟨n, hn⟩) := by
  induction n with
  | zero => exact scratch_first m c ⟨0, hn⟩ rfl
  | succ n ih =>
    by_cases h0 : (n + 1) % 4 = 0
    · exact scratch_first m c ⟨n + 1, hn⟩ h0
    · refine (scratch_next m c ⟨n + 1, hn⟩ h0).trans ((ih (Nat.lt_of_succ_lt hn)).trans ?_)
      have hN : n + 1 < 64 := hn
      have key : ∀ (r : Fin 1024) (k : Fin 2048), k0_pay6 (iblk m c 0 ⟨n, Nat.lt_of_succ_lt hn⟩) (ix2 r k) = k0_pay6 (iblk m c 0 ⟨n + 1, hn⟩) (ix2 r k) := by
        intro r k
        rw [pay6_apply, pay6_apply]
        exact (blk_h m c ⟨n, Nat.lt_of_succ_lt hn⟩ _ _ _ ⟨n / 32, by omega⟩ rfl ⟨16 * (n / 4 % 8) + r.val % 16, by omega⟩ rfl).trans
          (blk_h m c ⟨n + 1, hn⟩ _ _ _ ⟨n / 32, by omega⟩ (by show n / 32 = (n + 1) / 32; omega) _
            (by show 16 * (n / 4 % 8) + r.val % 16 = 16 * ((n + 1) / 4 % 8) + r.val % 16; omega)).symm
      funext i
      have hi : i = ix2 (n0 := 1024) (n1 := 2048) (i 0) (i 1) := eq_ix2 i
      exact (congrArg _ hi).trans ((key _ _).trans (congrArg _ hi).symm)

/-- The arrays the call returns, cosine sums (`part = 0`) and sine sums (`part = 1`). -/
def result (part : Fin 2) : FVec Ideal S32x16384x128 .bf16 := fun i =>
  folded (ah m c) (aw m c) (am m c) part (Gates.batch (i 1)) (tok (i 1)) ⟨(i 0).val / 2, by have : (i 0).val < 32 := (i 0).isLt; omega⟩
    ⟨128 * ((i 0).val % 2) + (i 2).val, by have : (i 2).val < 128 := (i 2).isLt; omega⟩

/-- The block that a grid point writes: 1024 rows of eight slabs. -/
theorem block (part : Fin 2) (s : Fin 8) (r : Fin 1024) (l : Fin 128) (g : Fin 16384) (hg : g.val = 1024 * (t.val / 4) + r.val) (o : Fin 32)
    (ho : o.val = 8 * (t.val % 4) + s.val) :
    entry part (k0_pay6 (F := Ideal) (iblk m c 0 t)) (iblk m c 1 t) (iblk m c 2 t) s r l = result m c part (ix3 o g l) := by
  unfold entry
  show _ = folded _ _ _ _ _ _ _ _
  unfold folded
  refine Finset.sum_congr rfl fun j _ => congrArg₂ (fun x y : EReal => x * y)
    (Finset.sum_congr rfl fun k _ => congrArg₂ (fun x y : EReal => x * y) (flat_apply m c t r k g hg) ?_) ?_
  · refine (blk_w m c t k _ ⟨256 * (o.val / 2) + j.val, by omega⟩ (by
      show 256 * (o.val / 2) + j.val = 1024 * (t.val % 4) + (256 * (s.val / 2) + j.val); omega)).trans (V_w m c k _)
  · refine (blk_m m c t _ j _ ⟨o.val / 2, by omega⟩ (by show o.val / 2 = 4 * (t.val % 4) + s.val / 2; omega)).trans
      (V_m_apply m c part _ j ⟨128 * (o.val % 2) + l.val, by omega⟩ _ (by
        show 256 * part.val + 128 * (s.val % 2) + l.val = 256 * part.val + (128 * (o.val % 2) + l.val); omega))

/-- An index lies in the block that its row tile's and slab group's point writes. -/
theorem mem_cos (x : S32x16384x128.Idx) (h0 : (x 0).val / 8 = t.val % 4) (h1 : (x 1).val / 1024 = t.val / 4) :
    x ∈ ((cfg0.win 3).blk t).view.set := by
  show x ∈ ((View.whole main_v29_0).slice (win0_3.rect t)).set
  have h2 : (x 2).val < 128 := (x 2).isLt
  rw [View.set_slice_whole, Rect.mem_set_unit]
  have hi := index_cos t
  intro a
  match a with
  | ⟨0, _⟩ => show win0_3.index t 0 * 8 ≤ (x 0).val ∧ (x 0).val < win0_3.index t 0 * 8 + 8; rw [hi.1]; omega
  | ⟨1, _⟩ => show win0_3.index t 1 * 1024 ≤ (x 1).val ∧ (x 1).val < win0_3.index t 1 * 1024 + 1024; rw [hi.2.1]; omega
  | ⟨2, _⟩ => show win0_3.index t 2 * 128 ≤ (x 2).val ∧ (x 2).val < win0_3.index t 2 * 128 + 128; rw [hi.2.2]; omega

/-- What a point writes back to the array of cosine sums. -/
theorem left_cos (s : Fin 8) (r : Fin 1024) (l : Fin 128) :
    (outsAt0 m c t.val t.isLt).1 (ix3 s r l) = entry 0 (k0_pay6 (F := Ideal) (iblk m c 0 t)) (iblk m c 1 t) (iblk m c 2 t) s r l := by
  by_cases h0 : t.val % 4 = 0
  · rw [outsAt0_A m c t h0]
    dsimp only
    exact out_A_3 c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) s r l ((hcond0_0 t).mpr h0)
  · rw [← (scratch_next m c t h0).symm.trans (scratch m c t.val t.isLt), outsAt0_B m c t h0]
    dsimp only
    exact out_B_3 c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) _ s r l (fun h => h0 ((hcond0_0 t).mp h))

/-- The array of cosine sums after the run. -/
theorem final_cos : (dats m 0 c).arrAt 3 cfg0.N = result m c 0 := by
  refine (dats m 0 c).arrAt_eq_of_cover 3 (result m c 0) (fun t _ => ?_) fun x => ?_
  · rw [Value.flushed3]
    funext j
    have hN : t.val < 64 := t.isLt
    have hi := index_cos t
    have hj : j = ix3 (n0 := 8) (n1 := 1024) (n2 := 128) (j 0) (j 1) (j 2) := eq_ix3 j
    have h0 : (j 0).val < 8 := (j 0).isLt
    have h1 : (j 1).val < 1024 := (j 1).isLt
    rw [View.read_apply]
    show (outsAt0 m c t.val t.isLt).1 j = result m c 0 _
    rw [hj]
    refine (left_cos m c t (j 0) (j 1) (j 2)).trans ((block m c t 0 (j 0) (j 1) (j 2) ⟨1024 * (t.val / 4) + (j 1).val, by omega⟩ rfl
      ⟨8 * (t.val % 4) + (j 0).val, by omega⟩ rfl).trans ?_)
    congr 1
    funext a
    apply Fin.ext
    match a with
    | ⟨0, _⟩ => show 8 * (t.val % 4) + (j 0).val = win0_3.index t 0 * 8 + 1 * (j 0).val; omega
    | ⟨1, _⟩ => show 1024 * (t.val / 4) + (j 1).val = win0_3.index t 1 * 1024 + 1 * (j 1).val; omega
    | ⟨2, _⟩ => show (j 2).val = win0_3.index t 2 * 128 + 1 * (j 2).val; omega
  · have h0 : (x 0).val < 32 := (x 0).isLt
    have h1 : (x 1).val < 16384 := (x 1).isLt
    exact ⟨⟨4 * ((x 1).val / 1024) + (x 0).val / 8, by show _ < 64; omega⟩, flush0_3 _, mem_cos _ x (by show _ = (4 * ((x 1).val / 1024) + (x 0).val / 8) % 4; omega)
      (by show _ = (4 * ((x 1).val / 1024) + (x 0).val / 8) / 4; omega)⟩

/-- An index lies in the block that its row tile's and slab group's point writes. -/
theorem mem_sin (x : S32x16384x128.Idx) (h0 : (x 0).val / 8 = t.val % 4) (h1 : (x 1).val / 1024 = t.val / 4) :
    x ∈ ((cfg0.win 4).blk t).view.set := by
  show x ∈ ((View.whole main_v29_1).slice (win0_4.rect t)).set
  have h2 : (x 2).val < 128 := (x 2).isLt
  rw [View.set_slice_whole, Rect.mem_set_unit]
  have hi := index_sin t
  intro a
  match a with
  | ⟨0, _⟩ => show win0_4.index t 0 * 8 ≤ (x 0).val ∧ (x 0).val < win0_4.index t 0 * 8 + 8; rw [hi.1]; omega
  | ⟨1, _⟩ => show win0_4.index t 1 * 1024 ≤ (x 1).val ∧ (x 1).val < win0_4.index t 1 * 1024 + 1024; rw [hi.2.1]; omega
  | ⟨2, _⟩ => show win0_4.index t 2 * 128 ≤ (x 2).val ∧ (x 2).val < win0_4.index t 2 * 128 + 128; rw [hi.2.2]; omega

/-- What a point writes back to the array of minus-sine sums. -/
theorem left_sin (s : Fin 8) (r : Fin 1024) (l : Fin 128) :
    (outsAt0 m c t.val t.isLt).2.1 (ix3 s r l) = entry 1 (k0_pay6 (F := Ideal) (iblk m c 0 t)) (iblk m c 1 t) (iblk m c 2 t) s r l := by
  by_cases h0 : t.val % 4 = 0
  · rw [outsAt0_A m c t h0]
    dsimp only
    exact out_A_4 c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) s r l ((hcond0_0 t).mpr h0)
  · rw [← (scratch_next m c t h0).symm.trans (scratch m c t.val t.isLt), outsAt0_B m c t h0]
    dsimp only
    exact out_B_4 c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) _ s r l (fun h => h0 ((hcond0_0 t).mp h))

/-- The array of minus-sine sums after the run. -/
theorem final_sin : (dats m 0 c).arrAt 4 cfg0.N = result m c 1 := by
  refine (dats m 0 c).arrAt_eq_of_cover 4 (result m c 1) (fun t _ => ?_) fun x => ?_
  · rw [Value.flushed4]
    funext j
    have hN : t.val < 64 := t.isLt
    have hi := index_sin t
    have hj : j = ix3 (n0 := 8) (n1 := 1024) (n2 := 128) (j 0) (j 1) (j 2) := eq_ix3 j
    have h0 : (j 0).val < 8 := (j 0).isLt
    have h1 : (j 1).val < 1024 := (j 1).isLt
    rw [View.read_apply]
    show (outsAt0 m c t.val t.isLt).2.1 j = result m c 1 _
    rw [hj]
    refine (left_sin m c t (j 0) (j 1) (j 2)).trans ((block m c t 1 (j 0) (j 1) (j 2) ⟨1024 * (t.val / 4) + (j 1).val, by omega⟩ rfl
      ⟨8 * (t.val % 4) + (j 0).val, by omega⟩ rfl).trans ?_)
    congr 1
    funext a
    apply Fin.ext
    match a with
    | ⟨0, _⟩ => show 8 * (t.val % 4) + (j 0).val = win0_4.index t 0 * 8 + 1 * (j 0).val; omega
    | ⟨1, _⟩ => show 1024 * (t.val / 4) + (j 1).val = win0_4.index t 1 * 1024 + 1 * (j 1).val; omega
    | ⟨2, _⟩ => show (j 2).val = win0_4.index t 2 * 128 + 1 * (j 2).val; omega
  · have h0 : (x 0).val < 32 := (x 0).isLt
    have h1 : (x 1).val < 16384 := (x 1).isLt
    exact ⟨⟨4 * ((x 1).val / 1024) + (x 0).val / 8, by show _ < 64; omega⟩, flush0_4 _, mem_sin _ x (by show _ = (4 * ((x 1).val / 1024) + (x 0).val / 8) % 4; omega)
      (by show _ = (4 * ((x 1).val / 1024) + (x 0).val / 8) / 4; omega)⟩

end Cert.FnetUIdeal.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Equal
public import proofs.«01_k».proof.Proof.Gen.FinalIdeal.Value
public import proofs.«01_k».proof.Proof.Gen.FinalReferenceIdeal.Run
public import proofs.«01_k».proof.Proof.Gen.FinalReferenceIdeal.Read
public import proofs.«01_k».proof.Proof.Gen.NextIdeal.Value
public import proofs.«01_k».proof.Proof.Gen.NextReferenceIdeal.Run
public import proofs.«01_k».proof.Proof.Gen.NextReferenceIdeal.Read
public import proofs.«01_k».proof.Proof.Gen.GmlpUzIdeal.Value
public import proofs.«01_k».proof.Proof.Gen.GmlpUzReferenceIdeal.Run
public import proofs.«01_k».proof.Proof.Gen.GmlpUzReferenceIdeal.Read
public import proofs.«01_k».proof.Proof.Gen.AttnZIdeal.Value
public import proofs.«01_k».proof.Proof.Gen.AttnZReferenceIdeal.Run
public import proofs.«01_k».proof.Proof.Gen.AttnZReferenceIdeal.Read
public import proofs.«01_k».proof.Proof.Gen.FnetZIdeal.Value
public import proofs.«01_k».proof.Proof.Gen.FnetZReferenceIdeal.Run
public import proofs.«01_k».proof.Proof.Gen.FnetZReferenceIdeal.Read
public import proofs.«01_k».proof.Proof.FinalArray
public import proofs.«01_k».proof.Proof.FinalRef
public import proofs.«01_k».proof.Proof.NextArray
public import proofs.«01_k».proof.Proof.NextRef
public import proofs.«01_k».proof.Proof.GmlpUzArray
public import proofs.«01_k».proof.Proof.GmlpUzRef
public import proofs.«01_k».proof.Proof.AttnZArray
public import proofs.«01_k».proof.Proof.AttnZRef
public import proofs.«01_k».proof.Proof.FnetZArray
public import proofs.«01_k».proof.Proof.FnetZRef
public import proofs.«01_k».proof.Final
public import proofs.«01_k».proof.Next
public import proofs.«01_k».proof.GmlpUz
public import proofs.«01_k».proof.AttnZ
public import proofs.«01_k».proof.FnetZ
public import Idealize.ShloMosaic.PureOps.IdealRules
public import Idealize.ShloMosaic.Lib.Claim
public import Idealize.ShloMosaic.Adequacy
public import Idealize.ShloMosaic.Init
public import proofs.«01_k».proof.Proof.Gen.AttnQIdeal.Value
public import proofs.«01_k».proof.Proof.Gen.AttnQReferenceIdeal.Run
public import proofs.«01_k».proof.Proof.Gen.AttnQReferenceIdeal.Read
public import proofs.«01_k».proof.Proof.AttnQArray
public import proofs.«01_k».proof.Proof.AttnQRef
public import proofs.«01_k».proof.Proof.Gen.GmlpV
public import proofs.«01_k».proof.Proof.Gen.GmlpV.Skeleton
public import proofs.«01_k».proof.Proof.Gen.GmlpV.Launch
public import proofs.«01_k».proof.Proof.Gen.GmlpV.Points
public import proofs.«01_k».proof.Proof.Gen.GmlpV.Frame
public import proofs.«01_k».proof.Proof.Gen.GmlpVIdeal.Value
public import proofs.«01_k».proof.Proof.Gen.GmlpVReferenceIdeal.Run
public import proofs.«01_k».proof.Proof.Gen.GmlpVReferenceIdeal.Read
public import proofs.«01_k».proof.Proof.Gen.Pre_finite_v
public import proofs.«01_k».proof.Proof.GmlpVArray
public import proofs.«01_k».proof.Proof.GmlpVRef
public import proofs.«01_k».proof.Proof.Gen.FnetUIdeal.Value
public import proofs.«01_k».proof.Proof.Gen.FnetUReferenceIdeal.Run
public import proofs.«01_k».proof.Proof.Gen.FnetUReferenceIdeal.Read
public import proofs.«01_k».proof.Proof.Gen.Pre_finite_u
public import proofs.«01_k».proof.Proof.FnetUArray
public import proofs.«01_k».proof.Proof.FnetURef
public import proofs.«01_k».proof.FnetU

@[expose] public section

noncomputable section

namespace Cert.Proof

open Idealize.ShloMosaic Idealize.ShloMosaic.TcCoe Idealize.SL.Sem

/-- The reference runs, keeps its arguments, and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The named constants stand for the printed ones. -/
theorem constants : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- On arguments whose queries, keys, context keys and sinks are finite, kernel and reference end with the same array. -/
theorem value : Cert.algebraic_KernelIdeal_ReferenceIdeal_pre_finite := by
  intro m g m' g' hpre hargs
  refine ⟨fun c => KernelIdeal.Attn.result m c, ?_, ?_⟩
  · refine (θ_run Cert.KernelIdeal.defs _ _).mono (fun r h c => ⟨(h c).1.trans ?_, (h c).2⟩) (Cert.KernelIdeal.Value.run_blocks m g)
    exact KernelIdeal.Attn.final m c (Equal.query_real m hpre c) (Equal.key_real m hpre c) (Equal.ctxKey_real m hpre c)
      (Equal.sink_real m hpre c)
  · refine (θ_run Cert.ReferenceIdeal.defs _ _).mono (fun r h c => ⟨(h c).1.trans ?_, (h c).2⟩) (Cert.ReferenceIdeal.Value.run m' g')
    rw [Cert.ReferenceIdeal.Read.val_main_v43_eq]
    obtain ⟨h0, h1, h2, h3, h4, h5, h6⟩ := hargs c
    rw [h0, h1, h2, h3, h4, h5, h6]
    exact Equal.result_eq m c (Equal.query_real m hpre c) (Equal.key_real m hpre c) (Equal.ctxKey_real m hpre c) (Equal.sink_real m hpre c)

/-- The facts that the last layer's projection states, as those of the text read over the extended reals. -/
instance factsFinal₀ : Cert.Final.Facts₀ := { Cert.FinalIdeal.Gen.facts₀ with }

instance factsFinal : Cert.Final.Facts := { Cert.FinalIdeal.Gen.facts with }

/-- The bodies at bits are those of the text read over the extended reals, taken at bits. -/
theorem bodiesFinal : Cert.Final.defs₀ (F := Bits) = Cert.FinalIdeal.defs₀ (F := Bits) := by
  unfold Cert.Final.defs₀ Cert.FinalIdeal.defs₀
  refine congrArg Defs.onTc (funext fun l => ?_)
  match l with
  | 0 => rfl

theorem defsFinal : Cert.Final.defs (F := Bits) = Cert.FinalIdeal.defs (F := Bits) :=
  congrArg (Pipeline.defs Cert.FinalIdeal.pcfgs) bodiesFinal

/-- The last layer's projection has one text for both values, so the run over any values gives its frame over bits. -/
theorem frameFinal : Cert.quiescent_Final := fun m ρ _ => by
  have h := Cert.FinalIdeal.Gen.frame (F := Bits) m ρ
  rw [← defsFinal] at h
  exact h

/-- The reference of the last layer's projection runs, keeps its arguments, and declares no semaphore. -/
theorem frameFinalReference : Cert.quiescent_FinalReferenceIdeal := fun m ρ _ =>
  (θ_run Cert.FinalReferenceIdeal.defs _ _).mono
    (fun r h => ⟨fun c => (h c).2, sem_eq_zero_of_no_sems (by decide) r.2⟩)
    (Cert.FinalReferenceIdeal.Value.run m ρ)

/-- The facts that the middle layer's projection states, as those of the text read over the extended reals. -/
instance factsNext₀ : Cert.Next.Facts₀ := { Cert.NextIdeal.Gen.facts₀ with }

instance factsNext : Cert.Next.Facts := { Cert.NextIdeal.Gen.facts with }

/-- The bodies at bits are those of the text read over the extended reals, taken at bits. -/
theorem bodiesNext : Cert.Next.defs₀ (F := Bits) = Cert.NextIdeal.defs₀ (F := Bits) := by
  unfold Cert.Next.defs₀ Cert.NextIdeal.defs₀
  refine congrArg Defs.onTc (funext fun l => ?_)
  match l with
  | 0 => rfl

theorem defsNext : Cert.Next.defs (F := Bits) = Cert.NextIdeal.defs (F := Bits) :=
  congrArg (Pipeline.defs Cert.NextIdeal.pcfgs) bodiesNext

/-- The middle layer's projection has one text for both values, so the run over any values gives its frame over bits. -/
theorem frameNext : Cert.quiescent_Next := fun m ρ _ => by
  have h := Cert.NextIdeal.Gen.frame (F := Bits) m ρ
  rw [← defsNext] at h
  exact h

/-- The reference of the middle layer's projection runs, keeps its arguments, and declares no semaphore. -/
theorem frameNextReference : Cert.quiescent_NextReferenceIdeal := fun m ρ _ =>
  (θ_run Cert.NextReferenceIdeal.defs _ _).mono
    (fun r h => ⟨fun c => (h c).2.2, sem_eq_zero_of_no_sems (by decide) r.2⟩)
    (Cert.NextReferenceIdeal.Value.run m ρ)

/-- The last layer's projection and its reference end with the same array. -/
theorem valueFinal : Cert.algebraic_FinalIdeal_FinalReferenceIdeal := by
  intro m g m' g' _ hargs
  refine ⟨fun c => FinalIdeal.Last.result m c, ?_, ?_⟩
  · exact (θ_run Cert.FinalIdeal.defs _ _).mono (fun r h c => ⟨(h c).1.trans (FinalIdeal.Last.final m c), (h c).2⟩)
      (Cert.FinalIdeal.Value.run_blocks m g)
  · refine (θ_run Cert.FinalReferenceIdeal.defs _ _).mono (fun r h c => ⟨(h c).1.trans ?_, (h c).2⟩) (Cert.FinalReferenceIdeal.Value.run m' g')
    rw [Cert.FinalReferenceIdeal.Read.val_main_v25_eq]
    obtain ⟨h0, h1, h2, h3, h4⟩ := hargs c
    rw [h0, h1, h2, h3, h4]
    funext i
    obtain ⟨p, l, rfl⟩ : ∃ (p : Fin 16384) (l : Fin 2048), i = ix2 p l := ⟨i 0, i 1, eq_ix2 i⟩
    exact FinalReferenceIdeal.Last.v25_apply _ _ _ _ _ _ _ l p (by show p.val = 8192 * (p.val / 8192) + p.val % 8192; omega)

/-- The middle layer's projection and its reference end with the same two arrays. -/
theorem valueNext : Cert.algebraic_NextIdeal_NextReferenceIdeal := by
  intro m g m' g' _ hargs
  refine ⟨fun c => NextIdeal.Mid.stream m c, fun c => NextIdeal.Mid.next m c, ?_, ?_⟩
  · exact (θ_run Cert.NextIdeal.defs _ _).mono
      (fun r h c => ⟨(h c).1.trans (NextIdeal.Mid.final_stream m c), (h c).2.1.trans (NextIdeal.Mid.final_next m c), (h c).2.2⟩)
      (Cert.NextIdeal.Value.run_blocks m g)
  · refine (θ_run Cert.NextReferenceIdeal.defs _ _).mono (fun r h c => ⟨(h c).1.trans ?_, (h c).2.1.trans ?_, (h c).2.2⟩)
      (Cert.NextReferenceIdeal.Value.run m' g')
    · rw [Cert.NextReferenceIdeal.Read.val_main_v39_eq]
      obtain ⟨h0, h1, h2, h3, h4⟩ := hargs c
      rw [h0, h1, h2, h3]
      funext i
      obtain ⟨p, l, rfl⟩ : ∃ (p : Fin 16384) (l : Fin 2048), i = ix2 p l := ⟨i 0, i 1, eq_ix2 i⟩
      exact NextReferenceIdeal.Mid.v39_apply _ _ _ _ (NextIdeal.Mid.batch p) (NextIdeal.Mid.token p) l p
        (by show p.val = 8192 * (p.val / 8192) + p.val % 8192; omega)
    · rw [Cert.NextReferenceIdeal.Read.val_main_v41_eq]
      obtain ⟨h0, h1, h2, h3, h4⟩ := hargs c
      rw [h0, h1, h2, h3, h4]
      funext i
      obtain ⟨p, l, rfl⟩ : ∃ (p : Fin 16384) (l : Fin 2048), i = ix2 p l := ⟨i 0, i 1, eq_ix2 i⟩
      exact NextReferenceIdeal.Mid.v41_apply _ _ _ _ _ (NextIdeal.Mid.batch p) (NextIdeal.Mid.token p) l p
        (by show p.val = 8192 * (p.val / 8192) + p.val % 8192; omega)

/-- The facts that the gated layer's first input projection states, as those of the text read over the extended reals. -/
instance factsGmlpUz₀ : Cert.GmlpUz.Facts₀ := { Cert.GmlpUzIdeal.Gen.facts₀ with }

instance factsGmlpUz : Cert.GmlpUz.Facts := { Cert.GmlpUzIdeal.Gen.facts with }

/-- The bodies at bits are those of the text read over the extended reals, taken at bits. -/
theorem bodiesGmlpUz : Cert.GmlpUz.defs₀ (F := Bits) = Cert.GmlpUzIdeal.defs₀ (F := Bits) := by
  unfold Cert.GmlpUz.defs₀ Cert.GmlpUzIdeal.defs₀
  refine congrArg Defs.onTc (funext fun l => ?_)
  match l with
  | 0 => rfl

theorem defsGmlpUz : Cert.GmlpUz.defs (F := Bits) = Cert.GmlpUzIdeal.defs (F := Bits) :=
  congrArg (Pipeline.defs Cert.GmlpUzIdeal.pcfgs) bodiesGmlpUz

/-- The gated layer's first input projection has one text for both values, so the run over any values gives its frame over bits. -/
theorem frameGmlpUz : Cert.quiescent_GmlpUz := fun m ρ _ => by
  have h := Cert.GmlpUzIdeal.Gen.frame (F := Bits) m ρ
  rw [← defsGmlpUz] at h
  exact h

/-- The reference of the gated layer's first input projection runs, keeps its arguments, and declares no semaphore. -/
theorem frameGmlpUzReference : Cert.quiescent_GmlpUzReferenceIdeal := fun m ρ _ =>
  (θ_run Cert.GmlpUzReferenceIdeal.defs _ _).mono
    (fun r h => ⟨fun c => (h c).2, sem_eq_zero_of_no_sems (by decide) r.2⟩)
    (Cert.GmlpUzReferenceIdeal.Value.run m ρ)

/-- The gated layer's first input projection and its reference end with the same array. -/
theorem valueGmlpUz : Cert.algebraic_GmlpUzIdeal_GmlpUzReferenceIdeal := by
  intro m g m' g' _ hargs
  refine ⟨fun c => GmlpUzIdeal.Uz.result m c, ?_, ?_⟩
  · exact (θ_run Cert.GmlpUzIdeal.defs _ _).mono (fun r h c => ⟨(h c).1.trans (GmlpUzIdeal.Uz.final m c), (h c).2⟩)
      (Cert.GmlpUzIdeal.Value.run_blocks m g)
  · refine (θ_run Cert.GmlpUzReferenceIdeal.defs _ _).mono (fun r h c => ⟨(h c).1.trans ?_, (h c).2⟩) (Cert.GmlpUzReferenceIdeal.Value.run m' g')
    rw [Cert.GmlpUzReferenceIdeal.Read.val_main_v22_eq]
    obtain ⟨h0, h1⟩ := hargs c
    rw [h0, h1]
    funext i
    obtain ⟨p, l, rfl⟩ : ∃ (p : Fin 16384) (l : Fin 4096), i = ix2 p l := ⟨i 0, i 1, eq_ix2 i⟩
    exact GmlpUzReferenceIdeal.Uz.v22_apply _ _ _ _ p (Gates.row_eq p) l

/-- The facts that the attention layer's gate projection states, as those of the text read over the extended reals. -/
instance factsAttnZ₀ : Cert.AttnZ.Facts₀ := { Cert.AttnZIdeal.Gen.facts₀ with }

instance factsAttnZ : Cert.AttnZ.Facts := { Cert.AttnZIdeal.Gen.facts with }

/-- The bodies at bits are those of the text read over the extended reals, taken at bits. -/
theorem bodiesAttnZ : Cert.AttnZ.defs₀ (F := Bits) = Cert.AttnZIdeal.defs₀ (F := Bits) := by
  unfold Cert.AttnZ.defs₀ Cert.AttnZIdeal.defs₀
  refine congrArg Defs.onTc (funext fun l => ?_)
  match l with
  | 0 => rfl

theorem defsAttnZ : Cert.AttnZ.defs (F := Bits) = Cert.AttnZIdeal.defs (F := Bits) :=
  congrArg (Pipeline.defs Cert.AttnZIdeal.pcfgs) bodiesAttnZ

/-- The attention layer's gate projection has one text for both values, so the run over any values gives its frame over bits. -/
theorem frameAttnZ : Cert.quiescent_AttnZ := fun m ρ _ => by
  have h := Cert.AttnZIdeal.Gen.frame (F := Bits) m ρ
  rw [← defsAttnZ] at h
  exact h

/-- The reference of the attention layer's gate projection runs, keeps its arguments, and declares no semaphore. -/
theorem frameAttnZReference : Cert.quiescent_AttnZReferenceIdeal := fun m ρ _ =>
  (θ_run Cert.AttnZReferenceIdeal.defs _ _).mono
    (fun r h => ⟨fun c => (h c).2, sem_eq_zero_of_no_sems (by decide) r.2⟩)
    (Cert.AttnZReferenceIdeal.Value.run m ρ)

/-- The attention layer's gate projection and its reference end with the same array. -/
theorem valueAttnZ : Cert.algebraic_AttnZIdeal_AttnZReferenceIdeal := by
  intro m g m' g' _ hargs
  refine ⟨fun c => AttnZIdeal.Gate.result m c, ?_, ?_⟩
  · exact (θ_run Cert.AttnZIdeal.defs _ _).mono (fun r h c => ⟨(h c).1.trans (AttnZIdeal.Gate.final m c), (h c).2⟩)
      (Cert.AttnZIdeal.Value.run_blocks m g)
  · refine (θ_run Cert.AttnZReferenceIdeal.defs _ _).mono (fun r h c => ⟨(h c).1.trans ?_, (h c).2⟩) (Cert.AttnZReferenceIdeal.Value.run m' g')
    rw [Cert.AttnZReferenceIdeal.Read.val_main_v8_eq]
    obtain ⟨h0, h1⟩ := hargs c
    rw [h0, h1]
    funext i
    obtain ⟨p, l, rfl⟩ : ∃ (p : Fin 16384) (l : Fin 4096), i = ix2 p l := ⟨i 0, i 1, eq_ix2 i⟩
    exact AttnZReferenceIdeal.Gate.v8_apply _ _ _ _ p (Gates.row_eq p) l

/-- The facts that the Fourier layer's gate projection states, as those of the text read over the extended reals. -/
instance factsFnetZ₀ : Cert.FnetZ.Facts₀ := { Cert.FnetZIdeal.Gen.facts₀ with }

instance factsFnetZ : Cert.FnetZ.Facts := { Cert.FnetZIdeal.Gen.facts with }

/-- The bodies at bits are those of the text read over the extended reals, taken at bits. -/
theorem bodiesFnetZ : Cert.FnetZ.defs₀ (F := Bits) = Cert.FnetZIdeal.defs₀ (F := Bits) := by
  unfold Cert.FnetZ.defs₀ Cert.FnetZIdeal.defs₀
  refine congrArg Defs.onTc (funext fun l => ?_)
  match l with
  | 0 => rfl

theorem defsFnetZ : Cert.FnetZ.defs (F := Bits) = Cert.FnetZIdeal.defs (F := Bits) :=
  congrArg (Pipeline.defs Cert.FnetZIdeal.pcfgs) bodiesFnetZ

/-- The Fourier layer's gate projection has one text for both values, so the run over any values gives its frame over bits. -/
theorem frameFnetZ : Cert.quiescent_FnetZ := fun m ρ _ => by
  have h := Cert.FnetZIdeal.Gen.frame (F := Bits) m ρ
  rw [← defsFnetZ] at h
  exact h

/-- The reference of the Fourier layer's gate projection runs, keeps its arguments, and declares no semaphore. -/
theorem frameFnetZReference : Cert.quiescent_FnetZReferenceIdeal := fun m ρ _ =>
  (θ_run Cert.FnetZReferenceIdeal.defs _ _).mono
    (fun r h => ⟨fun c => (h c).2, sem_eq_zero_of_no_sems (by decide) r.2⟩)
    (Cert.FnetZReferenceIdeal.Value.run m ρ)

/-- The Fourier layer's gate projection and its reference end with the same array. -/
theorem valueFnetZ : Cert.algebraic_FnetZIdeal_FnetZReferenceIdeal := by
  intro m g m' g' _ hargs
  refine ⟨fun c => FnetZIdeal.Gate.result m c, ?_, ?_⟩
  · exact (θ_run Cert.FnetZIdeal.defs _ _).mono (fun r h c => ⟨(h c).1.trans (FnetZIdeal.Gate.final m c), (h c).2⟩)
      (Cert.FnetZIdeal.Value.run_blocks m g)
  · refine (θ_run Cert.FnetZReferenceIdeal.defs _ _).mono (fun r h c => ⟨(h c).1.trans ?_, (h c).2⟩) (Cert.FnetZReferenceIdeal.Value.run m' g')
    rw [Cert.FnetZReferenceIdeal.Read.val_main_v8_eq]
    obtain ⟨h0, h1⟩ := hargs c
    rw [h0, h1]
    funext i
    obtain ⟨s, p, l, rfl⟩ : ∃ (s : Fin 32) (p : Fin 16384) (l : Fin 128), i = ix3 s p l := ⟨i 0, i 1, i 2, eq_ix3 i⟩
    exact FnetZReferenceIdeal.Gate.v8_apply _ _ _ _ s p (Gates.row_eq p) l

/-- The facts that the attention layer's query projection states, as those of the text read over the extended reals. -/
instance factsAttnQ₀ : Cert.AttnQ.Facts₀ := { Cert.AttnQIdeal.Gen.facts₀ with }

instance factsAttnQ : Cert.AttnQ.Facts := { Cert.AttnQIdeal.Gen.facts with }

/-- The bodies at bits are those of the text read over the extended reals, taken at bits. -/
theorem bodiesAttnQ : Cert.AttnQ.defs₀ (F := Bits) = Cert.AttnQIdeal.defs₀ (F := Bits) := by
  unfold Cert.AttnQ.defs₀ Cert.AttnQIdeal.defs₀
  refine congrArg Defs.onTc (funext fun l => ?_)
  match l with
  | 0 => rfl

theorem defsAttnQ : Cert.AttnQ.defs (F := Bits) = Cert.AttnQIdeal.defs (F := Bits) :=
  congrArg (Pipeline.defs Cert.AttnQIdeal.pcfgs) bodiesAttnQ

set_option maxHeartbeats 2000000 in
/-- The attention layer's query projection has one text for both values, so the run over any values gives its frame over bits. -/
theorem frameAttnQ : Cert.quiescent_AttnQ := fun m ρ _ => by
  have h := Cert.AttnQIdeal.Gen.frame (F := Bits) m ρ
  rw [← defsAttnQ] at h
  exact h

/-- The reference of the attention layer's query projection runs, keeps its arguments, and declares no semaphore. -/
theorem frameAttnQReference : Cert.quiescent_AttnQReferenceIdeal := fun m ρ _ =>
  (θ_run Cert.AttnQReferenceIdeal.defs _ _).mono
    (fun r h => ⟨fun c => (h c).2, sem_eq_zero_of_no_sems (by decide) r.2⟩)
    (Cert.AttnQReferenceIdeal.Value.run m ρ)

/-- The attention layer's query projection and its reference end with the same array. -/
theorem valueAttnQ : Cert.algebraic_AttnQIdeal_AttnQReferenceIdeal := by
  intro m g m' g' _ hargs
  refine ⟨fun c => AttnQIdeal.Query.result m c, ?_, ?_⟩
  · exact (θ_run Cert.AttnQIdeal.defs _ _).mono (fun r h c => ⟨(h c).1.trans (AttnQIdeal.Query.final m c), (h c).2⟩)
      (Cert.AttnQIdeal.Value.run_blocks m g)
  · refine (θ_run Cert.AttnQReferenceIdeal.defs _ _).mono (fun r h c => ⟨(h c).1.trans ?_, (h c).2⟩) (Cert.AttnQReferenceIdeal.Value.run m' g')
    rw [Cert.AttnQReferenceIdeal.Read.val_main_v76_eq]
    obtain ⟨h0, h1⟩ := hargs c
    rw [h0, h1]
    funext i
    obtain ⟨p, l, rfl⟩ : ∃ (p : Fin 16384) (l : Fin 4096), i = ix2 p l := ⟨i 0, i 1, eq_ix2 i⟩
    exact AttnQReferenceIdeal.Query.v76_apply _ _ _ _ p (Gates.row_eq p) l

/-- The reference of the gated layer's second input projection runs, keeps its arguments, and declares no semaphore. -/
theorem frameGmlpVReference : Cert.quiescent_GmlpVReferenceIdeal := fun m ρ _ =>
  (θ_run Cert.GmlpVReferenceIdeal.defs _ _).mono
    (fun r h => ⟨fun c => (h c).2.2.2, sem_eq_zero_of_no_sems (by decide) r.2⟩)
    (Cert.GmlpVReferenceIdeal.Value.run m ρ)

/-- The named constants of the joined statistics stand for the printed ones. -/
theorem constantsGmlpV : Cert.preserves_GmlpV_GmlpVIdeal :=
  ⟨IdealRules.named_const.statement Cert.GmlpVIdeal.κ "third" .f32 0x3EAAAAAB#32 ((1 / 3 : ℝ) : EReal) rfl,
    IdealRules.named_const.statement Cert.GmlpVIdeal.κ "part3" .f32 0x43AAAAAB#32 ((1024 / 3 : ℝ) : EReal) rfl,
    IdealRules.named_const.statement Cert.GmlpVIdeal.κ "fifth" .f32 0x3E4CCCCD#32 ((1 / 5 : ℝ) : EReal) rfl,
    IdealRules.named_const.statement Cert.GmlpVIdeal.κ "part5" .f32 0x43CCCCCD#32 ((2048 / 5 : ℝ) : EReal) rfl,
    IdealRules.named_const.statement Cert.GmlpVIdeal.κ "sixth" .f32 0x3E2AAAAB#32 ((1 / 6 : ℝ) : EReal) rfl,
    IdealRules.named_const.statement Cert.GmlpVIdeal.κ "part6" .f32 0x43D55555#32 ((1280 / 3 : ℝ) : EReal) rfl,
    IdealRules.named_const.statement Cert.GmlpVIdeal.κ "seventh" .f32 0x3E124925#32 ((1 / 7 : ℝ) : EReal) rfl,
    IdealRules.named_const.statement Cert.GmlpVIdeal.κ "part7" .f32 0x43DB6DB7#32 ((3072 / 7 : ℝ) : EReal) rfl⟩

/-- On finite arguments every activated column is real. -/
theorem columnsGmlpV (m : (ℓ : Loc Cert.GmlpVIdeal.nD Cert.GmlpVIdeal.τ Cert.GmlpVIdeal.sig) → Buf (Elt Ideal) ℓ)
    (h : Cert.Pre_GmlpVIdeal_finite_v m) (c : Dev Cert.GmlpVIdeal.nD) (g : Fin 16384) (l : Fin 4096) :
    ∃ y : ℝ, GmlpVIdeal.Stats.column m c g l = (y : EReal) := by
  obtain ⟨s, hs⟩ := Moments.sum_real (fun k => GmlpVIdeal.Stats.ah m c (ix3 (Gates.batch g) (Gates.token g) k))
    (fun k : Fin 2048 => GmlpVIdeal.Stats.aw m c (ix3 0 k ⟨4096 + l.val, by omega⟩))
    (fun k => Equal.real_of_lt _ (congrFun (h c).1 _)) (fun k => Equal.real_of_lt _ (congrFun (h c).2 _))
  obtain ⟨y, hy⟩ := Moments.gelu_real s
  exact ⟨y, (congrArg Gates.gelu hs).trans hy⟩

/-- On finite arguments the gated layer's second input projection and its reference end with the same three arrays. -/
theorem valueGmlpV : Cert.algebraic_GmlpVIdeal_GmlpVReferenceIdeal_pre_finite_v := by
  intro m g m' g' hpre hargs
  have hy : ∀ c r l, GmlpVIdeal.Stats.column m c r l = ((columnsGmlpV m hpre c r l).choose : EReal) :=
    fun c r l => (columnsGmlpV m hpre c r l).choose_spec
  refine ⟨fun c => GmlpVIdeal.Stats.resultV m c, fun c => GmlpVIdeal.Stats.resultMean m c, fun c => GmlpVIdeal.Stats.resultRstd m c, ?_, ?_⟩
  · exact (θ_run Cert.GmlpVIdeal.defs _ _).mono (fun r h c => ⟨(h c).1.trans (GmlpVIdeal.Stats.final_v m c),
      (h c).2.1.trans (GmlpVIdeal.Stats.final_mean m c _ (hy c)), (h c).2.2.1.trans (GmlpVIdeal.Stats.final_rstd m c _ (hy c)), (h c).2.2.2⟩)
      (Cert.GmlpVIdeal.Value.run_blocks m g)
  · refine (θ_run Cert.GmlpVReferenceIdeal.defs _ _).mono (fun r h c => ⟨(h c).1.trans ?_, (h c).2.1.trans ?_, (h c).2.2.1.trans ?_, (h c).2.2.2⟩)
      (Cert.GmlpVReferenceIdeal.Value.run m' g')
    · rw [Cert.GmlpVReferenceIdeal.Read.val_main_v31_eq]
      obtain ⟨h0, h1⟩ := hargs c
      rw [h0, h1]
      funext i
      obtain ⟨p, l, rfl⟩ : ∃ (p : Fin 16384) (l : Fin 4096), i = ix2 p l := ⟨i 0, i 1, eq_ix2 i⟩
      exact GmlpVReferenceIdeal.Stats.v31_apply _ _ _ _ p (Gates.row_eq p) l
    · rw [Cert.GmlpVReferenceIdeal.Read.val_main_v33_eq]
      obtain ⟨h0, h1⟩ := hargs c
      rw [h0, h1]
      funext i
      obtain ⟨p, l, rfl⟩ : ∃ (p : Fin 16384) (l : Fin 128), i = ix2 p l := ⟨i 0, i 1, eq_ix2 i⟩
      exact GmlpVReferenceIdeal.Stats.v33_apply _ _ _ _ p (Gates.row_eq p) l
    · rw [Cert.GmlpVReferenceIdeal.Read.val_main_v38_eq]
      obtain ⟨h0, h1⟩ := hargs c
      rw [h0, h1]
      funext i
      obtain ⟨p, l, rfl⟩ : ∃ (p : Fin 16384) (l : Fin 128), i = ix2 p l := ⟨i 0, i 1, eq_ix2 i⟩
      exact GmlpVReferenceIdeal.Stats.v38_apply _ _ _ _ p (Gates.row_eq p) l

/-- The facts that the Fourier layer's mixed input projection states, as those of the text read over the extended reals. -/
instance factsFnetU₀ : Cert.FnetU.Facts₀ := { Cert.FnetUIdeal.Gen.facts₀ with }

instance factsFnetU : Cert.FnetU.Facts := { Cert.FnetUIdeal.Gen.facts with }

/-- The bodies at bits are those of the text read over the extended reals, taken at bits. -/
theorem bodiesFnetU : Cert.FnetU.defs₀ (F := Bits) = Cert.FnetUIdeal.defs₀ (F := Bits) := by
  unfold Cert.FnetU.defs₀ Cert.FnetUIdeal.defs₀
  refine congrArg Defs.onTc (funext fun l => ?_)
  match l with
  | 0 => rfl

theorem defsFnetU : Cert.FnetU.defs (F := Bits) = Cert.FnetUIdeal.defs (F := Bits) :=
  congrArg (Pipeline.defs Cert.FnetUIdeal.pcfgs) bodiesFnetU

/-- The Fourier layer's mixed input projection has one text for both values, so the run over any values gives its frame over bits. -/
theorem frameFnetU : Cert.quiescent_FnetU := fun m ρ _ => by
  have h := Cert.FnetUIdeal.Gen.frame (F := Bits) m ρ
  rw [← defsFnetU] at h
  exact h

/-- The reference of the Fourier layer's mixed input projection runs, keeps its arguments, and declares no semaphore. -/
theorem frameFnetUReference : Cert.quiescent_FnetUReferenceIdeal := fun m ρ _ =>
  (θ_run Cert.FnetUReferenceIdeal.defs _ _).mono
    (fun r h => ⟨fun c => (h c).2.2, sem_eq_zero_of_no_sems (by decide) r.2⟩)
    (Cert.FnetUReferenceIdeal.Value.run m ρ)

/-- On finite arguments the Fourier layer's mixed input projection and its reference end with the same two arrays. -/
theorem valueFnetU : Cert.algebraic_FnetUIdeal_FnetUReferenceIdeal_pre_finite_u := by
  intro m g m' g' hpre hargs
  have equal (c : Dev Cert.FnetUIdeal.nD) (part : Fin 2) (b : Fin 2) (n : Fin 8192) (d : Fin 16) (q : Fin 256) :=
    FnetUReferenceIdeal.Mix.folded_eq (FnetUIdeal.Mix.ah m c) (FnetUIdeal.Mix.aw m c) (FnetUIdeal.Mix.am m c) b n d
      (fun _ => Equal.real_of_lt _ (congrFun (hpre c).1 _)) (fun _ => Equal.real_of_lt _ (congrFun (hpre c).2.1 _))
      (fun _ => Equal.real_of_lt _ (congrFun (hpre c).2.2 _)) part q
  refine ⟨fun c => FnetUIdeal.Mix.result m c 0, fun c => FnetUIdeal.Mix.result m c 1, ?_, ?_⟩
  · exact (θ_run Cert.FnetUIdeal.defs _ _).mono (fun r h c => ⟨(h c).1.trans (FnetUIdeal.Mix.final_cos m c),
      (h c).2.1.trans (FnetUIdeal.Mix.final_sin m c), (h c).2.2⟩) (Cert.FnetUIdeal.Value.run_blocks m g)
  · refine (θ_run Cert.FnetUReferenceIdeal.defs _ _).mono (fun r h c => ⟨(h c).1.trans ?_, (h c).2.1.trans ?_, (h c).2.2⟩)
      (Cert.FnetUReferenceIdeal.Value.run m' g')
    · rw [Cert.FnetUReferenceIdeal.Read.val_main_v25_eq]
      obtain ⟨h0, h1, h2⟩ := hargs c
      rw [h0, h1, h2]
      funext i
      obtain ⟨s, p, l, rfl⟩ : ∃ (s : Fin 32) (p : Fin 16384) (l : Fin 128), i = ix3 s p l := ⟨i 0, i 1, i 2, eq_ix3 i⟩
      exact (FnetUReferenceIdeal.Mix.v25_apply _ _ _ s p l).trans (equal c 0 _ _ _ _).symm
    · rw [Cert.FnetUReferenceIdeal.Read.val_main_v38_eq]
      obtain ⟨h0, h1, h2⟩ := hargs c
      rw [h0, h1, h2]
      funext i
      obtain ⟨s, p, l, rfl⟩ : ∃ (s : Fin 32) (p : Fin 16384) (l : Fin 128), i = ix3 s p l := ⟨i 0, i 1, i 2, eq_ix3 i⟩
      exact (FnetUReferenceIdeal.Mix.v38_apply _ _ _ s p l).trans (equal c 1 _ _ _ _).symm

theorem claim : Cert.Claim := ⟨Cert.Kernel.Gen.facts, Cert.KernelIdeal.Gen.facts, Cert.ReferenceIdeal.Gen.facts,
  factsFinal, Cert.FinalIdeal.Gen.facts, Cert.FinalReferenceIdeal.Gen.facts,
  factsNext, Cert.NextIdeal.Gen.facts, Cert.NextReferenceIdeal.Gen.facts,
  factsGmlpUz, Cert.GmlpUzIdeal.Gen.facts, Cert.GmlpUzReferenceIdeal.Gen.facts,
  factsAttnZ, Cert.AttnZIdeal.Gen.facts, Cert.AttnZReferenceIdeal.Gen.facts,
  factsFnetZ, Cert.FnetZIdeal.Gen.facts, Cert.FnetZReferenceIdeal.Gen.facts,
  factsAttnQ, Cert.AttnQIdeal.Gen.facts, Cert.AttnQReferenceIdeal.Gen.facts,
  Cert.GmlpV.Gen.facts, Cert.GmlpVIdeal.Gen.facts, Cert.GmlpVReferenceIdeal.Gen.facts,
  factsFnetU, Cert.FnetUIdeal.Gen.facts, Cert.FnetUReferenceIdeal.Gen.facts,
  Cert.Pre_finite.Gen.facts, Cert.Pre_finite_v.Gen.facts, Cert.Pre_finite_u.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  frameFinal,
  fun m ρ _ => Cert.FinalIdeal.Gen.frame m ρ,
  frameFinalReference,
  frameNext,
  fun m ρ _ => Cert.NextIdeal.Gen.frame m ρ,
  frameNextReference,
  frameGmlpUz,
  fun m ρ _ => Cert.GmlpUzIdeal.Gen.frame m ρ,
  frameGmlpUzReference,
  frameAttnZ,
  fun m ρ _ => Cert.AttnZIdeal.Gen.frame m ρ,
  frameAttnZReference,
  frameFnetZ,
  fun m ρ _ => Cert.FnetZIdeal.Gen.frame m ρ,
  frameFnetZReference,
  frameAttnQ,
  fun m ρ _ => Cert.AttnQIdeal.Gen.frame m ρ,
  frameAttnQReference,
  fun m ρ _ => Cert.GmlpV.Gen.frame m ρ,
  fun m ρ _ => Cert.GmlpVIdeal.Gen.frame m ρ,
  fun m ρ _ => Cert.GmlpVIdeal.Gen.frame m ρ,
  frameGmlpVReference,
  fun m ρ _ => frameGmlpVReference m ρ trivial,
  frameFnetU,
  fun m ρ _ => Cert.FnetUIdeal.Gen.frame m ρ,
  fun m ρ _ => Cert.FnetUIdeal.Gen.frame m ρ,
  frameFnetUReference,
  fun m ρ _ => frameFnetUReference m ρ trivial,
  constants,
  value,
  trivial,
  valueFinal,
  trivial,
  valueNext,
  trivial,
  valueGmlpUz,
  trivial,
  valueAttnZ,
  trivial,
  valueFnetZ,
  trivial,
  valueAttnQ,
  constantsGmlpV,
  valueGmlpV,
  trivial,
  valueFnetU⟩

end Cert.Proof

end
